-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendReferenceIdeal (m : (ℓ : Loc Cert.AttendReferenceIdeal.nD Cert.AttendReferenceIdeal.τ Cert.AttendReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4)
      ∧ r.2.mem ((c.tc : Thread Cert.AttendReferenceIdeal.nD Cert.AttendReferenceIdeal.τ).loc Cert.AttendReferenceIdeal.main_arg5) = m ((c.tc : Thread Cert.AttendReferenceIdeal.nD Cert.AttendReferenceIdeal.τ).loc Cert.AttendReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27_0) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v27_2) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v27_4) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_v33) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Attend_AttendIdeal : Prop :=
  True

def algebraic_AttendIdeal_AttendReferenceIdeal [hAttendIdeal : Cert.AttendIdeal.Facts] [hAttendReferenceIdeal : Cert.AttendReferenceIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)
      ∧ m' ((c.tc : Thread Cert.AttendReferenceIdeal.nD Cert.AttendReferenceIdeal.τ).loc Cert.AttendReferenceIdeal.main_arg5) = m ((c.tc : Thread Cert.AttendIdeal.nD Cert.AttendIdeal.τ).loc Cert.AttendIdeal.main_arg5)) →
    ∃ (v0 : (c : Dev Cert.AttendIdeal.nD) → Buf (Elt Ideal) ((c.tc : Thread Cert.AttendIdeal.nD Cert.AttendIdeal.τ).loc Cert.AttendIdeal.main_v0_0)) (v1 : (c : Dev Cert.AttendIdeal.nD) → Buf (Elt Ideal) ((c.tc : Thread Cert.AttendIdeal.nD Cert.AttendIdeal.τ).loc Cert.AttendIdeal.main_v0_1)) (v2 : (c : Dev Cert.AttendIdeal.nD) → Buf (Elt Ideal) ((c.tc : Thread Cert.AttendIdeal.nD Cert.AttendIdeal.τ).loc Cert.AttendIdeal.main_v0_2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0_0) = v0 c
          ∧ r.2.mem ((c.tc : Thread Cert.AttendIdeal.nD Cert.AttendIdeal.τ).loc Cert.AttendIdeal.main_v0_1) = v1 c
          ∧ r.2.mem ((c.tc : Thread Cert.AttendIdeal.nD Cert.AttendIdeal.τ).loc Cert.AttendIdeal.main_v0_2) = v2 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v78) = v0 c
          ∧ r.2.mem ((c.tc : Thread Cert.AttendReferenceIdeal.nD Cert.AttendReferenceIdeal.τ).loc Cert.AttendReferenceIdeal.main_v79) = v1 c
          ∧ r.2.mem ((c.tc : Thread Cert.AttendReferenceIdeal.nD Cert.AttendReferenceIdeal.τ).loc Cert.AttendReferenceIdeal.main_v80) = v2 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4)
          ∧ r.2.mem ((c.tc : Thread Cert.AttendReferenceIdeal.nD Cert.AttendReferenceIdeal.τ).loc Cert.AttendReferenceIdeal.main_arg5) = m' ((c.tc : Thread Cert.AttendReferenceIdeal.nD Cert.AttendReferenceIdeal.τ).loc Cert.AttendReferenceIdeal.main_arg5))

def Claim : Prop :=
  ∃ (hKernel : Cert.Kernel.Facts) (hKernelIdeal : Cert.KernelIdeal.Facts) (hReferenceIdeal : Cert.ReferenceIdeal.Facts) (hAttend : Cert.Attend.Facts) (hAttendIdeal : Cert.AttendIdeal.Facts) (hAttendReferenceIdeal : Cert.AttendReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Attend (hAttend := hAttend)
    ∧ quiescent_AttendIdeal (hAttendIdeal := hAttendIdeal)
    ∧ quiescent_AttendReferenceIdeal (hAttendReferenceIdeal := hAttendReferenceIdeal)
    ∧ preserves_Kernel_KernelIdeal
    ∧ algebraic_KernelIdeal_ReferenceIdeal (hKernelIdeal := hKernelIdeal) (hReferenceIdeal := hReferenceIdeal)
    ∧ preserves_Attend_AttendIdeal
    ∧ algebraic_AttendIdeal_AttendReferenceIdeal (hAttendIdeal := hAttendIdeal) (hAttendReferenceIdeal := hAttendReferenceIdeal)
-- ==== Kernel.lean ====
abbrev S2x128x1152 : Shape := ⟨3, ![2, 128, 1152]⟩
abbrev S1152 : Shape := ⟨1, ![1152]⟩
abbrev S1152x1536 : Shape := ⟨2, ![1152, 1536]⟩
abbrev S1536 : Shape := ⟨1, ![1536]⟩
abbrev S2 : Shape := ⟨1, ![2]⟩
abbrev S256x1152 : Shape := ⟨2, ![256, 1152]⟩
abbrev S2x128 : Shape := ⟨2, ![2, 128]⟩
abbrev S256x256 : Shape := ⟨2, ![256, 256]⟩
abbrev S2x1x128 : Shape := ⟨3, ![2, 1, 128]⟩
abbrev S2x512x256 : Shape := ⟨3, ![2, 512, 256]⟩
abbrev S2x128x128 : Shape := ⟨3, ![2, 128, 128]⟩
abbrev S256x128 : Shape := ⟨2, ![256, 128]⟩
abbrev S256x1536 : Shape := ⟨2, ![256, 1536]⟩
abbrev S5 : Shape := ⟨1, ![5]⟩
abbrev S7 : Shape := ⟨1, ![7]⟩
abbrev S1 : Shape := ⟨1, ![1]⟩
abbrev S_ : Shape := ⟨0, ![]⟩
abbrev S8x128 : Shape := ⟨2, ![8, 128]⟩
abbrev S1x128 : Shape := ⟨2, ![1, 128]⟩
abbrev S128x128 : Shape := ⟨2, ![128, 128]⟩
abbrev S1x128x128 : Shape := ⟨3, ![1, 128, 128]⟩
abbrev S1x1152 : Shape := ⟨2, ![1, 1152]⟩
abbrev S32x1152 : Shape := ⟨2, ![32, 1152]⟩
abbrev S32 : Shape := ⟨1, ![32]⟩
abbrev S32x1 : Shape := ⟨2, ![32, 1]⟩
abbrev S32x128 : Shape := ⟨2, ![32, 128]⟩
abbrev S1152x512 : Shape := ⟨2, ![1152, 512]⟩
abbrev S256x512 : Shape := ⟨2, ![256, 512]⟩
abbrev S128 : Shape := ⟨1, ![128]⟩
abbrev S128x1 : Shape := ⟨2, ![128, 1]⟩
abbrev S1x1x128 : Shape := ⟨3, ![1, 1, 128]⟩
abbrev S1152x1024 : Shape := ⟨2, ![1152, 1024]⟩
abbrev S256x1024 : Shape := ⟨2, ![256, 1024]⟩

abbrev nBuf : Space → Nat
  | .hbm => 13
  | .vmem => 15
  | .smem => 1
  | _ => 0

abbrev bufTy : (tb : Table) → Fin (tcTables nBuf tb) → BufTy
  | .hbm, ⟨0, _⟩ => ⟨S2x128x1152, .bf16⟩
  | .hbm, ⟨1, _⟩ => ⟨S1152, .f32⟩
  | .hbm, ⟨2, _⟩ => ⟨S1152x1536, .fp8e4m3⟩
  | .hbm, ⟨3, _⟩ => ⟨S1536, .f32⟩
  | .hbm, ⟨4, _⟩ => ⟨S2, .i32⟩
  | .hbm, ⟨5, _⟩ => ⟨S256x1152, .bf16⟩
  | .hbm, ⟨6, _⟩ => ⟨S256x1152, .fp8e4m3⟩
  | .hbm, ⟨7, _⟩ => ⟨S2x128, .f32⟩
  | .hbm, ⟨8, _⟩ => ⟨S256x256, .fp8e4m3⟩
  | .hbm, ⟨9, _⟩ => ⟨S2x1x128, .f32⟩
  | .hbm, ⟨10, _⟩ => ⟨S256x256, .fp8e4m3⟩
  | .hbm, ⟨11, _⟩ => ⟨S2x1x128, .f32⟩
  | .hbm, ⟨12, _⟩ => ⟨S2x512x256, .bf16⟩
  | .local _ .vmem, ⟨0, _⟩ => ⟨S256x1152, .bf16⟩
  | .local _ .vmem, ⟨1, _⟩ => ⟨S1152, .f32⟩
  | .local _ .vmem, ⟨2, _⟩ => ⟨S1152x1536, .fp8e4m3⟩
  | .local _ .vmem, ⟨3, _⟩ => ⟨S1536, .f32⟩
  | .local _ .vmem, ⟨4, _⟩ => ⟨S256x1152, .fp8e4m3⟩
  | .local _ .vmem, ⟨5, _⟩ => ⟨S2x128, .f32⟩
  | .local _ .vmem, ⟨6, _⟩ => ⟨S256x256, .fp8e4m3⟩
  | .local _ .vmem, ⟨7, _⟩ => ⟨S2x1x128, .f32⟩
  | .local _ .vmem, ⟨8, _⟩ => ⟨S256x256, .fp8e4m3⟩
  | .local _ .vmem, ⟨9, _⟩ => ⟨S2x1x128, .f32⟩
  | .local _ .vmem, ⟨10, _⟩ => ⟨S2x128x128, .f32⟩
  | .local _ .vmem, ⟨11, _⟩ => ⟨S2x128x128, .f32⟩
  | .local _ .vmem, ⟨12, _⟩ => ⟨S256x128, .f32⟩
  | .local _ .vmem, ⟨13, _⟩ => ⟨S256x1536, .f32⟩
  | .local _ .vmem, ⟨14, _⟩ => ⟨S2x512x256, .bf16⟩
  | .local _ .smem, ⟨0, _⟩ => ⟨S2, .i32⟩
  | _, _ => ⟨S2x128x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch4 : Ref sig .tc := ⟨.smem, 0, rfl⟩

abbrev nD : Nat := 1
abbrev τ : Topo := Topo.v7x

variable {F : FTy → Type} [FloatOps F]

abbrev grid0 : Pipeline.Grid := .none
-- ==== ReferenceIdeal.lean ====
abbrev S2x128x1152 : Shape := ⟨3, ![2, 128, 1152]⟩
abbrev S1152 : Shape := ⟨1, ![1152]⟩
abbrev S1152x1536 : Shape := ⟨2, ![1152, 1536]⟩
abbrev S1536 : Shape := ⟨1, ![1536]⟩
abbrev S2 : Shape := ⟨1, ![2]⟩
abbrev S128 : Shape := ⟨1, ![128]⟩
abbrev S_ : Shape := ⟨0, ![]⟩
abbrev S2x1 : Shape := ⟨2, ![2, 1]⟩
abbrev S1x128 : Shape := ⟨2, ![1, 128]⟩
abbrev S2x128 : Shape := ⟨2, ![2, 128]⟩
abbrev S2x128x1 : Shape := ⟨3, ![2, 128, 1]⟩
abbrev S1x1x128 : Shape := ⟨3, ![1, 1, 128]⟩
abbrev S2x128x128 : Shape := ⟨3, ![2, 128, 128]⟩
abbrev S256x1152 : Shape := ⟨2, ![256, 1152]⟩
abbrev S1x1152 : Shape := ⟨2, ![1, 1152]⟩
abbrev S1x1536 : Shape := ⟨2, ![1, 1536]⟩
abbrev S256x128 : Shape := ⟨2, ![256, 128]⟩
abbrev S256x1 : Shape := ⟨2, ![256, 1]⟩
abbrev S256x256 : Shape := ⟨2, ![256, 256]⟩
abbrev S4x256x256 : Shape := ⟨3, ![4, 256, 256]⟩
abbrev S256 : Shape := ⟨1, ![256]⟩
abbrev S256x1536 : Shape := ⟨2, ![256, 1536]⟩
abbrev S1x256x256 : Shape := ⟨3, ![1, 256, 256]⟩
abbrev S2x1x128 : Shape := ⟨3, ![2, 1, 128]⟩
abbrev S4x2x128x256 : Shape := ⟨4, ![4, 2, 128, 256]⟩
abbrev S2x4x128x256 : Shape := ⟨4, ![2, 4, 128, 256]⟩
abbrev S2x512x256 : Shape := ⟨3, ![2, 512, 256]⟩

abbrev nBuf : Space → Nat
  | .hbm => 48
  | .vmem => 13
  | .smem => 0
  | _ => 0

abbrev bufTy : (tb : Table) → Fin (tcTables nBuf tb) → BufTy
  | .hbm, ⟨0, _⟩ => ⟨S2x128x1152, .bf16⟩
  | .hbm, ⟨1, _⟩ => ⟨S1152, .f32⟩
  | .hbm, ⟨2, _⟩ => ⟨S1152x1536, .fp8e4m3⟩
  | .hbm, ⟨3, _⟩ => ⟨S1536, .f32⟩
  | .hbm, ⟨4, _⟩ => ⟨S2, .i32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2x1, .i32⟩
  | .hbm, ⟨17, _⟩ => ⟨S128, .i32⟩
  | .hbm, ⟨18, _⟩ => ⟨S1x128, .i32⟩
  | .hbm, ⟨19, _⟩ => ⟨S2x128, .i32⟩
  | .hbm, ⟨20, _⟩ => ⟨S2x128, .i32⟩
  | .hbm, ⟨21, _⟩ => ⟨S2x128, .i32⟩
  | .hbm, ⟨22, _⟩ => ⟨S2x128, .f32⟩
  | .hbm, ⟨23, _⟩ => ⟨S2x128x1, .f32⟩
  | .hbm, ⟨24, _⟩ => ⟨S1x1x128, .f32⟩
  | .hbm, ⟨25, _⟩ => ⟨S2x128x128, .f32⟩
  | .hbm, ⟨26, _⟩ => ⟨S2x128x128, .f32⟩
  | .hbm, ⟨27, _⟩ => ⟨S2x128x128, .f32⟩
  | .hbm, ⟨28, _⟩ => ⟨S256x1152, .bf16⟩
  | .hbm, ⟨29, _⟩ => ⟨S1x1152, .f32⟩
  | .hbm, ⟨30, _⟩ => ⟨S1x1536, .f32⟩
  | .hbm, ⟨31, _⟩ => ⟨S2x128x128, .f32⟩
  | .hbm, ⟨32, _⟩ => ⟨S256x128, .f32⟩
  | .hbm, ⟨33, _⟩ => ⟨S2x128x128, .f32⟩
  | .hbm, ⟨34, _⟩ => ⟨S256x128, .f32⟩
  | .hbm, ⟨35, _⟩ => ⟨S256x1152, .fp8e4m3⟩
  | .hbm, ⟨36, _⟩ => ⟨S256x1, .f32⟩
  | .hbm, ⟨37, _⟩ => ⟨S256x256, .fp8e4m3⟩
  | .hbm, ⟨38, _⟩ => ⟨S256x1, .f32⟩
  | .hbm, ⟨39, _⟩ => ⟨S256x256, .fp8e4m3⟩
  | .hbm, ⟨40, _⟩ => ⟨S256x1, .f32⟩
  | .hbm, ⟨41, _⟩ => ⟨S4x256x256, .bf16⟩
  | .hbm, ⟨42, _⟩ => ⟨S2x128, .f32⟩
  | .hbm, ⟨43, _⟩ => ⟨S2x1x128, .f32⟩
  | .hbm, ⟨44, _⟩ => ⟨S2x1x128, .f32⟩
  | .hbm, ⟨45, _⟩ => ⟨S4x2x128x256, .bf16⟩
  | .hbm, ⟨46, _⟩ => ⟨S2x4x128x256, .bf16⟩
  | .hbm, ⟨47, _⟩ => ⟨S2x512x256, .bf16⟩
  | .local _ .vmem, ⟨0, _⟩ => ⟨S256x1152, .bf16⟩
  | .local _ .vmem, ⟨1, _⟩ => ⟨S1x1152, .f32⟩
  | .local _ .vmem, ⟨2, _⟩ => ⟨S1152x1536, .fp8e4m3⟩
  | .local _ .vmem, ⟨3, _⟩ => ⟨S1x1536, .f32⟩
  | .local _ .vmem, ⟨4, _⟩ => ⟨S256x128, .f32⟩
  | .local _ .vmem, ⟨5, _⟩ => ⟨S256x128, .f32⟩
  | .local _ .vmem, ⟨6, _⟩ => ⟨S256x1152, .fp8e4m3⟩
  | .local _ .vmem, ⟨7, _⟩ => ⟨S256x1, .f32⟩
  | .local _ .vmem, ⟨8, _⟩ => ⟨S256x256, .fp8e4m3⟩
  | .local _ .vmem, ⟨9, _⟩ => ⟨S256x1, .f32⟩
  | .local _ .vmem, ⟨10, _⟩ => ⟨S256x256, .fp8e4m3⟩
  | .local _ .vmem, ⟨11, _⟩ => ⟨S256x1, .f32⟩
  | .local _ .vmem, ⟨12, _⟩ => ⟨S4x256x256, .bf16⟩
  | _, _ => ⟨S2x128x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev main_v27_5 : Ref sig .tc := ⟨.hbm, 40, rfl⟩
abbrev main_v27_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S256x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Attend.lean ====
abbrev S2 : Shape := ⟨1, ![2]⟩
abbrev S2x512x256 : Shape := ⟨3, ![2, 512, 256]⟩
abbrev S2x320x256 : Shape := ⟨3, ![2, 320, 256]⟩
abbrev S2x1x1280 : Shape := ⟨3, ![2, 1, 1280]⟩
abbrev S256x1024 : Shape := ⟨2, ![256, 1024]⟩
abbrev S2x128 : Shape := ⟨2, ![2, 128]⟩
abbrev S2x4x128 : Shape := ⟨3, ![2, 4, 128]⟩
abbrev S256x128 : Shape := ⟨2, ![256, 128]⟩
abbrev S2x8x1280 : Shape := ⟨3, ![2, 8, 1280]⟩
abbrev S2x512x1280 : Shape := ⟨3, ![2, 512, 1280]⟩
abbrev S2x128x128 : Shape := ⟨3, ![2, 128, 128]⟩
abbrev S6 : Shape := ⟨1, ![6]⟩
abbrev S3 : Shape := ⟨1, ![3]⟩
abbrev S1 : Shape := ⟨1, ![1]⟩
abbrev S_ : Shape := ⟨0, ![]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S8x1280 : Shape := ⟨2, ![8, 1280]⟩
abbrev S1x320x256 : Shape := ⟨3, ![1, 320, 256]⟩
abbrev S320x256 : Shape := ⟨2, ![320, 256]⟩
abbrev S1280x256 : Shape := ⟨2, ![1280, 256]⟩
abbrev S1x512x256 : Shape := ⟨3, ![1, 512, 256]⟩
abbrev S512x256 : Shape := ⟨2, ![512, 256]⟩
abbrev S512x1280 : Shape := ⟨2, ![512, 1280]⟩
abbrev S1x512x1280 : Shape := ⟨3, ![1, 512, 1280]⟩
abbrev S1x8x1280 : Shape := ⟨3, ![1, 8, 1280]⟩
abbrev S8 : Shape := ⟨1, ![8]⟩
abbrev S8x1 : Shape := ⟨2, ![8, 1]⟩
abbrev S1x128x128 : Shape := ⟨3, ![1, 128, 128]⟩
abbrev S128x128 : Shape := ⟨2, ![128, 128]⟩
abbrev S1x32x256 : Shape := ⟨3, ![1, 32, 256]⟩
abbrev S32x256 : Shape := ⟨2, ![32, 256]⟩
abbrev S32x128 : Shape := ⟨2, ![32, 128]⟩
abbrev S32 : Shape := ⟨1, ![32]⟩
abbrev S32x1 : Shape := ⟨2, ![32, 1]⟩
abbrev S4x128 : Shape := ⟨2, ![4, 128]⟩
abbrev S1x4x128 : Shape := ⟨3, ![1, 4, 128]⟩

abbrev nBuf : Space → Nat
  | .hbm => 9
  | .vmem => 15
  | .smem => 1
  | _ => 0

abbrev bufTy : (tb : Table) → Fin (tcTables nBuf tb) → BufTy
  | .hbm, ⟨0, _⟩ => ⟨S2, .i32⟩
  | .hbm, ⟨1, _⟩ => ⟨S2x512x256, .bf16⟩
  | .hbm, ⟨2, _⟩ => ⟨S2x320x256, .i32⟩
  | .hbm, ⟨3, _⟩ => ⟨S2x320x256, .i32⟩
  | .hbm, ⟨4, _⟩ => ⟨S2x1x1280, .f32⟩
  | .hbm, ⟨5, _⟩ => ⟨S2x1x1280, .f32⟩
  | .hbm, ⟨6, _⟩ => ⟨S256x1024, .fp8e4m3⟩
  | .hbm, ⟨7, _⟩ => ⟨S2x128, .f32⟩
  | .hbm, ⟨8, _⟩ => ⟨S2x4x128, .f32⟩
  | .local _ .vmem, ⟨0, _⟩ => ⟨S2x1x1280, .f32⟩
  | .local _ .vmem, ⟨1, _⟩ => ⟨S2x1x1280, .f32⟩
  | .local _ .vmem, ⟨2, _⟩ => ⟨S2x4x128, .f32⟩
  | .local _ .vmem, ⟨3, _⟩ => ⟨S256x1024, .fp8e4m3⟩
  | .local _ .vmem, ⟨4, _⟩ => ⟨S2x128, .f32⟩
  | .local _ .vmem, ⟨5, _⟩ => ⟨S256x128, .f32⟩
  | .local _ .vmem, ⟨6, _⟩ => ⟨S2x512x256, .bf16⟩
  | .local _ .vmem, ⟨7, _⟩ => ⟨S2x320x256, .i32⟩
  | .local _ .vmem, ⟨8, _⟩ => ⟨S2x320x256, .i32⟩
  | .local _ .vmem, ⟨9, _⟩ => ⟨S2x8x1280, .f32⟩
  | .local _ .vmem, ⟨10, _⟩ => ⟨S2x8x1280, .f32⟩
  | .local _ .vmem, ⟨11, _⟩ => ⟨S2x512x1280, .f32⟩
  | .local _ .vmem, ⟨12, _⟩ => ⟨S2x512x1280, .bf16⟩
  | .local _ .vmem, ⟨13, _⟩ => ⟨S2x512x256, .f32⟩
  | .local _ .vmem, ⟨14, _⟩ => ⟨S2x128x128, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch0 : Ref sig .tc := ⟨.smem, 0, rfl⟩

abbrev nD : Nat := 1
abbrev τ : Topo := Topo.v7x

variable {F : FTy → Type} [FloatOps F]

abbrev grid0 : Pipeline.Grid := .none
-- ==== AttendReferenceIdeal.lean ====
abbrev S2 : Shape := ⟨1, ![2]⟩
abbrev S2x512x256 : Shape := ⟨3, ![2, 512, 256]⟩
abbrev S2x320x256 : Shape := ⟨3, ![2, 320, 256]⟩
abbrev S2x1x1280 : Shape := ⟨3, ![2, 1, 1280]⟩
abbrev S_ : Shape := ⟨0, ![]⟩
abbrev S1280 : Shape := ⟨1, ![1280]⟩
abbrev S40 : Shape := ⟨1, ![40]⟩
abbrev S40x1x1x1 : Shape := ⟨4, ![40, 1, 1, 1]⟩
abbrev S2x1x1 : Shape := ⟨3, ![2, 1, 1]⟩
abbrev S1x2x1x1 : Shape := ⟨4, ![1, 2, 1, 1]⟩
abbrev S40x2x1x1 : Shape := ⟨4, ![40, 2, 1, 1]⟩
abbrev S2x1 : Shape := ⟨2, ![2, 1]⟩
abbrev S1x1x2x1 : Shape := ⟨4, ![1, 1, 2, 1]⟩
abbrev S40x2x2x1 : Shape := ⟨4, ![40, 2, 2, 1]⟩
abbrev S8 : Shape := ⟨1, ![8]⟩
abbrev S1x1x1x8 : Shape := ⟨4, ![1, 1, 1, 8]⟩
abbrev S40x2x2x8 : Shape := ⟨4, ![40, 2, 2, 8]⟩
abbrev S1x1280 : Shape := ⟨2, ![1, 1280]⟩
abbrev S2x1280 : Shape := ⟨2, ![2, 1280]⟩
abbrev S128 : Shape := ⟨1, ![128]⟩
abbrev S1x128 : Shape := ⟨2, ![1, 128]⟩
abbrev S2x128 : Shape := ⟨2, ![2, 128]⟩
abbrev S8x128x256 : Shape := ⟨3, ![8, 128, 256]⟩
abbrev S2x128x1 : Shape := ⟨3, ![2, 128, 1]⟩
abbrev S2x128x1024 : Shape := ⟨3, ![2, 128, 1024]⟩
abbrev S8x128x1 : Shape := ⟨3, ![8, 128, 1]⟩
abbrev S128x1280 : Shape := ⟨2, ![128, 1280]⟩
abbrev S1x1x1280 : Shape := ⟨3, ![1, 1, 1280]⟩
abbrev S1x128x256 : Shape := ⟨3, ![1, 128, 256]⟩
abbrev S128x256 : Shape := ⟨2, ![128, 256]⟩
abbrev S1x320x256 : Shape := ⟨3, ![1, 320, 256]⟩
abbrev S320x256 : Shape := ⟨2, ![320, 256]⟩
abbrev S1280x256 : Shape := ⟨2, ![1280, 256]⟩
abbrev S128x1 : Shape := ⟨2, ![128, 1]⟩
abbrev S1x128x1 : Shape := ⟨3, ![1, 128, 1]⟩
abbrev S128x1024 : Shape := ⟨2, ![128, 1024]⟩
abbrev S1x128x1024 : Shape := ⟨3, ![1, 128, 1024]⟩
abbrev S256x1024 : Shape := ⟨2, ![256, 1024]⟩
abbrev S2x4x128 : Shape := ⟨3, ![2, 4, 128]⟩

abbrev nBuf : Space → Nat
  | .hbm => 117
  | .vmem => 10
  | .smem => 0
  | _ => 0

abbrev bufTy : (tb : Table) → Fin (tcTables nBuf tb) → BufTy
  | .hbm, ⟨0, _⟩ => ⟨S2, .i32⟩
  | .hbm, ⟨1, _⟩ => ⟨S2x512x256, .bf16⟩
  | .hbm, ⟨2, _⟩ => ⟨S2x320x256, .i32⟩
  | .hbm, ⟨3, _⟩ => ⟨S2x320x256, .i32⟩
  | .hbm, ⟨4, _⟩ => ⟨S2x1x1280, .f32⟩
  | .hbm, ⟨5, _⟩ => ⟨S2x1x1280, .f32⟩
  | .hbm, ⟨6, _⟩ => ⟨S_, .i32⟩
  | .hbm, ⟨7, _⟩ => ⟨S2, .i32⟩
  | .hbm, ⟨8, _⟩ => ⟨S2, .i32⟩
  | .hbm, ⟨9, _⟩ => ⟨S_, .i32⟩
  | .hbm, ⟨10, _⟩ => ⟨S2, .i32⟩
  | .hbm, ⟨11, _⟩ => ⟨S2, .i32⟩
  | .hbm, ⟨12, _⟩ => ⟨S_, .i32⟩
  | .hbm, ⟨13, _⟩ => ⟨S2, .i32⟩
  | .hbm, ⟨14, _⟩ => ⟨S2, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2, .i32⟩
  | .hbm, ⟨19, _⟩ => ⟨S2, .i32⟩
  | .hbm, ⟨20, _⟩ => ⟨S_, .i32⟩
  | .hbm, ⟨21, _⟩ => ⟨S2, .i32⟩
  | .hbm, ⟨22, _⟩ => ⟨S2, .i32⟩
  | .hbm, ⟨23, _⟩ => ⟨S1280, .i32⟩
  | .hbm, ⟨24, _⟩ => ⟨S40, .i32⟩
  | .hbm, ⟨25, _⟩ => ⟨S40x1x1x1, .i32⟩
  | .hbm, ⟨26, _⟩ => ⟨S_, .i32⟩
  | .hbm, ⟨27, _⟩ => ⟨S40x1x1x1, .i32⟩
  | .hbm, ⟨28, _⟩ => ⟨S40x1x1x1, .i32⟩
  | .hbm, ⟨29, _⟩ => ⟨S2, .i32⟩
  | .hbm, ⟨30, _⟩ => ⟨S2x1x1, .i32⟩
  | .hbm, ⟨31, _⟩ => ⟨S_, .i32⟩
  | .hbm, ⟨32, _⟩ => ⟨S2x1x1, .i32⟩
  | .hbm, ⟨33, _⟩ => ⟨S2x1x1, .i32⟩
  | .hbm, ⟨34, _⟩ => ⟨S1x2x1x1, .i32⟩
  | .hbm, ⟨35, _⟩ => ⟨S40x2x1x1, .i32⟩
  | .hbm, ⟨36, _⟩ => ⟨S40x2x1x1, .i32⟩
  | .hbm, ⟨37, _⟩ => ⟨S40x2x1x1, .i32⟩
  | .hbm, ⟨38, _⟩ => ⟨S2, .i32⟩
  | .hbm, ⟨39, _⟩ => ⟨S2x1, .i32⟩
  | .hbm, ⟨40, _⟩ => ⟨S_, .i32⟩
  | .hbm, ⟨41, _⟩ => ⟨S2x1, .i32⟩
  | .hbm, ⟨42, _⟩ => ⟨S2x1, .i32⟩
  | .hbm, ⟨43, _⟩ => ⟨S1x1x2x1, .i32⟩
  | .hbm, ⟨44, _⟩ => ⟨S40x2x2x1, .i32⟩
  | .hbm, ⟨45, _⟩ => ⟨S40x2x2x1, .i32⟩
  | .hbm, ⟨46, _⟩ => ⟨S40x2x2x1, .i32⟩
  | .hbm, ⟨47, _⟩ => ⟨S8, .i32⟩
  | .hbm, ⟨48, _⟩ => ⟨S1x1x1x8, .i32⟩
  | .hbm, ⟨49, _⟩ => ⟨S40x2x2x8, .i32⟩
  | .hbm, ⟨50, _⟩ => ⟨S40x2x2x8, .i32⟩
  | .hbm, ⟨51, _⟩ => ⟨S40x2x2x8, .i32⟩
  | .hbm, ⟨52, _⟩ => ⟨S1280, .i32⟩
  | .hbm, ⟨53, _⟩ => ⟨S_, .i32⟩
  | .hbm, ⟨54, _⟩ => ⟨S1280, .i32⟩
  | .hbm, ⟨55, _⟩ => ⟨S1280, .i1⟩
  | .hbm, ⟨56, _⟩ => ⟨S_, .i32⟩
  | .hbm, ⟨57, _⟩ => ⟨S1280, .i32⟩
  | .hbm, ⟨58, _⟩ => ⟨S1280, .i32⟩
  | .hbm, ⟨59, _⟩ => ⟨S1280, .i32⟩
  | .hbm, ⟨60, _⟩ => ⟨S_, .i32⟩
  | .hbm, ⟨61, _⟩ => ⟨S2, .i32⟩
  | .hbm, ⟨62, _⟩ => ⟨S2, .i32⟩
  | .hbm, ⟨63, _⟩ => ⟨S2, .i32⟩
  | .hbm, ⟨64, _⟩ => ⟨S2x1, .i32⟩
  | .hbm, ⟨65, _⟩ => ⟨S1x1280, .i32⟩
  | .hbm, ⟨66, _⟩ => ⟨S2x1280, .i32⟩
  | .hbm, ⟨67, _⟩ => ⟨S2x1280, .i32⟩
  | .hbm, ⟨68, _⟩ => ⟨S2x1280, .i32⟩
  | .hbm, ⟨69, _⟩ => ⟨S_, .i32⟩
  | .hbm, ⟨70, _⟩ => ⟨S2x1280, .i32⟩
  | .hbm, ⟨71, _⟩ => ⟨S2x1280, .i1⟩
  | .hbm, ⟨72, _⟩ => ⟨S_, .i32⟩
  | .hbm, ⟨73, _⟩ => ⟨S1280, .i32⟩
  | .hbm, ⟨74, _⟩ => ⟨S1280, .i1⟩
  | .hbm, ⟨75, _⟩ => ⟨S1x1280, .i1⟩
  | .hbm, ⟨76, _⟩ => ⟨S2x1280, .i1⟩
  | .hbm, ⟨77, _⟩ => ⟨S2x1280, .i1⟩
  | .hbm, ⟨78, _⟩ => ⟨S_, .i32⟩
  | .hbm, ⟨79, _⟩ => ⟨S_, .i32⟩
  | .hbm, ⟨80, _⟩ => ⟨S2x1280, .i32⟩
  | .hbm, ⟨81, _⟩ => ⟨S2x1280, .i32⟩
  | .hbm, ⟨82, _⟩ => ⟨S_, .i32⟩
  | .hbm, ⟨83, _⟩ => ⟨S1280, .i32⟩
  | .hbm, ⟨84, _⟩ => ⟨S1280, .i1⟩
  | .hbm, ⟨85, _⟩ => ⟨S_, .i32⟩
  | .hbm, ⟨86, _⟩ => ⟨S1280, .i32⟩
  | .hbm, ⟨87, _⟩ => ⟨S1280, .i1⟩
  | .hbm, ⟨88, _⟩ => ⟨S1280, .i1⟩
  | .hbm, ⟨89, _⟩ => ⟨S_, .i32⟩
  | .hbm, ⟨90, _⟩ => ⟨S1280, .i32⟩
  | .hbm, ⟨91, _⟩ => ⟨S1280, .i32⟩
  | .hbm, ⟨92, _⟩ => ⟨S2x1280, .i1⟩
  | .hbm, ⟨93, _⟩ => ⟨S2x1280, .i32⟩
  | .hbm, ⟨94, _⟩ => ⟨S2x1280, .i32⟩
  | .hbm, ⟨95, _⟩ => ⟨S2x1, .i32⟩
  | .hbm, ⟨96, _⟩ => ⟨S128, .i32⟩
  | .hbm, ⟨97, _⟩ => ⟨S1x128, .i32⟩
  | .hbm, ⟨98, _⟩ => ⟨S2x128, .i32⟩
  | .hbm, ⟨99, _⟩ => ⟨S2x128, .i32⟩
  | .hbm, ⟨100, _⟩ => ⟨S2x128, .i32⟩
  | .hbm, ⟨101, _⟩ => ⟨S_, .i32⟩
  | .hbm, ⟨102, _⟩ => ⟨S2x128, .i32⟩
  | .hbm, ⟨103, _⟩ => ⟨S2x128, .i32⟩
  | .hbm, ⟨104, _⟩ => ⟨S_, .i32⟩
  | .hbm, ⟨105, _⟩ => ⟨S2x128, .i32⟩
  | .hbm, ⟨106, _⟩ => ⟨S2x128, .i32⟩
  | .hbm, ⟨107, _⟩ => ⟨S2x128, .f32⟩
  | .hbm, ⟨108, _⟩ => ⟨S8x128x256, .bf16⟩
  | .hbm, ⟨109, _⟩ => ⟨S2x1x1280, .i32⟩
  | .hbm, ⟨110, _⟩ => ⟨S2x128x1, .f32⟩
  | .hbm, ⟨111, _⟩ => ⟨S2x128x1024, .fp8e4m3⟩
  | .hbm, ⟨112, _⟩ => ⟨S2x128x1, .f32⟩
  | .hbm, ⟨113, _⟩ => ⟨S8x128x1, .f32⟩
  | .hbm, ⟨114, _⟩ => ⟨S256x1024, .fp8e4m3⟩
  | .hbm, ⟨115, _⟩ => ⟨S2x128, .f32⟩
  | .hbm, ⟨116, _⟩ => ⟨S2x4x128, .f32⟩
  | .local _ .vmem, ⟨0, _⟩ => ⟨S8x128x256, .bf16⟩
  | .local _ .vmem, ⟨1, _⟩ => ⟨S2x320x256, .i32⟩
  | .local _ .vmem, ⟨2, _⟩ => ⟨S2x320x256, .i32⟩
  | .local _ .vmem, ⟨3, _⟩ => ⟨S2x1x1280, .f32⟩
  | .local _ .vmem, ⟨4, _⟩ => ⟨S2x1x1280, .f32⟩
  | .local _ .vmem, ⟨5, _⟩ => ⟨S2x1x1280, .i32⟩
  | .local _ .vmem, ⟨6, _⟩ => ⟨S2x128x1, .f32⟩
  | .local _ .vmem, ⟨7, _⟩ => ⟨S2x128x1024, .fp8e4m3⟩
  | .local _ .vmem, ⟨8, _⟩ => ⟨S2x128x1, .f32⟩
  | .local _ .vmem, ⟨9, _⟩ => ⟨S8x128x1, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_call2_v0 : Ref sig .tc := ⟨.hbm, 79, rfl⟩
abbrev main_call2_v1 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_c_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_call3_v0 : Ref sig .tc := ⟨.hbm, 92, rfl⟩
abbrev main_call3_v1 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77_0 : Ref sig .tc := ⟨.hbm, 111, rfl⟩
abbrev main_v77_1 : Ref sig .tc := ⟨.hbm, 112, rfl⟩
abbrev main_v77_2 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x320x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x320x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x1280 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BodyK.lean ====
/- The body of `Kernel`'s one region run symbolically: what every result array holds when the body returns, with the
   argument arrays, the scratch buffers and the semaphores handed back. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer of core `c` held whole at the contents `f`, named by the memref over all of it. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev aM0 : Memref sig .tc .hbm S256x1152 .bf16 := Memref.whole main_v0
abbrev aM1 : Memref sig .tc .hbm S1152 .f32 := Memref.whole main_arg1
abbrev aM2 : Memref sig .tc .hbm S1152x1536 .fp8e4m3 := Memref.whole main_arg2
abbrev aM3 : Memref sig .tc .hbm S1536 .f32 := Memref.whole main_arg3
abbrev aM4 : Memref sig .tc .hbm S2 .i32 := Memref.whole main_arg4
abbrev rM0 : Memref sig .tc .hbm S256x1152 .fp8e4m3 := Memref.whole main_v1_0
abbrev rM1 : Memref sig .tc .hbm S2x128 .f32 := Memref.whole main_v1_1
abbrev rM2 : Memref sig .tc .hbm S256x256 .fp8e4m3 := Memref.whole main_v1_2
abbrev rM3 : Memref sig .tc .hbm S2x1x128 .f32 := Memref.whole main_v1_3
abbrev rM4 : Memref sig .tc .hbm S256x256 .fp8e4m3 := Memref.whole main_v1_4
abbrev rM5 : Memref sig .tc .hbm S2x1x128 .f32 := Memref.whole main_v1_5
abbrev rM6 : Memref sig .tc .hbm S2x512x256 .bf16 := Memref.whole main_v1_6
abbrev sM0 : Memref sig .tc .vmem S256x1152 .bf16 := Memref.whole cc0_scratch0
abbrev sM1 : Memref sig .tc .vmem S1152 .f32 := Memref.whole cc0_scratch1
abbrev sM2 : Memref sig .tc .vmem S1152x1536 .fp8e4m3 := Memref.whole cc0_scratch2
abbrev sM3 : Memref sig .tc .vmem S1536 .f32 := Memref.whole cc0_scratch3
abbrev sM4 : Memref sig .tc .smem S2 .i32 := Memref.whole cc0_scratch4
abbrev sM5 : Memref sig .tc .vmem S256x1152 .fp8e4m3 := Memref.whole cc0_scratch5
abbrev sM6 : Memref sig .tc .vmem S2x128 .f32 := Memref.whole cc0_scratch6
abbrev sM7 : Memref sig .tc .vmem S256x256 .fp8e4m3 := Memref.whole cc0_scratch7
abbrev sM8 : Memref sig .tc .vmem S2x1x128 .f32 := Memref.whole cc0_scratch8
abbrev sM9 : Memref sig .tc .vmem S256x256 .fp8e4m3 := Memref.whole cc0_scratch9
abbrev sM10 : Memref sig .tc .vmem S2x1x128 .f32 := Memref.whole cc0_scratch10
abbrev sM11 : Memref sig .tc .vmem S2x128x128 .f32 := Memref.whole cc0_scratch11
abbrev sM12 : Memref sig .tc .vmem S2x128x128 .f32 := Memref.whole cc0_scratch12
abbrev sM13 : Memref sig .tc .vmem S256x128 .f32 := Memref.whole cc0_scratch13
abbrev sM14 : Memref sig .tc .vmem S256x1536 .f32 := Memref.whole cc0_scratch14
abbrev sM15 : Memref sig .tc .vmem S2x512x256 .bf16 := Memref.whole cc0_scratch15

set_option maxHeartbeats 1000000 in
/-- THE BODY: from the five arguments, the seven result arrays, the scratch buffers at `f0` … `f15` and every semaphore at
    zero, the body returns with the results at the contents `G` the run finds and the rest as it was. -/
noncomputable def run (c : Dev nD) (a0 : Buf (Elt F) ((aM0).view.loc (c : Thread nD τ))) (a1 : Buf (Elt F) ((aM1).view.loc (c : Thread nD τ))) (a2 : Buf (Elt F) ((aM2).view.loc (c : Thread nD τ))) (a3 : Buf (Elt F) ((aM3).view.loc (c : Thread nD τ))) (a4 : Buf (Elt F) ((aM4).view.loc (c : Thread nD τ)))
    (r0 : Buf (Elt F) ((rM0).view.loc (c : Thread nD τ))) (r1 : Buf (Elt F) ((rM1).view.loc (c : Thread nD τ))) (r2 : Buf (Elt F) ((rM2).view.loc (c : Thread nD τ))) (r3 : Buf (Elt F) ((rM3).view.loc (c : Thread nD τ))) (r4 : Buf (Elt F) ((rM4).view.loc (c : Thread nD τ))) (r5 : Buf (Elt F) ((rM5).view.loc (c : Thread nD τ))) (r6 : Buf (Elt F) ((rM6).view.loc (c : Thread nD τ)))
    (f0 : Buf (Elt F) ((sM0).view.loc (c : Thread nD τ))) (f1 : Buf (Elt F) ((sM1).view.loc (c : Thread nD τ))) (f2 : Buf (Elt F) ((sM2).view.loc (c : Thread nD τ))) (f3 : Buf (Elt F) ((sM3).view.loc (c : Thread nD τ))) (f4 : Buf (Elt F) ((sM4).view.loc (c : Thread nD τ))) (f5 : Buf (Elt F) ((sM5).view.loc (c : Thread nD τ))) (f6 : Buf (Elt F) ((sM6).view.loc (c : Thread nD τ))) (f7 : Buf (Elt F) ((sM7).view.loc (c : Thread nD τ))) (f8 : Buf (Elt F) ((sM8).view.loc (c : Thread nD τ))) (f9 : Buf (Elt F) ((sM9).view.loc (c : Thread nD τ))) (f10 : Buf (Elt F) ((sM10).view.loc (c : Thread nD τ))) (f11 : Buf (Elt F) ((sM11).view.loc (c : Thread nD τ))) (f12 : Buf (Elt F) ((sM12).view.loc (c : Thread nD τ))) (f13 : Buf (Elt F) ((sM13).view.loc (c : Thread nD τ))) (f14 : Buf (Elt F) ((sM14).view.loc (c : Thread nD τ))) (f15 : Buf (Elt F) ((sM15).view.loc (c : Thread nD τ))) :
    { G : Buf (Elt F) ((rM0).view.loc (c : Thread nD τ)) × Buf (Elt F) ((rM1).view.loc (c : Thread nD τ)) × Buf (Elt F) ((rM2).view.loc (c : Thread nD τ)) × Buf (Elt F) ((rM3).view.loc (c : Thread nD τ)) × Buf (Elt F) ((rM4).view.loc (c : Thread nD τ)) × Buf (Elt F) ((rM5).view.loc (c : Thread nD τ)) × Buf (Elt F) ((rM6).view.loc (c : Thread nD τ)) //
      ∀ (W : Waits sig Unit) (K : PUnit → sProp 𝕄),
        iprop(pt c sM0 f0
            ∗ pt c sM1 f1
            ∗ pt c sM2 f2
            ∗ pt c sM3 f3
            ∗ pt c sM5 f5
            ∗ pt c sM6 f6
            ∗ pt c sM7 f7
            ∗ pt c sM8 f8
            ∗ pt c sM9 f9
            ∗ pt c sM10 f10
            ∗ pt c sM11 f11
            ∗ pt c sM12 f12
            ∗ pt c sM13 f13
            ∗ pt c sM14 f14
            ∗ pt c sM15 f15
            ∗ pt c sM4 f4
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ pt c aM0 a0
            ∗ pt c aM1 a1
            ∗ pt c aM2 a2
            ∗ pt c aM3 a3
            ∗ pt c aM4 a4
            ∗ pt c rM0 r0
            ∗ pt c rM1 r1
            ∗ pt c rM2 r2
            ∗ pt c rM3 r3
            ∗ pt c rM4 r4
            ∗ pt c rM5 r5
            ∗ pt c rM6 r6
            ∗ owes (c : Thread nD τ) 0 W
            ∗ (iprop((∃ f, pt c sM0 f)
            ∗ (∃ f, pt c sM1 f)
            ∗ (∃ f, pt c sM2 f)
            ∗ (∃ f, pt c sM3 f)
            ∗ (∃ f, pt c sM5 f)
            ∗ (∃ f, pt c sM6 f)
            ∗ (∃ f, pt c sM7 f)
            ∗ (∃ f, pt c sM8 f)
            ∗ (∃ f, pt c sM9 f)
            ∗ (∃ f, pt c sM10 f)
            ∗ (∃ f, pt c sM11 f)
            ∗ (∃ f, pt c sM12 f)
            ∗ (∃ f, pt c sM13 f)
            ∗ (∃ f, pt c sM14 f)
            ∗ (∃ f, pt c sM15 f)
            ∗ (∃ f, pt c sM4 f)
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ pt c aM0 a0
            ∗ pt c aM1 a1
            ∗ pt c aM2 a2
            ∗ pt c aM3 a3
            ∗ pt c aM4 a4
            ∗ pt c rM0 (G.1)
            ∗ pt c rM1 (G.2.1)
            ∗ pt c rM2 (G.2.2.1)
            ∗ pt c rM3 (G.2.2.2.1)
            ∗ pt c rM4 (G.2.2.2.2.1)
            ∗ pt c rM5 (G.2.2.2.2.2.1)
            ∗ pt c rM6 (G.2.2.2.2.2.2)
            ∗ (∃ W', owes (c : Thread nD τ) 0 W')) -∗ K ⟨⟩))
          ⊢ wp frame (wpE (defs₀ (F := F)) Variants.none c none) Set.univ
              (cc0_swa_layer aM0 (Memref.isWhole_whole _) aM1 (Memref.isWhole_whole _) aM2 (Memref.isWhole_whole _) aM3 (Memref.isWhole_whole _) aM4 (Memref.isWhole_whole _) rM0 (Memref.isWhole_whole _) rM1 (Memref.isWhole_whole _) rM2 (Memref.isWhole_whole _) rM3 (Memref.isWhole_whole _) rM4 (Memref.isWhole_whole _) rM5 (Memref.isWhole_whole _) rM6 (Memref.isWhole_whole _) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) cc0_scratch16 cc0_scratch17) K } := by
  refine ⟨(?_, ?_, ?_, ?_, ?_, ?_, ?_), fun W K => ?run⟩
  case run =>
    simp only [cc0_swa_layer_eq_skeleton]; unfold cc0_swa_layer_skel
    iintro ⟨S0, S1, S2, S3, S5, S6, S7, S8, S9, S10, S11, S12, S13, S14, S15, S4, Q0, Q1, Q2, Q3, Q4, Q5, Q6, Q7, Q8, Q9, Q10, Q11, A0, A1, A2, A3, A4, R0, R1, R2, R3, R4, R5, R6, HW, Hk⟩
    set_option sl_exec.lendShare "S5" in sl_exec_parts!
    sl_step
    iapply Hk
    isplitl [S0]; · iexists _; iexact S0
    isplitl [S1]; · iexists _; iexact S1
    isplitl [S2]; · iexists _; iexact S2
    isplitl [S3]; · iexists _; iexact S3
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S4]; · iexists _; iexact S4
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [A0]; · iexact A0
    isplitl [A1]; · iexact A1
    isplitl [A2]; · iexact A2
    isplitl [A3]; · iexact A3
    isplitl [A4]; · iexact A4
    isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HW

end Cert.Kernel.Hand

end
-- ==== Proof.FrameK.lean ====
/- The launch of `Kernel`: it ends with the arguments unchanged and every semaphore at zero. -/
module

public import proofs.«01_k».proof.Proof.BodyK

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The seven result arrays, which the body's copies write. -/
def R0 : Finset (Ref sig .tc) := {main_v1_0, main_v1_1, main_v1_2, main_v1_3, main_v1_4, main_v1_5, main_v1_6}
/-- The five arrays the body's copies read. -/
def H0 : Finset (Ref sig .tc) := {main_v0, main_arg1, main_arg2, main_arg3, main_arg4}

/-- `@main` up to the region, at the algebra of the copies. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev osem0 : Fin 12 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11] : Fin 12 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7, 8, 9, 10, 11] (by decide) (by decide)]; rfl

theorem H0_sub : H0 ⊆ Pipeline.restRefs sig (cfg0.spec) := by decide
theorem hbmPts0_eq (c : Dev nD) :
    (bigSep H0 (fun b => ((c : Thread nD τ).loc b) ↦{fullShare} V m c b) : sProp 𝕄)
      = iprop(pt c aM0 (V m c main_v0) ∗ pt c aM1 (V m c main_arg1) ∗ pt c aM2 (V m c main_arg2) ∗ pt c aM3 (V m c main_arg3) ∗ pt c aM4 (V m c main_arg4)) := by
  rw [BI.bigSep_eq_bigSepL_of_eq [main_v0, main_arg1, main_arg2, main_arg3, main_arg4] (by decide) (by decide)]; rfl

theorem R0_sub : R0 ⊆ Pipeline.restRefs sig (cfg0.spec) \ H0 := by decide

/-- The result arrays, each whole at some contents. -/
theorem owned0_eq (c : Dev nD) :
    (Pipeline.owned R0 c : sProp 𝕄)
      = iprop((∃ f, pt c rM0 f) ∗ (∃ f, pt c rM1 f) ∗ (∃ f, pt c rM2 f) ∗ (∃ f, pt c rM3 f) ∗ (∃ f, pt c rM4 f) ∗ (∃ f, pt c rM5 f) ∗ (∃ f, pt c rM6 f)) := by
  unfold Pipeline.owned; rw [BI.bigSep_eq_bigSepL_of_eq [main_v1_0, main_v1_1, main_v1_2, main_v1_3, main_v1_4, main_v1_5, main_v1_6] (by decide) (by decide)]; rfl

theorem Phi0_eq (c : Dev nD) :
    (Pipeline.ΦDR osem0 (cfg0.spec) H0 R0 (V m) c : sProp 𝕄)
      = iprop(iprop((∃ f, pt c sM0 f) ∗ (∃ f, pt c sM1 f) ∗ (∃ f, pt c sM2 f) ∗ (∃ f, pt c sM3 f) ∗ (∃ f, pt c sM5 f) ∗ (∃ f, pt c sM6 f) ∗ (∃ f, pt c sM7 f) ∗ (∃ f, pt c sM8 f) ∗ (∃ f, pt c sM9 f) ∗ (∃ f, pt c sM10 f) ∗ (∃ f, pt c sM11 f) ∗ (∃ f, pt c sM12 f) ∗ (∃ f, pt c sM13 f) ∗ (∃ f, pt c sM14 f) ∗ (∃ f, pt c sM15 f) ∗ (∃ f, pt c sM4 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
          ∗ iprop(pt c aM0 (V m c main_v0) ∗ pt c aM1 (V m c main_arg1) ∗ pt c aM2 (V m c main_arg2) ∗ pt c aM3 (V m c main_arg3) ∗ pt c aM4 (V m c main_arg4))
          ∗ iprop((∃ f, pt c rM0 f) ∗ (∃ f, pt c rM1 f) ∗ (∃ f, pt c rM2 f) ∗ (∃ f, pt c rM3 f) ∗ (∃ f, pt c rM4 f) ∗ (∃ f, pt c rM5 f) ∗ (∃ f, pt c rM6 f))) := by
  rw [Pipeline.ΦDR_eq, scopedRest0_eq, ownSems00_eq, hbmPts0_eq, owned0_eq]

/-- The proof data of the one region: no window; the copies' invariant before and after its one point. -/
def dats (_ : Fin 1) (c : Dev nD) : Dat τ (Elt F) Unit ℕ (Pipeline.UD sig nD τ) ℕ cfg0 c where
  A w := V m c (Pipeline.arrRef (cfg0.spec) w)
  after w _ := (w : Fin 0).elim0
  Φ t := Pipeline.ΦDR osem0 (cfg0.spec) H0 R0 (V m) c
  q _ := fullShare
  owed _ := 0

theorem A_eq (c : Dev nD) (w : Fin cfg0.W) : (dats m 0 c).A w = V m c (Pipeline.arrRef (cfg0.spec) w) := rfl

theorem point_zero (t : Fin cfg0.N) : (t : ℕ) = 0 := by
  have h : (t : ℕ) < cfg0.N := t.2
  have h0 : cfg0.N = 1 := N_0; omega

/-- The body of the region's one point takes the invariant before it to the invariant after it. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  unfold bodyAt0
  rw [show (dats m 0 c).Φ t.castSucc = Pipeline.ΦDR osem0 (cfg0.spec) H0 R0 (V m) c from rfl,
      show (dats m 0 c).Φ t.succ = Pipeline.ΦDR osem0 (cfg0.spec) H0 R0 (V m) c from rfl, Phi0_eq]
  unfold Dat.owesAt Pipeline.owesWithin
  rw [show (dats m 0 c).owed t.castSucc = 0 from rfl, show (dats m 0 c).owed t.succ = 0 from rfl]
  iintro ⟨⟨⟨⟨%f0, S0⟩, ⟨%f1, S1⟩, ⟨%f2, S2⟩, ⟨%f3, S3⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f4, S4⟩⟩, Hg, ⟨Q0, Q1, Q2, Q3, Q4, Q5, Q6, Q7, Q8, Q9, Q10, Q11⟩, ⟨A0, A1, A2, A3, A4⟩, ⟨⟨%r0, R0⟩, ⟨%r1, R1⟩, ⟨%r2, R2⟩, ⟨%r3, R3⟩, ⟨%r4, R4⟩, ⟨%r5, R5⟩, ⟨%r6, R6⟩⟩⟩, ⟨%W, -, HW⟩, -⟩
  iapply ((run c (V m c main_v0) (V m c main_arg1) (V m c main_arg2) (V m c main_arg3) (V m c main_arg4) r0 r1 r2 r3 r4 r5 r6 f0 f1 f2 f3 f4 f5 f6 f7 f8 f9 f10 f11 f12 f13 f14 f15).2 W _)
  isplitl [S0]; · iexact S0
  isplitl [S1]; · iexact S1
  isplitl [S2]; · iexact S2
  isplitl [S3]; · iexact S3
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S4]; · iexact S4
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [A0]; · iexact A0
  isplitl [A1]; · iexact A1
  isplitl [A2]; · iexact A2
  isplitl [A3]; · iexact A3
  isplitl [A4]; · iexact A4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [HW]; · iexact HW
  iintro ⟨S0, S1, S2, S3, S5, S6, S7, S8, S9, S10, S11, S12, S13, S14, S15, S4, Q0, Q1, Q2, Q3, Q4, Q5, Q6, Q7, Q8, Q9, Q10, Q11, A0, A1, A2, A3, A4, R0, R1, R2, R3, R4, R5, R6, ⟨%W', HW'⟩⟩
  isplitl [S0 S1 S2 S3 S5 S6 S7 S8 S9 S10 S11 S12 S13 S14 S15 S4 Hg Q0 Q1 Q2 Q3 Q4 Q5 Q6 Q7 Q8 Q9 Q10 Q11 A0 A1 A2 A3 A4 R0 R1 R2 R3 R4 R5 R6]
  · isplitl [S0 S1 S2 S3 S5 S6 S7 S8 S9 S10 S11 S12 S13 S14 S15 S4]
    · isplitl [S0]; · iexact S0
      isplitl [S1]; · iexact S1
      isplitl [S2]; · iexact S2
      isplitl [S3]; · iexact S3
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S4
    isplitl [Hg]; · iexact Hg
    isplitl [Q0 Q1 Q2 Q3 Q4 Q5 Q6 Q7 Q8 Q9 Q10 Q11]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      iexact Q11
    isplitl [A0 A1 A2 A3 A4]
    · isplitl [A0]; · iexact A0
      isplitl [A1]; · iexact A1
      isplitl [A2]; · iexact A2
      isplitl [A3]; · iexact A3
      iexact A4
    isplitl [R0]; · iexists _; iexact R0
    isplitl [R1]; · iexists _; iexact R1
    isplitl [R2]; · iexists _; iexact R2
    isplitl [R3]; · iexists _; iexact R3
    isplitl [R4]; · iexists _; iexact R4
    isplitl [R5]; · iexists _; iexact R5
    iexists _; iexact R6
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := BI.bigSep_empty

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

set_option backward.isDefEq.respectTransparency.types false in
/-- The whole program runs, with every semaphore at zero at the end. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- THE FRAME: the program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.Kernel.Hand

end
-- ==== Proof.BodyI.lean ====
/- The body of `KernelIdeal`'s one region run symbolically: what every result array holds when the body returns, with the
   argument arrays, the scratch buffers and the semaphores handed back. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer of core `c` held whole at the contents `f`, named by the memref over all of it. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev aM0 : Memref sig .tc .hbm S256x1152 .bf16 := Memref.whole main_v0
abbrev aM1 : Memref sig .tc .hbm S1152 .f32 := Memref.whole main_arg1
abbrev aM2 : Memref sig .tc .hbm S1152x1536 .fp8e4m3 := Memref.whole main_arg2
abbrev aM3 : Memref sig .tc .hbm S1536 .f32 := Memref.whole main_arg3
abbrev aM4 : Memref sig .tc .hbm S2 .i32 := Memref.whole main_arg4
abbrev rM0 : Memref sig .tc .hbm S256x1152 .fp8e4m3 := Memref.whole main_v1_0
abbrev rM1 : Memref sig .tc .hbm S2x128 .f32 := Memref.whole main_v1_1
abbrev rM2 : Memref sig .tc .hbm S256x256 .fp8e4m3 := Memref.whole main_v1_2
abbrev rM3 : Memref sig .tc .hbm S2x1x128 .f32 := Memref.whole main_v1_3
abbrev rM4 : Memref sig .tc .hbm S256x256 .fp8e4m3 := Memref.whole main_v1_4
abbrev rM5 : Memref sig .tc .hbm S2x1x128 .f32 := Memref.whole main_v1_5
abbrev rM6 : Memref sig .tc .hbm S2x512x256 .bf16 := Memref.whole main_v1_6
abbrev sM0 : Memref sig .tc .vmem S256x1152 .bf16 := Memref.whole cc0_scratch0
abbrev sM1 : Memref sig .tc .vmem S1152 .f32 := Memref.whole cc0_scratch1
abbrev sM2 : Memref sig .tc .vmem S1152x1536 .fp8e4m3 := Memref.whole cc0_scratch2
abbrev sM3 : Memref sig .tc .vmem S1536 .f32 := Memref.whole cc0_scratch3
abbrev sM4 : Memref sig .tc .smem S2 .i32 := Memref.whole cc0_scratch4
abbrev sM5 : Memref sig .tc .vmem S256x1152 .fp8e4m3 := Memref.whole cc0_scratch5
abbrev sM6 : Memref sig .tc .vmem S2x128 .f32 := Memref.whole cc0_scratch6
abbrev sM7 : Memref sig .tc .vmem S256x256 .fp8e4m3 := Memref.whole cc0_scratch7
abbrev sM8 : Memref sig .tc .vmem S2x1x128 .f32 := Memref.whole cc0_scratch8
abbrev sM9 : Memref sig .tc .vmem S256x256 .fp8e4m3 := Memref.whole cc0_scratch9
abbrev sM10 : Memref sig .tc .vmem S2x1x128 .f32 := Memref.whole cc0_scratch10
abbrev sM11 : Memref sig .tc .vmem S2x128x128 .f32 := Memref.whole cc0_scratch11
abbrev sM12 : Memref sig .tc .vmem S2x128x128 .f32 := Memref.whole cc0_scratch12
abbrev sM13 : Memref sig .tc .vmem S256x128 .f32 := Memref.whole cc0_scratch13
abbrev sM14 : Memref sig .tc .vmem S256x1536 .f32 := Memref.whole cc0_scratch14
abbrev sM15 : Memref sig .tc .vmem S2x512x256 .bf16 := Memref.whole cc0_scratch15

set_option maxHeartbeats 1000000 in
/-- THE BODY: from the five arguments, the seven result arrays, the scratch buffers at `f0` … `f15` and every semaphore at
    zero, the body returns with the results at the contents `G` the run finds and the rest as it was. -/
noncomputable def run (c : Dev nD) (a0 : Buf (Elt F) ((aM0).view.loc (c : Thread nD τ))) (a1 : Buf (Elt F) ((aM1).view.loc (c : Thread nD τ))) (a2 : Buf (Elt F) ((aM2).view.loc (c : Thread nD τ))) (a3 : Buf (Elt F) ((aM3).view.loc (c : Thread nD τ))) (a4 : Buf (Elt F) ((aM4).view.loc (c : Thread nD τ)))
    (r0 : Buf (Elt F) ((rM0).view.loc (c : Thread nD τ))) (r1 : Buf (Elt F) ((rM1).view.loc (c : Thread nD τ))) (r2 : Buf (Elt F) ((rM2).view.loc (c : Thread nD τ))) (r3 : Buf (Elt F) ((rM3).view.loc (c : Thread nD τ))) (r4 : Buf (Elt F) ((rM4).view.loc (c : Thread nD τ))) (r5 : Buf (Elt F) ((rM5).view.loc (c : Thread nD τ))) (r6 : Buf (Elt F) ((rM6).view.loc (c : Thread nD τ)))
    (f0 : Buf (Elt F) ((sM0).view.loc (c : Thread nD τ))) (f1 : Buf (Elt F) ((sM1).view.loc (c : Thread nD τ))) (f2 : Buf (Elt F) ((sM2).view.loc (c : Thread nD τ))) (f3 : Buf (Elt F) ((sM3).view.loc (c : Thread nD τ))) (f4 : Buf (Elt F) ((sM4).view.loc (c : Thread nD τ))) (f5 : Buf (Elt F) ((sM5).view.loc (c : Thread nD τ))) (f6 : Buf (Elt F) ((sM6).view.loc (c : Thread nD τ))) (f7 : Buf (Elt F) ((sM7).view.loc (c : Thread nD τ))) (f8 : Buf (Elt F) ((sM8).view.loc (c : Thread nD τ))) (f9 : Buf (Elt F) ((sM9).view.loc (c : Thread nD τ))) (f10 : Buf (Elt F) ((sM10).view.loc (c : Thread nD τ))) (f11 : Buf (Elt F) ((sM11).view.loc (c : Thread nD τ))) (f12 : Buf (Elt F) ((sM12).view.loc (c : Thread nD τ))) (f13 : Buf (Elt F) ((sM13).view.loc (c : Thread nD τ))) (f14 : Buf (Elt F) ((sM14).view.loc (c : Thread nD τ))) (f15 : Buf (Elt F) ((sM15).view.loc (c : Thread nD τ))) :
    { G : Buf (Elt F) ((rM0).view.loc (c : Thread nD τ)) × Buf (Elt F) ((rM1).view.loc (c : Thread nD τ)) × Buf (Elt F) ((rM2).view.loc (c : Thread nD τ)) × Buf (Elt F) ((rM3).view.loc (c : Thread nD τ)) × Buf (Elt F) ((rM4).view.loc (c : Thread nD τ)) × Buf (Elt F) ((rM5).view.loc (c : Thread nD τ)) × Buf (Elt F) ((rM6).view.loc (c : Thread nD τ)) //
      ∀ (W : Waits sig Unit) (K : PUnit → sProp 𝕄),
        iprop(pt c sM0 f0
            ∗ pt c sM1 f1
            ∗ pt c sM2 f2
            ∗ pt c sM3 f3
            ∗ pt c sM5 f5
            ∗ pt c sM6 f6
            ∗ pt c sM7 f7
            ∗ pt c sM8 f8
            ∗ pt c sM9 f9
            ∗ pt c sM10 f10
            ∗ pt c sM11 f11
            ∗ pt c sM12 f12
            ∗ pt c sM13 f13
            ∗ pt c sM14 f14
            ∗ pt c sM15 f15
            ∗ pt c sM4 f4
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ pt c aM0 a0
            ∗ pt c aM1 a1
            ∗ pt c aM2 a2
            ∗ pt c aM3 a3
            ∗ pt c aM4 a4
            ∗ pt c rM0 r0
            ∗ pt c rM1 r1
            ∗ pt c rM2 r2
            ∗ pt c rM3 r3
            ∗ pt c rM4 r4
            ∗ pt c rM5 r5
            ∗ pt c rM6 r6
            ∗ owes (c : Thread nD τ) 0 W
            ∗ (iprop((∃ f, pt c sM0 f)
            ∗ (∃ f, pt c sM1 f)
            ∗ (∃ f, pt c sM2 f)
            ∗ (∃ f, pt c sM3 f)
            ∗ (∃ f, pt c sM5 f)
            ∗ (∃ f, pt c sM6 f)
            ∗ (∃ f, pt c sM7 f)
            ∗ (∃ f, pt c sM8 f)
            ∗ (∃ f, pt c sM9 f)
            ∗ (∃ f, pt c sM10 f)
            ∗ (∃ f, pt c sM11 f)
            ∗ (∃ f, pt c sM12 f)
            ∗ (∃ f, pt c sM13 f)
            ∗ (∃ f, pt c sM14 f)
            ∗ (∃ f, pt c sM15 f)
            ∗ (∃ f, pt c sM4 f)
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ pt c aM0 a0
            ∗ pt c aM1 a1
            ∗ pt c aM2 a2
            ∗ pt c aM3 a3
            ∗ pt c aM4 a4
            ∗ pt c rM0 (G.1)
            ∗ pt c rM1 (G.2.1)
            ∗ pt c rM2 (G.2.2.1)
            ∗ pt c rM3 (G.2.2.2.1)
            ∗ pt c rM4 (G.2.2.2.2.1)
            ∗ pt c rM5 (G.2.2.2.2.2.1)
            ∗ pt c rM6 (G.2.2.2.2.2.2)
            ∗ (∃ W', owes (c : Thread nD τ) 0 W')) -∗ K ⟨⟩))
          ⊢ wp frame (wpE (defs₀ (F := F)) Variants.none c none) Set.univ
              (cc0_swa_layer aM0 (Memref.isWhole_whole _) aM1 (Memref.isWhole_whole _) aM2 (Memref.isWhole_whole _) aM3 (Memref.isWhole_whole _) aM4 (Memref.isWhole_whole _) rM0 (Memref.isWhole_whole _) rM1 (Memref.isWhole_whole _) rM2 (Memref.isWhole_whole _) rM3 (Memref.isWhole_whole _) rM4 (Memref.isWhole_whole _) rM5 (Memref.isWhole_whole _) rM6 (Memref.isWhole_whole _) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) cc0_scratch16 cc0_scratch17) K } := by
  refine ⟨(?_, ?_, ?_, ?_, ?_, ?_, ?_), fun W K => ?run⟩
  case run =>
    simp only [cc0_swa_layer_eq_skeleton]; unfold cc0_swa_layer_skel
    iintro ⟨S0, S1, S2, S3, S5, S6, S7, S8, S9, S10, S11, S12, S13, S14, S15, S4, Q0, Q1, Q2, Q3, Q4, Q5, Q6, Q7, Q8, Q9, Q10, Q11, A0, A1, A2, A3, A4, R0, R1, R2, R3, R4, R5, R6, HW, Hk⟩
    set_option sl_exec.lendShare "S5" in sl_exec_parts!
    sl_step
    iapply Hk
    isplitl [S0]; · iexists _; iexact S0
    isplitl [S1]; · iexists _; iexact S1
    isplitl [S2]; · iexists _; iexact S2
    isplitl [S3]; · iexists _; iexact S3
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S4]; · iexists _; iexact S4
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [A0]; · iexact A0
    isplitl [A1]; · iexact A1
    isplitl [A2]; · iexact A2
    isplitl [A3]; · iexact A3
    isplitl [A4]; · iexact A4
    isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HW

end Cert.KernelIdeal.Hand

end
-- ==== Proof.FrameV.lean ====
/- The launch of `KernelIdeal`: what each result array holds when it ends, the arguments unchanged and every semaphore at zero. -/
module

public import proofs.«01_k».proof.Proof.BodyI

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The seven result arrays, which the body's copies write. -/
def R0 : Finset (Ref sig .tc) := {main_v1_0, main_v1_1, main_v1_2, main_v1_3, main_v1_4, main_v1_5, main_v1_6}
/-- The five arrays the body's copies read. -/
def H0 : Finset (Ref sig .tc) := {main_v0, main_arg1, main_arg2, main_arg3, main_arg4}

/-- `@main` up to the region, at the algebra of the copies. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev osem0 : Fin 12 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11] : Fin 12 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7, 8, 9, 10, 11] (by decide) (by decide)]; rfl

theorem H0_sub : H0 ⊆ Pipeline.restRefs sig (cfg0.spec) := by decide
theorem hbmPts0_eq (c : Dev nD) :
    (bigSep H0 (fun b => ((c : Thread nD τ).loc b) ↦{fullShare} V m c b) : sProp 𝕄)
      = iprop(pt c aM0 (V m c main_v0) ∗ pt c aM1 (V m c main_arg1) ∗ pt c aM2 (V m c main_arg2) ∗ pt c aM3 (V m c main_arg3) ∗ pt c aM4 (V m c main_arg4)) := by
  rw [BI.bigSep_eq_bigSepL_of_eq [main_v0, main_arg1, main_arg2, main_arg3, main_arg4] (by decide) (by decide)]; rfl

theorem R0_sub : R0 ⊆ Pipeline.restRefs sig (cfg0.spec) \ H0 := by decide

/-- The result arrays, each whole at the given contents. -/
theorem routed0_eq (c : Dev nD) (W : (b : Ref sig .tc) → Buf (Elt F) ((c.tc : Thread nD τ).loc b)) :
    (Pipeline.routed R0 c W : sProp 𝕄)
      = iprop(pt c rM0 (W main_v1_0) ∗ pt c rM1 (W main_v1_1) ∗ pt c rM2 (W main_v1_2) ∗ pt c rM3 (W main_v1_3) ∗ pt c rM4 (W main_v1_4) ∗ pt c rM5 (W main_v1_5) ∗ pt c rM6 (W main_v1_6)) := by
  unfold Pipeline.routed; rw [BI.bigSep_eq_bigSepL_of_eq [main_v1_0, main_v1_1, main_v1_2, main_v1_3, main_v1_4, main_v1_5, main_v1_6] (by decide) (by decide)]; rfl

theorem Phi0_eq (G : (c : Dev nD) → (b : Ref sig .tc) → Buf (Elt F) ((c.tc : Thread nD τ).loc b)) (c : Dev nD) :
    (Pipeline.ΦDRG osem0 (cfg0.spec) H0 R0 (V m) G c : sProp 𝕄)
      = iprop(iprop((∃ f, pt c sM0 f) ∗ (∃ f, pt c sM1 f) ∗ (∃ f, pt c sM2 f) ∗ (∃ f, pt c sM3 f) ∗ (∃ f, pt c sM5 f) ∗ (∃ f, pt c sM6 f) ∗ (∃ f, pt c sM7 f) ∗ (∃ f, pt c sM8 f) ∗ (∃ f, pt c sM9 f) ∗ (∃ f, pt c sM10 f) ∗ (∃ f, pt c sM11 f) ∗ (∃ f, pt c sM12 f) ∗ (∃ f, pt c sM13 f) ∗ (∃ f, pt c sM14 f) ∗ (∃ f, pt c sM15 f) ∗ (∃ f, pt c sM4 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
          ∗ iprop(pt c aM0 (V m c main_v0) ∗ pt c aM1 (V m c main_arg1) ∗ pt c aM2 (V m c main_arg2) ∗ pt c aM3 (V m c main_arg3) ∗ pt c aM4 (V m c main_arg4))
          ∗ iprop(pt c rM0 (G c main_v1_0) ∗ pt c rM1 (G c main_v1_1) ∗ pt c rM2 (G c main_v1_2) ∗ pt c rM3 (G c main_v1_3) ∗ pt c rM4 (G c main_v1_4) ∗ pt c rM5 (G c main_v1_5) ∗ pt c rM6 (G c main_v1_6))) := by
  rw [Pipeline.ΦDRG_eq, scopedRest0_eq, ownSems00_eq, hbmPts0_eq, routed0_eq]

/-- The contents of the result arrays after `t` of the region's one point: as found before it, `G` after it. -/
def Gat (G : (c : Dev nD) → (b : Ref sig .tc) → Buf (Elt F) ((c.tc : Thread nD τ).loc b)) (t : ℕ) :
    (c : Dev nD) → (b : Ref sig .tc) → Buf (Elt F) ((c.tc : Thread nD τ).loc b) := if t = 0 then V m else G

variable (G : (c : Dev nD) → (b : Ref sig .tc) → Buf (Elt F) ((c.tc : Thread nD τ).loc b))

/-- The proof data of the one region: no window; the copies' invariant before and after its one point. -/
def dats (_ : Fin 1) (c : Dev nD) : Dat τ (Elt F) Unit ℕ (Pipeline.UD sig nD τ) ℕ cfg0 c where
  A w := V m c (Pipeline.arrRef (cfg0.spec) w)
  after w _ := (w : Fin 0).elim0
  Φ t := Pipeline.ΦDRG osem0 (cfg0.spec) H0 R0 (V m) (Gat m G t.1) c
  q _ := fullShare
  owed _ := 0

theorem A_eq (c : Dev nD) (w : Fin cfg0.W) : (dats m G 0 c).A w = V m c (Pipeline.arrRef (cfg0.spec) w) := rfl

theorem point_zero (t : Fin cfg0.N) : (t : ℕ) = 0 := by
  have h : (t : ℕ) < cfg0.N := t.2
  have h0 : cfg0.N = 1 := N_0; omega

/-- The body of the region's one point takes the invariant before it to the invariant after it. -/
theorem sound_body
    (hG : ∀ (c : Dev nD) r0 r1 r2 r3 r4 r5 r6 f0 f1 f2 f3 f4 f5 f6 f7 f8 f9 f10 f11 f12 f13 f14 f15,
      (run c (V m c main_v0) (V m c main_arg1) (V m c main_arg2) (V m c main_arg3) (V m c main_arg4) r0 r1 r2 r3 r4 r5 r6 f0 f1 f2 f3 f4 f5 f6 f7 f8 f9 f10 f11 f12 f13 f14 f15).1
        = (G c main_v1_0, G c main_v1_1, G c main_v1_2, G c main_v1_3, G c main_v1_4, G c main_v1_5, G c main_v1_6)) (c : Dev nD) (t : Fin cfg0.N) :
    iprop((dats m G 0 c).Φ t.castSucc ∗ (dats m G 0 c).owesAt () t.castSucc ∗ emp)
      ⊢ wp frame (wpE (defs₀ (F := F)) Variants.none c none) Set.univ (bodyAt0 t)
          (fun _ => iprop((dats m G 0 c).Φ t.succ ∗ (dats m G 0 c).owesAt () t.succ ∗ emp)) := by
  unfold bodyAt0
  rw [show (dats m G 0 c).Φ t.castSucc = Pipeline.ΦDRG osem0 (cfg0.spec) H0 R0 (V m) (V m) c from by
        dsimp only [dats, Gat, Fin.val_castSucc]; rw [if_pos (point_zero t)],
      show (dats m G 0 c).Φ t.succ = Pipeline.ΦDRG osem0 (cfg0.spec) H0 R0 (V m) G c from by
        dsimp only [dats, Gat, Fin.val_succ]; rw [if_neg (Nat.succ_ne_zero _)], Phi0_eq, Phi0_eq]
  unfold Dat.owesAt Pipeline.owesWithin
  rw [show (dats m G 0 c).owed t.castSucc = 0 from rfl, show (dats m G 0 c).owed t.succ = 0 from rfl]
  iintro ⟨⟨⟨⟨%f0, S0⟩, ⟨%f1, S1⟩, ⟨%f2, S2⟩, ⟨%f3, S3⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f4, S4⟩⟩, Hg, ⟨Q0, Q1, Q2, Q3, Q4, Q5, Q6, Q7, Q8, Q9, Q10, Q11⟩, ⟨A0, A1, A2, A3, A4⟩, ⟨R0, R1, R2, R3, R4, R5, R6⟩⟩, ⟨%W, -, HW⟩, -⟩
  iapply ((run c (V m c main_v0) (V m c main_arg1) (V m c main_arg2) (V m c main_arg3) (V m c main_arg4) (V m c main_v1_0) (V m c main_v1_1) (V m c main_v1_2) (V m c main_v1_3) (V m c main_v1_4) (V m c main_v1_5) (V m c main_v1_6) f0 f1 f2 f3 f4 f5 f6 f7 f8 f9 f10 f11 f12 f13 f14 f15).2 W _)
  isplitl [S0]; · iexact S0
  isplitl [S1]; · iexact S1
  isplitl [S2]; · iexact S2
  isplitl [S3]; · iexact S3
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S4]; · iexact S4
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [A0]; · iexact A0
  isplitl [A1]; · iexact A1
  isplitl [A2]; · iexact A2
  isplitl [A3]; · iexact A3
  isplitl [A4]; · iexact A4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [HW]; · iexact HW
  rw [hG c (V m c main_v1_0) (V m c main_v1_1) (V m c main_v1_2) (V m c main_v1_3) (V m c main_v1_4) (V m c main_v1_5) (V m c main_v1_6) f0 f1 f2 f3 f4 f5 f6 f7 f8 f9 f10 f11 f12 f13 f14 f15]
  iintro ⟨S0, S1, S2, S3, S5, S6, S7, S8, S9, S10, S11, S12, S13, S14, S15, S4, Q0, Q1, Q2, Q3, Q4, Q5, Q6, Q7, Q8, Q9, Q10, Q11, A0, A1, A2, A3, A4, R0, R1, R2, R3, R4, R5, R6, ⟨%W', HW'⟩⟩
  isplitl [S0 S1 S2 S3 S5 S6 S7 S8 S9 S10 S11 S12 S13 S14 S15 S4 Hg Q0 Q1 Q2 Q3 Q4 Q5 Q6 Q7 Q8 Q9 Q10 Q11 A0 A1 A2 A3 A4 R0 R1 R2 R3 R4 R5 R6]
  · isplitl [S0 S1 S2 S3 S5 S6 S7 S8 S9 S10 S11 S12 S13 S14 S15 S4]
    · isplitl [S0]; · iexact S0
      isplitl [S1]; · iexact S1
      isplitl [S2]; · iexact S2
      isplitl [S3]; · iexact S3
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S4
    isplitl [Hg]; · iexact Hg
    isplitl [Q0 Q1 Q2 Q3 Q4 Q5 Q6 Q7 Q8 Q9 Q10 Q11]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      iexact Q11
    isplitl [A0 A1 A2 A3 A4]
    · isplitl [A0]; · iexact A0
      isplitl [A1]; · iexact A1
      isplitl [A2]; · iexact A2
      isplitl [A3]; · iexact A3
      iexact A4
    isplitl [R0]; · iexact R0
    isplitl [R1]; · iexact R1
    isplitl [R2]; · iexact R2
    isplitl [R3]; · iexact R3
    isplitl [R4]; · iexact R4
    isplitl [R5]; · iexact R5
    iexact R6
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := BI.bigSep_empty

theorem body_obligation
    (hG : ∀ (c : Dev nD) r0 r1 r2 r3 r4 r5 r6 f0 f1 f2 f3 f4 f5 f6 f7 f8 f9 f10 f11 f12 f13 f14 f15,
      (run c (V m c main_v0) (V m c main_arg1) (V m c main_arg2) (V m c main_arg3) (V m c main_arg4) r0 r1 r2 r3 r4 r5 r6 f0 f1 f2 f3 f4 f5 f6 f7 f8 f9 f10 f11 f12 f13 f14 f15).1
        = (G c main_v1_0, G c main_v1_1, G c main_v1_2, G c main_v1_3, G c main_v1_4, G c main_v1_5, G c main_v1_6)) (c : Dev nD) : BodyObligation (dats (F := F) m G 0 c) (defs₀ (F := F)) Variants.none () Set.univ := fun t => by
  rw [bigSep_none, bigSep_none, defs₀_row]
  exact triple_restated (sound_body m G hG c t) rfl .rfl fun _ => .rfl

set_option backward.isDefEq.respectTransparency.types false in
/-- The whole program runs and leaves the results at `G`, with every semaphore at zero at the end. -/
theorem run_main
    (hG : ∀ (c : Dev nD) r0 r1 r2 r3 r4 r5 r6 f0 f1 f2 f3 f4 f5 f6 f7 f8 f9 f10 f11 f12 f13 f14 f15,
      (run c (V m c main_v0) (V m c main_arg1) (V m c main_arg2) (V m c main_arg3) (V m c main_arg4) r0 r1 r2 r3 r4 r5 r6 f0 f1 f2 f3 f4 f5 f6 f7 f8 f9 f10 f11 f12 f13 f14 f15).1
        = (G c main_v1_0, G c main_v1_1, G c main_v1_2, G c main_v1_3, G c main_v1_4, G c main_v1_5, G c main_v1_6)) : θ_run defs (onTc (τ := τ) (main (F := F))) (s₀ m ρ) (fun r => Pipeline.FramePostRG cfgs (dats m G) 0 R0 (V m) G r ∧ r.2.sem = fun _ => 0) :=
  Pipeline.θ_run_frame_dmaRG (Q' := _) cfgs (dats m G) (0 : Fin 1) launch0 osem0 defs₀ Variants.none ownSemFacts0 H0 R0 H0_sub R0_sub m ρ main
    (hbody := fun c => (body_obligation m G hG c).loose) (hshare := fun c => (dats m G 0 c).share_full fun _ => rfl)
    (howed := fun _ _ => rfl) (V := V m) (G := G) (hmain := hmainD m Variants.none) (hA := A_eq m G)
    (hin := fun _ => .rfl) (hout := fun _ => .rfl)

/-- What the program leaves: each result array at `G`, each argument as launched, every semaphore at zero. -/
theorem value_of
    (hG : ∀ (c : Dev nD) r0 r1 r2 r3 r4 r5 r6 f0 f1 f2 f3 f4 f5 f6 f7 f8 f9 f10 f11 f12 f13 f14 f15,
      (run c (V m c main_v0) (V m c main_arg1) (V m c main_arg2) (V m c main_arg3) (V m c main_arg4) r0 r1 r2 r3 r4 r5 r6 f0 f1 f2 f3 f4 f5 f6 f7 f8 f9 f10 f11 f12 f13 f14 f15).1
        = (G c main_v1_0, G c main_v1_1, G c main_v1_2, G c main_v1_3, G c main_v1_4, G c main_v1_5, G c main_v1_6)) : θ_run defs (onTc (τ := τ) (main (F := F))) ⟨m, fun _ => 0, ρ⟩ (fun r => (∀ c : Dev nD,
      (r.2.mem ((c.tc : Thread nD τ).loc main_v1_0) = G c main_v1_0
      ∧ r.2.mem ((c.tc : Thread nD τ).loc main_v1_1) = G c main_v1_1
      ∧ r.2.mem ((c.tc : Thread nD τ).loc main_v1_2) = G c main_v1_2
      ∧ r.2.mem ((c.tc : Thread nD τ).loc main_v1_3) = G c main_v1_3
      ∧ r.2.mem ((c.tc : Thread nD τ).loc main_v1_4) = G c main_v1_4
      ∧ r.2.mem ((c.tc : Thread nD τ).loc main_v1_5) = G c main_v1_5
      ∧ r.2.mem ((c.tc : Thread nD τ).loc main_v1_6) = G c main_v1_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨⟨h.1.2 c main_v1_0 (by decide), h.1.2 c main_v1_1 (by decide), h.1.2 c main_v1_2 (by decide), h.1.2 c main_v1_3 (by decide), h.1.2 c main_v1_4 (by decide), h.1.2 c main_v1_5 (by decide), h.1.2 c main_v1_6 (by decide)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩, h.2⟩) (run_main m ρ G hG)

end Cert.KernelIdeal.Hand

end
-- ==== Proof.Spec.lean ====
module
public import Idealize.ShloMosaic.Lib.Pointwise

/-! # What the layer's projection computes, row by row

Plain functions of rows of extended reals: the normalised row, the power-of-two quantiser, the
projection, the rotation, and the seven arrays they make. Both programs are read against these. -/

@[expose] public section
set_option maxRecDepth 16384
noncomputable section
open Idealize.ShloMosaic Idealize.ShloMosaic.TcCoe
namespace Cert.Spec

/-- A row of `n` extended reals. -/
abbrev Row (n : Nat) : Type := Fin n → EReal

/-- The row scaled by the reciprocal root of its mean square and by the weights `g`. -/
def normRow (x g : Row 1152) : Row 1152 := fun k =>
  x k * Ideal.rsqrt ((∑ j, x j * x j) * Ideal.ofBits FTy.f32 979603001#32 + Ideal.ofBits FTy.f32 897988541#32) * g k

/-- The largest absolute value of a row. -/
def top {n : Nat} (v : Row n) : EReal :=
  Finset.fold max (Ideal.ofBits FTy.f32 4286578688#32)
    (fun k => FloatOps.absf (F := Idealize.ShloMosaic.Ideal) (φ := FTy.f32) (v k)) Finset.univ

/-- The exponent of the power of two above `a / 448`, zero where `a / 448` is zero or infinite. -/
def expo (a : EReal) : EReal :=
  Scalar.select
    (IntOp.ori (BitVec.ofBool (decide (a * Ideal.ofBits FTy.f32 991054117#32 = 0)))
      (BitVec.ofBool (decide (a * Ideal.ofBits FTy.f32 991054117#32 = Ideal.ofBits FTy.f32 2139095040#32))))
    0
    (Ideal.liftRound Int.floor
        (Ideal.div (Ideal.log (a * Ideal.ofBits FTy.f32 991054117#32)) (Ideal.log (Ideal.ofBits FTy.f32 1073741824#32))) + 1)

/-- The scale of a row whose largest absolute value is `a`. -/
def scale (a : EReal) : EReal := FloatOps.exp2 (F := Idealize.ShloMosaic.Ideal) (φ := FTy.f32) (expo a)

/-- The reciprocal of that scale. -/
def unscale (a : EReal) : EReal := FloatOps.exp2 (F := Idealize.ShloMosaic.Ideal) (φ := FTy.f32) (0 - expo a)

/-- A value divided by the scale and clipped to the range of the codes. -/
def clip (a v : EReal) : EReal :=
  min (Ideal.ofBits FTy.f32 1138753536#32) (max (Ideal.ofBits FTy.f32 3286237184#32) (v * unscale a))

/-- The codes of a row. -/
def codes {n : Nat} (v : Row n) : Row n := fun k => clip (top v) (v k)

/-- The rotation of a row of 256 given by its halves. -/
def rope (lo hi c s : Row 128) : Row 256 := fun n =>
  if h : n.val < 128 then lo ⟨n, h⟩ * c ⟨n, h⟩ - hi ⟨n, h⟩ * s ⟨n, h⟩
  else hi ⟨n - 128, by omega⟩ * c ⟨n - 128, by omega⟩ + lo ⟨n - 128, by omega⟩ * s ⟨n - 128, by omega⟩

theorem rope_lo (lo hi c s : Row 128) (n : Fin 128) :
    rope lo hi c s ⟨n, by omega⟩ = lo n * c n - hi n * s n := by
  simp [rope]

theorem rope_hi (lo hi c s : Row 128) (n : Fin 128) :
    rope lo hi c s ⟨128 + n, by omega⟩ = hi n * c n + lo n * s n := by
  simp [rope]

/-- The largest absolute value of 1152 lanes, from nine tiles of 128. -/
theorem top_nine (v : Row 1152) (b : EReal) (f : EReal → EReal) :
    Finset.fold max b (fun k : Fin 128 =>
      max (max (max (max (max (max (max (max
        (f (v ⟨0 + k, by omega⟩)) (f (v ⟨128 + k, by omega⟩))) (f (v ⟨256 + k, by omega⟩)))
        (f (v ⟨384 + k, by omega⟩))) (f (v ⟨512 + k, by omega⟩))) (f (v ⟨640 + k, by omega⟩)))
        (f (v ⟨768 + k, by omega⟩))) (f (v ⟨896 + k, by omega⟩))) (f (v ⟨1024 + k, by omega⟩))) Finset.univ
    = Finset.fold max b (fun k => f (v k)) Finset.univ := by
  refine eq_of_forall_ge_iff fun c => ?_
  simp only [Finset.fold_max_le, max_le_iff, Finset.mem_univ, true_implies]
  refine and_congr_right fun _ => ⟨fun h k => ?_, fun h k => ?_⟩
  · obtain ⟨⟨⟨⟨⟨⟨⟨⟨h0, h1⟩, h2⟩, h3⟩, h4⟩, h5⟩, h6⟩, h7⟩, h8⟩ := h ⟨k % 128, by omega⟩
    have hk : k.val / 128 < 9 := by omega
    have e : ∀ q, k.val / 128 = q → ∀ h', f (v ⟨128 * q + k.val % 128, h'⟩) ≤ c → f (v k) ≤ c := by
      intro q hq h' H
      have : (⟨128 * q + k.val % 128, h'⟩ : Fin 1152) = k := Fin.ext (by simp only; omega)
      rwa [this] at H
    interval_cases hq : k.val / 128
    · exact e 0 rfl (by omega) h0
    · exact e 1 rfl (by omega) h1
    · exact e 2 rfl (by omega) h2
    · exact e 3 rfl (by omega) h3
    · exact e 4 rfl (by omega) h4
    · exact e 5 rfl (by omega) h5
    · exact e 6 rfl (by omega) h6
    · exact e 7 rfl (by omega) h7
    · exact e 8 rfl (by omega) h8
  · exact ⟨⟨⟨⟨⟨⟨⟨⟨h _, h _⟩, h _⟩, h _⟩, h _⟩, h _⟩, h _⟩, h _⟩, h _⟩

/-- The largest absolute value of 256 lanes, from two tiles of 128. -/
theorem top_two (v : Row 256) (b : EReal) (f : EReal → EReal) :
    Finset.fold max b (fun k : Fin 128 => max (f (v ⟨k, by omega⟩)) (f (v ⟨128 + k, by omega⟩))) Finset.univ
    = Finset.fold max b (fun k => f (v k)) Finset.univ := by
  refine eq_of_forall_ge_iff fun c => ?_
  simp only [Finset.fold_max_le, max_le_iff, Finset.mem_univ, true_implies]
  refine and_congr_right fun _ => ⟨fun h k => ?_, fun h k => ⟨h _, h _⟩⟩
  by_cases hk : k.val < 128
  · exact (h ⟨k, hk⟩).1
  · have e : (⟨128 + (k.val - 128), by omega⟩ : Fin 256) = k := Fin.ext (by simp only; omega)
    have := (h ⟨k.val - 128, by omega⟩).2
    rwa [e] at this

section Arrays
variable (x : Fin 256 → Row 1152) (g : Row 1152) (w : Fin 1152 → Row 1536) (s : Row 1536) (p : Fin 2 → BitVec 32)

/-- Codes of the normalised row `r`. -/
def xc (r : Fin 256) : Row 1152 := codes (normRow (x r) g)

/-- Scale of the normalised row `r`. -/
def xs (r : Fin 256) : EReal := scale (top (normRow (x r) g))

/-- The plain product of row `r`'s codes with the weights. -/
def prod (r : Fin 256) : Row 1536 := fun n => ∑ k, xc x g r k * w k n

/-- The projection of row `r`: the product of the codes with the weights, times both scales. -/
def proj (r : Fin 256) : Row 1536 := fun n => prod x g w r n * xs x g r * s n

/-- The frequency of lane `k`. -/
def freq (k : Fin 128) : EReal :=
  Ideal.pow (Ideal.ofBits FTy.f32 1223959552#32)
    (0 - Ideal.div (FloatOps.sitofp (F := Idealize.ShloMosaic.Ideal) FTy.f32 (BitVec.ofNat 32 k) * Ideal.ofBits FTy.f32 1073741824#32)
      (Ideal.ofBits FTy.f32 1132462080#32))

/-- The angle of position `q + i` at lane `k`. -/
def angle (q : BitVec 32) (i : Nat) (k : Fin 128) : EReal :=
  FloatOps.sitofp (F := Idealize.ShloMosaic.Ideal) FTy.f32 (IntOp.addi q (BitVec.ofNat 32 i)) * freq k

/-- Cosine of row `r`'s angle. -/
def cosRow (r : Fin 256) : Row 128 := fun k =>
  FloatOps.cos (F := Idealize.ShloMosaic.Ideal) (φ := FTy.f32) (angle (p ⟨r.val / 128, by omega⟩) (r.val % 128) k)

/-- Sine of row `r`'s angle. -/
def sinRow (r : Fin 256) : Row 128 := fun k =>
  FloatOps.sin (F := Idealize.ShloMosaic.Ideal) (φ := FTy.f32) (angle (p ⟨r.val / 128, by omega⟩) (r.val % 128) k)

/-- 128 columns of the projection from column `o`. -/
def cols (r : Fin 256) (o : Nat) (ho : o + 128 ≤ 1536) : Row 128 := fun k => proj x g w s r ⟨o + k, by omega⟩

/-- The rotated key of row `r`. -/
def key (r : Fin 256) : Row 256 :=
  rope (cols x g w s r 1024 (by omega)) (cols x g w s r 1152 (by omega)) (cosRow p r) (sinRow p r)

/-- The value of row `r`. -/
def val (r : Fin 256) : Row 256 := fun n => proj x g w s r ⟨1280 + n, by omega⟩

/-- The rotated query of head `h`, row `r`. -/
def query (h : Fin 4) (r : Fin 256) : Row 256 :=
  rope (cols x g w s r (256 * h) (by omega)) (cols x g w s r (256 * h + 128) (by omega)) (cosRow p r) (sinRow p r)

end Arrays
end Cert.Spec
-- ==== Proof.Blk.lean ====
module
public import proofs.«01_k».proof.Proof.Gen.KernelIdeal.Skeleton
public import proofs.«01_k».proof.Proof.Spec

/-! # One block of 32 rows of the normalisation and its quantiser

The kernel normalises and quantises 32 rows at a time, storing nine tiles of codes and one of scales. -/

@[expose] public section
set_option maxRecDepth 16384
noncomputable section
open Idealize.ShloMosaic Idealize.ShloMosaic.TcCoe Idealize.SL.Sem
open Cert.KernelIdeal Cert.KernelIdeal.Gen
namespace Cert.Val

variable (g : FVec Ideal S1x1152 .f32) (xl : Vec Ideal S32x1152 .bf16)

/-- The normalised rows of a block. -/
abbrev hB : FVec Ideal S32x1152 .f32 := k0_pay28 g xl
/-- The reciprocal scales of a block, one per row, the same in every lane. -/
abbrev isB : FVec Ideal S32x128 .f32 := k0_pay32 (hB g xl) (k0_pay29 g xl) (k0_pay30 g xl)
/-- The scales of a block, one per row, the same in every lane. -/
abbrev scB : FVec Ideal S32x128 .f32 := k0_pay33 (hB g xl) (k0_pay29 g xl) (k0_pay30 g xl)
/-- Tile 0 of a block's codes. -/
abbrev cB0 : FVec Ideal S32x128 .fp8e4m3 := k0_pay34 (hB g xl) (k0_pay29 g xl) (k0_pay30 g xl)
/-- Tile 1 of a block's codes. -/
abbrev cB1 : FVec Ideal S32x128 .fp8e4m3 := k0_pay36 (k0_pay35 (hB g xl) (k0_pay29 g xl) (k0_pay30 g xl))
/-- Tile 2 of a block's codes. -/
abbrev cB2 : FVec Ideal S32x128 .fp8e4m3 := k0_pay37 (hB g xl) (isB g xl)
/-- Tile 3 of a block's codes. -/
abbrev cB3 : FVec Ideal S32x128 .fp8e4m3 := k0_pay38 (hB g xl) (isB g xl)
/-- Tile 4 of a block's codes. -/
abbrev cB4 : FVec Ideal S32x128 .fp8e4m3 := k0_pay39 (hB g xl) (isB g xl)
/-- Tile 5 of a block's codes. -/
abbrev cB5 : FVec Ideal S32x128 .fp8e4m3 := k0_pay41 (k0_pay40 (hB g xl) (isB g xl))
/-- Tile 6 of a block's codes. -/
abbrev cB6 : FVec Ideal S32x128 .fp8e4m3 := k0_pay42 (hB g xl) (isB g xl)
/-- Tile 7 of a block's codes. -/
abbrev cB7 : FVec Ideal S32x128 .fp8e4m3 := k0_pay43 (hB g xl) (isB g xl)
/-- Tile 8 of a block's codes. -/
abbrev cB8 : FVec Ideal S32x128 .fp8e4m3 := k0_pay44 (hB g xl) (isB g xl)

/-- A row of the block as the specification takes it. -/
abbrev xRow (i : Fin 32) : Spec.Row 1152 := fun k => xl (ix2 i k)
/-- The weights of the normalisation as the specification takes them. -/
abbrev gRow : Spec.Row 1152 := fun k => g (ix2 0 k)

/-- A block's normalised entry is the specification's. -/
theorem hB_at (i : Fin 32) (k : Fin 1152) : hB g xl (ix2 i k) = Spec.normRow (xRow xl i) (gRow g) k := by
  show k0_pay28 _ _ _ = _
  pointwise [k0_pay28]
  rfl

/-- The running maximum of a block's nine tiles, reduced over the lanes, is the row's largest absolute value. -/
theorem top_at (i : Fin 32) :
    Finset.fold max (Ideal.ofBits FTy.f32 4286578688#32) (fun k : Fin 128 =>
      max (max (max (max (max (max (max (max
        (FloatOps.absf (hB g xl (ix2 i ⟨0 + k, by omega⟩))) (FloatOps.absf (hB g xl (ix2 i ⟨128 + k, by omega⟩)))) (FloatOps.absf (hB g xl (ix2 i ⟨256 + k, by omega⟩))))
        (FloatOps.absf (hB g xl (ix2 i ⟨384 + k, by omega⟩)))) (FloatOps.absf (hB g xl (ix2 i ⟨512 + k, by omega⟩)))) (FloatOps.absf (hB g xl (ix2 i ⟨640 + k, by omega⟩))))
        (FloatOps.absf (hB g xl (ix2 i ⟨768 + k, by omega⟩)))) (FloatOps.absf (hB g xl (ix2 i ⟨896 + k, by omega⟩)))) (FloatOps.absf (hB g xl (ix2 i ⟨1024 + k, by omega⟩)))) Finset.univ
    = Spec.top (Spec.normRow (xRow xl i) (gRow g)) := by
  simp only [hB_at]
  exact Spec.top_nine (Spec.normRow (xRow xl i) (gRow g)) _ _

/-- The scale of a block's row is the specification's. -/
theorem scB_at (i : Fin 32) (l : Fin 128) : scB g xl (ix2 i l) = Spec.scale (Spec.top (Spec.normRow (xRow xl i) (gRow g))) := by
  rw [← top_at]
  show k0_pay33 _ _ _ _ = _
  pointwise [k0_pay33, k0_pay31, k0_pay29, k0_pay30]
  rfl

/-- The reciprocal scale of a block's row is the specification's. -/
theorem isB_at (i : Fin 32) (l : Fin 128) : isB g xl (ix2 i l) = Spec.unscale (Spec.top (Spec.normRow (xRow xl i) (gRow g))) := by
  rw [← top_at]
  show k0_pay32 _ _ _ _ = _
  pointwise [k0_pay32, k0_pay31, k0_pay29, k0_pay30]
  rfl

theorem tile0 (h : FVec Ideal S32x1152 .f32) (a b : FVec Ideal S32x128 .f32) (i : Fin 32) (l : Fin 128) :
    k0_pay34 h a b (ix2 i l) = min (Ideal.ofBits FTy.f32 1138753536#32)
      (max (Ideal.ofBits FTy.f32 3286237184#32) (h (ix2 i ⟨0 + l, by omega⟩) * k0_pay32 h a b (ix2 i l))) := by
  pointwise [k0_pay34]

/-- Tile 0 of a block's codes is the specification's. -/
theorem cB0_at (i : Fin 32) (l : Fin 128) : cB0 g xl (ix2 i l) = Spec.codes (Spec.normRow (xRow xl i) (gRow g)) ⟨0 + l, by omega⟩ := by
  refine (tile0 _ _ _ i l).trans ?_
  rw [hB_at g xl]
  exact congrArg (fun e => min _ (max _ (_ * e))) (isB_at g xl i l)

theorem tile1 (h : FVec Ideal S32x1152 .f32) (a b : FVec Ideal S32x128 .f32) (i : Fin 32) (l : Fin 128) :
    k0_pay36 (k0_pay35 h a b) (ix2 i l) = min (Ideal.ofBits FTy.f32 1138753536#32)
      (max (Ideal.ofBits FTy.f32 3286237184#32) (h (ix2 i ⟨128 + l, by omega⟩) * k0_pay32 h a b (ix2 i l))) := by
  pointwise [k0_pay36, k0_pay35]

/-- Tile 1 of a block's codes is the specification's. -/
theorem cB1_at (i : Fin 32) (l : Fin 128) : cB1 g xl (ix2 i l) = Spec.codes (Spec.normRow (xRow xl i) (gRow g)) ⟨128 + l, by omega⟩ := by
  refine (tile1 _ _ _ i l).trans ?_
  rw [hB_at g xl]
  exact congrArg (fun e => min _ (max _ (_ * e))) (isB_at g xl i l)

theorem tile2 (h : FVec Ideal S32x1152 .f32) (u : FVec Ideal S32x128 .f32) (i : Fin 32) (l : Fin 128) :
    k0_pay37 h u (ix2 i l) = min (Ideal.ofBits FTy.f32 1138753536#32)
      (max (Ideal.ofBits FTy.f32 3286237184#32) (h (ix2 i ⟨256 + l, by omega⟩) * u (ix2 i l))) := by
  pointwise [k0_pay37]

/-- Tile 2 of a block's codes is the specification's. -/
theorem cB2_at (i : Fin 32) (l : Fin 128) : cB2 g xl (ix2 i l) = Spec.codes (Spec.normRow (xRow xl i) (gRow g)) ⟨256 + l, by omega⟩ := by
  refine (tile2 _ _ i l).trans ?_
  rw [hB_at g xl]
  exact congrArg (fun e => min _ (max _ (_ * e))) (isB_at g xl i l)

theorem tile3 (h : FVec Ideal S32x1152 .f32) (u : FVec Ideal S32x128 .f32) (i : Fin 32) (l : Fin 128) :
    k0_pay38 h u (ix2 i l) = min (Ideal.ofBits FTy.f32 1138753536#32)
      (max (Ideal.ofBits FTy.f32 3286237184#32) (h (ix2 i ⟨384 + l, by omega⟩) * u (ix2 i l))) := by
  pointwise [k0_pay38]

/-- Tile 3 of a block's codes is the specification's. -/
theorem cB3_at (i : Fin 32) (l : Fin 128) : cB3 g xl (ix2 i l) = Spec.codes (Spec.normRow (xRow xl i) (gRow g)) ⟨384 + l, by omega⟩ := by
  refine (tile3 _ _ i l).trans ?_
  rw [hB_at g xl]
  exact congrArg (fun e => min _ (max _ (_ * e))) (isB_at g xl i l)

theorem tile4 (h : FVec Ideal S32x1152 .f32) (u : FVec Ideal S32x128 .f32) (i : Fin 32) (l : Fin 128) :
    k0_pay39 h u (ix2 i l) = min (Ideal.ofBits FTy.f32 1138753536#32)
      (max (Ideal.ofBits FTy.f32 3286237184#32) (h (ix2 i ⟨512 + l, by omega⟩) * u (ix2 i l))) := by
  pointwise [k0_pay39]

/-- Tile 4 of a block's codes is the specification's. -/
theorem cB4_at (i : Fin 32) (l : Fin 128) : cB4 g xl (ix2 i l) = Spec.codes (Spec.normRow (xRow xl i) (gRow g)) ⟨512 + l, by omega⟩ := by
  refine (tile4 _ _ i l).trans ?_
  rw [hB_at g xl]
  exact congrArg (fun e => min _ (max _ (_ * e))) (isB_at g xl i l)

theorem tile5 (h : FVec Ideal S32x1152 .f32) (u : FVec Ideal S32x128 .f32) (i : Fin 32) (l : Fin 128) :
    k0_pay41 (k0_pay40 h u) (ix2 i l) = min (Ideal.ofBits FTy.f32 1138753536#32)
      (max (Ideal.ofBits FTy.f32 3286237184#32) (h (ix2 i ⟨640 + l, by omega⟩) * u (ix2 i l))) := by
  pointwise [k0_pay41, k0_pay40]

/-- Tile 5 of a block's codes is the specification's. -/
theorem cB5_at (i : Fin 32) (l : Fin 128) : cB5 g xl (ix2 i l) = Spec.codes (Spec.normRow (xRow xl i) (gRow g)) ⟨640 + l, by omega⟩ := by
  refine (tile5 _ _ i l).trans ?_
  rw [hB_at g xl]
  exact congrArg (fun e => min _ (max _ (_ * e))) (isB_at g xl i l)

theorem tile6 (h : FVec Ideal S32x1152 .f32) (u : FVec Ideal S32x128 .f32) (i : Fin 32) (l : Fin 128) :
    k0_pay42 h u (ix2 i l) = min (Ideal.ofBits FTy.f32 1138753536#32)
      (max (Ideal.ofBits FTy.f32 3286237184#32) (h (ix2 i ⟨768 + l, by omega⟩) * u (ix2 i l))) := by
  pointwise [k0_pay42]

/-- Tile 6 of a block's codes is the specification's. -/
theorem cB6_at (i : Fin 32) (l : Fin 128) : cB6 g xl (ix2 i l) = Spec.codes (Spec.normRow (xRow xl i) (gRow g)) ⟨768 + l, by omega⟩ := by
  refine (tile6 _ _ i l).trans ?_
  rw [hB_at g xl]
  exact congrArg (fun e => min _ (max _ (_ * e))) (isB_at g xl i l)

theorem tile7 (h : FVec Ideal S32x1152 .f32) (u : FVec Ideal S32x128 .f32) (i : Fin 32) (l : Fin 128) :
    k0_pay43 h u (ix2 i l) = min (Ideal.ofBits FTy.f32 1138753536#32)
      (max (Ideal.ofBits FTy.f32 3286237184#32) (h (ix2 i ⟨896 + l, by omega⟩) * u (ix2 i l))) := by
  pointwise [k0_pay43]

/-- Tile 7 of a block's codes is the specification's. -/
theorem cB7_at (i : Fin 32) (l : Fin 128) : cB7 g xl (ix2 i l) = Spec.codes (Spec.normRow (xRow xl i) (gRow g)) ⟨896 + l, by omega⟩ := by
  refine (tile7 _ _ i l).trans ?_
  rw [hB_at g xl]
  exact congrArg (fun e => min _ (max _ (_ * e))) (isB_at g xl i l)

theorem tile8 (h : FVec Ideal S32x1152 .f32) (u : FVec Ideal S32x128 .f32) (i : Fin 32) (l : Fin 128) :
    k0_pay44 h u (ix2 i l) = min (Ideal.ofBits FTy.f32 1138753536#32)
      (max (Ideal.ofBits FTy.f32 3286237184#32) (h (ix2 i ⟨1024 + l, by omega⟩) * u (ix2 i l))) := by
  pointwise [k0_pay44]

/-- Tile 8 of a block's codes is the specification's. -/
theorem cB8_at (i : Fin 32) (l : Fin 128) : cB8 g xl (ix2 i l) = Spec.codes (Spec.normRow (xRow xl i) (gRow g)) ⟨1024 + l, by omega⟩ := by
  refine (tile8 _ _ i l).trans ?_
  rw [hB_at g xl]
  exact congrArg (fun e => min _ (max _ (_ * e))) (isB_at g xl i l)

end Cert.Val
-- ==== Proof.XArr.lean ====
module
public import proofs.«01_k».proof.Proof.BodyI
public import proofs.«01_k».proof.Proof.Blk
public import Idealize.ShloMosaic.Lib.Pipeline.Value

/-! # The codes and the scales of the normalised rows

Every tile the kernel stores is a tile of one array, so the two buffers hold those arrays. -/

@[expose] public section
set_option maxRecDepth 16384
noncomputable section
open Idealize.ShloMosaic Idealize.ShloMosaic.TcCoe Idealize.SL.Sem
open Cert.KernelIdeal Cert.KernelIdeal.Gen Cert.KernelIdeal.Hand
namespace Cert.Val

/-- A tile of a two-dimensional array of pieces agrees with the array at the tile's place. -/
theorem at_tile {R C a b : Nat} (o q : Nat) (h : ∀ d, (![o, q] : Fin 2 → Nat) d + (⟨2, ![a, b]⟩ : Shape).size d ≤ (⟨2, ![R, C]⟩ : Shape).size d)
    (ho : o + a ≤ R) (hq : q + b ≤ C) (v : (⟨2, ![a, b]⟩ : Shape).Idx → EReal) (G : Fin R → Fin C → EReal)
    (hv : ∀ (i : Fin a) (l : Fin b), v (ix2 i l) = G ⟨o + i, by omega⟩ ⟨q + l, by omega⟩) (x : (⟨2, ![a, b]⟩ : Shape).Idx) :
    v x = (fun y : (⟨2, ![R, C]⟩ : Shape).Idx => G (y 0) (y 1)) ((Rect.unit (s := ⟨2, ![R, C]⟩) ![o, q] (⟨2, ![a, b]⟩ : Shape).size h).emb x) := by
  obtain ⟨i, l, rfl⟩ : ∃ (i : Fin a) (l : Fin b), x = ix2 i l := ⟨x 0, x 1, eq_ix2 x⟩
  refine (hv i l).trans (congrArg₂ G (Fin.ext ?_) (Fin.ext ?_))
  · show o + i.val = o + 1 * i.val
    omega
  · show q + l.val = q + 1 * l.val
    omega

section Block
variable (x : Fin 256 → Spec.Row 1152) (gg : Spec.Row 1152)

/-- The array of codes. -/
def xcA : Vec Ideal S256x1152 .fp8e4m3 := fun y => Spec.xc x gg (y 0) (y 1)

/-- The array of scales, one per row, the same in every lane. -/
def xsA : Vec Ideal S256x128 .f32 := fun y => Spec.xs x gg (y 0)

variable (o : Nat) (ho : o + 32 ≤ 256) (g : FVec Ideal S1x1152 .f32) (xl : Vec Ideal S32x1152 .bf16)
  (hg : ∀ k : Fin 1152, g (ix2 0 k) = gg k) (hx : ∀ (i : Fin 32) (k : Fin 1152), xl (ix2 i k) = x ⟨o + i, by omega⟩ k)

include hg hx
theorem row_eq (i : Fin 32) : Spec.normRow (xRow xl i) (gRow g) = Spec.normRow (x ⟨o + i, by omega⟩) gg := by
  have e1 : xRow xl i = x ⟨o + i, by omega⟩ := funext (hx i)
  have e2 : gRow g = gg := funext hg
  rw [e1, e2]

/-- The nine tiles a block stores are tiles of the array of codes. -/
theorem codes_block (L : List (View.Piece (Elt Ideal) S256x1152 .fp8e4m3))
    (ih : ∀ p ∈ L, ∀ y, p.2 y = xcA x gg (p.1.emb y))
    (b0 : ∀ d, (![o, 0] : Fin 2 → Nat) d + S32x128.size d ≤ S256x1152.size d)
    (b1 : ∀ d, (![o, 128] : Fin 2 → Nat) d + S32x128.size d ≤ S256x1152.size d)
    (b2 : ∀ d, (![o, 256] : Fin 2 → Nat) d + S32x128.size d ≤ S256x1152.size d)
    (b3 : ∀ d, (![o, 384] : Fin 2 → Nat) d + S32x128.size d ≤ S256x1152.size d)
    (b4 : ∀ d, (![o, 512] : Fin 2 → Nat) d + S32x128.size d ≤ S256x1152.size d)
    (b5 : ∀ d, (![o, 640] : Fin 2 → Nat) d + S32x128.size d ≤ S256x1152.size d)
    (b6 : ∀ d, (![o, 768] : Fin 2 → Nat) d + S32x128.size d ≤ S256x1152.size d)
    (b7 : ∀ d, (![o, 896] : Fin 2 → Nat) d + S32x128.size d ≤ S256x1152.size d)
    (b8 : ∀ d, (![o, 1024] : Fin 2 → Nat) d + S32x128.size d ≤ S256x1152.size d)
    : ∀ p ∈ (⟨Rect.unit ![o, 1024] S32x128.size b8, cB8 g xl⟩ :: ⟨Rect.unit ![o, 896] S32x128.size b7, cB7 g xl⟩ :: ⟨Rect.unit ![o, 768] S32x128.size b6, cB6 g xl⟩ :: ⟨Rect.unit ![o, 640] S32x128.size b5, cB5 g xl⟩ :: ⟨Rect.unit ![o, 512] S32x128.size b4, cB4 g xl⟩ :: ⟨Rect.unit ![o, 384] S32x128.size b3, cB3 g xl⟩ :: ⟨Rect.unit ![o, 256] S32x128.size b2, cB2 g xl⟩ :: ⟨Rect.unit ![o, 128] S32x128.size b1, cB1 g xl⟩ :: ⟨Rect.unit ![o, 0] S32x128.size b0, cB0 g xl⟩ :: L : List (View.Piece (Elt Ideal) S256x1152 .fp8e4m3)),
        ∀ y, p.2 y = xcA x gg (p.1.emb y) := by
  refine List.forall_mem_cons.2 ⟨at_tile o 1024 b8 ho (by omega) _ (Spec.xc x gg) fun i l => (cB8_at g xl i l).trans (by
    rw [row_eq x gg o ho g xl hg hx]; rfl), ?_⟩
  refine List.forall_mem_cons.2 ⟨at_tile o 896 b7 ho (by omega) _ (Spec.xc x gg) fun i l => (cB7_at g xl i l).trans (by
    rw [row_eq x gg o ho g xl hg hx]; rfl), ?_⟩
  refine List.forall_mem_cons.2 ⟨at_tile o 768 b6 ho (by omega) _ (Spec.xc x gg) fun i l => (cB6_at g xl i l).trans (by
    rw [row_eq x gg o ho g xl hg hx]; rfl), ?_⟩
  refine List.forall_mem_cons.2 ⟨at_tile o 640 b5 ho (by omega) _ (Spec.xc x gg) fun i l => (cB5_at g xl i l).trans (by
    rw [row_eq x gg o ho g xl hg hx]; rfl), ?_⟩
  refine List.forall_mem_cons.2 ⟨at_tile o 512 b4 ho (by omega) _ (Spec.xc x gg) fun i l => (cB4_at g xl i l).trans (by
    rw [row_eq x gg o ho g xl hg hx]; rfl), ?_⟩
  refine List.forall_mem_cons.2 ⟨at_tile o 384 b3 ho (by omega) _ (Spec.xc x gg) fun i l => (cB3_at g xl i l).trans (by
    rw [row_eq x gg o ho g xl hg hx]; rfl), ?_⟩
  refine List.forall_mem_cons.2 ⟨at_tile o 256 b2 ho (by omega) _ (Spec.xc x gg) fun i l => (cB2_at g xl i l).trans (by
    rw [row_eq x gg o ho g xl hg hx]; rfl), ?_⟩
  refine List.forall_mem_cons.2 ⟨at_tile o 128 b1 ho (by omega) _ (Spec.xc x gg) fun i l => (cB1_at g xl i l).trans (by
    rw [row_eq x gg o ho g xl hg hx]; rfl), ?_⟩
  refine List.forall_mem_cons.2 ⟨at_tile o 0 b0 ho (by omega) _ (Spec.xc x gg) fun i l => (cB0_at g xl i l).trans (by
    rw [row_eq x gg o ho g xl hg hx]; rfl), ?_⟩
  exact ih

/-- The tile of scales a block stores is a tile of the array of scales. -/
theorem scales_block (L : List (View.Piece (Elt Ideal) S256x128 .f32))
    (ih : ∀ p ∈ L, ∀ y, p.2 y = xsA x gg (p.1.emb y))
    (b : ∀ d, (![o, 0] : Fin 2 → Nat) d + S32x128.size d ≤ S256x128.size d) :
    ∀ p ∈ (⟨Rect.unit ![o, 0] S32x128.size b, scB g xl⟩ :: L : List (View.Piece (Elt Ideal) S256x128 .f32)),
        ∀ y, p.2 y = xsA x gg (p.1.emb y) :=
  List.forall_mem_cons.2 ⟨at_tile o 0 b ho (by omega) _ (fun r _ => Spec.xs x gg r) fun i l => (scB_at g xl i l).trans (by
    rw [row_eq x gg o ho g xl hg hx]; rfl), ih⟩

end Block

section Landed
variable (c : Dev nD) (a0 : Vec Ideal S256x1152 .bf16) (a1 : Vec Ideal S1152 .f32) (f0 : Vec Ideal S256x1152 .bf16) (f1 : Vec Ideal S1152 .f32)

/-- The rows of the landed input. -/
abbrev xRows : Fin 256 → Spec.Row 1152 := fun r k => a0 (ix2 r k)
/-- The landed weights of the normalisation. -/
abbrev gRow1 : Spec.Row 1152 := fun k => a1 (ix1 k)

/-- A block of the landed input. -/
theorem x_land (o : Nat) (ho : o + 32 ≤ 256) (b : ∀ d, (![o, 0] : Fin 2 → Nat) d + S32x1152.size d ≤ S256x1152.size d) (i : Fin 32) (k : Fin 1152) :
    View.readAt (Elt Ideal) sM0.view (Rect.unit (s := S256x1152) ![o, 0] S32x1152.size b).toLoadRect
      (View.write (Elt Ideal) sM0.view f0 (run.sl.dma0_1 (F := Ideal) c a0) Finset.univ) (ix2 i k) = a0 (ix2 ⟨o + i, by omega⟩ k) := by
  rw [View.readAt_apply, View.read_write_univ]
  refine congrArg a0 (funext fun d => Fin.ext ?_)
  match d with
  | 0 => show o + 1 * i.val = o + i.val; omega
  | 1 => show 0 + 1 * k.val = k.val; omega

/-- The landed weights. -/
theorem g_land (k : Fin 1152) : run.sl.r_4 (F := Ideal) c a1 f1 (ix2 0 k) = a1 (ix1 k) := by
  unfold run.sl.r_4
  pointwise [k0_pay9]
  rw [View.readAt_apply, View.read_write_univ]
  refine congrArg a1 (funext fun d => Fin.ext ?_)
  match d with
  | 0 => show 0 + 1 * k.val = k.val; omega

end Landed

section Arrays
variable (c : Dev nD) (a0 : Vec Ideal S256x1152 .bf16) (a1 : Vec Ideal S1152 .f32) (f0 : Vec Ideal S256x1152 .bf16) (f1 : Vec Ideal S1152 .f32)

theorem codes_1 : ∀ p ∈ run.sl.S5_9 (F := Ideal) c a0 a1 f0 f1, ∀ y, p.2 y = xcA (xRows a0) (gRow1 a1) (p.1.emb y) :=
  codes_block (xRows a0) (gRow1 a1) 0 (by omega) (run.sl.r_4 (F := Ideal) c a1 f1) _ (g_land c a1 f1) (fun i k => x_land c a0 f0 0 (by omega) inb_S256x1152_S32x1152_0_0 i k)
    _ (fun _ h => absurd h (List.not_mem_nil)) _ _ _ _ _ _ _ _ _

theorem scales_1 : ∀ p ∈ run.sl.S13_1 (F := Ideal) c a0 a1 f0 f1, ∀ y, p.2 y = xsA (xRows a0) (gRow1 a1) (p.1.emb y) :=
  scales_block (xRows a0) (gRow1 a1) 0 (by omega) (run.sl.r_4 (F := Ideal) c a1 f1) _ (g_land c a1 f1) (fun i k => x_land c a0 f0 0 (by omega) inb_S256x1152_S32x1152_0_0 i k)
    _ (fun _ h => absurd h (List.not_mem_nil)) _

theorem codes_2 : ∀ p ∈ run.sl.S5_18 (F := Ideal) c a0 a1 f0 f1, ∀ y, p.2 y = xcA (xRows a0) (gRow1 a1) (p.1.emb y) :=
  codes_block (xRows a0) (gRow1 a1) 32 (by omega) (run.sl.r_4 (F := Ideal) c a1 f1) _ (g_land c a1 f1) (fun i k => x_land c a0 f0 32 (by omega) inb_S256x1152_S32x1152_32_0 i k)
    _ (codes_1 c a0 a1 f0 f1) _ _ _ _ _ _ _ _ _

theorem scales_2 : ∀ p ∈ run.sl.S13_2 (F := Ideal) c a0 a1 f0 f1, ∀ y, p.2 y = xsA (xRows a0) (gRow1 a1) (p.1.emb y) :=
  scales_block (xRows a0) (gRow1 a1) 32 (by omega) (run.sl.r_4 (F := Ideal) c a1 f1) _ (g_land c a1 f1) (fun i k => x_land c a0 f0 32 (by omega) inb_S256x1152_S32x1152_32_0 i k)
    _ (scales_1 c a0 a1 f0 f1) _

theorem codes_3 : ∀ p ∈ run.sl.S5_27 (F := Ideal) c a0 a1 f0 f1, ∀ y, p.2 y = xcA (xRows a0) (gRow1 a1) (p.1.emb y) :=
  codes_block (xRows a0) (gRow1 a1) 64 (by omega) (run.sl.r_4 (F := Ideal) c a1 f1) _ (g_land c a1 f1) (fun i k => x_land c a0 f0 64 (by omega) inb_S256x1152_S32x1152_64_0 i k)
    _ (codes_2 c a0 a1 f0 f1) _ _ _ _ _ _ _ _ _

theorem scales_3 : ∀ p ∈ run.sl.S13_3 (F := Ideal) c a0 a1 f0 f1, ∀ y, p.2 y = xsA (xRows a0) (gRow1 a1) (p.1.emb y) :=
  scales_block (xRows a0) (gRow1 a1) 64 (by omega) (run.sl.r_4 (F := Ideal) c a1 f1) _ (g_land c a1 f1) (fun i k => x_land c a0 f0 64 (by omega) inb_S256x1152_S32x1152_64_0 i k)
    _ (scales_2 c a0 a1 f0 f1) _

theorem codes_4 : ∀ p ∈ run.sl.S5_36 (F := Ideal) c a0 a1 f0 f1, ∀ y, p.2 y = xcA (xRows a0) (gRow1 a1) (p.1.emb y) :=
  codes_block (xRows a0) (gRow1 a1) 96 (by omega) (run.sl.r_4 (F := Ideal) c a1 f1) _ (g_land c a1 f1) (fun i k => x_land c a0 f0 96 (by omega) inb_S256x1152_S32x1152_96_0 i k)
    _ (codes_3 c a0 a1 f0 f1) _ _ _ _ _ _ _ _ _

theorem scales_4 : ∀ p ∈ run.sl.S13_4 (F := Ideal) c a0 a1 f0 f1, ∀ y, p.2 y = xsA (xRows a0) (gRow1 a1) (p.1.emb y) :=
  scales_block (xRows a0) (gRow1 a1) 96 (by omega) (run.sl.r_4 (F := Ideal) c a1 f1) _ (g_land c a1 f1) (fun i k => x_land c a0 f0 96 (by omega) inb_S256x1152_S32x1152_96_0 i k)
    _ (scales_3 c a0 a1 f0 f1) _

theorem codes_5 : ∀ p ∈ run.sl.S5_45 (F := Ideal) c a0 a1 f0 f1, ∀ y, p.2 y = xcA (xRows a0) (gRow1 a1) (p.1.emb y) :=
  codes_block (xRows a0) (gRow1 a1) 128 (by omega) (run.sl.r_4 (F := Ideal) c a1 f1) _ (g_land c a1 f1) (fun i k => x_land c a0 f0 128 (by omega) inb_S256x1152_S32x1152_128_0 i k)
    _ (codes_4 c a0 a1 f0 f1) _ _ _ _ _ _ _ _ _

theorem scales_5 : ∀ p ∈ run.sl.S13_5 (F := Ideal) c a0 a1 f0 f1, ∀ y, p.2 y = xsA (xRows a0) (gRow1 a1) (p.1.emb y) :=
  scales_block (xRows a0) (gRow1 a1) 128 (by omega) (run.sl.r_4 (F := Ideal) c a1 f1) _ (g_land c a1 f1) (fun i k => x_land c a0 f0 128 (by omega) inb_S256x1152_S32x1152_128_0 i k)
    _ (scales_4 c a0 a1 f0 f1) _

theorem codes_6 : ∀ p ∈ run.sl.S5_54 (F := Ideal) c a0 a1 f0 f1, ∀ y, p.2 y = xcA (xRows a0) (gRow1 a1) (p.1.emb y) :=
  codes_block (xRows a0) (gRow1 a1) 160 (by omega) (run.sl.r_4 (F := Ideal) c a1 f1) _ (g_land c a1 f1) (fun i k => x_land c a0 f0 160 (by omega) inb_S256x1152_S32x1152_160_0 i k)
    _ (codes_5 c a0 a1 f0 f1) _ _ _ _ _ _ _ _ _

theorem scales_6 : ∀ p ∈ run.sl.S13_6 (F := Ideal) c a0 a1 f0 f1, ∀ y, p.2 y = xsA (xRows a0) (gRow1 a1) (p.1.emb y) :=
  scales_block (xRows a0) (gRow1 a1) 160 (by omega) (run.sl.r_4 (F := Ideal) c a1 f1) _ (g_land c a1 f1) (fun i k => x_land c a0 f0 160 (by omega) inb_S256x1152_S32x1152_160_0 i k)
    _ (scales_5 c a0 a1 f0 f1) _

theorem codes_7 : ∀ p ∈ run.sl.S5_63 (F := Ideal) c a0 a1 f0 f1, ∀ y, p.2 y = xcA (xRows a0) (gRow1 a1) (p.1.emb y) :=
  codes_block (xRows a0) (gRow1 a1) 192 (by omega) (run.sl.r_4 (F := Ideal) c a1 f1) _ (g_land c a1 f1) (fun i k => x_land c a0 f0 192 (by omega) inb_S256x1152_S32x1152_192_0 i k)
    _ (codes_6 c a0 a1 f0 f1) _ _ _ _ _ _ _ _ _

theorem scales_7 : ∀ p ∈ run.sl.S13_7 (F := Ideal) c a0 a1 f0 f1, ∀ y, p.2 y = xsA (xRows a0) (gRow1 a1) (p.1.emb y) :=
  scales_block (xRows a0) (gRow1 a1) 192 (by omega) (run.sl.r_4 (F := Ideal) c a1 f1) _ (g_land c a1 f1) (fun i k => x_land c a0 f0 192 (by omega) inb_S256x1152_S32x1152_192_0 i k)
    _ (scales_6 c a0 a1 f0 f1) _

theorem codes_8 : ∀ p ∈ run.sl.S5_72 (F := Ideal) c a0 a1 f0 f1, ∀ y, p.2 y = xcA (xRows a0) (gRow1 a1) (p.1.emb y) :=
  codes_block (xRows a0) (gRow1 a1) 224 (by omega) (run.sl.r_4 (F := Ideal) c a1 f1) _ (g_land c a1 f1) (fun i k => x_land c a0 f0 224 (by omega) inb_S256x1152_S32x1152_224_0 i k)
    _ (codes_7 c a0 a1 f0 f1) _ _ _ _ _ _ _ _ _

theorem scales_8 : ∀ p ∈ run.sl.S13_8 (F := Ideal) c a0 a1 f0 f1, ∀ y, p.2 y = xsA (xRows a0) (gRow1 a1) (p.1.emb y) :=
  scales_block (xRows a0) (gRow1 a1) 224 (by omega) (run.sl.r_4 (F := Ideal) c a1 f1) _ (g_land c a1 f1) (fun i k => x_land c a0 f0 224 (by omega) inb_S256x1152_S32x1152_224_0 i k)
    _ (scales_7 c a0 a1 f0 f1) _

/-- The kernel's tiles of codes, read back, are the array of codes. -/
theorem codes_canon : View.canon (run.sl.S5_72 (F := Ideal) c a0 a1 f0 f1) = xcA (xRows a0) (gRow1 a1) :=
  funext fun y => View.canon_apply_of_pieces _ _ (codes_8 c a0 a1 f0 f1) y
    (View.cover_of_tiledL (s := S256x1152) _ S32x128.size (by sl_kernel_rfl) y)

/-- The kernel's tiles of scales, read back, are the array of scales. -/
theorem scales_canon : View.canon (run.sl.S13_8 (F := Ideal) c a0 a1 f0 f1) = xsA (xRows a0) (gRow1 a1) :=
  funext fun y => View.canon_apply_of_pieces _ _ (scales_8 c a0 a1 f0 f1) y
    (View.cover_of_tiledL (s := S256x128) _ S32x128.size (by sl_kernel_rfl) y)

end Arrays
end Cert.Val
-- ==== Proof.Half.lean ====
module
public import proofs.«01_k».proof.Proof.Gen.KernelIdeal.Skeleton
public import proofs.«01_k».proof.Proof.Spec

/-! # One half of 128 rows: the rotation and the quantiser over two tiles

The kernel rotates and quantises keys and values for 128 rows at a time, in two tiles of 128 lanes. -/

@[expose] public section
set_option maxRecDepth 16384
noncomputable section
open Idealize.ShloMosaic Idealize.ShloMosaic.TcCoe Idealize.SL.Sem
open Cert.KernelIdeal Cert.KernelIdeal.Gen
namespace Cert.Val

section Rot
variable (s0 : Vec Ideal S128 .f32) (y0 xs : Vec Ideal S128x128 .f32) (s1 : Vec Ideal S128 .f32) (y1 : Vec Ideal S128x128 .f32) (cs sn : Vec Ideal S1x128x128 .f32)
  (i l : Fin 128)

/-- The low tile of the rotated keys. -/
theorem rotLo : k0_pay155 s0 y0 xs s1 y1 xs cs sn (ix2 i l)
    = y0 (ix2 i l) * xs (ix2 i l) * s0 (ix1 l) * cs (ix3 0 i l) - y1 (ix2 i l) * xs (ix2 i l) * s1 (ix1 l) * sn (ix3 0 i l) := by
  pointwise [k0_pay155, k0_pay151, k0_pay152, k0_pay153, k0_pay154]

/-- The high tile of the rotated keys. -/
theorem rotHi : k0_pay156 s0 y0 xs s1 y1 xs cs sn (ix2 i l)
    = y1 (ix2 i l) * xs (ix2 i l) * s1 (ix1 l) * cs (ix3 0 i l) + y0 (ix2 i l) * xs (ix2 i l) * s0 (ix1 l) * sn (ix3 0 i l) := by
  pointwise [k0_pay156, k0_pay151, k0_pay152, k0_pay153, k0_pay154]

/-- The low tile of a rotated query. -/
theorem qLo : k0_pay211 cs sn s0 y0 xs s1 y1 xs (ix3 0 i l)
    = y0 (ix2 i l) * xs (ix2 i l) * s0 (ix1 l) * cs (ix3 0 i l) - y1 (ix2 i l) * xs (ix2 i l) * s1 (ix1 l) * sn (ix3 0 i l) := by
  pointwise [k0_pay211, k0_pay207, k0_pay208, k0_pay209, k0_pay210]

/-- The high tile of a rotated query. -/
theorem qHi : k0_pay214 (k0_pay212 cs s1 y1 xs) (k0_pay213 sn s0 y0 xs) (ix3 0 i l)
    = y1 (ix2 i l) * xs (ix2 i l) * s1 (ix1 l) * cs (ix3 0 i l) + y0 (ix2 i l) * xs (ix2 i l) * s0 (ix1 l) * sn (ix3 0 i l) := by
  pointwise [k0_pay214, k0_pay212, k0_pay213, k0_pay207, k0_pay208, k0_pay209, k0_pay210]

/-- A tile of the values. -/
theorem valTile : k0_pay160 s0 y0 xs (ix2 i l) = y0 (ix2 i l) * xs (ix2 i l) * s0 (ix1 l) := by
  pointwise [k0_pay160]

end Rot

section Quant
theorem lt_lo (l : Fin 128) : l.val < 256 := by omega
theorem lt_hi (l : Fin 128) : 128 + l.val < 256 := by omega
variable (lo hi : FVec Ideal S128x128 .f32) (v : Fin 128 → Spec.Row 256)
  (hlo : ∀ i l : Fin 128, lo (ix2 i l) = v i ⟨l.val, lt_lo l⟩) (hhi : ∀ i l : Fin 128, hi (ix2 i l) = v i ⟨128 + l.val, lt_hi l⟩)
  (i l : Fin 128)

include hlo hhi

/-- The maximum of the two tiles, reduced over the lanes, is the row's largest absolute value. -/
theorem top2_at : Finset.fold max (Ideal.ofBits FTy.f32 4286578688#32)
      (fun k : Fin 128 => max (FloatOps.absf (lo (ix2 i k))) (FloatOps.absf (hi (ix2 i k)))) Finset.univ = Spec.top (v i) := by
  simp only [hlo, hhi]
  exact Spec.top_two (v i) _ _

/-- The scale of a row. -/
theorem sc2_at : k0_pay163 lo hi (ix2 i l) = Spec.scale (Spec.top (v i)) := by
  rw [← top2_at lo hi v hlo hhi i]
  pointwise [k0_pay163, k0_pay161]
  rfl

/-- The low tile of codes. -/
theorem c2lo_at : k0_pay166 (k0_pay164 lo hi) (ix2 i l) = Spec.codes (v i) ⟨l.val, lt_lo l⟩ := by
  unfold Spec.codes
  rw [← top2_at lo hi v hlo hhi i, ← hlo i l]
  pointwise [k0_pay166, k0_pay164, k0_pay162, k0_pay161]
  rfl

/-- The high tile of codes. -/
theorem c2hi_at : k0_pay167 (k0_pay165 lo hi) (Ideal.ofBits .f32 3286237184#32) (ix2 i l) = Spec.codes (v i) ⟨128 + l.val, lt_hi l⟩ := by
  unfold Spec.codes
  rw [← top2_at lo hi v hlo hhi i, ← hhi i l]
  pointwise [k0_pay167, k0_pay165, k0_pay162, k0_pay161]
  rfl

end Quant

section Stats
variable (xs ks vs : FVec Ideal S128x128 .f32)

/-- The row of scales of the normalised rows: lane 0 of the transposed tile. -/
theorem st0 (l : Fin 128) : k0_pay176 (iota Kind.tc S128x128 32 [1] iota_S128x128_d1_w32) (k0_pay168 (iota Kind.tc S128x128 32 [1] iota_S128x128_d1_w32) xs ks) vs (ix2 0 l) = xs (ix2 l 0) := by
  pointwise [k0_pay176, k0_pay175, k0_pay168]
  rfl

/-- The row of scales of the keys: lane 1 of the transposed tile. -/
theorem st1 (l : Fin 128) : k0_pay177 (iota Kind.tc S128x128 32 [1] iota_S128x128_d1_w32) (k0_pay168 (iota Kind.tc S128x128 32 [1] iota_S128x128_d1_w32) xs ks) vs (ix3 0 0 l) = ks (ix2 l 1) := by
  pointwise [k0_pay177, k0_pay175, k0_pay168]
  rfl

/-- The row of scales of the values: lane 2 of the transposed tile. -/
theorem st2 (l : Fin 128) : k0_pay178 (iota Kind.tc S128x128 32 [1] iota_S128x128_d1_w32) (k0_pay168 (iota Kind.tc S128x128 32 [1] iota_S128x128_d1_w32) xs ks) vs (ix3 0 0 l) = vs (ix2 l 2) := by
  pointwise [k0_pay178, k0_pay175, k0_pay168]

end Stats

section Angles
/-- A position's cosine tile. -/
theorem cosTile (q : BitVec 32) (i l : Fin 128) : k0_pay3 (F := Ideal) q (ix3 0 i l) = FloatOps.cos (F := Ideal) (φ := FTy.f32) (Spec.angle q i l) := by
  pointwise [k0_pay3, k0_pay2, k0_pay1]
  rfl

/-- A position's sine tile. -/
theorem sinTile (q : BitVec 32) (i l : Fin 128) : k0_pay5 (k0_pay4 (F := Ideal) q) (ix3 0 i l) = FloatOps.sin (F := Ideal) (φ := FTy.f32) (Spec.angle q i l) := by
  pointwise [k0_pay5, k0_pay4, k0_pay2, k0_pay1]
  rfl
end Angles

end Cert.Val
-- ==== Proof.Proj.lean ====
module
public import proofs.«01_k».proof.Proof.XArr
public import proofs.«01_k».proof.Proof.Half

/-! # The projection, the position tables and the landed operands

What the kernel's scratch buffers hold before the keys, the values and the queries are made. -/

@[expose] public section
set_option maxRecDepth 16384
noncomputable section
open Idealize.ShloMosaic Idealize.ShloMosaic.TcCoe Idealize.SL.Sem
open Cert.KernelIdeal Cert.KernelIdeal.Gen Cert.KernelIdeal.Hand
namespace Cert.Val

variable (c : Dev nD) (a0 : Vec Ideal S256x1152 .bf16) (a1 : Vec Ideal S1152 .f32) (a2 : Vec Ideal S1152x1536 .fp8e4m3) (a3 : Vec Ideal S1536 .f32) (a4 : Vec Ideal S2 .i32)
  (f0 : Vec Ideal S256x1152 .bf16) (f1 : Vec Ideal S1152 .f32) (f2 : Vec Ideal S1152x1536 .fp8e4m3) (f3 : Vec Ideal S1536 .f32) (f4 : Vec Ideal S2 .i32)

/-- The landed weights of the projection. -/
abbrev wRows : Fin 1152 → Spec.Row 1536 := fun k n => a2 (ix2 k n)
/-- The landed column scales. -/
abbrev sRow : Spec.Row 1536 := fun n => a3 (ix1 n)
/-- The landed start positions. -/
abbrev pPos : Fin 2 → BitVec 32 := fun b => a4 (ix1 b)

/-- A slice of the landed weights. -/
theorem w_land (q b : Nat) (hq : q + b ≤ 1536) (h : ∀ d, (![0, q] : Fin 2 → Nat) d + (⟨2, ![1152, b]⟩ : Shape).size d ≤ S1152x1536.size d) (i : Fin 1152) (l : Fin b) :
    View.readAt (Elt Ideal) sM2.view (Rect.unit (s := S1152x1536) ![0, q] (⟨2, ![1152, b]⟩ : Shape).size h).toLoadRect
      (View.write (Elt Ideal) sM2.view f2 (run.sl.dma0_4 (F := Ideal) c a2) Finset.univ) (ix2 i l) = a2 (ix2 i ⟨q + l, by omega⟩) := by
  rw [View.readAt_apply, View.read_write_univ]
  refine congrArg a2 (funext fun d => Fin.ext ?_)
  match d with
  | 0 => show 0 + 1 * i.val = i.val; omega
  | 1 => show q + 1 * l.val = q + l.val; omega

/-- A slice of the landed column scales. -/
theorem s_land (q : Nat) (hq : q + 128 ≤ 1536) (h : ∀ d, (![q] : Fin 1 → Nat) d + S128.size d ≤ S1536.size d) (l : Fin 128) :
    View.readAt (Elt Ideal) sM3.view (Rect.unit (s := S1536) ![q] S128.size h).toLoadRect
      (View.write (Elt Ideal) sM3.view f3 (run.sl.dma0_3 (F := Ideal) c a3) Finset.univ) (ix1 l) = a3 (ix1 ⟨q + l, by omega⟩) := by
  rw [View.readAt_apply, View.read_write_univ]
  refine congrArg a3 (funext fun d => Fin.ext ?_)
  match d with
  | 0 => show q + 1 * l.val = q + l.val; omega

/-- The first landed start position. -/
theorem p_land0 : run.sl.r (F := Ideal) c a4 f4 = a4 (ix1 0) := by
  unfold run.sl.r
  rw [View.readAt_apply, View.read_write_univ]
  refine congrArg a4 (funext fun d => Fin.ext ?_)
  match d with
  | 0 => rfl

/-- The second landed start position. -/
theorem p_land1 : run.sl.r_3 (F := Ideal) c a4 f4 = a4 (ix1 1) := by
  unfold run.sl.r_3
  rw [View.readAt_apply, View.read_write_univ]
  refine congrArg a4 (funext fun d => Fin.ext ?_)
  match d with
  | 0 => rfl

/-- The codes as the products read them. -/
theorem v1321_at (r : Fin 256) (k : Fin 1152) : run.sl.v1321 (F := Ideal) c a0 a1 f0 f1 (ix2 r k) = Spec.xc (xRows a0) (gRow1 a1) r k := by
  unfold run.sl.v1321
  rw [View.readCov_eq_canon', codes_canon]
  refine congrArg₂ (Spec.xc (xRows a0) (gRow1 a1)) (Fin.ext ?_) (Fin.ext ?_)
  · show 0 + 1 * r.val = r.val; omega
  · show 0 + 1 * k.val = k.val; omega

/-- The scales as a half of 128 rows reads them. -/
theorem xs_read (o : Nat) (ho : o + 128 ≤ 256) (h : ∀ d, (![o, 0] : Fin 2 → Nat) d + S128x128.size d ≤ S256x128.size d) (i l : Fin 128) :
    sM13.view.readCov (run.sl.S13_8 (F := Ideal) c a0 a1 f0 f1) (Rect.unit (s := S256x128) ![o, 0] S128x128.size h).toLoadRect (ix2 i l)
      = Spec.xs (xRows a0) (gRow1 a1) ⟨o + i, by omega⟩ := by
  rw [View.readCov_eq_canon', scales_canon]
  refine congrArg (Spec.xs (xRows a0) (gRow1 a1)) (Fin.ext ?_)
  show o + 1 * i.val = o + i.val; omega

/-- The array of plain products. -/
def prodA (x : Fin 256 → Spec.Row 1152) (g : Spec.Row 1152) (w : Fin 1152 → Spec.Row 1536) : Vec Ideal S256x1536 .f32 :=
  fun y => Spec.prod x g w (y 0) (y 1)

theorem mm512 (xc : Vec Ideal S256x1152 .fp8e4m3) (w : Vec Ideal S1152x512 .fp8e4m3) (i : Fin 256) (k : Fin 512) :
    k0_pay150 xc w (ix2 i k) = ∑ x, xc (ix2 i x) * w (ix2 x k) := by
  pointwise [k0_pay150]

theorem mm1024 (xc : Vec Ideal S256x1152 .fp8e4m3) (w : Vec Ideal S1152x1024 .fp8e4m3) (i : Fin 256) (k : Fin 1024) :
    k0_pay206 xc w (ix2 i k) = ∑ x, xc (ix2 i x) * w (ix2 x k) := by
  pointwise [k0_pay206]

/-- The first product fills columns 1024 to 1535 of the array of products. -/
theorem prod_1 : ∀ p ∈ run.sl.S14_1 (F := Ideal) c a0 a1 a2 f0 f1 f2, ∀ y, p.2 y = prodA (xRows a0) (gRow1 a1) (wRows a2) (p.1.emb y) :=
  List.forall_mem_cons.2 ⟨at_tile 0 1024 inb_S256x1536_S256x512_0_1024 (by omega) (by omega) _ (Spec.prod (xRows a0) (gRow1 a1) (wRows a2)) fun i l =>
    (mm512 _ _ i l).trans (Finset.sum_congr rfl fun k _ => congrArg₂ (fun a b : EReal => a * b)
      ((v1321_at c a0 a1 f0 f1 i k).trans (by congr 1; exact Fin.ext (Nat.zero_add _).symm)) (w_land c a2 f2 1024 512 (by omega) _ k l)),
    fun _ h => absurd h List.not_mem_nil⟩

/-- The second product fills columns 0 to 1023. -/
theorem prod_2 : ∀ p ∈ run.sl.S14_2 (F := Ideal) c a0 a1 a2 f0 f1 f2, ∀ y, p.2 y = prodA (xRows a0) (gRow1 a1) (wRows a2) (p.1.emb y) :=
  List.forall_mem_cons.2 ⟨at_tile 0 0 inb_S256x1536_S256x1024_0_0 (by omega) (by omega) _ (Spec.prod (xRows a0) (gRow1 a1) (wRows a2)) fun i l =>
    (mm1024 _ _ i l).trans (Finset.sum_congr rfl fun k _ => congrArg₂ (fun a b : EReal => a * b)
      ((v1321_at c a0 a1 f0 f1 i k).trans (by congr 1; exact Fin.ext (Nat.zero_add _).symm)) (w_land c a2 f2 0 1024 (by omega) _ k l)),
    prod_1 c a0 a1 a2 f0 f1 f2⟩

/-- A tile of the products read from columns the first product fills. -/
theorem prod_read1 (o q : Nat) (ho : o + 128 ≤ 256) (hq : q + 128 ≤ 1536) (hq' : 1024 ≤ q)
    (h : ∀ d, (![o, q] : Fin 2 → Nat) d + S128x128.size d ≤ S256x1536.size d) (i l : Fin 128) :
    sM14.view.readCov (run.sl.S14_1 (F := Ideal) c a0 a1 a2 f0 f1 f2) (Rect.unit (s := S256x1536) ![o, q] S128x128.size h).toLoadRect (ix2 i l)
      = Spec.prod (xRows a0) (gRow1 a1) (wRows a2) ⟨o + i, by omega⟩ ⟨q + l, by omega⟩ := by
  rw [View.readCov_eq_canon']
  refine (View.canon_apply_of_pieces _ _ (prod_1 c a0 a1 a2 f0 f1 f2) _ ⟨_, List.mem_cons_self, ?_⟩).trans ?_
  · refine (Rect.mem_set_unit (inb := inb_S256x1536_S256x512_0_1024)).2 fun a => ?_
    match a with
    | 0 => exact ⟨Nat.zero_le _, show o + 1 * i.val < 0 + 256 by omega⟩
    | 1 => exact ⟨show 1024 ≤ q + 1 * l.val by omega, show q + 1 * l.val < 1024 + 512 by omega⟩
  · refine congrArg₂ (Spec.prod (xRows a0) (gRow1 a1) (wRows a2)) (Fin.ext ?_) (Fin.ext ?_)
    · show o + 1 * i.val = o + i.val; omega
    · show q + 1 * l.val = q + l.val; omega

/-- A tile of the products read from columns the second product fills. -/
theorem prod_read2 (o q : Nat) (ho : o + 128 ≤ 256) (hq : q + 128 ≤ 1024)
    (h : ∀ d, (![o, q] : Fin 2 → Nat) d + S128x128.size d ≤ S256x1536.size d) (i l : Fin 128) :
    sM14.view.readCov (run.sl.S14_2 (F := Ideal) c a0 a1 a2 f0 f1 f2) (Rect.unit (s := S256x1536) ![o, q] S128x128.size h).toLoadRect (ix2 i l)
      = Spec.prod (xRows a0) (gRow1 a1) (wRows a2) ⟨o + i, by omega⟩ ⟨q + l, by omega⟩ := by
  rw [View.readCov_eq_canon']
  refine (View.canon_apply_of_pieces _ _ (prod_2 c a0 a1 a2 f0 f1 f2) _ ⟨_, List.mem_cons_self, ?_⟩).trans ?_
  · refine (Rect.mem_set_unit (inb := inb_S256x1536_S256x1024_0_0)).2 fun a => ?_
    match a with
    | 0 => exact ⟨Nat.zero_le _, show o + 1 * i.val < 0 + 256 by omega⟩
    | 1 => exact ⟨Nat.zero_le _, show q + 1 * l.val < 0 + 1024 by omega⟩
  · refine congrArg₂ (Spec.prod (xRows a0) (gRow1 a1) (wRows a2)) (Fin.ext ?_) (Fin.ext ?_)
    · show o + 1 * i.val = o + i.val; omega
    · show q + 1 * l.val = q + l.val; omega

/-- A slab of a three-dimensional array of pieces agrees with the array at the slab's place. -/
theorem at_slab {B R C a b : Nat} (n o q : Nat) (h : ∀ d, (![n, o, q] : Fin 3 → Nat) d + (⟨3, ![1, a, b]⟩ : Shape).size d ≤ (⟨3, ![B, R, C]⟩ : Shape).size d)
    (hn : n < B) (ho : o + a ≤ R) (hq : q + b ≤ C) (v : (⟨3, ![1, a, b]⟩ : Shape).Idx → EReal) (G : Fin B → Fin R → Fin C → EReal)
    (hv : ∀ (i : Fin a) (l : Fin b), v (ix3 0 i l) = G ⟨n, hn⟩ ⟨o + i, by omega⟩ ⟨q + l, by omega⟩) (x : (⟨3, ![1, a, b]⟩ : Shape).Idx) :
    v x = (fun y : (⟨3, ![B, R, C]⟩ : Shape).Idx => G (y 0) (y 1) (y 2)) ((Rect.unit (s := ⟨3, ![B, R, C]⟩) ![n, o, q] (⟨3, ![1, a, b]⟩ : Shape).size h).emb x) := by
  obtain ⟨z, i, l, rfl⟩ : ∃ (z : Fin 1) (i : Fin a) (l : Fin b), x = ix3 z i l := ⟨x 0, x 1, x 2, eq_ix3 x⟩
  obtain rfl : z = 0 := Subsingleton.elim _ _
  refine (hv i l).trans ?_
  have e0 : (⟨n, hn⟩ : Fin B) = (Rect.unit (s := ⟨3, ![B, R, C]⟩) ![n, o, q] (⟨3, ![1, a, b]⟩ : Shape).size h).emb (ix3 0 i l) 0 := Fin.ext (show n = n + 1 * 0 by omega)
  have e1 : (⟨o + i, by omega⟩ : Fin R) = (Rect.unit (s := ⟨3, ![B, R, C]⟩) ![n, o, q] (⟨3, ![1, a, b]⟩ : Shape).size h).emb (ix3 0 i l) 1 := Fin.ext (show o + i.val = o + 1 * i.val by omega)
  have e2 : (⟨q + l, by omega⟩ : Fin C) = (Rect.unit (s := ⟨3, ![B, R, C]⟩) ![n, o, q] (⟨3, ![1, a, b]⟩ : Shape).size h).emb (ix3 0 i l) 2 := Fin.ext (show q + l.val = q + 1 * l.val by omega)
  exact e0 ▸ e1 ▸ e2 ▸ rfl

/-- The array of cosines, one slab per sequence. -/
def cosA (p : Fin 2 → BitVec 32) : Vec Ideal S2x128x128 .f32 := fun y => FloatOps.cos (F := Ideal) (φ := FTy.f32) (Spec.angle (p (y 0)) (y 1).val (y 2))
/-- The array of sines. -/
def sinA (p : Fin 2 → BitVec 32) : Vec Ideal S2x128x128 .f32 := fun y => FloatOps.sin (F := Ideal) (φ := FTy.f32) (Spec.angle (p (y 0)) (y 1).val (y 2))

theorem cos_pieces : ∀ p ∈ run.sl.S11_2 (F := Ideal) c a4 f4, ∀ y, p.2 y = cosA (pPos a4) (p.1.emb y) :=
  List.forall_mem_cons.2 ⟨at_slab 1 0 0 inb_S2x128x128_S1x128x128_1_0_0 (by omega) (by omega) (by omega) _
      (fun b i l => FloatOps.cos (F := Ideal) (φ := FTy.f32) (Spec.angle (pPos a4 b) i.val l)) fun i l =>
        (cosTile (run.sl.r_3 (F := Ideal) c a4 f4) i l).trans (by rw [p_land1]; simp only [Nat.zero_add]; rfl),
    List.forall_mem_cons.2 ⟨at_slab 0 0 0 inb_S2x128x128_S1x128x128_0_0_0 (by omega) (by omega) (by omega) _
      (fun b i l => FloatOps.cos (F := Ideal) (φ := FTy.f32) (Spec.angle (pPos a4 b) i.val l)) fun i l =>
        (cosTile (run.sl.r (F := Ideal) c a4 f4) i l).trans (by rw [p_land0]; simp only [Nat.zero_add]; rfl),
    fun _ h => absurd h List.not_mem_nil⟩⟩

theorem sin_pieces : ∀ p ∈ run.sl.S12_2 (F := Ideal) c a4 f4, ∀ y, p.2 y = sinA (pPos a4) (p.1.emb y) :=
  List.forall_mem_cons.2 ⟨at_slab 1 0 0 inb_S2x128x128_S1x128x128_1_0_0 (by omega) (by omega) (by omega) _
      (fun b i l => FloatOps.sin (F := Ideal) (φ := FTy.f32) (Spec.angle (pPos a4 b) i.val l)) fun i l =>
        (sinTile (run.sl.r_3 (F := Ideal) c a4 f4) i l).trans (by rw [p_land1]; simp only [Nat.zero_add]; rfl),
    List.forall_mem_cons.2 ⟨at_slab 0 0 0 inb_S2x128x128_S1x128x128_0_0_0 (by omega) (by omega) (by omega) _
      (fun b i l => FloatOps.sin (F := Ideal) (φ := FTy.f32) (Spec.angle (pPos a4 b) i.val l)) fun i l =>
        (sinTile (run.sl.r (F := Ideal) c a4 f4) i l).trans (by rw [p_land0]; simp only [Nat.zero_add]; rfl),
    fun _ h => absurd h List.not_mem_nil⟩⟩

theorem cos_canon : View.canon (run.sl.S11_2 (F := Ideal) c a4 f4) = cosA (pPos a4) :=
  funext fun y => View.canon_apply_of_pieces _ _ (cos_pieces c a4 f4) y
    (View.cover_of_tiledL (s := S2x128x128) _ S1x128x128.size (by sl_kernel_rfl) y)

theorem sin_canon : View.canon (run.sl.S12_2 (F := Ideal) c a4 f4) = sinA (pPos a4) :=
  funext fun y => View.canon_apply_of_pieces _ _ (sin_pieces c a4 f4) y
    (View.cover_of_tiledL (s := S2x128x128) _ S1x128x128.size (by sl_kernel_rfl) y)

/-- A half's cosines, row by row. -/
theorem cos_read (n : Nat) (hn : n < 2) (h : ∀ d, (![n, 0, 0] : Fin 3 → Nat) d + S1x128x128.size d ≤ S2x128x128.size d) (i l : Fin 128) :
    sM11.view.readCov (run.sl.S11_2 (F := Ideal) c a4 f4) (Rect.unit (s := S2x128x128) ![n, 0, 0] S1x128x128.size h).toLoadRect (ix3 0 i l)
      = Spec.cosRow (pPos a4) ⟨128 * n + i, by omega⟩ l := by
  rw [View.readCov_eq_canon', cos_canon]
  refine congrArg (FloatOps.cos (F := Ideal) (φ := FTy.f32)) ?_
  congr 1
  · congr 1; exact Fin.ext (show n + 1 * 0 = (128 * n + i.val) / 128 by omega)
  · show 0 + 1 * i.val = (128 * n + i.val) % 128; omega
  · exact Fin.ext (show 0 + 1 * l.val = l.val by omega)

/-- A half's sines, row by row. -/
theorem sin_read (n : Nat) (hn : n < 2) (h : ∀ d, (![n, 0, 0] : Fin 3 → Nat) d + S1x128x128.size d ≤ S2x128x128.size d) (i l : Fin 128) :
    sM12.view.readCov (run.sl.S12_2 (F := Ideal) c a4 f4) (Rect.unit (s := S2x128x128) ![n, 0, 0] S1x128x128.size h).toLoadRect (ix3 0 i l)
      = Spec.sinRow (pPos a4) ⟨128 * n + i, by omega⟩ l := by
  rw [View.readCov_eq_canon', sin_canon]
  refine congrArg (FloatOps.sin (F := Ideal) (φ := FTy.f32)) ?_
  congr 1
  · congr 1; exact Fin.ext (show n + 1 * 0 = (128 * n + i.val) / 128 by omega)
  · show 0 + 1 * i.val = (128 * n + i.val) % 128; omega
  · exact Fin.ext (show 0 + 1 * l.val = l.val by omega)

end Cert.Val
-- ==== Proof.Kv.lean ====
module
public import proofs.«01_k».proof.Proof.Proj

/-! # The keys and the values: codes and scales -/

@[expose] public section
set_option maxRecDepth 16384
noncomputable section
open Idealize.ShloMosaic Idealize.ShloMosaic.TcCoe Idealize.SL.Sem
open Cert.KernelIdeal Cert.KernelIdeal.Gen Cert.KernelIdeal.Hand
namespace Cert.Val

/-- 256 columns of the projection from column `q`, rotated. -/
def rot (x : Fin 256 → Spec.Row 1152) (g : Spec.Row 1152) (w : Fin 1152 → Spec.Row 1536) (s : Spec.Row 1536) (p : Fin 2 → BitVec 32)
    (q : Nat) (hq : q + 256 ≤ 1536) (r : Fin 256) : Spec.Row 256 :=
  Spec.rope (Spec.cols x g w s r q (by omega)) (Spec.cols x g w s r (q + 128) (by omega)) (Spec.cosRow p r) (Spec.sinRow p r)

/-- The low tile of the rotation, entry by entry. -/
theorem lo_eq (x : Fin 256 → Spec.Row 1152) (g : Spec.Row 1152) (w : Fin 1152 → Spec.Row 1536) (s : Spec.Row 1536) (p : Fin 2 → BitVec 32)
  (o q : Nat) (ho : o + 128 ≤ 256) (hq : q + 256 ≤ 1536)
  (s0 : Vec Ideal S128 .f32) (y0 xs : Vec Ideal S128x128 .f32) (s1 : Vec Ideal S128 .f32) (y1 : Vec Ideal S128x128 .f32) (cs sn : Vec Ideal S1x128x128 .f32)
  (hs0 : ∀ l : Fin 128, s0 (ix1 l) = s ⟨q + l, by omega⟩) (hs1 : ∀ l : Fin 128, s1 (ix1 l) = s ⟨q + 128 + l, by omega⟩)
  (hy0 : ∀ i l : Fin 128, y0 (ix2 i l) = Spec.prod x g w ⟨o + i, by omega⟩ ⟨q + l, by omega⟩)
  (hy1 : ∀ i l : Fin 128, y1 (ix2 i l) = Spec.prod x g w ⟨o + i, by omega⟩ ⟨q + 128 + l, by omega⟩)
  (hxs : ∀ i l : Fin 128, xs (ix2 i l) = Spec.xs x g ⟨o + i, by omega⟩)
  (hcs : ∀ i l : Fin 128, cs (ix3 0 i l) = Spec.cosRow p ⟨o + i, by omega⟩ l)
  (hsn : ∀ i l : Fin 128, sn (ix3 0 i l) = Spec.sinRow p ⟨o + i, by omega⟩ l)
  (i l : Fin 128) : y0 (ix2 i l) * xs (ix2 i l) * s0 (ix1 l) * cs (ix3 0 i l) - y1 (ix2 i l) * xs (ix2 i l) * s1 (ix1 l) * sn (ix3 0 i l)
    = rot x g w s p q hq ⟨o + i, by omega⟩ ⟨l, by omega⟩ := by
  rw [hs0, hs1, hy0, hy1, hxs, hcs, hsn]
  exact (Spec.rope_lo (Spec.cols x g w s ⟨o + i, by omega⟩ q (by omega)) (Spec.cols x g w s ⟨o + i, by omega⟩ (q + 128) (by omega)) (Spec.cosRow p ⟨o + i, by omega⟩) (Spec.sinRow p ⟨o + i, by omega⟩) l).symm

/-- The high tile of the rotation, entry by entry. -/
theorem hi_eq (x : Fin 256 → Spec.Row 1152) (g : Spec.Row 1152) (w : Fin 1152 → Spec.Row 1536) (s : Spec.Row 1536) (p : Fin 2 → BitVec 32)
  (o q : Nat) (ho : o + 128 ≤ 256) (hq : q + 256 ≤ 1536)
  (s0 : Vec Ideal S128 .f32) (y0 xs : Vec Ideal S128x128 .f32) (s1 : Vec Ideal S128 .f32) (y1 : Vec Ideal S128x128 .f32) (cs sn : Vec Ideal S1x128x128 .f32)
  (hs0 : ∀ l : Fin 128, s0 (ix1 l) = s ⟨q + l, by omega⟩) (hs1 : ∀ l : Fin 128, s1 (ix1 l) = s ⟨q + 128 + l, by omega⟩)
  (hy0 : ∀ i l : Fin 128, y0 (ix2 i l) = Spec.prod x g w ⟨o + i, by omega⟩ ⟨q + l, by omega⟩)
  (hy1 : ∀ i l : Fin 128, y1 (ix2 i l) = Spec.prod x g w ⟨o + i, by omega⟩ ⟨q + 128 + l, by omega⟩)
  (hxs : ∀ i l : Fin 128, xs (ix2 i l) = Spec.xs x g ⟨o + i, by omega⟩)
  (hcs : ∀ i l : Fin 128, cs (ix3 0 i l) = Spec.cosRow p ⟨o + i, by omega⟩ l)
  (hsn : ∀ i l : Fin 128, sn (ix3 0 i l) = Spec.sinRow p ⟨o + i, by omega⟩ l)
  (i l : Fin 128) : y1 (ix2 i l) * xs (ix2 i l) * s1 (ix1 l) * cs (ix3 0 i l) + y0 (ix2 i l) * xs (ix2 i l) * s0 (ix1 l) * sn (ix3 0 i l)
    = rot x g w s p q hq ⟨o + i, by omega⟩ ⟨128 + l, by omega⟩ := by
  rw [hs0, hs1, hy0, hy1, hxs, hcs, hsn]
  exact (Spec.rope_hi (Spec.cols x g w s ⟨o + i, by omega⟩ q (by omega)) (Spec.cols x g w s ⟨o + i, by omega⟩ (q + 128) (by omega)) (Spec.cosRow p ⟨o + i, by omega⟩) (Spec.sinRow p ⟨o + i, by omega⟩) l).symm

/-- The low tile of the rotated keys is the specification's. -/
theorem keyLo (x : Fin 256 → Spec.Row 1152) (g : Spec.Row 1152) (w : Fin 1152 → Spec.Row 1536) (s : Spec.Row 1536) (p : Fin 2 → BitVec 32)
  (o q : Nat) (ho : o + 128 ≤ 256) (hq : q + 256 ≤ 1536)
  (s0 : Vec Ideal S128 .f32) (y0 xs : Vec Ideal S128x128 .f32) (s1 : Vec Ideal S128 .f32) (y1 : Vec Ideal S128x128 .f32) (cs sn : Vec Ideal S1x128x128 .f32)
  (hs0 : ∀ l : Fin 128, s0 (ix1 l) = s ⟨q + l, by omega⟩) (hs1 : ∀ l : Fin 128, s1 (ix1 l) = s ⟨q + 128 + l, by omega⟩)
  (hy0 : ∀ i l : Fin 128, y0 (ix2 i l) = Spec.prod x g w ⟨o + i, by omega⟩ ⟨q + l, by omega⟩)
  (hy1 : ∀ i l : Fin 128, y1 (ix2 i l) = Spec.prod x g w ⟨o + i, by omega⟩ ⟨q + 128 + l, by omega⟩)
  (hxs : ∀ i l : Fin 128, xs (ix2 i l) = Spec.xs x g ⟨o + i, by omega⟩)
  (hcs : ∀ i l : Fin 128, cs (ix3 0 i l) = Spec.cosRow p ⟨o + i, by omega⟩ l)
  (hsn : ∀ i l : Fin 128, sn (ix3 0 i l) = Spec.sinRow p ⟨o + i, by omega⟩ l)
  (i l : Fin 128) : k0_pay155 s0 y0 xs s1 y1 xs cs sn (ix2 i l) = rot x g w s p q hq ⟨o + i, by omega⟩ ⟨l, by omega⟩ :=
  (rotLo s0 y0 xs s1 y1 cs sn i l).trans (lo_eq x g w s p o q ho hq s0 y0 xs s1 y1 cs sn hs0 hs1 hy0 hy1 hxs hcs hsn i l)

/-- The high tile of the rotated keys is the specification's. -/
theorem keyHi (x : Fin 256 → Spec.Row 1152) (g : Spec.Row 1152) (w : Fin 1152 → Spec.Row 1536) (s : Spec.Row 1536) (p : Fin 2 → BitVec 32)
  (o q : Nat) (ho : o + 128 ≤ 256) (hq : q + 256 ≤ 1536)
  (s0 : Vec Ideal S128 .f32) (y0 xs : Vec Ideal S128x128 .f32) (s1 : Vec Ideal S128 .f32) (y1 : Vec Ideal S128x128 .f32) (cs sn : Vec Ideal S1x128x128 .f32)
  (hs0 : ∀ l : Fin 128, s0 (ix1 l) = s ⟨q + l, by omega⟩) (hs1 : ∀ l : Fin 128, s1 (ix1 l) = s ⟨q + 128 + l, by omega⟩)
  (hy0 : ∀ i l : Fin 128, y0 (ix2 i l) = Spec.prod x g w ⟨o + i, by omega⟩ ⟨q + l, by omega⟩)
  (hy1 : ∀ i l : Fin 128, y1 (ix2 i l) = Spec.prod x g w ⟨o + i, by omega⟩ ⟨q + 128 + l, by omega⟩)
  (hxs : ∀ i l : Fin 128, xs (ix2 i l) = Spec.xs x g ⟨o + i, by omega⟩)
  (hcs : ∀ i l : Fin 128, cs (ix3 0 i l) = Spec.cosRow p ⟨o + i, by omega⟩ l)
  (hsn : ∀ i l : Fin 128, sn (ix3 0 i l) = Spec.sinRow p ⟨o + i, by omega⟩ l)
  (i l : Fin 128) : k0_pay156 s0 y0 xs s1 y1 xs cs sn (ix2 i l) = rot x g w s p q hq ⟨o + i, by omega⟩ ⟨128 + l, by omega⟩ :=
  (rotHi s0 y0 xs s1 y1 cs sn i l).trans (hi_eq x g w s p o q ho hq s0 y0 xs s1 y1 cs sn hs0 hs1 hy0 hy1 hxs hcs hsn i l)

/-- A tile of the values is the specification's. -/
theorem valEq (x : Fin 256 → Spec.Row 1152) (g : Spec.Row 1152) (w : Fin 1152 → Spec.Row 1536) (s : Spec.Row 1536) (o q : Nat) (ho : o + 128 ≤ 256) (hq : q + 128 ≤ 1536)
    (s0 : Vec Ideal S128 .f32) (y0 xs : Vec Ideal S128x128 .f32) (hs0 : ∀ l : Fin 128, s0 (ix1 l) = s ⟨q + l, by omega⟩)
    (hy0 : ∀ i l : Fin 128, y0 (ix2 i l) = Spec.prod x g w ⟨o + i, by omega⟩ ⟨q + l, by omega⟩)
    (hxs : ∀ i l : Fin 128, xs (ix2 i l) = Spec.xs x g ⟨o + i, by omega⟩) (i l : Fin 128) :
    k0_pay160 s0 y0 xs (ix2 i l) = Spec.proj x g w s ⟨o + i, by omega⟩ ⟨q + l, by omega⟩ := by
  rw [valTile, hs0, hy0, hxs]
  rfl

variable (c : Dev nD) (a0 : Vec Ideal S256x1152 .bf16) (a1 : Vec Ideal S1152 .f32) (a2 : Vec Ideal S1152x1536 .fp8e4m3) (a3 : Vec Ideal S1536 .f32) (a4 : Vec Ideal S2 .i32)
  (f0 : Vec Ideal S256x1152 .bf16) (f1 : Vec Ideal S1152 .f32) (f2 : Vec Ideal S1152x1536 .fp8e4m3) (f3 : Vec Ideal S1536 .f32) (f4 : Vec Ideal S2 .i32)

theorem key0lo (i l : Fin 128) : run.sl.r_53 (F := Ideal) c a0 a1 a2 a3 a4 f0 f1 f2 f3 f4 (ix2 i l) = Spec.key (xRows a0) (gRow1 a1) (wRows a2) (sRow a3) (pPos a4) ⟨0 + i, by omega⟩ ⟨l, by omega⟩ :=
  keyLo (xRows a0) (gRow1 a1) (wRows a2) (sRow a3) (pPos a4) 0 1024 (by omega) (by omega) _ _ _ _ _ _ _
    (s_land c a3 f3 1024 (by omega) inb_S1536_S128_1024) (s_land c a3 f3 1152 (by omega) inb_S1536_S128_1152)
    (prod_read1 c a0 a1 a2 f0 f1 f2 0 1024 (by omega) (by omega) (by omega) inb_S256x1536_S128x128_0_1024)
    (prod_read1 c a0 a1 a2 f0 f1 f2 0 1152 (by omega) (by omega) (by omega) inb_S256x1536_S128x128_0_1152)
    (xs_read c a0 a1 f0 f1 0 (by omega) inb_S256x128_S128x128_0_0)
    (cos_read c a4 f4 0 (by omega) inb_S2x128x128_S1x128x128_0_0_0) (sin_read c a4 f4 0 (by omega) inb_S2x128x128_S1x128x128_0_0_0) i l

theorem key0hi (i l : Fin 128) : run.sl.r_54 (F := Ideal) c a0 a1 a2 a3 a4 f0 f1 f2 f3 f4 (ix2 i l) = Spec.key (xRows a0) (gRow1 a1) (wRows a2) (sRow a3) (pPos a4) ⟨0 + i, by omega⟩ ⟨128 + l, by omega⟩ :=
  keyHi (xRows a0) (gRow1 a1) (wRows a2) (sRow a3) (pPos a4) 0 1024 (by omega) (by omega) _ _ _ _ _ _ _
    (s_land c a3 f3 1024 (by omega) inb_S1536_S128_1024) (s_land c a3 f3 1152 (by omega) inb_S1536_S128_1152)
    (prod_read1 c a0 a1 a2 f0 f1 f2 0 1024 (by omega) (by omega) (by omega) inb_S256x1536_S128x128_0_1024)
    (prod_read1 c a0 a1 a2 f0 f1 f2 0 1152 (by omega) (by omega) (by omega) inb_S256x1536_S128x128_0_1152)
    (xs_read c a0 a1 f0 f1 0 (by omega) inb_S256x128_S128x128_0_0)
    (cos_read c a4 f4 0 (by omega) inb_S2x128x128_S1x128x128_0_0_0) (sin_read c a4 f4 0 (by omega) inb_S2x128x128_S1x128x128_0_0_0) i l

theorem val0lo (i l : Fin 128) : run.sl.r_57 (F := Ideal) c a0 a1 a2 a3 f0 f1 f2 f3 (ix2 i l) = Spec.val (xRows a0) (gRow1 a1) (wRows a2) (sRow a3) ⟨0 + i, by omega⟩ ⟨l, by omega⟩ :=
  (valEq (xRows a0) (gRow1 a1) (wRows a2) (sRow a3) 0 1280 (by omega) (by omega) _ _ _ (s_land c a3 f3 1280 (by omega) inb_S1536_S128_1280)
    (prod_read1 c a0 a1 a2 f0 f1 f2 0 1280 (by omega) (by omega) (by omega) inb_S256x1536_S128x128_0_1280)
    (xs_read c a0 a1 f0 f1 0 (by omega) inb_S256x128_S128x128_0_0) i l).trans
    (congrArg (Spec.proj (xRows a0) (gRow1 a1) (wRows a2) (sRow a3) ⟨0 + i, by omega⟩) (Fin.ext (show 1280 + l.val = 1280 + l.val by omega)))

theorem val0hi (i l : Fin 128) : run.sl.r_58 (F := Ideal) c a0 a1 a2 a3 f0 f1 f2 f3 (ix2 i l) = Spec.val (xRows a0) (gRow1 a1) (wRows a2) (sRow a3) ⟨0 + i, by omega⟩ ⟨128 + l, by omega⟩ :=
  (valEq (xRows a0) (gRow1 a1) (wRows a2) (sRow a3) 0 1408 (by omega) (by omega) _ _ _ (s_land c a3 f3 1408 (by omega) inb_S1536_S128_1408)
    (prod_read1 c a0 a1 a2 f0 f1 f2 0 1408 (by omega) (by omega) (by omega) inb_S256x1536_S128x128_0_1408)
    (xs_read c a0 a1 f0 f1 0 (by omega) inb_S256x128_S128x128_0_0) i l).trans
    (congrArg (Spec.proj (xRows a0) (gRow1 a1) (wRows a2) (sRow a3) ⟨0 + i, by omega⟩) (Fin.ext (show 1408 + l.val = 1280 + (128 + l.val) by omega)))

theorem key1lo (i l : Fin 128) : run.sl.r_67 (F := Ideal) c a0 a1 a2 a3 a4 f0 f1 f2 f3 f4 (ix2 i l) = Spec.key (xRows a0) (gRow1 a1) (wRows a2) (sRow a3) (pPos a4) ⟨128 + i, by omega⟩ ⟨l, by omega⟩ :=
  keyLo (xRows a0) (gRow1 a1) (wRows a2) (sRow a3) (pPos a4) 128 1024 (by omega) (by omega) _ _ _ _ _ _ _
    (s_land c a3 f3 1024 (by omega) inb_S1536_S128_1024) (s_land c a3 f3 1152 (by omega) inb_S1536_S128_1152)
    (prod_read1 c a0 a1 a2 f0 f1 f2 128 1024 (by omega) (by omega) (by omega) inb_S256x1536_S128x128_128_1024)
    (prod_read1 c a0 a1 a2 f0 f1 f2 128 1152 (by omega) (by omega) (by omega) inb_S256x1536_S128x128_128_1152)
    (xs_read c a0 a1 f0 f1 128 (by omega) inb_S256x128_S128x128_128_0)
    (cos_read c a4 f4 1 (by omega) inb_S2x128x128_S1x128x128_1_0_0) (sin_read c a4 f4 1 (by omega) inb_S2x128x128_S1x128x128_1_0_0) i l

theorem key1hi (i l : Fin 128) : run.sl.r_68 (F := Ideal) c a0 a1 a2 a3 a4 f0 f1 f2 f3 f4 (ix2 i l) = Spec.key (xRows a0) (gRow1 a1) (wRows a2) (sRow a3) (pPos a4) ⟨128 + i, by omega⟩ ⟨128 + l, by omega⟩ :=
  keyHi (xRows a0) (gRow1 a1) (wRows a2) (sRow a3) (pPos a4) 128 1024 (by omega) (by omega) _ _ _ _ _ _ _
    (s_land c a3 f3 1024 (by omega) inb_S1536_S128_1024) (s_land c a3 f3 1152 (by omega) inb_S1536_S128_1152)
    (prod_read1 c a0 a1 a2 f0 f1 f2 128 1024 (by omega) (by omega) (by omega) inb_S256x1536_S128x128_128_1024)
    (prod_read1 c a0 a1 a2 f0 f1 f2 128 1152 (by omega) (by omega) (by omega) inb_S256x1536_S128x128_128_1152)
    (xs_read c a0 a1 f0 f1 128 (by omega) inb_S256x128_S128x128_128_0)
    (cos_read c a4 f4 1 (by omega) inb_S2x128x128_S1x128x128_1_0_0) (sin_read c a4 f4 1 (by omega) inb_S2x128x128_S1x128x128_1_0_0) i l

theorem val1lo (i l : Fin 128) : run.sl.r_69 (F := Ideal) c a0 a1 a2 a3 f0 f1 f2 f3 (ix2 i l) = Spec.val (xRows a0) (gRow1 a1) (wRows a2) (sRow a3) ⟨128 + i, by omega⟩ ⟨l, by omega⟩ :=
  (valEq (xRows a0) (gRow1 a1) (wRows a2) (sRow a3) 128 1280 (by omega) (by omega) _ _ _ (s_land c a3 f3 1280 (by omega) inb_S1536_S128_1280)
    (prod_read1 c a0 a1 a2 f0 f1 f2 128 1280 (by omega) (by omega) (by omega) inb_S256x1536_S128x128_128_1280)
    (xs_read c a0 a1 f0 f1 128 (by omega) inb_S256x128_S128x128_128_0) i l).trans
    (congrArg (Spec.proj (xRows a0) (gRow1 a1) (wRows a2) (sRow a3) ⟨128 + i, by omega⟩) (Fin.ext (show 1280 + l.val = 1280 + l.val by omega)))

theorem val1hi (i l : Fin 128) : run.sl.r_70 (F := Ideal) c a0 a1 a2 a3 f0 f1 f2 f3 (ix2 i l) = Spec.val (xRows a0) (gRow1 a1) (wRows a2) (sRow a3) ⟨128 + i, by omega⟩ ⟨128 + l, by omega⟩ :=
  (valEq (xRows a0) (gRow1 a1) (wRows a2) (sRow a3) 128 1408 (by omega) (by omega) _ _ _ (s_land c a3 f3 1408 (by omega) inb_S1536_S128_1408)
    (prod_read1 c a0 a1 a2 f0 f1 f2 128 1408 (by omega) (by omega) (by omega) inb_S256x1536_S128x128_128_1408)
    (xs_read c a0 a1 f0 f1 128 (by omega) inb_S256x128_S128x128_128_0) i l).trans
    (congrArg (Spec.proj (xRows a0) (gRow1 a1) (wRows a2) (sRow a3) ⟨128 + i, by omega⟩) (Fin.ext (show 1408 + l.val = 1280 + (128 + l.val) by omega)))

end Cert.Val
-- ==== Proof.KvArr.lean ====
module
public import proofs.«01_k».proof.Proof.Kv

/-! # The arrays of codes and scales of the keys and the values -/

@[expose] public section
set_option maxRecDepth 16384
noncomputable section
open Idealize.ShloMosaic Idealize.ShloMosaic.TcCoe Idealize.SL.Sem
open Cert.KernelIdeal Cert.KernelIdeal.Gen Cert.KernelIdeal.Hand
namespace Cert.Val
variable (c : Dev nD) (a0 : Vec Ideal S256x1152 .bf16) (a1 : Vec Ideal S1152 .f32) (a2 : Vec Ideal S1152x1536 .fp8e4m3) (a3 : Vec Ideal S1536 .f32) (a4 : Vec Ideal S2 .i32)
  (f0 : Vec Ideal S256x1152 .bf16) (f1 : Vec Ideal S1152 .f32) (f2 : Vec Ideal S1152x1536 .fp8e4m3) (f3 : Vec Ideal S1536 .f32) (f4 : Vec Ideal S2 .i32)

/-- Codes of a row-wise array of 256 lanes. -/
def codeA (v : Fin 256 → Spec.Row 256) : Vec Ideal S256x256 .fp8e4m3 := fun y => Spec.codes (v (y 0)) (y 1)
/-- Scales of its rows, one slab of 128 rows each. -/
def scaleA (v : Fin 256 → Spec.Row 256) : Vec Ideal S2x1x128 .f32 := fun y => Spec.scale (Spec.top (v ⟨128 * (y 0).val + (y 2).val, by
  have h0 : (y 0).val < 2 := (y 0).isLt
  have h2 : (y 2).val < 128 := (y 2).isLt
  omega⟩))
/-- The scales of the normalised rows, 128 to a row. -/
def xsRow (x : Fin 256 → Spec.Row 1152) (g : Spec.Row 1152) : Vec Ideal S2x128 .f32 := fun y => Spec.xs x g ⟨128 * (y 0).val + (y 1).val, by
  have h0 : (y 0).val < 2 := (y 0).isLt
  have h2 : (y 1).val < 128 := (y 1).isLt
  omega⟩

/-- The codes of the keys. -/
abbrev kA : Vec Ideal S256x256 .fp8e4m3 := codeA (Spec.key (xRows a0) (gRow1 a1) (wRows a2) (sRow a3) (pPos a4))
/-- The codes of the values. -/
abbrev vA : Vec Ideal S256x256 .fp8e4m3 := codeA (Spec.val (xRows a0) (gRow1 a1) (wRows a2) (sRow a3))

theorem k_pieces : ∀ p ∈ run.sl.S7_4 (F := Ideal) c a0 a1 a2 a3 a4 f0 f1 f2 f3 f4, ∀ y, p.2 y = kA a0 a1 a2 a3 a4 (p.1.emb y) :=
  List.forall_mem_cons.2 ⟨at_tile 128 128 inb_S256x256_S128x128_128_128 (by omega) (by omega) _ (fun r => Spec.codes (Spec.key (xRows a0) (gRow1 a1) (wRows a2) (sRow a3) (pPos a4) r)) fun i l =>
      c2hi_at _ _ (fun i => Spec.key (xRows a0) (gRow1 a1) (wRows a2) (sRow a3) (pPos a4) ⟨128 + i, by omega⟩) (key1lo c a0 a1 a2 a3 a4 f0 f1 f2 f3 f4) (key1hi c a0 a1 a2 a3 a4 f0 f1 f2 f3 f4) i l,
  List.forall_mem_cons.2 ⟨(at_tile 128 0 inb_S256x256_S128x128_128_0 (by omega) (by omega) _ (fun r => Spec.codes (Spec.key (xRows a0) (gRow1 a1) (wRows a2) (sRow a3) (pPos a4) r)) fun i l =>
      (c2lo_at _ _ (fun i => Spec.key (xRows a0) (gRow1 a1) (wRows a2) (sRow a3) (pPos a4) ⟨128 + i, by omega⟩) (key1lo c a0 a1 a2 a3 a4 f0 f1 f2 f3 f4) (key1hi c a0 a1 a2 a3 a4 f0 f1 f2 f3 f4) i l).trans (congrArg (Spec.codes (Spec.key (xRows a0) (gRow1 a1) (wRows a2) (sRow a3) (pPos a4) ⟨128 + i, by omega⟩)) (Fin.ext (Nat.zero_add _).symm))),
  List.forall_mem_cons.2 ⟨at_tile 0 128 inb_S256x256_S128x128_0_128 (by omega) (by omega) _ (fun r => Spec.codes (Spec.key (xRows a0) (gRow1 a1) (wRows a2) (sRow a3) (pPos a4) r)) fun i l =>
      c2hi_at _ _ (fun i => Spec.key (xRows a0) (gRow1 a1) (wRows a2) (sRow a3) (pPos a4) ⟨0 + i, by omega⟩) (key0lo c a0 a1 a2 a3 a4 f0 f1 f2 f3 f4) (key0hi c a0 a1 a2 a3 a4 f0 f1 f2 f3 f4) i l,
  List.forall_mem_cons.2 ⟨(at_tile 0 0 inb_S256x256_S128x128_0_0 (by omega) (by omega) _ (fun r => Spec.codes (Spec.key (xRows a0) (gRow1 a1) (wRows a2) (sRow a3) (pPos a4) r)) fun i l =>
      (c2lo_at _ _ (fun i => Spec.key (xRows a0) (gRow1 a1) (wRows a2) (sRow a3) (pPos a4) ⟨0 + i, by omega⟩) (key0lo c a0 a1 a2 a3 a4 f0 f1 f2 f3 f4) (key0hi c a0 a1 a2 a3 a4 f0 f1 f2 f3 f4) i l).trans (congrArg (Spec.codes (Spec.key (xRows a0) (gRow1 a1) (wRows a2) (sRow a3) (pPos a4) ⟨0 + i, by omega⟩)) (Fin.ext (Nat.zero_add _).symm))),
    fun _ h => absurd h List.not_mem_nil⟩⟩⟩⟩

/-- The buffer of the keys' codes holds the array of codes. -/
theorem k_canon : View.canon (run.sl.S7_4 (F := Ideal) c a0 a1 a2 a3 a4 f0 f1 f2 f3 f4) = kA a0 a1 a2 a3 a4 :=
  funext fun y => View.canon_apply_of_pieces _ _ (k_pieces c a0 a1 a2 a3 a4 f0 f1 f2 f3 f4) y
    (View.cover_of_tiledL (s := S256x256) _ S128x128.size (by sl_kernel_rfl) y)

theorem v_pieces : ∀ p ∈ run.sl.S9_4 (F := Ideal) c a0 a1 a2 a3 f0 f1 f2 f3, ∀ y, p.2 y = vA a0 a1 a2 a3 (p.1.emb y) :=
  List.forall_mem_cons.2 ⟨at_tile 128 128 inb_S256x256_S128x128_128_128 (by omega) (by omega) _ (fun r => Spec.codes (Spec.val (xRows a0) (gRow1 a1) (wRows a2) (sRow a3) r)) fun i l =>
      c2hi_at _ _ (fun i => Spec.val (xRows a0) (gRow1 a1) (wRows a2) (sRow a3) ⟨128 + i, by omega⟩) (val1lo c a0 a1 a2 a3 f0 f1 f2 f3) (val1hi c a0 a1 a2 a3 f0 f1 f2 f3) i l,
  List.forall_mem_cons.2 ⟨(at_tile 128 0 inb_S256x256_S128x128_128_0 (by omega) (by omega) _ (fun r => Spec.codes (Spec.val (xRows a0) (gRow1 a1) (wRows a2) (sRow a3) r)) fun i l =>
      (c2lo_at _ _ (fun i => Spec.val (xRows a0) (gRow1 a1) (wRows a2) (sRow a3) ⟨128 + i, by omega⟩) (val1lo c a0 a1 a2 a3 f0 f1 f2 f3) (val1hi c a0 a1 a2 a3 f0 f1 f2 f3) i l).trans (congrArg (Spec.codes (Spec.val (xRows a0) (gRow1 a1) (wRows a2) (sRow a3) ⟨128 + i, by omega⟩)) (Fin.ext (Nat.zero_add _).symm))),
  List.forall_mem_cons.2 ⟨at_tile 0 128 inb_S256x256_S128x128_0_128 (by omega) (by omega) _ (fun r => Spec.codes (Spec.val (xRows a0) (gRow1 a1) (wRows a2) (sRow a3) r)) fun i l =>
      c2hi_at _ _ (fun i => Spec.val (xRows a0) (gRow1 a1) (wRows a2) (sRow a3) ⟨0 + i, by omega⟩) (val0lo c a0 a1 a2 a3 f0 f1 f2 f3) (val0hi c a0 a1 a2 a3 f0 f1 f2 f3) i l,
  List.forall_mem_cons.2 ⟨(at_tile 0 0 inb_S256x256_S128x128_0_0 (by omega) (by omega) _ (fun r => Spec.codes (Spec.val (xRows a0) (gRow1 a1) (wRows a2) (sRow a3) r)) fun i l =>
      (c2lo_at _ _ (fun i => Spec.val (xRows a0) (gRow1 a1) (wRows a2) (sRow a3) ⟨0 + i, by omega⟩) (val0lo c a0 a1 a2 a3 f0 f1 f2 f3) (val0hi c a0 a1 a2 a3 f0 f1 f2 f3) i l).trans (congrArg (Spec.codes (Spec.val (xRows a0) (gRow1 a1) (wRows a2) (sRow a3) ⟨0 + i, by omega⟩)) (Fin.ext (Nat.zero_add _).symm))),
    fun _ h => absurd h List.not_mem_nil⟩⟩⟩⟩

/-- The buffer of the values' codes holds the array of codes. -/
theorem v_canon : View.canon (run.sl.S9_4 (F := Ideal) c a0 a1 a2 a3 f0 f1 f2 f3) = vA a0 a1 a2 a3 :=
  funext fun y => View.canon_apply_of_pieces _ _ (v_pieces c a0 a1 a2 a3 f0 f1 f2 f3) y
    (View.cover_of_tiledL (s := S256x256) _ S128x128.size (by sl_kernel_rfl) y)

theorem x_stat_pieces : ∀ p ∈ run.sl.S6_2 (F := Ideal) c a0 a1 a2 a3 a4 f0 f1 f2 f3 f4, ∀ y, p.2 y = xsRow (xRows a0) (gRow1 a1) (p.1.emb y) :=
  List.forall_mem_cons.2 ⟨at_tile 1 0 inb_S2x128_S1x128_1_0 (by omega) (by omega) _ (fun n i => Spec.xs (xRows a0) (gRow1 a1) ⟨128 * n.val + i.val, by omega⟩) fun z l => by
      obtain rfl : z = 0 := Subsingleton.elim _ _
      refine (st0 _ _ _ l).trans ((xs_read c a0 a1 f0 f1 128 (by omega) inb_S256x128_S128x128_128_0 l 0).trans ?_)
      exact congrArg (Spec.xs (xRows a0) (gRow1 a1)) (Fin.ext (show 128 + l.val = 128 * (1 + 0) + (0 + l.val) by omega)),
  List.forall_mem_cons.2 ⟨at_tile 0 0 inb_S2x128_S1x128_0_0 (by omega) (by omega) _ (fun n i => Spec.xs (xRows a0) (gRow1 a1) ⟨128 * n.val + i.val, by omega⟩) fun z l => by
      obtain rfl : z = 0 := Subsingleton.elim _ _
      refine (st0 _ _ _ l).trans ((xs_read c a0 a1 f0 f1 0 (by omega) inb_S256x128_S128x128_0_0 l 0).trans ?_)
      exact congrArg (Spec.xs (xRows a0) (gRow1 a1)) (Fin.ext (show 0 + l.val = 128 * (0 + 0) + (0 + l.val) by omega)),
    fun _ h => absurd h List.not_mem_nil⟩⟩

/-- The row buffer holds the scales of the normalised rows. -/
theorem x_stat_canon : View.canon (run.sl.S6_2 (F := Ideal) c a0 a1 a2 a3 a4 f0 f1 f2 f3 f4) = xsRow (xRows a0) (gRow1 a1) :=
  funext fun y => View.canon_apply_of_pieces _ _ (x_stat_pieces c a0 a1 a2 a3 a4 f0 f1 f2 f3 f4) y
    (View.cover_of_tiledL (s := S2x128) _ S1x128.size (by sl_kernel_rfl) y)

theorem k_stat_pieces : ∀ p ∈ run.sl.S8_2 (F := Ideal) c a0 a1 a2 a3 a4 f0 f1 f2 f3 f4, ∀ y, p.2 y = scaleA (Spec.key (xRows a0) (gRow1 a1) (wRows a2) (sRow a3) (pPos a4)) (p.1.emb y) :=
  List.forall_mem_cons.2 ⟨at_slab 1 0 0 inb_S2x1x128_S1x1x128_1_0_0 (by omega) (by omega) (by omega) _ (fun n _ i => Spec.scale (Spec.top (Spec.key (xRows a0) (gRow1 a1) (wRows a2) (sRow a3) (pPos a4) ⟨128 * n.val + i.val, by omega⟩))) fun z l => by
      obtain rfl : z = 0 := Subsingleton.elim _ _
      refine (st1 _ _ _ l).trans ((sc2_at _ _ (fun i => Spec.key (xRows a0) (gRow1 a1) (wRows a2) (sRow a3) (pPos a4) ⟨128 + i, by omega⟩) (key1lo c a0 a1 a2 a3 a4 f0 f1 f2 f3 f4) (key1hi c a0 a1 a2 a3 a4 f0 f1 f2 f3 f4) l 1).trans ?_)
      exact congrArg (fun r => Spec.scale (Spec.top (Spec.key (xRows a0) (gRow1 a1) (wRows a2) (sRow a3) (pPos a4) r))) (Fin.ext (show 128 + l.val = 128 * (1 + 0) + (0 + l.val) by omega)),
  List.forall_mem_cons.2 ⟨at_slab 0 0 0 inb_S2x1x128_S1x1x128_0_0_0 (by omega) (by omega) (by omega) _ (fun n _ i => Spec.scale (Spec.top (Spec.key (xRows a0) (gRow1 a1) (wRows a2) (sRow a3) (pPos a4) ⟨128 * n.val + i.val, by omega⟩))) fun z l => by
      obtain rfl : z = 0 := Subsingleton.elim _ _
      refine (st1 _ _ _ l).trans ((sc2_at _ _ (fun i => Spec.key (xRows a0) (gRow1 a1) (wRows a2) (sRow a3) (pPos a4) ⟨0 + i, by omega⟩) (key0lo c a0 a1 a2 a3 a4 f0 f1 f2 f3 f4) (key0hi c a0 a1 a2 a3 a4 f0 f1 f2 f3 f4) l 1).trans ?_)
      exact congrArg (fun r => Spec.scale (Spec.top (Spec.key (xRows a0) (gRow1 a1) (wRows a2) (sRow a3) (pPos a4) r))) (Fin.ext (show 0 + l.val = 128 * (0 + 0) + (0 + l.val) by omega)),
    fun _ h => absurd h List.not_mem_nil⟩⟩

/-- The buffer of the keys' scales holds them. -/
theorem k_stat_canon : View.canon (run.sl.S8_2 (F := Ideal) c a0 a1 a2 a3 a4 f0 f1 f2 f3 f4) = scaleA (Spec.key (xRows a0) (gRow1 a1) (wRows a2) (sRow a3) (pPos a4)) :=
  funext fun y => View.canon_apply_of_pieces _ _ (k_stat_pieces c a0 a1 a2 a3 a4 f0 f1 f2 f3 f4) y
    (View.cover_of_tiledL (s := S2x1x128) _ S1x1x128.size (by sl_kernel_rfl) y)

theorem v_stat_pieces : ∀ p ∈ run.sl.S10_2 (F := Ideal) c a0 a1 a2 a3 a4 f0 f1 f2 f3 f4, ∀ y, p.2 y = scaleA (Spec.val (xRows a0) (gRow1 a1) (wRows a2) (sRow a3)) (p.1.emb y) :=
  List.forall_mem_cons.2 ⟨at_slab 1 0 0 inb_S2x1x128_S1x1x128_1_0_0 (by omega) (by omega) (by omega) _ (fun n _ i => Spec.scale (Spec.top (Spec.val (xRows a0) (gRow1 a1) (wRows a2) (sRow a3) ⟨128 * n.val + i.val, by omega⟩))) fun z l => by
      obtain rfl : z = 0 := Subsingleton.elim _ _
      refine (st2 _ _ _ l).trans ((sc2_at _ _ (fun i => Spec.val (xRows a0) (gRow1 a1) (wRows a2) (sRow a3) ⟨128 + i, by omega⟩) (val1lo c a0 a1 a2 a3 f0 f1 f2 f3) (val1hi c a0 a1 a2 a3 f0 f1 f2 f3) l 2).trans ?_)
      exact congrArg (fun r => Spec.scale (Spec.top (Spec.val (xRows a0) (gRow1 a1) (wRows a2) (sRow a3) r))) (Fin.ext (show 128 + l.val = 128 * (1 + 0) + (0 + l.val) by omega)),
  List.forall_mem_cons.2 ⟨at_slab 0 0 0 inb_S2x1x128_S1x1x128_0_0_0 (by omega) (by omega) (by omega) _ (fun n _ i => Spec.scale (Spec.top (Spec.val (xRows a0) (gRow1 a1) (wRows a2) (sRow a3) ⟨128 * n.val + i.val, by omega⟩))) fun z l => by
      obtain rfl : z = 0 := Subsingleton.elim _ _
      refine (st2 _ _ _ l).trans ((sc2_at _ _ (fun i => Spec.val (xRows a0) (gRow1 a1) (wRows a2) (sRow a3) ⟨0 + i, by omega⟩) (val0lo c a0 a1 a2 a3 f0 f1 f2 f3) (val0hi c a0 a1 a2 a3 f0 f1 f2 f3) l 2).trans ?_)
      exact congrArg (fun r => Spec.scale (Spec.top (Spec.val (xRows a0) (gRow1 a1) (wRows a2) (sRow a3) r))) (Fin.ext (show 0 + l.val = 128 * (0 + 0) + (0 + l.val) by omega)),
    fun _ h => absurd h List.not_mem_nil⟩⟩

/-- The buffer of the values' scales holds them. -/
theorem v_stat_canon : View.canon (run.sl.S10_2 (F := Ideal) c a0 a1 a2 a3 a4 f0 f1 f2 f3 f4) = scaleA (Spec.val (xRows a0) (gRow1 a1) (wRows a2) (sRow a3)) :=
  funext fun y => View.canon_apply_of_pieces _ _ (v_stat_pieces c a0 a1 a2 a3 a4 f0 f1 f2 f3 f4) y
    (View.cover_of_tiledL (s := S2x1x128) _ S1x1x128.size (by sl_kernel_rfl) y)

end Cert.Val
-- ==== Proof.Qry.lean ====
module
public import proofs.«01_k».proof.Proof.Kv

/-! # The rotated queries -/

@[expose] public section
set_option maxRecDepth 16384
noncomputable section
open Idealize.ShloMosaic Idealize.ShloMosaic.TcCoe Idealize.SL.Sem
open Cert.KernelIdeal Cert.KernelIdeal.Gen Cert.KernelIdeal.Hand
namespace Cert.Val

/-- The low tile of a rotated query is the specification's. -/
theorem queryLo (x : Fin 256 → Spec.Row 1152) (g : Spec.Row 1152) (w : Fin 1152 → Spec.Row 1536) (s : Spec.Row 1536) (p : Fin 2 → BitVec 32)
  (o q : Nat) (ho : o + 128 ≤ 256) (hq : q + 256 ≤ 1536)
  (s0 : Vec Ideal S128 .f32) (y0 xs : Vec Ideal S128x128 .f32) (s1 : Vec Ideal S128 .f32) (y1 : Vec Ideal S128x128 .f32) (cs sn : Vec Ideal S1x128x128 .f32)
  (hs0 : ∀ l : Fin 128, s0 (ix1 l) = s ⟨q + l, by omega⟩) (hs1 : ∀ l : Fin 128, s1 (ix1 l) = s ⟨q + 128 + l, by omega⟩)
  (hy0 : ∀ i l : Fin 128, y0 (ix2 i l) = Spec.prod x g w ⟨o + i, by omega⟩ ⟨q + l, by omega⟩)
  (hy1 : ∀ i l : Fin 128, y1 (ix2 i l) = Spec.prod x g w ⟨o + i, by omega⟩ ⟨q + 128 + l, by omega⟩)
  (hxs : ∀ i l : Fin 128, xs (ix2 i l) = Spec.xs x g ⟨o + i, by omega⟩)
  (hcs : ∀ i l : Fin 128, cs (ix3 0 i l) = Spec.cosRow p ⟨o + i, by omega⟩ l)
  (hsn : ∀ i l : Fin 128, sn (ix3 0 i l) = Spec.sinRow p ⟨o + i, by omega⟩ l)
  (i l : Fin 128) : k0_pay211 cs sn s0 y0 xs s1 y1 xs (ix3 0 i l) = rot x g w s p q hq ⟨o + i, by omega⟩ ⟨l, by omega⟩ :=
  (qLo s0 y0 xs s1 y1 cs sn i l).trans (lo_eq x g w s p o q ho hq s0 y0 xs s1 y1 cs sn hs0 hs1 hy0 hy1 hxs hcs hsn i l)

/-- The high tile of a rotated query is the specification's. -/
theorem queryHi (x : Fin 256 → Spec.Row 1152) (g : Spec.Row 1152) (w : Fin 1152 → Spec.Row 1536) (s : Spec.Row 1536) (p : Fin 2 → BitVec 32)
  (o q : Nat) (ho : o + 128 ≤ 256) (hq : q + 256 ≤ 1536)
  (s0 : Vec Ideal S128 .f32) (y0 xs : Vec Ideal S128x128 .f32) (s1 : Vec Ideal S128 .f32) (y1 : Vec Ideal S128x128 .f32) (cs sn : Vec Ideal S1x128x128 .f32)
  (hs0 : ∀ l : Fin 128, s0 (ix1 l) = s ⟨q + l, by omega⟩) (hs1 : ∀ l : Fin 128, s1 (ix1 l) = s ⟨q + 128 + l, by omega⟩)
  (hy0 : ∀ i l : Fin 128, y0 (ix2 i l) = Spec.prod x g w ⟨o + i, by omega⟩ ⟨q + l, by omega⟩)
  (hy1 : ∀ i l : Fin 128, y1 (ix2 i l) = Spec.prod x g w ⟨o + i, by omega⟩ ⟨q + 128 + l, by omega⟩)
  (hxs : ∀ i l : Fin 128, xs (ix2 i l) = Spec.xs x g ⟨o + i, by omega⟩)
  (hcs : ∀ i l : Fin 128, cs (ix3 0 i l) = Spec.cosRow p ⟨o + i, by omega⟩ l)
  (hsn : ∀ i l : Fin 128, sn (ix3 0 i l) = Spec.sinRow p ⟨o + i, by omega⟩ l)
  (i l : Fin 128) : k0_pay214 (k0_pay212 cs s1 y1 xs) (k0_pay213 sn s0 y0 xs) (ix3 0 i l) = rot x g w s p q hq ⟨o + i, by omega⟩ ⟨128 + l, by omega⟩ :=
  (qHi s0 y0 xs s1 y1 cs sn i l).trans (hi_eq x g w s p o q ho hq s0 y0 xs s1 y1 cs sn hs0 hs1 hy0 hy1 hxs hcs hsn i l)

variable (c : Dev nD) (a0 : Vec Ideal S256x1152 .bf16) (a1 : Vec Ideal S1152 .f32) (a2 : Vec Ideal S1152x1536 .fp8e4m3) (a3 : Vec Ideal S1536 .f32) (a4 : Vec Ideal S2 .i32)
  (f0 : Vec Ideal S256x1152 .bf16) (f1 : Vec Ideal S1152 .f32) (f2 : Vec Ideal S1152x1536 .fp8e4m3) (f3 : Vec Ideal S1536 .f32) (f4 : Vec Ideal S2 .i32)

/-- The rotated queries: sequence `b`, then 128 rows of each of the four heads. -/
def qAt (b : Fin 2) (j : Fin 512) (n : Fin 256) : EReal :=
  Spec.query (xRows a0) (gRow1 a1) (wRows a2) (sRow a3) (pPos a4) ⟨j.val / 128, by omega⟩ ⟨128 * b.val + j.val % 128, by omega⟩ n
/-- The array of rotated queries. -/
def qA : Vec Ideal S2x512x256 .bf16 := fun y => qAt a0 a1 a2 a3 a4 (y 0) (y 1) (y 2)

theorem q_at (b : Fin 2) (h : Nat) (hh : h < 4) (i : Fin 128) (n n' : Fin 256) (e : n.val = n'.val) (hq : 256 * h + 256 ≤ 1536) (h0 : 128 * b.val + i < 256) (h1 : 128 * h + i < 512) :
    rot (xRows a0) (gRow1 a1) (wRows a2) (sRow a3) (pPos a4) (256 * h) hq ⟨128 * b.val + i, h0⟩ n = qAt a0 a1 a2 a3 a4 b ⟨128 * h + i, h1⟩ n' := by
  have e1 : (⟨h, hh⟩ : Fin 4) = ⟨(128 * h + i.val) / 128, by omega⟩ := Fin.ext (show h = (128 * h + i.val) / 128 by omega)
  have e2 : (⟨128 * b.val + i, h0⟩ : Fin 256) = ⟨128 * b.val + (128 * h + i.val) % 128, by omega⟩ := Fin.ext (show 128 * b.val + i.val = 128 * b.val + (128 * h + i.val) % 128 by omega)
  obtain rfl : n = n' := Fin.ext e
  have E : qAt a0 a1 a2 a3 a4 b ⟨128 * h + i, h1⟩ n = Spec.query (xRows a0) (gRow1 a1) (wRows a2) (sRow a3) (pPos a4) ⟨(128 * h + i.val) / 128, by omega⟩ ⟨128 * b.val + (128 * h + i.val) % 128, by omega⟩ n := by
    unfold qAt; rfl
  rw [E, ← e1, ← e2]
  unfold rot Spec.query
  rfl

theorem q00lo (x : S1x128x128.Idx) : k0_pay211 (sM11.view.readCov (run.sl.S11_2 (F := Ideal) c a4 f4) (Rect.unit (s := S2x128x128) ![0, 0, 0] S1x128x128.size inb_S2x128x128_S1x128x128_0_0_0).toLoadRect) (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![0] S128.size inb_S1536_S128_0).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 0] S128x128.size inb_S256x1536_S128x128_0_0).toLoadRect) (sM13.view.readCov (run.sl.S13_8 (F := Ideal) c a0 a1 f0 f1) (Rect.unit (s := S256x128) ![0, 0] S128x128.size inb_S256x128_S128x128_0_0).toLoadRect) (View.readAt (Elt Ideal) sM3.view (Rect.unit (s := S1536) ![128] S128.size inb_S1536_S128_128).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 128] S128x128.size inb_S256x1536_S128x128_0_128).toLoadRect) (sM13.view.readCov (run.sl.S13_8 (F := Ideal) c a0 a1 f0 f1) (Rect.unit (s := S256x128) ![0, 0] S128x128.size inb_S256x128_S128x128_0_0).toLoadRect) x = qA a0 a1 a2 a3 a4 ((Rect.unit (s := S2x512x256) ![0, 0, 0] S1x128x128.size inb_S2x512x256_S1x128x128_0_0_0).emb x) :=
  at_slab 0 0 0 inb_S2x512x256_S1x128x128_0_0_0 (by omega) (by omega) (by omega) _ (qAt a0 a1 a2 a3 a4) (fun i l =>
    (queryLo (xRows a0) (gRow1 a1) (wRows a2) (sRow a3) (pPos a4) 0 0 (by omega) (by omega) _ _ _ _ _ _ _
      (s_land c a3 f3 0 (by omega) inb_S1536_S128_0) (s_land c a3 f3 128 (by omega) inb_S1536_S128_128)
      (prod_read2 c a0 a1 a2 f0 f1 f2 0 0 (by omega) (by omega) inb_S256x1536_S128x128_0_0)
      (prod_read2 c a0 a1 a2 f0 f1 f2 0 128 (by omega) (by omega) inb_S256x1536_S128x128_0_128)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 0 (by omega) i _ _ (Nat.zero_add _).symm (by omega) (by omega) (by omega))) x

theorem q00hi (x : S1x128x128.Idx) : k0_pay214 (k0_pay212 (sM11.view.readCov (run.sl.S11_2 (F := Ideal) c a4 f4) (Rect.unit (s := S2x128x128) ![0, 0, 0] S1x128x128.size inb_S2x128x128_S1x128x128_0_0_0).toLoadRect) (View.readAt (Elt Ideal) sM3.view (Rect.unit (s := S1536) ![128] S128.size inb_S1536_S128_128).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 128] S128x128.size inb_S256x1536_S128x128_0_128).toLoadRect) (sM13.view.readCov (run.sl.S13_8 (F := Ideal) c a0 a1 f0 f1) (Rect.unit (s := S256x128) ![0, 0] S128x128.size inb_S256x128_S128x128_0_0).toLoadRect)) (k0_pay213 (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![0] S128.size inb_S1536_S128_0).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 0] S128x128.size inb_S256x1536_S128x128_0_0).toLoadRect) (sM13.view.readCov (run.sl.S13_8 (F := Ideal) c a0 a1 f0 f1) (Rect.unit (s := S256x128) ![0, 0] S128x128.size inb_S256x128_S128x128_0_0).toLoadRect)) x = qA a0 a1 a2 a3 a4 ((Rect.unit (s := S2x512x256) ![0, 0, 128] S1x128x128.size inb_S2x512x256_S1x128x128_0_0_128).emb x) :=
  at_slab 0 0 128 inb_S2x512x256_S1x128x128_0_0_128 (by omega) (by omega) (by omega) _ (qAt a0 a1 a2 a3 a4) (fun i l =>
    (queryHi (xRows a0) (gRow1 a1) (wRows a2) (sRow a3) (pPos a4) 0 0 (by omega) (by omega) _ _ _ _ _ _ _
      (s_land c a3 f3 0 (by omega) inb_S1536_S128_0) (s_land c a3 f3 128 (by omega) inb_S1536_S128_128)
      (prod_read2 c a0 a1 a2 f0 f1 f2 0 0 (by omega) (by omega) inb_S256x1536_S128x128_0_0)
      (prod_read2 c a0 a1 a2 f0 f1 f2 0 128 (by omega) (by omega) inb_S256x1536_S128x128_0_128)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 0 (by omega) i _ _ rfl (by omega) (by omega) (by omega))) x

theorem q01lo (x : S1x128x128.Idx) : k0_pay211 (sM11.view.readCov (run.sl.S11_2 (F := Ideal) c a4 f4) (Rect.unit (s := S2x128x128) ![0, 0, 0] S1x128x128.size inb_S2x128x128_S1x128x128_0_0_0).toLoadRect) (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![256] S128.size inb_S1536_S128_256).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 256] S128x128.size inb_S256x1536_S128x128_0_256).toLoadRect) (sM13.view.readCov (run.sl.S13_8 (F := Ideal) c a0 a1 f0 f1) (Rect.unit (s := S256x128) ![0, 0] S128x128.size inb_S256x128_S128x128_0_0).toLoadRect) (View.readAt (Elt Ideal) sM3.view (Rect.unit (s := S1536) ![384] S128.size inb_S1536_S128_384).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 384] S128x128.size inb_S256x1536_S128x128_0_384).toLoadRect) (sM13.view.readCov (run.sl.S13_8 (F := Ideal) c a0 a1 f0 f1) (Rect.unit (s := S256x128) ![0, 0] S128x128.size inb_S256x128_S128x128_0_0).toLoadRect) x = qA a0 a1 a2 a3 a4 ((Rect.unit (s := S2x512x256) ![0, 128, 0] S1x128x128.size inb_S2x512x256_S1x128x128_0_128_0).emb x) :=
  at_slab 0 128 0 inb_S2x512x256_S1x128x128_0_128_0 (by omega) (by omega) (by omega) _ (qAt a0 a1 a2 a3 a4) (fun i l =>
    (queryLo (xRows a0) (gRow1 a1) (wRows a2) (sRow a3) (pPos a4) 0 256 (by omega) (by omega) _ _ _ _ _ _ _
      (s_land c a3 f3 256 (by omega) inb_S1536_S128_256) (s_land c a3 f3 384 (by omega) inb_S1536_S128_384)
      (prod_read2 c a0 a1 a2 f0 f1 f2 0 256 (by omega) (by omega) inb_S256x1536_S128x128_0_256)
      (prod_read2 c a0 a1 a2 f0 f1 f2 0 384 (by omega) (by omega) inb_S256x1536_S128x128_0_384)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 1 (by omega) i _ _ (Nat.zero_add _).symm (by omega) (by omega) (by omega))) x

theorem q01hi (x : S1x128x128.Idx) : k0_pay214 (k0_pay212 (sM11.view.readCov (run.sl.S11_2 (F := Ideal) c a4 f4) (Rect.unit (s := S2x128x128) ![0, 0, 0] S1x128x128.size inb_S2x128x128_S1x128x128_0_0_0).toLoadRect) (View.readAt (Elt Ideal) sM3.view (Rect.unit (s := S1536) ![384] S128.size inb_S1536_S128_384).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 384] S128x128.size inb_S256x1536_S128x128_0_384).toLoadRect) (sM13.view.readCov (run.sl.S13_8 (F := Ideal) c a0 a1 f0 f1) (Rect.unit (s := S256x128) ![0, 0] S128x128.size inb_S256x128_S128x128_0_0).toLoadRect)) (k0_pay213 (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![256] S128.size inb_S1536_S128_256).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 256] S128x128.size inb_S256x1536_S128x128_0_256).toLoadRect) (sM13.view.readCov (run.sl.S13_8 (F := Ideal) c a0 a1 f0 f1) (Rect.unit (s := S256x128) ![0, 0] S128x128.size inb_S256x128_S128x128_0_0).toLoadRect)) x = qA a0 a1 a2 a3 a4 ((Rect.unit (s := S2x512x256) ![0, 128, 128] S1x128x128.size inb_S2x512x256_S1x128x128_0_128_128).emb x) :=
  at_slab 0 128 128 inb_S2x512x256_S1x128x128_0_128_128 (by omega) (by omega) (by omega) _ (qAt a0 a1 a2 a3 a4) (fun i l =>
    (queryHi (xRows a0) (gRow1 a1) (wRows a2) (sRow a3) (pPos a4) 0 256 (by omega) (by omega) _ _ _ _ _ _ _
      (s_land c a3 f3 256 (by omega) inb_S1536_S128_256) (s_land c a3 f3 384 (by omega) inb_S1536_S128_384)
      (prod_read2 c a0 a1 a2 f0 f1 f2 0 256 (by omega) (by omega) inb_S256x1536_S128x128_0_256)
      (prod_read2 c a0 a1 a2 f0 f1 f2 0 384 (by omega) (by omega) inb_S256x1536_S128x128_0_384)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 1 (by omega) i _ _ rfl (by omega) (by omega) (by omega))) x

theorem q02lo (x : S1x128x128.Idx) : k0_pay211 (sM11.view.readCov (run.sl.S11_2 (F := Ideal) c a4 f4) (Rect.unit (s := S2x128x128) ![0, 0, 0] S1x128x128.size inb_S2x128x128_S1x128x128_0_0_0).toLoadRect) (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![512] S128.size inb_S1536_S128_512).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 512] S128x128.size inb_S256x1536_S128x128_0_512).toLoadRect) (sM13.view.readCov (run.sl.S13_8 (F := Ideal) c a0 a1 f0 f1) (Rect.unit (s := S256x128) ![0, 0] S128x128.size inb_S256x128_S128x128_0_0).toLoadRect) (View.readAt (Elt Ideal) sM3.view (Rect.unit (s := S1536) ![640] S128.size inb_S1536_S128_640).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 640] S128x128.size inb_S256x1536_S128x128_0_640).toLoadRect) (sM13.view.readCov (run.sl.S13_8 (F := Ideal) c a0 a1 f0 f1) (Rect.unit (s := S256x128) ![0, 0] S128x128.size inb_S256x128_S128x128_0_0).toLoadRect) x = qA a0 a1 a2 a3 a4 ((Rect.unit (s := S2x512x256) ![0, 256, 0] S1x128x128.size inb_S2x512x256_S1x128x128_0_256_0).emb x) :=
  at_slab 0 256 0 inb_S2x512x256_S1x128x128_0_256_0 (by omega) (by omega) (by omega) _ (qAt a0 a1 a2 a3 a4) (fun i l =>
    (queryLo (xRows a0) (gRow1 a1) (wRows a2) (sRow a3) (pPos a4) 0 512 (by omega) (by omega) _ _ _ _ _ _ _
      (s_land c a3 f3 512 (by omega) inb_S1536_S128_512) (s_land c a3 f3 640 (by omega) inb_S1536_S128_640)
      (prod_read2 c a0 a1 a2 f0 f1 f2 0 512 (by omega) (by omega) inb_S256x1536_S128x128_0_512)
      (prod_read2 c a0 a1 a2 f0 f1 f2 0 640 (by omega) (by omega) inb_S256x1536_S128x128_0_640)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 2 (by omega) i _ _ (Nat.zero_add _).symm (by omega) (by omega) (by omega))) x

theorem q02hi (x : S1x128x128.Idx) : k0_pay214 (k0_pay212 (sM11.view.readCov (run.sl.S11_2 (F := Ideal) c a4 f4) (Rect.unit (s := S2x128x128) ![0, 0, 0] S1x128x128.size inb_S2x128x128_S1x128x128_0_0_0).toLoadRect) (View.readAt (Elt Ideal) sM3.view (Rect.unit (s := S1536) ![640] S128.size inb_S1536_S128_640).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 640] S128x128.size inb_S256x1536_S128x128_0_640).toLoadRect) (sM13.view.readCov (run.sl.S13_8 (F := Ideal) c a0 a1 f0 f1) (Rect.unit (s := S256x128) ![0, 0] S128x128.size inb_S256x128_S128x128_0_0).toLoadRect)) (k0_pay213 (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![512] S128.size inb_S1536_S128_512).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 512] S128x128.size inb_S256x1536_S128x128_0_512).toLoadRect) (sM13.view.readCov (run.sl.S13_8 (F := Ideal) c a0 a1 f0 f1) (Rect.unit (s := S256x128) ![0, 0] S128x128.size inb_S256x128_S128x128_0_0).toLoadRect)) x = qA a0 a1 a2 a3 a4 ((Rect.unit (s := S2x512x256) ![0, 256, 128] S1x128x128.size inb_S2x512x256_S1x128x128_0_256_128).emb x) :=
  at_slab 0 256 128 inb_S2x512x256_S1x128x128_0_256_128 (by omega) (by omega) (by omega) _ (qAt a0 a1 a2 a3 a4) (fun i l =>
    (queryHi (xRows a0) (gRow1 a1) (wRows a2) (sRow a3) (pPos a4) 0 512 (by omega) (by omega) _ _ _ _ _ _ _
      (s_land c a3 f3 512 (by omega) inb_S1536_S128_512) (s_land c a3 f3 640 (by omega) inb_S1536_S128_640)
      (prod_read2 c a0 a1 a2 f0 f1 f2 0 512 (by omega) (by omega) inb_S256x1536_S128x128_0_512)
      (prod_read2 c a0 a1 a2 f0 f1 f2 0 640 (by omega) (by omega) inb_S256x1536_S128x128_0_640)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 2 (by omega) i _ _ rfl (by omega) (by omega) (by omega))) x

theorem q03lo (x : S1x128x128.Idx) : k0_pay211 (sM11.view.readCov (run.sl.S11_2 (F := Ideal) c a4 f4) (Rect.unit (s := S2x128x128) ![0, 0, 0] S1x128x128.size inb_S2x128x128_S1x128x128_0_0_0).toLoadRect) (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![768] S128.size inb_S1536_S128_768).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 768] S128x128.size inb_S256x1536_S128x128_0_768).toLoadRect) (sM13.view.readCov (run.sl.S13_8 (F := Ideal) c a0 a1 f0 f1) (Rect.unit (s := S256x128) ![0, 0] S128x128.size inb_S256x128_S128x128_0_0).toLoadRect) (View.readAt (Elt Ideal) sM3.view (Rect.unit (s := S1536) ![896] S128.size inb_S1536_S128_896).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 896] S128x128.size inb_S256x1536_S128x128_0_896).toLoadRect) (sM13.view.readCov (run.sl.S13_8 (F := Ideal) c a0 a1 f0 f1) (Rect.unit (s := S256x128) ![0, 0] S128x128.size inb_S256x128_S128x128_0_0).toLoadRect) x = qA a0 a1 a2 a3 a4 ((Rect.unit (s := S2x512x256) ![0, 384, 0] S1x128x128.size inb_S2x512x256_S1x128x128_0_384_0).emb x) :=
  at_slab 0 384 0 inb_S2x512x256_S1x128x128_0_384_0 (by omega) (by omega) (by omega) _ (qAt a0 a1 a2 a3 a4) (fun i l =>
    (queryLo (xRows a0) (gRow1 a1) (wRows a2) (sRow a3) (pPos a4) 0 768 (by omega) (by omega) _ _ _ _ _ _ _
      (s_land c a3 f3 768 (by omega) inb_S1536_S128_768) (s_land c a3 f3 896 (by omega) inb_S1536_S128_896)
      (prod_read2 c a0 a1 a2 f0 f1 f2 0 768 (by omega) (by omega) inb_S256x1536_S128x128_0_768)
      (prod_read2 c a0 a1 a2 f0 f1 f2 0 896 (by omega) (by omega) inb_S256x1536_S128x128_0_896)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 3 (by omega) i _ _ (Nat.zero_add _).symm (by omega) (by omega) (by omega))) x

theorem q03hi (x : S1x128x128.Idx) : k0_pay214 (k0_pay212 (sM11.view.readCov (run.sl.S11_2 (F := Ideal) c a4 f4) (Rect.unit (s := S2x128x128) ![0, 0, 0] S1x128x128.size inb_S2x128x128_S1x128x128_0_0_0).toLoadRect) (View.readAt (Elt Ideal) sM3.view (Rect.unit (s := S1536) ![896] S128.size inb_S1536_S128_896).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 896] S128x128.size inb_S256x1536_S128x128_0_896).toLoadRect) (sM13.view.readCov (run.sl.S13_8 (F := Ideal) c a0 a1 f0 f1) (Rect.unit (s := S256x128) ![0, 0] S128x128.size inb_S256x128_S128x128_0_0).toLoadRect)) (k0_pay213 (sM12.view.readCov (run.sl.S12_2 (F := Ideal) c a4 f4) (Rect.unit (s := S2x128x128) ![0, 0, 0] S1x128x128.size inb_S2x128x128_S1x128x128_0_0_0).toLoadRect) (View.readAt (Elt Ideal) sM3.view (Rect.unit (s := S1536) ![768] S128.size inb_S1536_S128_768).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![0, 768] S128x128.size inb_S256x1536_S128x128_0_768).toLoadRect) (sM13.view.readCov (run.sl.S13_8 (F := Ideal) c a0 a1 f0 f1) (Rect.unit (s := S256x128) ![0, 0] S128x128.size inb_S256x128_S128x128_0_0).toLoadRect)) x = qA a0 a1 a2 a3 a4 ((Rect.unit (s := S2x512x256) ![0, 384, 128] S1x128x128.size inb_S2x512x256_S1x128x128_0_384_128).emb x) :=
  at_slab 0 384 128 inb_S2x512x256_S1x128x128_0_384_128 (by omega) (by omega) (by omega) _ (qAt a0 a1 a2 a3 a4) (fun i l =>
    (queryHi (xRows a0) (gRow1 a1) (wRows a2) (sRow a3) (pPos a4) 0 768 (by omega) (by omega) _ _ _ _ _ _ _
      (s_land c a3 f3 768 (by omega) inb_S1536_S128_768) (s_land c a3 f3 896 (by omega) inb_S1536_S128_896)
      (prod_read2 c a0 a1 a2 f0 f1 f2 0 768 (by omega) (by omega) inb_S256x1536_S128x128_0_768)
      (prod_read2 c a0 a1 a2 f0 f1 f2 0 896 (by omega) (by omega) inb_S256x1536_S128x128_0_896)
      (xs_read c a0 a1 f0 f1 0 (by omega) inb_S256x128_S128x128_0_0)
      (cos_read c a4 f4 0 (by omega) inb_S2x128x128_S1x128x128_0_0_0) (sin_read c a4 f4 0 (by omega) inb_S2x128x128_S1x128x128_0_0_0) i l).trans
      (q_at a0 a1 a2 a3 a4 0 3 (by omega) i _ _ rfl (by omega) (by omega) (by omega))) x

theorem q10lo (x : S1x128x128.Idx) : k0_pay211 (sM11.view.readCov (run.sl.S11_2 (F := Ideal) c a4 f4) (Rect.unit (s := S2x128x128) ![1, 0, 0] S1x128x128.size inb_S2x128x128_S1x128x128_1_0_0).toLoadRect) (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![0] S128.size inb_S1536_S128_0).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 0] S128x128.size inb_S256x1536_S128x128_128_0).toLoadRect) (sM13.view.readCov (run.sl.S13_8 (F := Ideal) c a0 a1 f0 f1) (Rect.unit (s := S256x128) ![128, 0] S128x128.size inb_S256x128_S128x128_128_0).toLoadRect) (View.readAt (Elt Ideal) sM3.view (Rect.unit (s := S1536) ![128] S128.size inb_S1536_S128_128).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 128] S128x128.size inb_S256x1536_S128x128_128_128).toLoadRect) (sM13.view.readCov (run.sl.S13_8 (F := Ideal) c a0 a1 f0 f1) (Rect.unit (s := S256x128) ![128, 0] S128x128.size inb_S256x128_S128x128_128_0).toLoadRect) x = qA a0 a1 a2 a3 a4 ((Rect.unit (s := S2x512x256) ![1, 0, 0] S1x128x128.size inb_S2x512x256_S1x128x128_1_0_0).emb x) :=
  at_slab 1 0 0 inb_S2x512x256_S1x128x128_1_0_0 (by omega) (by omega) (by omega) _ (qAt a0 a1 a2 a3 a4) (fun i l =>
    (queryLo (xRows a0) (gRow1 a1) (wRows a2) (sRow a3) (pPos a4) 128 0 (by omega) (by omega) _ _ _ _ _ _ _
      (s_land c a3 f3 0 (by omega) inb_S1536_S128_0) (s_land c a3 f3 128 (by omega) inb_S1536_S128_128)
      (prod_read2 c a0 a1 a2 f0 f1 f2 128 0 (by omega) (by omega) inb_S256x1536_S128x128_128_0)
      (prod_read2 c a0 a1 a2 f0 f1 f2 128 128 (by omega) (by omega) inb_S256x1536_S128x128_128_128)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 0 (by omega) i _ _ (Nat.zero_add _).symm (by omega) (by omega) (by omega))) x

theorem q10hi (x : S1x128x128.Idx) : k0_pay214 (k0_pay212 (sM11.view.readCov (run.sl.S11_2 (F := Ideal) c a4 f4) (Rect.unit (s := S2x128x128) ![1, 0, 0] S1x128x128.size inb_S2x128x128_S1x128x128_1_0_0).toLoadRect) (View.readAt (Elt Ideal) sM3.view (Rect.unit (s := S1536) ![128] S128.size inb_S1536_S128_128).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 128] S128x128.size inb_S256x1536_S128x128_128_128).toLoadRect) (sM13.view.readCov (run.sl.S13_8 (F := Ideal) c a0 a1 f0 f1) (Rect.unit (s := S256x128) ![128, 0] S128x128.size inb_S256x128_S128x128_128_0).toLoadRect)) (k0_pay213 (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![0] S128.size inb_S1536_S128_0).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 0] S128x128.size inb_S256x1536_S128x128_128_0).toLoadRect) (sM13.view.readCov (run.sl.S13_8 (F := Ideal) c a0 a1 f0 f1) (Rect.unit (s := S256x128) ![128, 0] S128x128.size inb_S256x128_S128x128_128_0).toLoadRect)) x = qA a0 a1 a2 a3 a4 ((Rect.unit (s := S2x512x256) ![1, 0, 128] S1x128x128.size inb_S2x512x256_S1x128x128_1_0_128).emb x) :=
  at_slab 1 0 128 inb_S2x512x256_S1x128x128_1_0_128 (by omega) (by omega) (by omega) _ (qAt a0 a1 a2 a3 a4) (fun i l =>
    (queryHi (xRows a0) (gRow1 a1) (wRows a2) (sRow a3) (pPos a4) 128 0 (by omega) (by omega) _ _ _ _ _ _ _
      (s_land c a3 f3 0 (by omega) inb_S1536_S128_0) (s_land c a3 f3 128 (by omega) inb_S1536_S128_128)
      (prod_read2 c a0 a1 a2 f0 f1 f2 128 0 (by omega) (by omega) inb_S256x1536_S128x128_128_0)
      (prod_read2 c a0 a1 a2 f0 f1 f2 128 128 (by omega) (by omega) inb_S256x1536_S128x128_128_128)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 0 (by omega) i _ _ rfl (by omega) (by omega) (by omega))) x

theorem q11lo (x : S1x128x128.Idx) : k0_pay211 (sM11.view.readCov (run.sl.S11_2 (F := Ideal) c a4 f4) (Rect.unit (s := S2x128x128) ![1, 0, 0] S1x128x128.size inb_S2x128x128_S1x128x128_1_0_0).toLoadRect) (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![256] S128.size inb_S1536_S128_256).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 256] S128x128.size inb_S256x1536_S128x128_128_256).toLoadRect) (sM13.view.readCov (run.sl.S13_8 (F := Ideal) c a0 a1 f0 f1) (Rect.unit (s := S256x128) ![128, 0] S128x128.size inb_S256x128_S128x128_128_0).toLoadRect) (View.readAt (Elt Ideal) sM3.view (Rect.unit (s := S1536) ![384] S128.size inb_S1536_S128_384).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 384] S128x128.size inb_S256x1536_S128x128_128_384).toLoadRect) (sM13.view.readCov (run.sl.S13_8 (F := Ideal) c a0 a1 f0 f1) (Rect.unit (s := S256x128) ![128, 0] S128x128.size inb_S256x128_S128x128_128_0).toLoadRect) x = qA a0 a1 a2 a3 a4 ((Rect.unit (s := S2x512x256) ![1, 128, 0] S1x128x128.size inb_S2x512x256_S1x128x128_1_128_0).emb x) :=
  at_slab 1 128 0 inb_S2x512x256_S1x128x128_1_128_0 (by omega) (by omega) (by omega) _ (qAt a0 a1 a2 a3 a4) (fun i l =>
    (queryLo (xRows a0) (gRow1 a1) (wRows a2) (sRow a3) (pPos a4) 128 256 (by omega) (by omega) _ _ _ _ _ _ _
      (s_land c a3 f3 256 (by omega) inb_S1536_S128_256) (s_land c a3 f3 384 (by omega) inb_S1536_S128_384)
      (prod_read2 c a0 a1 a2 f0 f1 f2 128 256 (by omega) (by omega) inb_S256x1536_S128x128_128_256)
      (prod_read2 c a0 a1 a2 f0 f1 f2 128 384 (by omega) (by omega) inb_S256x1536_S128x128_128_384)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 1 (by omega) i _ _ (Nat.zero_add _).symm (by omega) (by omega) (by omega))) x

theorem q11hi (x : S1x128x128.Idx) : k0_pay214 (k0_pay212 (sM11.view.readCov (run.sl.S11_2 (F := Ideal) c a4 f4) (Rect.unit (s := S2x128x128) ![1, 0, 0] S1x128x128.size inb_S2x128x128_S1x128x128_1_0_0).toLoadRect) (View.readAt (Elt Ideal) sM3.view (Rect.unit (s := S1536) ![384] S128.size inb_S1536_S128_384).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 384] S128x128.size inb_S256x1536_S128x128_128_384).toLoadRect) (sM13.view.readCov (run.sl.S13_8 (F := Ideal) c a0 a1 f0 f1) (Rect.unit (s := S256x128) ![128, 0] S128x128.size inb_S256x128_S128x128_128_0).toLoadRect)) (k0_pay213 (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![256] S128.size inb_S1536_S128_256).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 256] S128x128.size inb_S256x1536_S128x128_128_256).toLoadRect) (sM13.view.readCov (run.sl.S13_8 (F := Ideal) c a0 a1 f0 f1) (Rect.unit (s := S256x128) ![128, 0] S128x128.size inb_S256x128_S128x128_128_0).toLoadRect)) x = qA a0 a1 a2 a3 a4 ((Rect.unit (s := S2x512x256) ![1, 128, 128] S1x128x128.size inb_S2x512x256_S1x128x128_1_128_128).emb x) :=
  at_slab 1 128 128 inb_S2x512x256_S1x128x128_1_128_128 (by omega) (by omega) (by omega) _ (qAt a0 a1 a2 a3 a4) (fun i l =>
    (queryHi (xRows a0) (gRow1 a1) (wRows a2) (sRow a3) (pPos a4) 128 256 (by omega) (by omega) _ _ _ _ _ _ _
      (s_land c a3 f3 256 (by omega) inb_S1536_S128_256) (s_land c a3 f3 384 (by omega) inb_S1536_S128_384)
      (prod_read2 c a0 a1 a2 f0 f1 f2 128 256 (by omega) (by omega) inb_S256x1536_S128x128_128_256)
      (prod_read2 c a0 a1 a2 f0 f1 f2 128 384 (by omega) (by omega) inb_S256x1536_S128x128_128_384)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 1 (by omega) i _ _ rfl (by omega) (by omega) (by omega))) x

theorem q12lo (x : S1x128x128.Idx) : k0_pay211 (sM11.view.readCov (run.sl.S11_2 (F := Ideal) c a4 f4) (Rect.unit (s := S2x128x128) ![1, 0, 0] S1x128x128.size inb_S2x128x128_S1x128x128_1_0_0).toLoadRect) (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![512] S128.size inb_S1536_S128_512).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 512] S128x128.size inb_S256x1536_S128x128_128_512).toLoadRect) (sM13.view.readCov (run.sl.S13_8 (F := Ideal) c a0 a1 f0 f1) (Rect.unit (s := S256x128) ![128, 0] S128x128.size inb_S256x128_S128x128_128_0).toLoadRect) (View.readAt (Elt Ideal) sM3.view (Rect.unit (s := S1536) ![640] S128.size inb_S1536_S128_640).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 640] S128x128.size inb_S256x1536_S128x128_128_640).toLoadRect) (sM13.view.readCov (run.sl.S13_8 (F := Ideal) c a0 a1 f0 f1) (Rect.unit (s := S256x128) ![128, 0] S128x128.size inb_S256x128_S128x128_128_0).toLoadRect) x = qA a0 a1 a2 a3 a4 ((Rect.unit (s := S2x512x256) ![1, 256, 0] S1x128x128.size inb_S2x512x256_S1x128x128_1_256_0).emb x) :=
  at_slab 1 256 0 inb_S2x512x256_S1x128x128_1_256_0 (by omega) (by omega) (by omega) _ (qAt a0 a1 a2 a3 a4) (fun i l =>
    (queryLo (xRows a0) (gRow1 a1) (wRows a2) (sRow a3) (pPos a4) 128 512 (by omega) (by omega) _ _ _ _ _ _ _
      (s_land c a3 f3 512 (by omega) inb_S1536_S128_512) (s_land c a3 f3 640 (by omega) inb_S1536_S128_640)
      (prod_read2 c a0 a1 a2 f0 f1 f2 128 512 (by omega) (by omega) inb_S256x1536_S128x128_128_512)
      (prod_read2 c a0 a1 a2 f0 f1 f2 128 640 (by omega) (by omega) inb_S256x1536_S128x128_128_640)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 2 (by omega) i _ _ (Nat.zero_add _).symm (by omega) (by omega) (by omega))) x

theorem q12hi (x : S1x128x128.Idx) : k0_pay214 (k0_pay212 (sM11.view.readCov (run.sl.S11_2 (F := Ideal) c a4 f4) (Rect.unit (s := S2x128x128) ![1, 0, 0] S1x128x128.size inb_S2x128x128_S1x128x128_1_0_0).toLoadRect) (View.readAt (Elt Ideal) sM3.view (Rect.unit (s := S1536) ![640] S128.size inb_S1536_S128_640).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 640] S128x128.size inb_S256x1536_S128x128_128_640).toLoadRect) (sM13.view.readCov (run.sl.S13_8 (F := Ideal) c a0 a1 f0 f1) (Rect.unit (s := S256x128) ![128, 0] S128x128.size inb_S256x128_S128x128_128_0).toLoadRect)) (k0_pay213 (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![512] S128.size inb_S1536_S128_512).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 512] S128x128.size inb_S256x1536_S128x128_128_512).toLoadRect) (sM13.view.readCov (run.sl.S13_8 (F := Ideal) c a0 a1 f0 f1) (Rect.unit (s := S256x128) ![128, 0] S128x128.size inb_S256x128_S128x128_128_0).toLoadRect)) x = qA a0 a1 a2 a3 a4 ((Rect.unit (s := S2x512x256) ![1, 256, 128] S1x128x128.size inb_S2x512x256_S1x128x128_1_256_128).emb x) :=
  at_slab 1 256 128 inb_S2x512x256_S1x128x128_1_256_128 (by omega) (by omega) (by omega) _ (qAt a0 a1 a2 a3 a4) (fun i l =>
    (queryHi (xRows a0) (gRow1 a1) (wRows a2) (sRow a3) (pPos a4) 128 512 (by omega) (by omega) _ _ _ _ _ _ _
      (s_land c a3 f3 512 (by omega) inb_S1536_S128_512) (s_land c a3 f3 640 (by omega) inb_S1536_S128_640)
      (prod_read2 c a0 a1 a2 f0 f1 f2 128 512 (by omega) (by omega) inb_S256x1536_S128x128_128_512)
      (prod_read2 c a0 a1 a2 f0 f1 f2 128 640 (by omega) (by omega) inb_S256x1536_S128x128_128_640)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 2 (by omega) i _ _ rfl (by omega) (by omega) (by omega))) x

theorem q13lo (x : S1x128x128.Idx) : k0_pay211 (sM11.view.readCov (run.sl.S11_2 (F := Ideal) c a4 f4) (Rect.unit (s := S2x128x128) ![1, 0, 0] S1x128x128.size inb_S2x128x128_S1x128x128_1_0_0).toLoadRect) (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![768] S128.size inb_S1536_S128_768).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 768] S128x128.size inb_S256x1536_S128x128_128_768).toLoadRect) (sM13.view.readCov (run.sl.S13_8 (F := Ideal) c a0 a1 f0 f1) (Rect.unit (s := S256x128) ![128, 0] S128x128.size inb_S256x128_S128x128_128_0).toLoadRect) (View.readAt (Elt Ideal) sM3.view (Rect.unit (s := S1536) ![896] S128.size inb_S1536_S128_896).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 896] S128x128.size inb_S256x1536_S128x128_128_896).toLoadRect) (sM13.view.readCov (run.sl.S13_8 (F := Ideal) c a0 a1 f0 f1) (Rect.unit (s := S256x128) ![128, 0] S128x128.size inb_S256x128_S128x128_128_0).toLoadRect) x = qA a0 a1 a2 a3 a4 ((Rect.unit (s := S2x512x256) ![1, 384, 0] S1x128x128.size inb_S2x512x256_S1x128x128_1_384_0).emb x) :=
  at_slab 1 384 0 inb_S2x512x256_S1x128x128_1_384_0 (by omega) (by omega) (by omega) _ (qAt a0 a1 a2 a3 a4) (fun i l =>
    (queryLo (xRows a0) (gRow1 a1) (wRows a2) (sRow a3) (pPos a4) 128 768 (by omega) (by omega) _ _ _ _ _ _ _
      (s_land c a3 f3 768 (by omega) inb_S1536_S128_768) (s_land c a3 f3 896 (by omega) inb_S1536_S128_896)
      (prod_read2 c a0 a1 a2 f0 f1 f2 128 768 (by omega) (by omega) inb_S256x1536_S128x128_128_768)
      (prod_read2 c a0 a1 a2 f0 f1 f2 128 896 (by omega) (by omega) inb_S256x1536_S128x128_128_896)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 3 (by omega) i _ _ (Nat.zero_add _).symm (by omega) (by omega) (by omega))) x

theorem q13hi (x : S1x128x128.Idx) : k0_pay214 (k0_pay212 (sM11.view.readCov (run.sl.S11_2 (F := Ideal) c a4 f4) (Rect.unit (s := S2x128x128) ![1, 0, 0] S1x128x128.size inb_S2x128x128_S1x128x128_1_0_0).toLoadRect) (View.readAt (Elt Ideal) sM3.view (Rect.unit (s := S1536) ![896] S128.size inb_S1536_S128_896).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 896] S128x128.size inb_S256x1536_S128x128_128_896).toLoadRect) (sM13.view.readCov (run.sl.S13_8 (F := Ideal) c a0 a1 f0 f1) (Rect.unit (s := S256x128) ![128, 0] S128x128.size inb_S256x128_S128x128_128_0).toLoadRect)) (k0_pay213 (sM12.view.readCov (run.sl.S12_2 (F := Ideal) c a4 f4) (Rect.unit (s := S2x128x128) ![1, 0, 0] S1x128x128.size inb_S2x128x128_S1x128x128_1_0_0).toLoadRect) (View.readAt (Elt Ideal) sM3.view (Rect.unit (s := S1536) ![768] S128.size inb_S1536_S128_768).toLoadRect (View.write (Elt Ideal) sM3.view f3 (run.sl.dma0_3 (F := Ideal) c a3) Finset.univ)) (sM14.view.readCov (run.sl.S14_2 (F := Ideal) c a0 a1 a2 f0 f1 f2) (Rect.unit (s := S256x1536) ![128, 768] S128x128.size inb_S256x1536_S128x128_128_768).toLoadRect) (sM13.view.readCov (run.sl.S13_8 (F := Ideal) c a0 a1 f0 f1) (Rect.unit (s := S256x128) ![128, 0] S128x128.size inb_S256x128_S128x128_128_0).toLoadRect)) x = qA a0 a1 a2 a3 a4 ((Rect.unit (s := S2x512x256) ![1, 384, 128] S1x128x128.size inb_S2x512x256_S1x128x128_1_384_128).emb x) :=
  at_slab 1 384 128 inb_S2x512x256_S1x128x128_1_384_128 (by omega) (by omega) (by omega) _ (qAt a0 a1 a2 a3 a4) (fun i l =>
    (queryHi (xRows a0) (gRow1 a1) (wRows a2) (sRow a3) (pPos a4) 128 768 (by omega) (by omega) _ _ _ _ _ _ _
      (s_land c a3 f3 768 (by omega) inb_S1536_S128_768) (s_land c a3 f3 896 (by omega) inb_S1536_S128_896)
      (prod_read2 c a0 a1 a2 f0 f1 f2 128 768 (by omega) (by omega) inb_S256x1536_S128x128_128_768)
      (prod_read2 c a0 a1 a2 f0 f1 f2 128 896 (by omega) (by omega) inb_S256x1536_S128x128_128_896)
      (xs_read c a0 a1 f0 f1 128 (by omega) inb_S256x128_S128x128_128_0)
      (cos_read c a4 f4 1 (by omega) inb_S2x128x128_S1x128x128_1_0_0) (sin_read c a4 f4 1 (by omega) inb_S2x128x128_S1x128x128_1_0_0) i l).trans
      (q_at a0 a1 a2 a3 a4 1 3 (by omega) i _ _ rfl (by omega) (by omega) (by omega))) x

theorem q_pieces : ∀ p ∈ run.sl.S15_16 (F := Ideal) c a0 a1 a2 a3 a4 f0 f1 f2 f3 f4, ∀ y, p.2 y = qA a0 a1 a2 a3 a4 (p.1.emb y) :=
  List.forall_mem_cons.2 ⟨q13hi c a0 a1 a2 a3 a4 f0 f1 f2 f3 f4, List.forall_mem_cons.2 ⟨q13lo c a0 a1 a2 a3 a4 f0 f1 f2 f3 f4,
  List.forall_mem_cons.2 ⟨q12hi c a0 a1 a2 a3 a4 f0 f1 f2 f3 f4, List.forall_mem_cons.2 ⟨q12lo c a0 a1 a2 a3 a4 f0 f1 f2 f3 f4,
  List.forall_mem_cons.2 ⟨q11hi c a0 a1 a2 a3 a4 f0 f1 f2 f3 f4, List.forall_mem_cons.2 ⟨q11lo c a0 a1 a2 a3 a4 f0 f1 f2 f3 f4,
  List.forall_mem_cons.2 ⟨q10hi c a0 a1 a2 a3 a4 f0 f1 f2 f3 f4, List.forall_mem_cons.2 ⟨q10lo c a0 a1 a2 a3 a4 f0 f1 f2 f3 f4,
  List.forall_mem_cons.2 ⟨q03hi c a0 a1 a2 a3 a4 f0 f1 f2 f3 f4, List.forall_mem_cons.2 ⟨q03lo c a0 a1 a2 a3 a4 f0 f1 f2 f3 f4,
  List.forall_mem_cons.2 ⟨q02hi c a0 a1 a2 a3 a4 f0 f1 f2 f3 f4, List.forall_mem_cons.2 ⟨q02lo c a0 a1 a2 a3 a4 f0 f1 f2 f3 f4,
  List.forall_mem_cons.2 ⟨q01hi c a0 a1 a2 a3 a4 f0 f1 f2 f3 f4, List.forall_mem_cons.2 ⟨q01lo c a0 a1 a2 a3 a4 f0 f1 f2 f3 f4,
  List.forall_mem_cons.2 ⟨q00hi c a0 a1 a2 a3 a4 f0 f1 f2 f3 f4, List.forall_mem_cons.2 ⟨q00lo c a0 a1 a2 a3 a4 f0 f1 f2 f3 f4,
    fun _ h => absurd h List.not_mem_nil⟩⟩⟩⟩⟩⟩⟩⟩⟩⟩⟩⟩⟩⟩⟩⟩

/-- The buffer of the queries holds the array of rotated queries. -/
theorem q_canon : View.canon (run.sl.S15_16 (F := Ideal) c a0 a1 a2 a3 a4 f0 f1 f2 f3 f4) = qA a0 a1 a2 a3 a4 :=
  funext fun y => View.canon_apply_of_pieces _ _ (q_pieces c a0 a1 a2 a3 a4 f0 f1 f2 f3 f4) y
    (View.cover_of_tiledL (s := S2x512x256) _ S1x128x128.size (by sl_kernel_rfl) y)

end Cert.Val
-- ==== Proof.KernVal.lean ====
module
public import proofs.«01_k».proof.Proof.FrameV
public import proofs.«01_k».proof.Proof.KvArr
public import proofs.«01_k».proof.Proof.Qry

/-! # What the kernel leaves in its seven result arrays -/

@[expose] public section
set_option maxRecDepth 16384
noncomputable section
open Idealize.ShloMosaic Idealize.ShloMosaic.TcCoe Idealize.SL.Sem
open Cert.KernelIdeal Cert.KernelIdeal.Gen Cert.KernelIdeal.Hand
namespace Cert.Val

section Run
variable (c : Dev nD) (a0 : Vec Ideal S256x1152 .bf16) (a1 : Vec Ideal S1152 .f32) (a2 : Vec Ideal S1152x1536 .fp8e4m3) (a3 : Vec Ideal S1536 .f32) (a4 : Vec Ideal S2 .i32)
  (r0 : Vec Ideal S256x1152 .fp8e4m3) (r1 : Vec Ideal S2x128 .f32) (r2 : Vec Ideal S256x256 .fp8e4m3) (r3 : Vec Ideal S2x1x128 .f32) (r4 : Vec Ideal S256x256 .fp8e4m3) (r5 : Vec Ideal S2x1x128 .f32) (r6 : Vec Ideal S2x512x256 .bf16)
  (f0 : Vec Ideal S256x1152 .bf16) (f1 : Vec Ideal S1152 .f32) (f2 : Vec Ideal S1152x1536 .fp8e4m3) (f3 : Vec Ideal S1536 .f32) (f4 : Vec Ideal S2 .i32)
  (f5 : Buf (Elt Ideal) ((sM5).view.loc (c : Thread nD τ))) (f6 : Buf (Elt Ideal) ((sM6).view.loc (c : Thread nD τ))) (f7 : Buf (Elt Ideal) ((sM7).view.loc (c : Thread nD τ))) (f8 : Buf (Elt Ideal) ((sM8).view.loc (c : Thread nD τ))) (f9 : Buf (Elt Ideal) ((sM9).view.loc (c : Thread nD τ))) (f10 : Buf (Elt Ideal) ((sM10).view.loc (c : Thread nD τ))) (f11 : Buf (Elt Ideal) ((sM11).view.loc (c : Thread nD τ))) (f12 : Buf (Elt Ideal) ((sM12).view.loc (c : Thread nD τ))) (f13 : Buf (Elt Ideal) ((sM13).view.loc (c : Thread nD τ))) (f14 : Buf (Elt Ideal) ((sM14).view.loc (c : Thread nD τ))) (f15 : Buf (Elt Ideal) ((sM15).view.loc (c : Thread nD τ)))

theorem run_0 : (run (F := Ideal) c a0 a1 a2 a3 a4 r0 r1 r2 r3 r4 r5 r6 f0 f1 f2 f3 f4 f5 f6 f7 f8 f9 f10 f11 f12 f13 f14 f15).1.1 = xcA (xRows a0) (gRow1 a1) :=
  (View.write_whole_univ main_v1_0 r0 _).trans ((View.read_writes_eq_canon sM5.view f5 (run.sl.S5_72 (F := Ideal) c a0 a1 f0 f1)
    (View.cover_of_tiledL (s := S256x1152) _ S32x128.size (by sl_kernel_rfl))).trans (codes_canon c a0 a1 f0 f1))

theorem run_1 : (run (F := Ideal) c a0 a1 a2 a3 a4 r0 r1 r2 r3 r4 r5 r6 f0 f1 f2 f3 f4 f5 f6 f7 f8 f9 f10 f11 f12 f13 f14 f15).1.2.1 = xsRow (xRows a0) (gRow1 a1) :=
  (View.write_whole_univ main_v1_1 r1 _).trans ((View.read_writes_eq_canon sM6.view f6 (run.sl.S6_2 (F := Ideal) c a0 a1 a2 a3 a4 f0 f1 f2 f3 f4)
    (View.cover_of_tiledL (s := S2x128) _ S1x128.size (by sl_kernel_rfl))).trans (x_stat_canon c a0 a1 a2 a3 a4 f0 f1 f2 f3 f4))

theorem run_2 : (run (F := Ideal) c a0 a1 a2 a3 a4 r0 r1 r2 r3 r4 r5 r6 f0 f1 f2 f3 f4 f5 f6 f7 f8 f9 f10 f11 f12 f13 f14 f15).1.2.2.1 = kA a0 a1 a2 a3 a4 :=
  (View.write_whole_univ main_v1_2 r2 _).trans ((View.read_writes_eq_canon sM7.view f7 (run.sl.S7_4 (F := Ideal) c a0 a1 a2 a3 a4 f0 f1 f2 f3 f4)
    (View.cover_of_tiledL (s := S256x256) _ S128x128.size (by sl_kernel_rfl))).trans (k_canon c a0 a1 a2 a3 a4 f0 f1 f2 f3 f4))

theorem run_3 : (run (F := Ideal) c a0 a1 a2 a3 a4 r0 r1 r2 r3 r4 r5 r6 f0 f1 f2 f3 f4 f5 f6 f7 f8 f9 f10 f11 f12 f13 f14 f15).1.2.2.2.1 = scaleA (Spec.key (xRows a0) (gRow1 a1) (wRows a2) (sRow a3) (pPos a4)) :=
  (View.write_whole_univ main_v1_3 r3 _).trans ((View.read_writes_eq_canon sM8.view f8 (run.sl.S8_2 (F := Ideal) c a0 a1 a2 a3 a4 f0 f1 f2 f3 f4)
    (View.cover_of_tiledL (s := S2x1x128) _ S1x1x128.size (by sl_kernel_rfl))).trans (k_stat_canon c a0 a1 a2 a3 a4 f0 f1 f2 f3 f4))

theorem run_4 : (run (F := Ideal) c a0 a1 a2 a3 a4 r0 r1 r2 r3 r4 r5 r6 f0 f1 f2 f3 f4 f5 f6 f7 f8 f9 f10 f11 f12 f13 f14 f15).1.2.2.2.2.1 = vA a0 a1 a2 a3 :=
  (View.write_whole_univ main_v1_4 r4 _).trans ((View.read_writes_eq_canon sM9.view f9 (run.sl.S9_4 (F := Ideal) c a0 a1 a2 a3 f0 f1 f2 f3)
    (View.cover_of_tiledL (s := S256x256) _ S128x128.size (by sl_kernel_rfl))).trans (v_canon c a0 a1 a2 a3 f0 f1 f2 f3))

theorem run_5 : (run (F := Ideal) c a0 a1 a2 a3 a4 r0 r1 r2 r3 r4 r5 r6 f0 f1 f2 f3 f4 f5 f6 f7 f8 f9 f10 f11 f12 f13 f14 f15).1.2.2.2.2.2.1 = scaleA (Spec.val (xRows a0) (gRow1 a1) (wRows a2) (sRow a3)) :=
  (View.write_whole_univ main_v1_5 r5 _).trans ((View.read_writes_eq_canon sM10.view f10 (run.sl.S10_2 (F := Ideal) c a0 a1 a2 a3 a4 f0 f1 f2 f3 f4)
    (View.cover_of_tiledL (s := S2x1x128) _ S1x1x128.size (by sl_kernel_rfl))).trans (v_stat_canon c a0 a1 a2 a3 a4 f0 f1 f2 f3 f4))

theorem run_6 : (run (F := Ideal) c a0 a1 a2 a3 a4 r0 r1 r2 r3 r4 r5 r6 f0 f1 f2 f3 f4 f5 f6 f7 f8 f9 f10 f11 f12 f13 f14 f15).1.2.2.2.2.2.2 = qA a0 a1 a2 a3 a4 :=
  (View.write_whole_univ main_v1_6 r6 _).trans ((View.read_writes_eq_canon sM15.view f15 (run.sl.S15_16 (F := Ideal) c a0 a1 a2 a3 a4 f0 f1 f2 f3 f4)
    (View.cover_of_tiledL (s := S2x512x256) _ S1x128x128.size (by sl_kernel_rfl))).trans (q_canon c a0 a1 a2 a3 a4 f0 f1 f2 f3 f4))

/-- The body's run leaves the seven specified arrays. -/
theorem run_val : (run (F := Ideal) c a0 a1 a2 a3 a4 r0 r1 r2 r3 r4 r5 r6 f0 f1 f2 f3 f4 f5 f6 f7 f8 f9 f10 f11 f12 f13 f14 f15).1
    = (xcA (xRows a0) (gRow1 a1), xsRow (xRows a0) (gRow1 a1), kA a0 a1 a2 a3 a4, scaleA (Spec.key (xRows a0) (gRow1 a1) (wRows a2) (sRow a3) (pPos a4)), vA a0 a1 a2 a3, scaleA (Spec.val (xRows a0) (gRow1 a1) (wRows a2) (sRow a3)), qA a0 a1 a2 a3 a4) :=
  Prod.ext (run_0 c a0 a1 a2 a3 a4 r0 r1 r2 r3 r4 r5 r6 f0 f1 f2 f3 f4 f5 f6 f7 f8 f9 f10 f11 f12 f13 f14 f15) (Prod.ext (run_1 c a0 a1 a2 a3 a4 r0 r1 r2 r3 r4 r5 r6 f0 f1 f2 f3 f4 f5 f6 f7 f8 f9 f10 f11 f12 f13 f14 f15) (Prod.ext (run_2 c a0 a1 a2 a3 a4 r0 r1 r2 r3 r4 r5 r6 f0 f1 f2 f3 f4 f5 f6 f7 f8 f9 f10 f11 f12 f13 f14 f15) (Prod.ext (run_3 c a0 a1 a2 a3 a4 r0 r1 r2 r3 r4 r5 r6 f0 f1 f2 f3 f4 f5 f6 f7 f8 f9 f10 f11 f12 f13 f14 f15) (Prod.ext (run_4 c a0 a1 a2 a3 a4 r0 r1 r2 r3 r4 r5 r6 f0 f1 f2 f3 f4 f5 f6 f7 f8 f9 f10 f11 f12 f13 f14 f15) (Prod.ext (run_5 c a0 a1 a2 a3 a4 r0 r1 r2 r3 r4 r5 r6 f0 f1 f2 f3 f4 f5 f6 f7 f8 f9 f10 f11 f12 f13 f14 f15) (run_6 c a0 a1 a2 a3 a4 r0 r1 r2 r3 r4 r5 r6 f0 f1 f2 f3 f4 f5 f6 f7 f8 f9 f10 f11 f12 f13 f14 f15))))))

end Run

section Launch
variable (m : (ℓ : Loc nD τ sig) → Buf (Elt Ideal) ℓ) (ρ : Dev nD → PrngReg)

/-- The contents of the result arrays. -/
def Gk (c : Dev nD) : (b : Ref sig .tc) → Buf (Elt Ideal) ((c.tc : Thread nD τ).loc b) :=
  Function.update (Function.update (Function.update (Function.update (Function.update (Function.update (Function.update (V m c) main_v1_0 (xcA (xRows (V m c main_v0)) (gRow1 (V m c main_arg1)))) main_v1_1 (xsRow (xRows (V m c main_v0)) (gRow1 (V m c main_arg1)))) main_v1_2 (kA (V m c main_v0) (V m c main_arg1) (V m c main_arg2) (V m c main_arg3) (V m c main_arg4))) main_v1_3 (scaleA (Spec.key (xRows (V m c main_v0)) (gRow1 (V m c main_arg1)) (wRows (V m c main_arg2)) (sRow (V m c main_arg3)) (pPos (V m c main_arg4))))) main_v1_4 (vA (V m c main_v0) (V m c main_arg1) (V m c main_arg2) (V m c main_arg3))) main_v1_5 (scaleA (Spec.val (xRows (V m c main_v0)) (gRow1 (V m c main_arg1)) (wRows (V m c main_arg2)) (sRow (V m c main_arg3))))) main_v1_6 (qA (V m c main_v0) (V m c main_arg1) (V m c main_arg2) (V m c main_arg3) (V m c main_arg4))

theorem Gk_0 (c : Dev nD) : Gk m c main_v1_0 = xcA (xRows (V m c main_v0)) (gRow1 (V m c main_arg1)) :=
  (Function.update_of_ne (by decide) _ _).trans <| (Function.update_of_ne (by decide) _ _).trans <| (Function.update_of_ne (by decide) _ _).trans <| (Function.update_of_ne (by decide) _ _).trans <| (Function.update_of_ne (by decide) _ _).trans <| (Function.update_of_ne (by decide) _ _).trans <| Function.update_self _ _ _

theorem Gk_1 (c : Dev nD) : Gk m c main_v1_1 = xsRow (xRows (V m c main_v0)) (gRow1 (V m c main_arg1)) :=
  (Function.update_of_ne (by decide) _ _).trans <| (Function.update_of_ne (by decide) _ _).trans <| (Function.update_of_ne (by decide) _ _).trans <| (Function.update_of_ne (by decide) _ _).trans <| (Function.update_of_ne (by decide) _ _).trans <| Function.update_self _ _ _

theorem Gk_2 (c : Dev nD) : Gk m c main_v1_2 = kA (V m c main_v0) (V m c main_arg1) (V m c main_arg2) (V m c main_arg3) (V m c main_arg4) :=
  (Function.update_of_ne (by decide) _ _).trans <| (Function.update_of_ne (by decide) _ _).trans <| (Function.update_of_ne (by decide) _ _).trans <| (Function.update_of_ne (by decide) _ _).trans <| Function.update_self _ _ _

theorem Gk_3 (c : Dev nD) : Gk m c main_v1_3 = scaleA (Spec.key (xRows (V m c main_v0)) (gRow1 (V m c main_arg1)) (wRows (V m c main_arg2)) (sRow (V m c main_arg3)) (pPos (V m c main_arg4))) :=
  (Function.update_of_ne (by decide) _ _).trans <| (Function.update_of_ne (by decide) _ _).trans <| (Function.update_of_ne (by decide) _ _).trans <| Function.update_self _ _ _

theorem Gk_4 (c : Dev nD) : Gk m c main_v1_4 = vA (V m c main_v0) (V m c main_arg1) (V m c main_arg2) (V m c main_arg3) :=
  (Function.update_of_ne (by decide) _ _).trans <| (Function.update_of_ne (by decide) _ _).trans <| Function.update_self _ _ _

theorem Gk_5 (c : Dev nD) : Gk m c main_v1_5 = scaleA (Spec.val (xRows (V m c main_v0)) (gRow1 (V m c main_arg1)) (wRows (V m c main_arg2)) (sRow (V m c main_arg3))) :=
  (Function.update_of_ne (by decide) _ _).trans <| Function.update_self _ _ _

theorem Gk_6 (c : Dev nD) : Gk m c main_v1_6 = qA (V m c main_v0) (V m c main_arg1) (V m c main_arg2) (V m c main_arg3) (V m c main_arg4) :=
  Function.update_self _ _ _

theorem hG (c : Dev nD) r0 r1 r2 r3 r4 r5 r6 f0 f1 f2 f3 f4 f5 f6 f7 f8 f9 f10 f11 f12 f13 f14 f15 :
    (run (F := Ideal) c (V m c main_v0) (V m c main_arg1) (V m c main_arg2) (V m c main_arg3) (V m c main_arg4) r0 r1 r2 r3 r4 r5 r6 f0 f1 f2 f3 f4 f5 f6 f7 f8 f9 f10 f11 f12 f13 f14 f15).1
      = (Gk m c main_v1_0, Gk m c main_v1_1, Gk m c main_v1_2, Gk m c main_v1_3, Gk m c main_v1_4, Gk m c main_v1_5, Gk m c main_v1_6) := by
  rw [Gk_0, Gk_1, Gk_2, Gk_3, Gk_4, Gk_5, Gk_6]
  exact run_val c (V m c main_v0) (V m c main_arg1) (V m c main_arg2) (V m c main_arg3) (V m c main_arg4) r0 r1 r2 r3 r4 r5 r6 f0 f1 f2 f3 f4 f5 f6 f7 f8 f9 f10 f11 f12 f13 f14 f15

end Launch
end Cert.Val
-- ==== Proof.RefPay.lean ====
module
public import proofs.«01_k».proof.Proof.Gen.ReferenceIdeal.Frame
public import proofs.«01_k».proof.Proof.Spec

/-! # The reference's values, row by row -/

@[expose] public section
set_option maxRecDepth 16384
noncomputable section
open Idealize.ShloMosaic Idealize.ShloMosaic.TcCoe Idealize.SL.Sem
open Cert.ReferenceIdeal Cert.ReferenceIdeal.Gen
namespace Cert.Ref

/-- The normalised row. -/
theorem norm_at (v0 : Vec Ideal S256x1152 .bf16) (v13 : Vec Ideal S1x1152 .f32) (r : Fin 256) (k : Fin 1152) :
    k0_pay4 v0 v13 (ix2 r k) = Spec.normRow (fun k => v0 (ix2 r k)) (fun k => v13 (ix2 0 k)) k := by
  unfold Spec.normRow
  pointwise [k0_pay4]

theorem norm_eq (v0 : Vec Ideal S256x1152 .bf16) (v13 : Vec Ideal S1x1152 .f32) (r : Fin 256) :
    Spec.normRow (fun k => v0 (ix2 r k)) (fun k => v13 (ix2 0 k)) = fun k => k0_pay4 v0 v13 (ix2 r k) :=
  funext fun k => (norm_at v0 v13 r k).symm

/-- The exponent of a row's scale. -/
theorem expo_at (v0 : Vec Ideal S256x1152 .bf16) (v13 : Vec Ideal S1x1152 .f32) (r : Fin 256) :
    k0_pay5 v0 v13 (ix2 r 0) = Spec.expo (Spec.top (Spec.normRow (fun k => v0 (ix2 r k)) (fun k => v13 (ix2 0 k)))) := by
  rw [norm_eq]
  unfold Spec.expo Spec.top
  pointwise [k0_pay5]

/-- The scale of a row. -/
theorem xs_at (v35 : FVec Ideal S256x1 .f32) (a : EReal) (r : Fin 256) (h : v35 (ix2 r 0) = Spec.expo a) : k0_pay8 v35 (ix2 r 0) = Spec.scale a := by
  unfold Spec.scale
  pointwise [k0_pay8]
  rw [h]

/-- The codes of a row. -/
theorem xc_at (v0 : Vec Ideal S256x1152 .bf16) (v13 : Vec Ideal S1x1152 .f32) (r : Fin 256) (k : Fin 1152) :
    k0_pay7 (Scalar.ofBits (F := Ideal) .f32 0x43E00000#32) (k0_pay6 v0 v13) (ix2 r k) = Spec.codes (Spec.normRow (fun k => v0 (ix2 r k)) (fun k => v13 (ix2 0 k))) k := by
  unfold Spec.codes Spec.clip Spec.unscale
  rw [← expo_at, ← norm_at]
  pointwise [k0_pay7, k0_pay6]

/-- The projection. -/
theorem proj_at (v35 : FVec Ideal S256x1 .f32) (b : Ideal .f32) (v42 : FVec Ideal S256x1152 .f32) (w : Vec Ideal S1152x1536 .fp8e4m3) (s : Vec Ideal S1x1536 .f32) (r : Fin 256) (n : Fin 1536) :
    k0_pay9 v35 b v42 w s (ix2 r n) = (∑ k, k0_pay7 b v42 (ix2 r k) * w (ix2 k n)) * k0_pay8 v35 (ix2 r 0) * s (ix2 0 n) := by
  pointwise [k0_pay9]

section Rope
variable (y : FVec Ideal S256x1536 .f32) (c s : FVec Ideal S256x128 .f32)

/-- 256 columns from column `q` of row `r`, rotated. -/
def rotAt (q : Nat) (hq : q + 256 ≤ 1536) (r : Fin 256) : Spec.Row 256 :=
  Spec.rope (fun l => y (ix2 r ⟨q + l, by omega⟩)) (fun l => y (ix2 r ⟨q + (128 + l), by omega⟩)) (fun l => c (ix2 r l)) (fun l => s (ix2 r l))

theorem key_at (r n : Fin 256) : k0_pay21 y c s (ix2 r n) = rotAt y c s 1024 (by omega) r n := by
  unfold rotAt Spec.rope
  pointwise [k0_pay21]

theorem q2_at (r n : Fin 256) : k0_pay19 y c s (ix3 0 r n) = rotAt y c s 512 (by omega) r n := by
  unfold rotAt Spec.rope
  pointwise [k0_pay19]

theorem q3_at (r n : Fin 256) : k0_pay20 y c s (ix3 0 r n) = rotAt y c s 768 (by omega) r n := by
  unfold rotAt Spec.rope
  pointwise [k0_pay20]

theorem val_at (r n : Fin 256) : k0_pay26 y (ix2 r n) = y (ix2 r ⟨1280 + n, by omega⟩) := by
  pointwise [k0_pay26]
end Rope

section Q
variable (v35 : FVec Ideal S256x1 .f32) (b : Ideal .f32) (v42 : FVec Ideal S256x1152 .f32) (w : Vec Ideal S1152x1536 .fp8e4m3) (sc : Vec Ideal S1x1536 .f32) (c s : Vec Ideal S256x128 .f32)

theorem q0_at (r n : Fin 256) : k0_pay12 v35 b v42 w sc c s (ix3 0 r n) = rotAt (k0_pay9 v35 b v42 w sc) (k0_pay10 c) (k0_pay11 s) 0 (by omega) r n := by
  unfold rotAt Spec.rope
  pointwise [k0_pay12]

theorem q1_at (r n : Fin 256) : k0_pay18 (k0_pay16 v35 b v42 w sc c s) (k0_pay17 v35 b v42 w sc c s) (ix3 0 r n) = rotAt (k0_pay9 v35 b v42 w sc) (k0_pay10 c) (k0_pay11 s) 256 (by omega) r n := by
  unfold rotAt Spec.rope
  pointwise [k0_pay18, k0_pay16, k0_pay17, k0_pay14, k0_pay15, k0_pay13]

theorem tab_at (r : Fin 256) (l : Fin 128) : k0_pay10 c (ix2 r l) = c (ix2 r l) := by
  pointwise [k0_pay10]
theorem tab_at' (r : Fin 256) (l : Fin 128) : k0_pay11 c (ix2 r l) = c (ix2 r l) := by
  pointwise [k0_pay11]
end Q

section Quant
variable (y : FVec Ideal S256x1536 .f32) (c s : FVec Ideal S256x128 .f32)

theorem kexpo_at (v : FVec Ideal S256x1 .f32) (r : Fin 256) : k0_pay23 v (Scalar.ofBits (F := Ideal) .f32 0x3B124925#32) (ix2 r 0) = Spec.expo (v (ix2 r 0)) := by
  unfold Spec.expo
  pointwise [k0_pay23]

theorem ktop_at (r : Fin 256) : k0_pay22 y c s (ix2 r 0) = Spec.top (fun n => k0_pay21 y c s (ix2 r n)) := by
  unfold Spec.top
  pointwise [k0_pay22]

/-- The codes of the keys. -/
theorem kc_at (r n : Fin 256) : k0_pay24 (k0_pay21 y c s) (k0_pay22 y c s) (Scalar.ofBits (F := Ideal) .f32 0x3B124925#32) (ix2 r n)
    = Spec.codes (fun n => k0_pay21 y c s (ix2 r n)) n := by
  unfold Spec.codes Spec.clip Spec.unscale
  rw [← ktop_at, ← kexpo_at]
  pointwise [k0_pay24]

/-- The scales of the keys. -/
theorem ks_at (r : Fin 256) : k0_pay25 (k0_pay22 y c s) (Scalar.ofBits (F := Ideal) .f32 0x3B124925#32) (ix2 r 0)
    = Spec.scale (Spec.top (fun n => k0_pay21 y c s (ix2 r n))) := by
  unfold Spec.scale
  rw [← ktop_at, ← kexpo_at]
  pointwise [k0_pay25]

theorem vexpo_at (r : Fin 256) : k0_pay1 (k0_pay28 y) (k0_pay29 y) (Scalar.ofBits (F := Ideal) .f32 0x40000000#32) (ix2 r 0) = Spec.expo (Spec.top (fun n => k0_pay26 y (ix2 r n))) := by
  unfold Spec.expo Spec.top
  pointwise [k0_pay1, k0_pay28, k0_pay29, k0_pay27]

/-- The codes of the values. -/
theorem vc_at (r n : Fin 256) : k0_pay2 (k0_pay26 y) (k0_pay28 y) (k0_pay29 y) (Scalar.ofBits (F := Ideal) .f32 0x40000000#32) (ix2 r n)
    = Spec.codes (fun n => k0_pay26 y (ix2 r n)) n := by
  unfold Spec.codes Spec.clip Spec.unscale
  rw [← vexpo_at]
  pointwise [k0_pay2]

/-- The scales of the values. -/
theorem vs_at (r : Fin 256) : k0_pay3 (k0_pay28 y) (k0_pay29 y) (Scalar.ofBits (F := Ideal) .f32 0x40000000#32) (ix2 r 0)
    = Spec.scale (Spec.top (fun n => k0_pay26 y (ix2 r n))) := by
  unfold Spec.scale
  rw [← vexpo_at]
  pointwise [k0_pay3]
end Quant
end Cert.Ref
-- ==== Proof.RefRows.lean ====
module
public import proofs.«01_k».proof.Proof.RefPay
public import Idealize.ShloMosaic.Lib.Pipeline.ValueKit
public import Idealize.ShloMosaic.Lib.Claim

/-! # The reference's stored values, row by row

The payloads the reference's stores write, from the six operand blocks, read as the rows of `Spec`. -/

@[expose] public section
set_option maxRecDepth 16384
noncomputable section
open Idealize.ShloMosaic Idealize.ShloMosaic.TcCoe Idealize.SL.Sem
open Cert.ReferenceIdeal Cert.ReferenceIdeal.Gen
namespace Cert.Ref
variable (x0 : Vec Ideal S256x1152 .bf16) (x1 : Vec Ideal S1x1152 .f32) (x2 : Vec Ideal S1152x1536 .fp8e4m3) (x3 : Vec Ideal S1x1536 .f32)
  (x4 x5 : Vec Ideal S256x128 .f32)

theorem ld0 : View.ld x0 r0_0 = x0 := by funext j; idx_vars j; pointwise
theorem ld1 : View.ld x1 r0_1 = x1 := by funext j; idx_vars j; obtain rfl : j0 = 0 := Subsingleton.elim _ _; pointwise
theorem ld2 : View.ld x2 r0_3 = x2 := by funext j; idx_vars j; pointwise
theorem ld3 : View.ld x3 r0_4 = x3 := by funext j; idx_vars j; obtain rfl : j0 = 0 := Subsingleton.elim _ _; pointwise
theorem ld4 : View.ld x4 r0_5 = x4 := by funext j; idx_vars j; pointwise

/-- A store of one head's 256 rows agrees with the array that holds them at that head. -/
theorem head_at (n : Nat) (hn : n < 4) (h : ∀ d, (![n, 0, 0] : Fin 3 → Nat) d + S1x256x256.size d ≤ S4x256x256.size d) (v : S1x256x256.Idx → EReal) (G : Fin 4 → Fin 256 → Fin 256 → EReal)
    (hv : ∀ r l : Fin 256, v (ix3 0 r l) = G ⟨n, hn⟩ r l) (x : S1x256x256.Idx) :
    v x = (fun y : S4x256x256.Idx => G (y 0) (y 1) (y 2)) ((Rect.unit (s := S4x256x256) ![n, 0, 0] S1x256x256.size h).emb x) := by
  obtain ⟨z, r, l, rfl⟩ : ∃ (z : Fin 1) (r l : Fin 256), x = ix3 z r l := ⟨x 0, x 1, x 2, eq_ix3 x⟩
  obtain rfl : z = 0 := Subsingleton.elim _ _
  refine (hv r l).trans ?_
  have e0 : (⟨n, hn⟩ : Fin 4) = (Rect.unit (s := S4x256x256) ![n, 0, 0] S1x256x256.size h).emb (ix3 0 r l) 0 := Fin.ext (show n = n + 1 * 0 by omega)
  have e1 : r = (Rect.unit (s := S4x256x256) ![n, 0, 0] S1x256x256.size h).emb (ix3 0 r l) 1 := Fin.ext (show r.val = 0 + 1 * r.val by omega)
  have e2 : l = (Rect.unit (s := S4x256x256) ![n, 0, 0] S1x256x256.size h).emb (ix3 0 r l) 2 := Fin.ext (show l.val = 0 + 1 * l.val by omega)
  exact congr (congr (congrArg G e0) e1) e2

/-- Rows of the activations' block. -/
abbrev bX : Fin 256 → Spec.Row 1152 := fun r k => x0 (ix2 r k)
/-- The norm weights' block. -/
abbrev bG : Spec.Row 1152 := fun k => x1 (ix2 0 k)
/-- Rows of the projection weights' block. -/
abbrev bW : Fin 1152 → Spec.Row 1536 := fun k n => x2 (ix2 k n)
/-- The weight scales' block. -/
abbrev bS : Spec.Row 1536 := fun n => x3 (ix2 0 n)

/-- The rotated queries, one slab of rows per head. -/
def qHeads (x : Fin 256 → Spec.Row 1152) (g : Spec.Row 1152) (w : Fin 1152 → Spec.Row 1536) (s : Spec.Row 1536) (p : Fin 2 → BitVec 32) : Vec Ideal S4x256x256 .bf16 :=
  fun j => Spec.query x g w s p (j 0) (j 1) (j 2)

theorem expo_row (r : Fin 256) : k0_pay30 x0 x1 x2 x3 x4 x5 (ix2 r 0) = Spec.expo (Spec.top (Spec.normRow (bX x0 r) (bG x1))) := by
  unfold k0_pay30
  rw [ld0, ld1]
  exact expo_at x0 x1 r

/-- The stored codes of the normalised activations. -/
theorem xc_row (r : Fin 256) (k : Fin 1152) :
    k0_pay7 (Scalar.ofBits (F := Ideal) .f32 0x43E00000#32) (k0_pay31 x0 x1 x2 x3 x4 x5) (ix2 r k) = Spec.xc (bX x0) (bG x1) r k := by
  unfold k0_pay31 Spec.xc
  rw [ld0, ld1]
  exact xc_at x0 x1 r k

/-- Their scales. -/
theorem xs_row (r : Fin 256) : k0_pay8 (k0_pay30 x0 x1 x2 x3 x4 x5) (ix2 r 0) = Spec.xs (bX x0) (bG x1) r :=
  xs_at _ _ r (expo_row x0 x1 x2 x3 x4 x5 r)

/-- The projection. -/
theorem proj_row (r : Fin 256) (n : Fin 1536) : k0_pay32 x0 x1 x2 x3 x4 x5 (ix2 r n) = Spec.proj (bX x0) (bG x1) (bW x2) (bS x3) r n := by
  unfold k0_pay32 Spec.proj Spec.prod
  rw [ld2, ld3]
  refine (proj_at _ _ _ _ _ r n).trans ?_
  rw [xs_row]
  simp only [xc_row]

section Tab
variable (p : Fin 2 → BitVec 32) (hc : ∀ r k, x4 (ix2 r k) = Spec.cosRow p r k) (hs : ∀ r k, x5 (ix2 r k) = Spec.sinRow p r k)
include hc hs

theorem rot_row (q : Nat) (h0 : q + 256 ≤ 1536) (h1 : q + 128 ≤ 1536) (h2 : q + 128 + 128 ≤ 1536) (r n : Fin 256) :
    rotAt (k0_pay32 x0 x1 x2 x3 x4 x5) (k0_pay33 x0 x1 x2 x3 x4 x5) (k0_pay34 x0 x1 x2 x3 x4 x5) q h0 r n
      = Spec.rope (Spec.cols (bX x0) (bG x1) (bW x2) (bS x3) r q h1) (Spec.cols (bX x0) (bG x1) (bW x2) (bS x3) r (q + 128) h2) (Spec.cosRow p r) (Spec.sinRow p r) n := by
  have e1 : ∀ l, k0_pay33 x0 x1 x2 x3 x4 x5 (ix2 r l) = Spec.cosRow p r l := fun l => by
    unfold k0_pay33; rw [ld4]; exact (tab_at x4 r l).trans (hc r l)
  have e2 : ∀ l, k0_pay34 x0 x1 x2 x3 x4 x5 (ix2 r l) = Spec.sinRow p r l := fun l => by
    unfold k0_pay34; rw [ld4]; exact (tab_at' x5 r l).trans (hs r l)
  unfold rotAt
  simp only [proj_row, e1, e2]
  unfold Spec.cols
  simp only [Nat.add_assoc]

/-- The rotated keys. -/
theorem key_row (r n : Fin 256) : k0_pay21 (k0_pay32 x0 x1 x2 x3 x4 x5) (k0_pay33 x0 x1 x2 x3 x4 x5) (k0_pay34 x0 x1 x2 x3 x4 x5) (ix2 r n)
    = Spec.key (bX x0) (bG x1) (bW x2) (bS x3) p r n :=
  (key_at _ _ _ r n).trans (rot_row x0 x1 x2 x3 x4 x5 p hc hs 1024 (by omega) (by omega) (by omega) r n)

/-- The stored codes of the keys. -/
theorem kc_row (r n : Fin 256) : k0_pay24 (k0_pay21 (k0_pay32 x0 x1 x2 x3 x4 x5) (k0_pay33 x0 x1 x2 x3 x4 x5) (k0_pay34 x0 x1 x2 x3 x4 x5)) (k0_pay35 x0 x1 x2 x3 x4 x5)
      (Scalar.ofBits (F := Ideal) .f32 0x3B124925#32) (ix2 r n) = Spec.codes (Spec.key (bX x0) (bG x1) (bW x2) (bS x3) p r) n := by
  unfold k0_pay35
  rw [kc_at]
  simp only [key_row x0 x1 x2 x3 x4 x5 p hc hs]

/-- Their scales. -/
theorem ks_row (r : Fin 256) : k0_pay25 (k0_pay35 x0 x1 x2 x3 x4 x5) (Scalar.ofBits (F := Ideal) .f32 0x3B124925#32) (ix2 r 0)
    = Spec.scale (Spec.top (Spec.key (bX x0) (bG x1) (bW x2) (bS x3) p r)) := by
  unfold k0_pay35
  rw [ks_at]
  simp only [key_row x0 x1 x2 x3 x4 x5 p hc hs]

/-- The rotated queries of each head. -/
theorem q0_row (r n : Fin 256) : k0_pay12 (k0_pay30 x0 x1 x2 x3 x4 x5) (Scalar.ofBits (F := Ideal) .f32 0x43E00000#32) (k0_pay31 x0 x1 x2 x3 x4 x5) (View.ld x2 r0_3) (View.ld x3 r0_4) (View.ld x4 r0_5) (View.ld x5 r0_5) (ix3 0 r n)
    = Spec.query (bX x0) (bG x1) (bW x2) (bS x3) p 0 r n :=
  (q0_at _ _ _ _ _ _ _ r n).trans (rot_row x0 x1 x2 x3 x4 x5 p hc hs 0 (by omega) (by omega) (by omega) r n)
theorem q1_row (r n : Fin 256) : k0_pay18 (k0_pay16 (k0_pay30 x0 x1 x2 x3 x4 x5) (Scalar.ofBits (F := Ideal) .f32 0x43E00000#32) (k0_pay31 x0 x1 x2 x3 x4 x5) (View.ld x2 r0_3) (View.ld x3 r0_4) (View.ld x4 r0_5) (View.ld x5 r0_5))
      (k0_pay17 (k0_pay30 x0 x1 x2 x3 x4 x5) (Scalar.ofBits (F := Ideal) .f32 0x43E00000#32) (k0_pay31 x0 x1 x2 x3 x4 x5) (View.ld x2 r0_3) (View.ld x3 r0_4) (View.ld x4 r0_5) (View.ld x5 r0_5)) (ix3 0 r n)
    = Spec.query (bX x0) (bG x1) (bW x2) (bS x3) p 1 r n :=
  (q1_at _ _ _ _ _ _ _ r n).trans (rot_row x0 x1 x2 x3 x4 x5 p hc hs 256 (by omega) (by omega) (by omega) r n)
theorem q2_row (r n : Fin 256) : k0_pay19 (k0_pay32 x0 x1 x2 x3 x4 x5) (k0_pay33 x0 x1 x2 x3 x4 x5) (k0_pay34 x0 x1 x2 x3 x4 x5) (ix3 0 r n)
    = Spec.query (bX x0) (bG x1) (bW x2) (bS x3) p 2 r n :=
  (q2_at _ _ _ r n).trans (rot_row x0 x1 x2 x3 x4 x5 p hc hs 512 (by omega) (by omega) (by omega) r n)
theorem q3_row (r n : Fin 256) : k0_pay20 (k0_pay32 x0 x1 x2 x3 x4 x5) (k0_pay33 x0 x1 x2 x3 x4 x5) (k0_pay34 x0 x1 x2 x3 x4 x5) (ix3 0 r n)
    = Spec.query (bX x0) (bG x1) (bW x2) (bS x3) p 3 r n :=
  (q3_at _ _ _ r n).trans (rot_row x0 x1 x2 x3 x4 x5 p hc hs 768 (by omega) (by omega) (by omega) r n)

theorem q_pieces : ∀ pc ∈ ([⟨r0_9, k0_pay20 (k0_pay32 x0 x1 x2 x3 x4 x5) (k0_pay33 x0 x1 x2 x3 x4 x5) (k0_pay34 x0 x1 x2 x3 x4 x5)⟩,
    ⟨r0_8, k0_pay19 (k0_pay32 x0 x1 x2 x3 x4 x5) (k0_pay33 x0 x1 x2 x3 x4 x5) (k0_pay34 x0 x1 x2 x3 x4 x5)⟩,
    ⟨r0_7, k0_pay18 (k0_pay16 (k0_pay30 x0 x1 x2 x3 x4 x5) (Scalar.ofBits (F := Ideal) .f32 0x43E00000#32) (k0_pay31 x0 x1 x2 x3 x4 x5) (View.ld x2 r0_3) (View.ld x3 r0_4) (View.ld x4 r0_5) (View.ld x5 r0_5)) (k0_pay17 (k0_pay30 x0 x1 x2 x3 x4 x5) (Scalar.ofBits (F := Ideal) .f32 0x43E00000#32) (k0_pay31 x0 x1 x2 x3 x4 x5) (View.ld x2 r0_3) (View.ld x3 r0_4) (View.ld x4 r0_5) (View.ld x5 r0_5))⟩,
    ⟨r0_6, k0_pay12 (k0_pay30 x0 x1 x2 x3 x4 x5) (Scalar.ofBits (F := Ideal) .f32 0x43E00000#32) (k0_pay31 x0 x1 x2 x3 x4 x5) (View.ld x2 r0_3) (View.ld x3 r0_4) (View.ld x4 r0_5) (View.ld x5 r0_5)⟩] : List (View.Piece (Elt Ideal) S4x256x256 .bf16)),
    ∀ y, pc.2 y = qHeads (bX x0) (bG x1) (bW x2) (bS x3) p (pc.1.emb y) :=
  List.forall_mem_cons.2 ⟨head_at 3 (by omega) inb_S4x256x256_S1x256x256_3_0_0 _ _ (q3_row x0 x1 x2 x3 x4 x5 p hc hs),
  List.forall_mem_cons.2 ⟨head_at 2 (by omega) inb_S4x256x256_S1x256x256_2_0_0 _ _ (q2_row x0 x1 x2 x3 x4 x5 p hc hs),
  List.forall_mem_cons.2 ⟨head_at 1 (by omega) inb_S4x256x256_S1x256x256_1_0_0 _ _ (q1_row x0 x1 x2 x3 x4 x5 p hc hs),
  List.forall_mem_cons.2 ⟨head_at 0 (by omega) inb_S4x256x256_S1x256x256_0_0_0 _ _ (q0_row x0 x1 x2 x3 x4 x5 p hc hs),
    fun _ h => absurd h List.not_mem_nil⟩⟩⟩⟩

/-- The four stores of rotated queries make the array of queries. -/
theorem out_q : out0_12 x0 x1 x2 x3 x4 x5 = qHeads (bX x0) (bG x1) (bW x2) (bS x3) p :=
  funext fun y => by
    unfold out0_12
    exact View.canon_apply_of_pieces (Val := Elt Ideal) (S := S4x256x256) (e := .bf16) _ _ (q_pieces x0 x1 x2 x3 x4 x5 p hc hs) y
      (View.cover_of_tiledL (s := S4x256x256) _ S1x256x256.size (by sl_kernel_rfl) y)
end Tab

theorem v_row (r n : Fin 256) : k0_pay26 (k0_pay32 x0 x1 x2 x3 x4 x5) (ix2 r n) = Spec.val (bX x0) (bG x1) (bW x2) (bS x3) r n :=
  (val_at _ r n).trans (proj_row x0 x1 x2 x3 x4 x5 r _)

/-- The stored codes of the values. -/
theorem vc_row (r n : Fin 256) : k0_pay2 (k0_pay26 (k0_pay32 x0 x1 x2 x3 x4 x5)) (k0_pay36 x0 x1 x2 x3 x4 x5) (k0_pay37 x0 x1 x2 x3 x4 x5) (Scalar.ofBits (F := Ideal) .f32 0x40000000#32) (ix2 r n)
    = Spec.codes (Spec.val (bX x0) (bG x1) (bW x2) (bS x3) r) n := by
  unfold k0_pay36 k0_pay37
  rw [vc_at]
  simp only [v_row]

/-- Their scales. -/
theorem vs_row (r : Fin 256) : k0_pay3 (k0_pay36 x0 x1 x2 x3 x4 x5) (k0_pay37 x0 x1 x2 x3 x4 x5) (Scalar.ofBits (F := Ideal) .f32 0x40000000#32) (ix2 r 0)
    = Spec.scale (Spec.top (Spec.val (bX x0) (bG x1) (bW x2) (bS x3) r)) := by
  unfold k0_pay36 k0_pay37
  rw [vs_at]
  simp only [v_row]

end Cert.Ref
-- ==== Proof.RefVal.lean ====
module
public import proofs.«01_k».proof.Proof.RefRows

/-! # What the reference's arrays hold when its region ends

The operands the region finds (computed from the arguments), and its seven result arrays, as rows of `Spec`. -/

@[expose] public section
set_option maxRecDepth 16384
noncomputable section
open Idealize.ShloMosaic Idealize.ShloMosaic.TcCoe Idealize.SL.Sem
open Cert.ReferenceIdeal Cert.ReferenceIdeal.Gen
namespace Cert.Ref
variable (m : (ℓ : Loc nD τ sig) → Buf (Elt Ideal) ℓ) (c : Dev nD)

/-- The activations as launched, one row per sequence and position. -/
def aX : Fin 256 → Spec.Row 1152 := fun r k =>
  (show Vec Ideal S2x128x1152 .bf16 from m ((c.tc : Thread nD τ).loc main_arg0)) (ix3 ⟨r / 128, by omega⟩ ⟨r % 128, by omega⟩ k)
/-- The norm weights as launched. -/
def aG : Spec.Row 1152 := fun k => (show Vec Ideal S1152 .f32 from m ((c.tc : Thread nD τ).loc main_arg1)) (ix1 k)
/-- The projection weights as launched. -/
def aW : Fin 1152 → Spec.Row 1536 := fun k n => (show Vec Ideal S1152x1536 .fp8e4m3 from m ((c.tc : Thread nD τ).loc main_arg2)) (ix2 k n)
/-- Their scales as launched. -/
def aS : Spec.Row 1536 := fun n => (show Vec Ideal S1536 .f32 from m ((c.tc : Thread nD τ).loc main_arg3)) (ix1 n)
/-- The start positions as launched. -/
def aP : Fin 2 → BitVec 32 := fun b => (show Vec Ideal S2 .i32 from m ((c.tc : Thread nD τ).loc main_arg4)) (ix1 b)

set_option maxHeartbeats 1600000 in
theorem v20_at (r : Fin 256) (k : Fin 1152) : (show Vec Ideal S256x1152 .bf16 from V m c main_v20) (ix2 r k) = aX m c r k := by
  unfold V V0 aX
  simp only [hostOps0, List.flatten_cons, List.flatten_nil, List.append_nil]
  after_results
  pointwise

set_option maxHeartbeats 1600000 in
theorem v21_at (k : Fin 1152) : (show Vec Ideal S1x1152 .f32 from V m c main_v21) (ix2 0 k) = aG m c k := by
  unfold V V0 aG
  simp only [hostOps0, List.flatten_cons, List.flatten_nil, List.append_nil]
  after_results
  pointwise

set_option maxHeartbeats 1600000 in
theorem v22_at (n : Fin 1536) : (show Vec Ideal S1x1536 .f32 from V m c main_v22) (ix2 0 n) = aS m c n := by
  unfold V V0 aS
  simp only [hostOps0, List.flatten_cons, List.flatten_nil, List.append_nil]
  after_results
  pointwise

set_option maxHeartbeats 1600000 in
theorem v24_at (r : Fin 256) (k : Fin 128) : (show Vec Ideal S256x128 .f32 from V m c main_v24) (ix2 r k) = Spec.cosRow (aP m c) r k := by
  unfold V V0 Spec.cosRow Spec.angle Spec.freq aP
  simp only [hostOps0, List.flatten_cons, List.flatten_nil, List.append_nil]
  after_results
  pointwise
  rw [zero_sub]

set_option maxHeartbeats 1600000 in
theorem v26_at (r : Fin 256) (k : Fin 128) : (show Vec Ideal S256x128 .f32 from V m c main_v26) (ix2 r k) = Spec.sinRow (aP m c) r k := by
  unfold V V0 Spec.sinRow Spec.angle Spec.freq aP
  simp only [hostOps0, List.flatten_cons, List.flatten_nil, List.append_nil]
  after_results
  pointwise
  rw [zero_sub]

theorem idx0 : ∀ t : Fin cfg0.N, win0_0.index t = fun _ => 0 := (by decide +kernel : ∀ t : Fin grid0.N, _)
theorem blk0 (r : Fin 256) (k : Fin 1152) : (show Vec Ideal S256x1152 .bf16 from iblk m c 0 t0_0) (ix2 r k) = (show Vec Ideal S256x1152 .bf16 from V m c main_v20) (ix2 r k) := by
  blk_simp [iblk, idx0]
  blk_ext
  all_goals simp [idx0]

theorem idx1 : ∀ t : Fin cfg0.N, win0_1.index t = fun _ => 0 := (by decide +kernel : ∀ t : Fin grid0.N, _)
theorem blk1 (k : Fin 1152) : (show Vec Ideal S1x1152 .f32 from iblk m c 1 t0_0) (ix2 0 k) = (show Vec Ideal S1x1152 .f32 from V m c main_v21) (ix2 0 k) := by
  blk_simp [iblk, idx1]
  blk_ext
  all_goals simp [idx1]

theorem idx2 : ∀ t : Fin cfg0.N, win0_2.index t = fun _ => 0 := (by decide +kernel : ∀ t : Fin grid0.N, _)
theorem blk2 (k : Fin 1152) (n : Fin 1536) : (show Vec Ideal S1152x1536 .fp8e4m3 from iblk m c 2 t0_0) (ix2 k n) = (show Vec Ideal S1152x1536 .fp8e4m3 from V m c main_arg2) (ix2 k n) := by
  blk_simp [iblk, idx2]
  blk_ext
  all_goals simp [idx2]

theorem idx3 : ∀ t : Fin cfg0.N, win0_3.index t = fun _ => 0 := (by decide +kernel : ∀ t : Fin grid0.N, _)
theorem blk3 (n : Fin 1536) : (show Vec Ideal S1x1536 .f32 from iblk m c 3 t0_0) (ix2 0 n) = (show Vec Ideal S1x1536 .f32 from V m c main_v22) (ix2 0 n) := by
  blk_simp [iblk, idx3]
  blk_ext
  all_goals simp [idx3]

theorem idx4 : ∀ t : Fin cfg0.N, win0_4.index t = fun _ => 0 := (by decide +kernel : ∀ t : Fin grid0.N, _)
theorem blk4 (r : Fin 256) (k : Fin 128) : (show Vec Ideal S256x128 .f32 from iblk m c 4 t0_0) (ix2 r k) = (show Vec Ideal S256x128 .f32 from V m c main_v24) (ix2 r k) := by
  blk_simp [iblk, idx4]
  blk_ext
  all_goals simp [idx4]

theorem idx5 : ∀ t : Fin cfg0.N, win0_5.index t = fun _ => 0 := (by decide +kernel : ∀ t : Fin grid0.N, _)
theorem blk5 (r : Fin 256) (k : Fin 128) : (show Vec Ideal S256x128 .f32 from iblk m c 5 t0_0) (ix2 r k) = (show Vec Ideal S256x128 .f32 from V m c main_v26) (ix2 r k) := by
  blk_simp [iblk, idx5]
  blk_ext
  all_goals simp [idx5]

/-- The block the region reads for each operand holds the operand's rows. -/
theorem bX_eq : bX (iblk m c 0 t0_0) = aX m c := funext fun r => funext fun k => (blk0 m c r k).trans (v20_at m c r k)
theorem bG_eq : bG (iblk m c 1 t0_0) = aG m c := funext fun k => (blk1 m c k).trans (v21_at m c k)
theorem bW_eq : bW (iblk m c 2 t0_0) = aW m c := funext fun k => funext fun n => (blk2 m c k n).trans (by rw [V_main_arg2]; rfl)
theorem bS_eq : bS (iblk m c 3 t0_0) = aS m c := funext fun n => (blk3 m c n).trans (v22_at m c n)
theorem bC_eq (r : Fin 256) (k : Fin 128) : (show Vec Ideal S256x128 .f32 from iblk m c 4 t0_0) (ix2 r k) = Spec.cosRow (aP m c) r k :=
  (blk4 m c r k).trans (v24_at m c r k)
theorem bN_eq (r : Fin 256) (k : Fin 128) : (show Vec Ideal S256x128 .f32 from iblk m c 5 t0_0) (ix2 r k) = Spec.sinRow (aP m c) r k :=
  (blk5 m c r k).trans (v26_at m c r k)

/-- The codes of the normalised activations. -/
theorem final6 (j : S256x1152.Idx) : (show Vec Ideal S256x1152 .fp8e4m3 from (dats m 0 c).arrAt 6 cfg0.N) j = Spec.xc (aX m c) (aG m c) (j 0) (j 1) := by
  refine congrFun ((dats m 0 c).arrAt_eq_of_after_last 6 t0_0 (by decide +kernel) (fun j : S256x1152.Idx => Spec.xc (aX m c) (aG m c) (j 0) (j 1)) fun j => ?_) j
  blk_simp
  rw [after0_6]
  frame_out
  idx_vars j
  refine (xc_row (iblk m c 0 t0_0) (iblk m c 1 t0_0) (iblk m c 2 t0_0) (iblk m c 3 t0_0) (iblk m c 4 t0_0) (iblk m c 5 t0_0) j0 j1).trans ?_
  rw [bX_eq, bG_eq]

/-- Their scales. -/
theorem final7 (j : S256x1.Idx) : (show Vec Ideal S256x1 .f32 from (dats m 0 c).arrAt 7 cfg0.N) j = Spec.xs (aX m c) (aG m c) (j 0) := by
  refine congrFun ((dats m 0 c).arrAt_eq_of_after_last 7 t0_0 (by decide +kernel) (fun j : S256x1.Idx => Spec.xs (aX m c) (aG m c) (j 0)) fun j => ?_) j
  blk_simp
  rw [after0_7]
  frame_out
  idx_vars j
  obtain rfl : j1 = 0 := Subsingleton.elim _ _
  refine (xs_row (iblk m c 0 t0_0) (iblk m c 1 t0_0) (iblk m c 2 t0_0) (iblk m c 3 t0_0) (iblk m c 4 t0_0) (iblk m c 5 t0_0) j0).trans ?_
  rw [bX_eq, bG_eq]

/-- The codes of the keys. -/
theorem final8 (j : S256x256.Idx) : (show Vec Ideal S256x256 .fp8e4m3 from (dats m 0 c).arrAt 8 cfg0.N) j = Spec.codes (Spec.key (aX m c) (aG m c) (aW m c) (aS m c) (aP m c) (j 0)) (j 1) := by
  refine congrFun ((dats m 0 c).arrAt_eq_of_after_last 8 t0_0 (by decide +kernel) (fun j : S256x256.Idx => Spec.codes (Spec.key (aX m c) (aG m c) (aW m c) (aS m c) (aP m c) (j 0)) (j 1)) fun j => ?_) j
  blk_simp
  rw [after0_8]
  frame_out
  idx_vars j
  refine (kc_row (iblk m c 0 t0_0) (iblk m c 1 t0_0) (iblk m c 2 t0_0) (iblk m c 3 t0_0) (iblk m c 4 t0_0) (iblk m c 5 t0_0) (aP m c) (bC_eq m c) (bN_eq m c) j0 j1).trans ?_
  rw [bX_eq, bG_eq, bW_eq, bS_eq]

/-- Their scales. -/
theorem final9 (j : S256x1.Idx) : (show Vec Ideal S256x1 .f32 from (dats m 0 c).arrAt 9 cfg0.N) j = Spec.scale (Spec.top (Spec.key (aX m c) (aG m c) (aW m c) (aS m c) (aP m c) (j 0))) := by
  refine congrFun ((dats m 0 c).arrAt_eq_of_after_last 9 t0_0 (by decide +kernel) (fun j : S256x1.Idx => Spec.scale (Spec.top (Spec.key (aX m c) (aG m c) (aW m c) (aS m c) (aP m c) (j 0)))) fun j => ?_) j
  blk_simp
  rw [after0_9]
  frame_out
  idx_vars j
  obtain rfl : j1 = 0 := Subsingleton.elim _ _
  refine (ks_row (iblk m c 0 t0_0) (iblk m c 1 t0_0) (iblk m c 2 t0_0) (iblk m c 3 t0_0) (iblk m c 4 t0_0) (iblk m c 5 t0_0) (aP m c) (bC_eq m c) (bN_eq m c) j0).trans ?_
  rw [bX_eq, bG_eq, bW_eq, bS_eq]

/-- The codes of the values. -/
theorem final10 (j : S256x256.Idx) : (show Vec Ideal S256x256 .fp8e4m3 from (dats m 0 c).arrAt 10 cfg0.N) j = Spec.codes (Spec.val (aX m c) (aG m c) (aW m c) (aS m c) (j 0)) (j 1) := by
  refine congrFun ((dats m 0 c).arrAt_eq_of_after_last 10 t0_0 (by decide +kernel) (fun j : S256x256.Idx => Spec.codes (Spec.val (aX m c) (aG m c) (aW m c) (aS m c) (j 0)) (j 1)) fun j => ?_) j
  blk_simp
  rw [after0_10]
  frame_out
  idx_vars j
  refine (vc_row (iblk m c 0 t0_0) (iblk m c 1 t0_0) (iblk m c 2 t0_0) (iblk m c 3 t0_0) (iblk m c 4 t0_0) (iblk m c 5 t0_0) j0 j1).trans ?_
  rw [bX_eq, bG_eq, bW_eq, bS_eq]

/-- Their scales. -/
theorem final11 (j : S256x1.Idx) : (show Vec Ideal S256x1 .f32 from (dats m 0 c).arrAt 11 cfg0.N) j = Spec.scale (Spec.top (Spec.val (aX m c) (aG m c) (aW m c) (aS m c) (j 0))) := by
  refine congrFun ((dats m 0 c).arrAt_eq_of_after_last 11 t0_0 (by decide +kernel) (fun j : S256x1.Idx => Spec.scale (Spec.top (Spec.val (aX m c) (aG m c) (aW m c) (aS m c) (j 0)))) fun j => ?_) j
  blk_simp
  rw [after0_11]
  frame_out
  idx_vars j
  obtain rfl : j1 = 0 := Subsingleton.elim _ _
  refine (vs_row (iblk m c 0 t0_0) (iblk m c 1 t0_0) (iblk m c 2 t0_0) (iblk m c 3 t0_0) (iblk m c 4 t0_0) (iblk m c 5 t0_0) j0).trans ?_
  rw [bX_eq, bG_eq, bW_eq, bS_eq]

/-- The rotated queries, head by head. -/
theorem final12 (j : S4x256x256.Idx) : (show Vec Ideal S4x256x256 .bf16 from (dats m 0 c).arrAt 12 cfg0.N) j = Spec.query (aX m c) (aG m c) (aW m c) (aS m c) (aP m c) (j 0) (j 1) (j 2) := by
  refine congrFun ((dats m 0 c).arrAt_eq_of_after_last 12 t0_0 (by decide +kernel) (fun j : S4x256x256.Idx => Spec.query (aX m c) (aG m c) (aW m c) (aS m c) (aP m c) (j 0) (j 1) (j 2)) fun j => ?_) j
  blk_simp
  rw [after0_12]
  idx_vars j
  refine (congrFun (out_q (iblk m c 0 t0_0) (iblk m c 1 t0_0) (iblk m c 2 t0_0) (iblk m c 3 t0_0) (iblk m c 4 t0_0) (iblk m c 5 t0_0) (aP m c) (bC_eq m c) (bN_eq m c)) (ix3 j0 j1 j2)).trans ?_
  show Spec.query (bX _) (bG _) (bW _) (bS _) (aP m c) j0 j1 j2 = _
  rw [bX_eq, bG_eq, bW_eq, bS_eq]

end Cert.Ref
-- ==== Proof.RefTail.lean ====
module
public import proofs.«01_k».proof.Proof.RefVal

/-! # The reference's results after its last reshapes -/

@[expose] public section
set_option maxRecDepth 16384
noncomputable section
open Idealize.ShloMosaic Idealize.ShloMosaic.TcCoe Idealize.SL.Sem
open Cert.ReferenceIdeal Cert.ReferenceIdeal.Gen
namespace Cert.Ref
variable (m : (ℓ : Loc nD τ sig) → Buf (Elt Ideal) ℓ) (c : Dev nD)

/-- What a result window's array holds after the region is what the region's proof data give. -/
theorem arr_after (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 launch0.win.arr_inj c (V0 m c) _ w

/-- The scales of the normalised activations. -/
theorem tail28 (b : Fin 2) (i : Fin 128) : (show Vec Ideal S2x128 .f32 from Pipeline.afterTail₀ cfgs (dats m) 0 (V0 m) [hostOps1] c main_v28) (ix2 b i)
    = Spec.xs (aX m c) (aG m c) ⟨128 * b + i, by omega⟩ := by
  unfold Pipeline.afterTail₀
  simp only [hostOps1, List.flatten_cons, List.flatten_nil, List.append_nil]
  after_region_results
  pointwise
  refine (congrFun (arr_after m c 7) _).trans ((final7 m c _).trans ?_)
  exact congrArg (Spec.xs (aX m c) (aG m c)) (Fin.ext (show b.val * 128 + i.val = 128 * b.val + i.val by omega))

/-- The scales of the keys. -/
theorem tail29 (b : Fin 2) (i : Fin 128) : (show Vec Ideal S2x1x128 .f32 from Pipeline.afterTail₀ cfgs (dats m) 0 (V0 m) [hostOps1] c main_v29) (ix3 b 0 i)
    = Spec.scale (Spec.top (Spec.key (aX m c) (aG m c) (aW m c) (aS m c) (aP m c) ⟨128 * b + i, by omega⟩)) := by
  unfold Pipeline.afterTail₀
  simp only [hostOps1, List.flatten_cons, List.flatten_nil, List.append_nil]
  after_region_results
  pointwise
  refine (congrFun (arr_after m c 9) _).trans ((final9 m c _).trans ?_)
  exact congrArg (fun r => Spec.scale (Spec.top (Spec.key (aX m c) (aG m c) (aW m c) (aS m c) (aP m c) r))) (Fin.ext (show b.val * 128 + i.val = 128 * b.val + i.val by omega))

/-- The scales of the values. -/
theorem tail30 (b : Fin 2) (i : Fin 128) : (show Vec Ideal S2x1x128 .f32 from Pipeline.afterTail₀ cfgs (dats m) 0 (V0 m) [hostOps1] c main_v30) (ix3 b 0 i)
    = Spec.scale (Spec.top (Spec.val (aX m c) (aG m c) (aW m c) (aS m c) ⟨128 * b + i, by omega⟩)) := by
  unfold Pipeline.afterTail₀
  simp only [hostOps1, List.flatten_cons, List.flatten_nil, List.append_nil]
  after_region_results
  pointwise
  refine (congrFun (arr_after m c 11) _).trans ((final11 m c _).trans ?_)
  exact congrArg (fun r => Spec.scale (Spec.top (Spec.val (aX m c) (aG m c) (aW m c) (aS m c) r))) (Fin.ext (show b.val * 128 + i.val = 128 * b.val + i.val by omega))

/-- The rotated queries. -/
theorem tail33 (b : Fin 2) (j : Fin 512) (n : Fin 256) : (show Vec Ideal S2x512x256 .bf16 from Pipeline.afterTail₀ cfgs (dats m) 0 (V0 m) [hostOps1] c main_v33) (ix3 b j n)
    = Spec.query (aX m c) (aG m c) (aW m c) (aS m c) (aP m c) ⟨j.val / 128, by omega⟩ ⟨128 * b.val + j.val % 128, by omega⟩ n := by
  unfold Pipeline.afterTail₀
  simp only [hostOps1, List.flatten_cons, List.flatten_nil, List.append_nil]
  after_region_results
  pointwise
  refine (congrFun (arr_after m c 12) _).trans ((final12 m c _).trans ?_)
  exact congrArg (fun r => Spec.query (aX m c) (aG m c) (aW m c) (aS m c) (aP m c) ⟨j.val / 128, by omega⟩ r n) (Fin.ext (show b.val * 128 + j.val % 128 = 128 * b.val + j.val % 128 by omega))

end Cert.Ref
-- ==== Proof.Eqn.lean ====
module
public import proofs.«01_k».proof.Defs
public import proofs.«01_k».proof.Proof.KernVal
public import proofs.«01_k».proof.Proof.RefTail

/-! # The equation

From equal arguments the seven arrays the kernel leaves are the seven the reference leaves. -/

@[expose] public section
set_option maxRecDepth 16384
noncomputable section
open Idealize.ShloMosaic Idealize.ShloMosaic.TcCoe Idealize.SL.Sem
namespace Cert.Eqn

section Args
variable (m : (ℓ : Loc Cert.KernelIdeal.nD Cert.KernelIdeal.τ Cert.KernelIdeal.sig) → Buf (Elt Ideal) ℓ) (c : Dev Cert.KernelIdeal.nD)
open Cert.KernelIdeal Cert.KernelIdeal.Gen

theorem v0_at (r : Fin 256) (k : Fin 1152) : (show Vec Ideal S256x1152 .bf16 from V m c main_v0) (ix2 r k)
    = (show Vec Ideal S2x128x1152 .bf16 from m ((c.tc : Thread nD τ).loc main_arg0)) (ix3 ⟨r / 128, by omega⟩ ⟨r % 128, by omega⟩ k) := by
  unfold V
  simp only [hostOps0, List.flatten_cons, List.flatten_nil, List.append_nil]
  after_results
  pointwise

variable (m' : (ℓ : Loc Cert.ReferenceIdeal.nD Cert.ReferenceIdeal.τ Cert.ReferenceIdeal.sig) → Buf (Elt Ideal) ℓ)

theorem rows_x (h : m' ((c.tc : Thread Cert.ReferenceIdeal.nD Cert.ReferenceIdeal.τ).loc Cert.ReferenceIdeal.main_arg0) = m ((c.tc : Thread nD τ).loc main_arg0)) :
    Cert.Ref.aX m' c = Cert.Val.xRows (V m c main_v0) := by
  funext r k
  refine Eq.trans ?_ (v0_at m c r k).symm
  unfold Cert.Ref.aX
  rw [h]
theorem row_g (h : m' ((c.tc : Thread Cert.ReferenceIdeal.nD Cert.ReferenceIdeal.τ).loc Cert.ReferenceIdeal.main_arg1) = m ((c.tc : Thread nD τ).loc main_arg1)) :
    Cert.Ref.aG m' c = Cert.Val.gRow1 (V m c main_arg1) := by
  unfold Cert.Ref.aG; rw [h, V_main_arg1]
theorem rows_w (h : m' ((c.tc : Thread Cert.ReferenceIdeal.nD Cert.ReferenceIdeal.τ).loc Cert.ReferenceIdeal.main_arg2) = m ((c.tc : Thread nD τ).loc main_arg2)) :
    Cert.Ref.aW m' c = Cert.Val.wRows (V m c main_arg2) := by
  unfold Cert.Ref.aW; rw [h, V_main_arg2]
theorem row_s (h : m' ((c.tc : Thread Cert.ReferenceIdeal.nD Cert.ReferenceIdeal.τ).loc Cert.ReferenceIdeal.main_arg3) = m ((c.tc : Thread nD τ).loc main_arg3)) :
    Cert.Ref.aS m' c = Cert.Val.sRow (V m c main_arg3) := by
  unfold Cert.Ref.aS; rw [h, V_main_arg3]
theorem row_p (h : m' ((c.tc : Thread Cert.ReferenceIdeal.nD Cert.ReferenceIdeal.τ).loc Cert.ReferenceIdeal.main_arg4) = m ((c.tc : Thread nD τ).loc main_arg4)) :
    Cert.Ref.aP m' c = Cert.Val.pPos (V m c main_arg4) := by
  unfold Cert.Ref.aP; rw [h, V_main_arg4]

section Equal
variable (ex : Cert.Ref.aX m' c = Cert.Val.xRows (V m c main_v0)) (eg : Cert.Ref.aG m' c = Cert.Val.gRow1 (V m c main_arg1))
  (ew : Cert.Ref.aW m' c = Cert.Val.wRows (V m c main_arg2)) (es : Cert.Ref.aS m' c = Cert.Val.sRow (V m c main_arg3))
  (ep : Cert.Ref.aP m' c = Cert.Val.pPos (V m c main_arg4))
include ex eg

theorem eq_0 : (show Vec Ideal S256x1152 .fp8e4m3 from (Cert.ReferenceIdeal.Gen.dats m' 0 c).arrAt 6 Cert.ReferenceIdeal.cfg0.N) = Cert.Val.Gk m c main_v1_0 := by
  rw [Cert.Val.Gk_0, ← ex, ← eg]
  exact funext fun j => Cert.Ref.final6 m' c j
theorem eq_1 : (show Vec Ideal S2x128 .f32 from Pipeline.afterTail₀ Cert.ReferenceIdeal.cfgs (Cert.ReferenceIdeal.Gen.dats m') 0 (Cert.ReferenceIdeal.Gen.V0 m') [Cert.ReferenceIdeal.Gen.hostOps1] c Cert.ReferenceIdeal.main_v28) = Cert.Val.Gk m c main_v1_1 := by
  rw [Cert.Val.Gk_1, ← ex, ← eg]
  funext j
  idx_vars j
  exact Cert.Ref.tail28 m' c j0 j1
include ew es
theorem eq_4 : (show Vec Ideal S256x256 .fp8e4m3 from (Cert.ReferenceIdeal.Gen.dats m' 0 c).arrAt 10 Cert.ReferenceIdeal.cfg0.N) = Cert.Val.Gk m c main_v1_4 := by
  rw [Cert.Val.Gk_4]
  unfold Cert.Val.vA
  rw [← ex, ← eg, ← ew, ← es]
  exact funext fun j => Cert.Ref.final10 m' c j
theorem eq_5 : (show Vec Ideal S2x1x128 .f32 from Pipeline.afterTail₀ Cert.ReferenceIdeal.cfgs (Cert.ReferenceIdeal.Gen.dats m') 0 (Cert.ReferenceIdeal.Gen.V0 m') [Cert.ReferenceIdeal.Gen.hostOps1] c Cert.ReferenceIdeal.main_v30) = Cert.Val.Gk m c main_v1_5 := by
  rw [Cert.Val.Gk_5, ← ex, ← eg, ← ew, ← es]
  funext j
  idx_vars j
  obtain rfl : j1 = 0 := Subsingleton.elim _ _
  exact Cert.Ref.tail30 m' c j0 j2
include ep
theorem eq_2 : (show Vec Ideal S256x256 .fp8e4m3 from (Cert.ReferenceIdeal.Gen.dats m' 0 c).arrAt 8 Cert.ReferenceIdeal.cfg0.N) = Cert.Val.Gk m c main_v1_2 := by
  rw [Cert.Val.Gk_2]
  unfold Cert.Val.kA
  rw [← ex, ← eg, ← ew, ← es, ← ep]
  exact funext fun j => Cert.Ref.final8 m' c j
theorem eq_3 : (show Vec Ideal S2x1x128 .f32 from Pipeline.afterTail₀ Cert.ReferenceIdeal.cfgs (Cert.ReferenceIdeal.Gen.dats m') 0 (Cert.ReferenceIdeal.Gen.V0 m') [Cert.ReferenceIdeal.Gen.hostOps1] c Cert.ReferenceIdeal.main_v29) = Cert.Val.Gk m c main_v1_3 := by
  rw [Cert.Val.Gk_3, ← ex, ← eg, ← ew, ← es, ← ep]
  funext j
  idx_vars j
  obtain rfl : j1 = 0 := Subsingleton.elim _ _
  exact Cert.Ref.tail29 m' c j0 j2
theorem eq_6 : (show Vec Ideal S2x512x256 .bf16 from Pipeline.afterTail₀ Cert.ReferenceIdeal.cfgs (Cert.ReferenceIdeal.Gen.dats m') 0 (Cert.ReferenceIdeal.Gen.V0 m') [Cert.ReferenceIdeal.Gen.hostOps1] c Cert.ReferenceIdeal.main_v33) = Cert.Val.Gk m c main_v1_6 := by
  rw [Cert.Val.Gk_6]
  unfold Cert.Val.qA Cert.Val.qAt
  rw [← ex, ← eg, ← ew, ← es, ← ep]
  funext j
  idx_vars j
  exact Cert.Ref.tail33 m' c j0 j1 j2
end Equal
end Args

set_option maxHeartbeats 3200000 in
/-- The kernel and the reference, over the extended reals and from equal arguments, leave equal results and their arguments
    as they were. -/
theorem algebraic : Cert.algebraic_KernelIdeal_ReferenceIdeal (hKernelIdeal := Cert.KernelIdeal.Gen.facts) (hReferenceIdeal := Cert.ReferenceIdeal.Gen.facts) := by
  pair_intro
  · run_from (Cert.KernelIdeal.Hand.value_of m g (Cert.Val.Gk m) (Cert.Val.hG m))
  · run_from Cert.ReferenceIdeal.Gen.run_main m' g' & Cert.ReferenceIdeal.Gen.unchanged m' g'
    · exact eq_0 m c m' (rows_x m c m' (hagree c).1) (row_g m c m' (hagree c).2.1)
    · exact eq_1 m c m' (rows_x m c m' (hagree c).1) (row_g m c m' (hagree c).2.1)
    · exact eq_2 m c m' (rows_x m c m' (hagree c).1) (row_g m c m' (hagree c).2.1) (rows_w m c m' (hagree c).2.2.1) (row_s m c m' (hagree c).2.2.2.1) (row_p m c m' (hagree c).2.2.2.2)
    · exact eq_3 m c m' (rows_x m c m' (hagree c).1) (row_g m c m' (hagree c).2.1) (rows_w m c m' (hagree c).2.2.1) (row_s m c m' (hagree c).2.2.2.1) (row_p m c m' (hagree c).2.2.2.2)
    · exact eq_4 m c m' (rows_x m c m' (hagree c).1) (row_g m c m' (hagree c).2.1) (rows_w m c m' (hagree c).2.2.1) (row_s m c m' (hagree c).2.2.2.1)
    · exact eq_5 m c m' (rows_x m c m' (hagree c).1) (row_g m c m' (hagree c).2.1) (rows_w m c m' (hagree c).2.2.1) (row_s m c m' (hagree c).2.2.2.1)
    · exact eq_6 m c m' (rows_x m c m' (hagree c).1) (row_g m c m' (hagree c).2.1) (rows_w m c m' (hagree c).2.2.1) (row_s m c m' (hagree c).2.2.2.1) (row_p m c m' (hagree c).2.2.2.2)

end Cert.Eqn
-- ==== Proof.ABodyK.lean ====
/- The body of `Attend`'s one region run symbolically: what every result array holds when the body returns, with the
   argument arrays, the scratch buffers and the semaphores handed back. -/
module

public import proofs.«01_k».proof.Proof.Gen.Attend.Launch
public import proofs.«01_k».proof.Proof.Gen.Attend.Skeleton
public import proofs.«01_k».proof.Proof.Gen.Attend.Points
public import proofs.«01_k».proof.Proof.Gen.Attend.Frame
public import Idealize.ShloMosaic.Lib.Pipeline.FrameBody
public import Idealize.ShloMosaic.Lib.Pipeline.FrameValue
public import Idealize.ShloMosaic.Lib.Tactic

@[expose] public section

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer of core `c` held whole at the contents `f`, named by the memref over all of it. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev aM0 : Memref sig .tc .hbm S2 .i32 := Memref.whole main_arg0
abbrev aM1 : Memref sig .tc .hbm S2x512x256 .bf16 := Memref.whole main_arg1
abbrev aM2 : Memref sig .tc .hbm S2x320x256 .i32 := Memref.whole main_arg2
abbrev aM3 : Memref sig .tc .hbm S2x320x256 .i32 := Memref.whole main_arg3
abbrev aM4 : Memref sig .tc .hbm S2x1x1280 .f32 := Memref.whole main_arg4
abbrev aM5 : Memref sig .tc .hbm S2x1x1280 .f32 := Memref.whole main_arg5
abbrev rM0 : Memref sig .tc .hbm S256x1024 .fp8e4m3 := Memref.whole main_v0_0
abbrev rM1 : Memref sig .tc .hbm S2x128 .f32 := Memref.whole main_v0_1
abbrev rM2 : Memref sig .tc .hbm S2x4x128 .f32 := Memref.whole main_v0_2
abbrev sM0 : Memref sig .tc .smem S2 .i32 := Memref.whole cc0_scratch0
abbrev sM1 : Memref sig .tc .vmem S2x1x1280 .f32 := Memref.whole cc0_scratch1
abbrev sM2 : Memref sig .tc .vmem S2x1x1280 .f32 := Memref.whole cc0_scratch2
abbrev sM3 : Memref sig .tc .vmem S2x4x128 .f32 := Memref.whole cc0_scratch3
abbrev sM4 : Memref sig .tc .vmem S256x1024 .fp8e4m3 := Memref.whole cc0_scratch4
abbrev sM5 : Memref sig .tc .vmem S2x128 .f32 := Memref.whole cc0_scratch5
abbrev sM6 : Memref sig .tc .vmem S256x128 .f32 := Memref.whole cc0_scratch6
abbrev sM7 : Memref sig .tc .vmem S2x512x256 .bf16 := Memref.whole cc0_scratch7
abbrev sM8 : Memref sig .tc .vmem S2x320x256 .i32 := Memref.whole cc0_scratch8
abbrev sM9 : Memref sig .tc .vmem S2x320x256 .i32 := Memref.whole cc0_scratch9
abbrev sM10 : Memref sig .tc .vmem S2x8x1280 .f32 := Memref.whole cc0_scratch10
abbrev sM11 : Memref sig .tc .vmem S2x8x1280 .f32 := Memref.whole cc0_scratch11
abbrev sM12 : Memref sig .tc .vmem S2x512x1280 .f32 := Memref.whole cc0_scratch12
abbrev sM13 : Memref sig .tc .vmem S2x512x1280 .bf16 := Memref.whole cc0_scratch13
abbrev sM14 : Memref sig .tc .vmem S2x512x256 .f32 := Memref.whole cc0_scratch14
abbrev sM15 : Memref sig .tc .vmem S2x128x128 .f32 := Memref.whole cc0_scratch15

set_option maxHeartbeats 1000000 in
/-- THE BODY: from the arguments, the result arrays, the scratch buffers at `f0` … `f15` and every semaphore at
    zero, the body returns with the results at the contents `G` the run finds and the rest as it was. -/
noncomputable def run (c : Dev nD) (a0 : Buf (Elt F) ((aM0).view.loc (c : Thread nD τ))) (a1 : Buf (Elt F) ((aM1).view.loc (c : Thread nD τ))) (a2 : Buf (Elt F) ((aM2).view.loc (c : Thread nD τ))) (a3 : Buf (Elt F) ((aM3).view.loc (c : Thread nD τ))) (a4 : Buf (Elt F) ((aM4).view.loc (c : Thread nD τ))) (a5 : Buf (Elt F) ((aM5).view.loc (c : Thread nD τ)))
    (r0 : Buf (Elt F) ((rM0).view.loc (c : Thread nD τ))) (r1 : Buf (Elt F) ((rM1).view.loc (c : Thread nD τ))) (r2 : Buf (Elt F) ((rM2).view.loc (c : Thread nD τ)))
    (f0 : Buf (Elt F) ((sM0).view.loc (c : Thread nD τ))) (f1 : Buf (Elt F) ((sM1).view.loc (c : Thread nD τ))) (f2 : Buf (Elt F) ((sM2).view.loc (c : Thread nD τ))) (f3 : Buf (Elt F) ((sM3).view.loc (c : Thread nD τ))) (f4 : Buf (Elt F) ((sM4).view.loc (c : Thread nD τ))) (f5 : Buf (Elt F) ((sM5).view.loc (c : Thread nD τ))) (f6 : Buf (Elt F) ((sM6).view.loc (c : Thread nD τ))) (f7 : Buf (Elt F) ((sM7).view.loc (c : Thread nD τ))) (f8 : Buf (Elt F) ((sM8).view.loc (c : Thread nD τ))) (f9 : Buf (Elt F) ((sM9).view.loc (c : Thread nD τ))) (f10 : Buf (Elt F) ((sM10).view.loc (c : Thread nD τ))) (f11 : Buf (Elt F) ((sM11).view.loc (c : Thread nD τ))) (f12 : Buf (Elt F) ((sM12).view.loc (c : Thread nD τ))) (f13 : Buf (Elt F) ((sM13).view.loc (c : Thread nD τ))) (f14 : Buf (Elt F) ((sM14).view.loc (c : Thread nD τ))) (f15 : Buf (Elt F) ((sM15).view.loc (c : Thread nD τ))) :
    { G : Buf (Elt F) ((rM0).view.loc (c : Thread nD τ)) × Buf (Elt F) ((rM1).view.loc (c : Thread nD τ)) × Buf (Elt F) ((rM2).view.loc (c : Thread nD τ)) //
      ∀ (W : Waits sig Unit) (K : PUnit → sProp 𝕄),
        iprop(pt c sM1 f1
            ∗ pt c sM2 f2
            ∗ pt c sM3 f3
            ∗ pt c sM4 f4
            ∗ pt c sM5 f5
            ∗ pt c sM6 f6
            ∗ pt c sM7 f7
            ∗ pt c sM8 f8
            ∗ pt c sM9 f9
            ∗ pt c sM10 f10
            ∗ pt c sM11 f11
            ∗ pt c sM12 f12
            ∗ pt c sM13 f13
            ∗ pt c sM14 f14
            ∗ pt c sM15 f15
            ∗ pt c sM0 f0
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ pt c aM0 a0
            ∗ pt c aM1 a1
            ∗ pt c aM2 a2
            ∗ pt c aM3 a3
            ∗ pt c aM4 a4
            ∗ pt c aM5 a5
            ∗ pt c rM0 r0
            ∗ pt c rM1 r1
            ∗ pt c rM2 r2
            ∗ owes (c : Thread nD τ) 0 W
            ∗ (iprop((∃ f, pt c sM1 f)
            ∗ (∃ f, pt c sM2 f)
            ∗ (∃ f, pt c sM3 f)
            ∗ (∃ f, pt c sM4 f)
            ∗ (∃ f, pt c sM5 f)
            ∗ (∃ f, pt c sM6 f)
            ∗ (∃ f, pt c sM7 f)
            ∗ (∃ f, pt c sM8 f)
            ∗ (∃ f, pt c sM9 f)
            ∗ (∃ f, pt c sM10 f)
            ∗ (∃ f, pt c sM11 f)
            ∗ (∃ f, pt c sM12 f)
            ∗ (∃ f, pt c sM13 f)
            ∗ (∃ f, pt c sM14 f)
            ∗ (∃ f, pt c sM15 f)
            ∗ (∃ f, pt c sM0 f)
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ pt c aM0 a0
            ∗ pt c aM1 a1
            ∗ pt c aM2 a2
            ∗ pt c aM3 a3
            ∗ pt c aM4 a4
            ∗ pt c aM5 a5
            ∗ pt c rM0 (G.1)
            ∗ pt c rM1 (G.2.1)
            ∗ pt c rM2 (G.2.2)
            ∗ (∃ W', owes (c : Thread nD τ) 0 W')) -∗ K ⟨⟩))
          ⊢ wp frame (wpE (defs₀ (F := F)) Variants.none c none) Set.univ
              (cc0_swa_attend aM0 (Memref.isWhole_whole _) aM1 (Memref.isWhole_whole _) aM2 (Memref.isWhole_whole _) aM3 (Memref.isWhole_whole _) aM4 (Memref.isWhole_whole _) aM5 (Memref.isWhole_whole _) rM0 (Memref.isWhole_whole _) rM1 (Memref.isWhole_whole _) rM2 (Memref.isWhole_whole _) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) cc0_scratch16 cc0_scratch17) K } := by
  refine ⟨(?_, ?_, ?_), fun W K => ?run⟩
  case run =>
    simp only [cc0_swa_attend_eq_skeleton]; unfold cc0_swa_attend_skel
    iintro ⟨S1, S2, S3, S4, S5, S6, S7, S8, S9, S10, S11, S12, S13, S14, S15, S0, Q0, Q1, Q2, Q3, Q4, Q5, Q6, Q7, Q8, A0, A1, A2, A3, A4, A5, R0, R1, R2, HW, Hk⟩
    sl_exec_parts!
    sl_step
    iapply Hk
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S0]; · iexists _; iexact S0
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [A0]; · iexact A0
    isplitl [A1]; · iexact A1
    isplitl [A2]; · iexact A2
    isplitl [A3]; · iexact A3
    isplitl [A4]; · iexact A4
    isplitl [A5]; · iexact A5
    isplitl [R0]; · iexact R0
    isplitl [R1]; · iexact R1
    isplitl [R2]; · iexact R2
    iexists _; iexact HW

end Cert.Attend.Hand

end
-- ==== Proof.AFrameK.lean ====
/- The launch of `Attend`: it ends with the arguments unchanged and every semaphore at zero. -/
module

public import proofs.«01_k».proof.Proof.ABodyK

@[expose] public section

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The result arrays, which the body's copies write. -/
def R0 : Finset (Ref sig .tc) := {main_v0_0, main_v0_1, main_v0_2}
/-- The arrays the body's copies read. -/
def H0 : Finset (Ref sig .tc) := {main_arg0, main_arg1, main_arg2, main_arg3, main_arg4, main_arg5}

/-- `@main` up to the region, at the algebra of the copies. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

abbrev osem0 : Fin 9 → SemLoc sig := fun j => (![SemLoc.dma 0, SemLoc.dma 1, SemLoc.dma 2, SemLoc.dma 3, SemLoc.dma 4, SemLoc.dma 5, SemLoc.dma 6, SemLoc.dma 7, SemLoc.dma 8] : Fin 9 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3, 4, 5, 6, 7, 8] (by decide) (by decide)]; rfl

theorem H0_sub : H0 ⊆ Pipeline.restRefs sig (cfg0.spec) := by decide
theorem hbmPts0_eq (c : Dev nD) :
    (bigSep H0 (fun b => ((c : Thread nD τ).loc b) ↦{fullShare} V m c b) : sProp 𝕄)
      = iprop(pt c aM0 (V m c main_arg0) ∗ pt c aM1 (V m c main_arg1) ∗ pt c aM2 (V m c main_arg2) ∗ pt c aM3 (V m c main_arg3) ∗ pt c aM4 (V m c main_arg4) ∗ pt c aM5 (V m c main_arg5)) := by
  rw [BI.bigSep_eq_bigSepL_of_eq [main_arg0, main_arg1, main_arg2, main_arg3, main_arg4, main_arg5] (by decide) (by decide)]; rfl

theorem R0_sub : R0 ⊆ Pipeline.restRefs sig (cfg0.spec) \ H0 := by decide

/-- The result arrays, each whole at some contents. -/
theorem owned0_eq (c : Dev nD) :
    (Pipeline.owned R0 c : sProp 𝕄)
      = iprop((∃ f, pt c rM0 f) ∗ (∃ f, pt c rM1 f) ∗ (∃ f, pt c rM2 f)) := by
  unfold Pipeline.owned; rw [BI.bigSep_eq_bigSepL_of_eq [main_v0_0, main_v0_1, main_v0_2] (by decide) (by decide)]; rfl

theorem Phi0_eq (c : Dev nD) :
    (Pipeline.ΦDR osem0 (cfg0.spec) H0 R0 (V m) c : sProp 𝕄)
      = iprop(iprop((∃ f, pt c sM1 f) ∗ (∃ f, pt c sM2 f) ∗ (∃ f, pt c sM3 f) ∗ (∃ f, pt c sM4 f) ∗ (∃ f, pt c sM5 f) ∗ (∃ f, pt c sM6 f) ∗ (∃ f, pt c sM7 f) ∗ (∃ f, pt c sM8 f) ∗ (∃ f, pt c sM9 f) ∗ (∃ f, pt c sM10 f) ∗ (∃ f, pt c sM11 f) ∗ (∃ f, pt c sM12 f) ∗ (∃ f, pt c sM13 f) ∗ (∃ f, pt c sM14 f) ∗ (∃ f, pt c sM15 f) ∗ (∃ f, pt c sM0 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
          ∗ iprop(pt c aM0 (V m c main_arg0) ∗ pt c aM1 (V m c main_arg1) ∗ pt c aM2 (V m c main_arg2) ∗ pt c aM3 (V m c main_arg3) ∗ pt c aM4 (V m c main_arg4) ∗ pt c aM5 (V m c main_arg5))
          ∗ iprop((∃ f, pt c rM0 f) ∗ (∃ f, pt c rM1 f) ∗ (∃ f, pt c rM2 f))) := by
  rw [Pipeline.ΦDR_eq, scopedRest0_eq, ownSems00_eq, hbmPts0_eq, owned0_eq]

/-- The proof data of the one region: no window; the copies' invariant before and after its one point. -/
def dats (_ : Fin 1) (c : Dev nD) : Dat τ (Elt F) Unit ℕ (Pipeline.UD sig nD τ) ℕ cfg0 c where
  A w := V m c (Pipeline.arrRef (cfg0.spec) w)
  after w _ := (w : Fin 0).elim0
  Φ t := Pipeline.ΦDR osem0 (cfg0.spec) H0 R0 (V m) c
  q _ := fullShare
  owed _ := 0

theorem A_eq (c : Dev nD) (w : Fin cfg0.W) : (dats m 0 c).A w = V m c (Pipeline.arrRef (cfg0.spec) w) := rfl

theorem point_zero (t : Fin cfg0.N) : (t : ℕ) = 0 := by
  have h : (t : ℕ) < cfg0.N := t.2
  have h0 : cfg0.N = 1 := N_0; omega

/-- The body of the region's one point takes the invariant before it to the invariant after it. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  unfold bodyAt0
  rw [show (dats m 0 c).Φ t.castSucc = Pipeline.ΦDR osem0 (cfg0.spec) H0 R0 (V m) c from rfl,
      show (dats m 0 c).Φ t.succ = Pipeline.ΦDR osem0 (cfg0.spec) H0 R0 (V m) c from rfl, Phi0_eq]
  unfold Dat.owesAt Pipeline.owesWithin
  rw [show (dats m 0 c).owed t.castSucc = 0 from rfl, show (dats m 0 c).owed t.succ = 0 from rfl]
  iintro ⟨⟨⟨⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f0, S0⟩⟩, Hg, ⟨Q0, Q1, Q2, Q3, Q4, Q5, Q6, Q7, Q8⟩, ⟨A0, A1, A2, A3, A4, A5⟩, ⟨⟨%r0, R0⟩, ⟨%r1, R1⟩, ⟨%r2, R2⟩⟩⟩, ⟨%W, -, HW⟩, -⟩
  iapply ((run c (V m c main_arg0) (V m c main_arg1) (V m c main_arg2) (V m c main_arg3) (V m c main_arg4) (V m c main_arg5) r0 r1 r2 f0 f1 f2 f3 f4 f5 f6 f7 f8 f9 f10 f11 f12 f13 f14 f15).2 W _)
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S0]; · iexact S0
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [A0]; · iexact A0
  isplitl [A1]; · iexact A1
  isplitl [A2]; · iexact A2
  isplitl [A3]; · iexact A3
  isplitl [A4]; · iexact A4
  isplitl [A5]; · iexact A5
  isplitl [R0]; · iexact R0
  isplitl [R1]; · iexact R1
  isplitl [R2]; · iexact R2
  isplitl [HW]; · iexact HW
  iintro ⟨S1, S2, S3, S4, S5, S6, S7, S8, S9, S10, S11, S12, S13, S14, S15, S0, Q0, Q1, Q2, Q3, Q4, Q5, Q6, Q7, Q8, A0, A1, A2, A3, A4, A5, R0, R1, R2, ⟨%W', HW'⟩⟩
  isplitl [S1 S2 S3 S4 S5 S6 S7 S8 S9 S10 S11 S12 S13 S14 S15 S0 Hg Q0 Q1 Q2 Q3 Q4 Q5 Q6 Q7 Q8 A0 A1 A2 A3 A4 A5 R0 R1 R2]
  · isplitl [S1 S2 S3 S4 S5 S6 S7 S8 S9 S10 S11 S12 S13 S14 S15 S0]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S0
    isplitl [Hg]; · iexact Hg
    isplitl [Q0 Q1 Q2 Q3 Q4 Q5 Q6 Q7 Q8]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      iexact Q8
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [R0]; · iexists _; iexact R0
    isplitl [R1]; · iexists _; iexact R1
    iexists _; iexact R2
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := BI.bigSep_empty

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

set_option backward.isDefEq.respectTransparency.types false in
/-- The whole program runs, with every semaphore at zero at the end. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- THE FRAME: the program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Attend.Hand

end
-- ==== Proof.ABodyI.lean ====
/- The body of `AttendIdeal`'s one region run symbolically: what every result array holds when the body returns, with the
   argument arrays, the scratch buffers and the semaphores handed back. -/
module

public import proofs.«01_k».proof.Proof.Gen.AttendIdeal.Launch
public import proofs.«01_k».proof.Proof.Gen.AttendIdeal.Skeleton
public import proofs.«01_k».proof.Proof.Gen.AttendIdeal.Points
public import proofs.«01_k».proof.Proof.Gen.AttendIdeal.Frame
public import Idealize.ShloMosaic.Lib.Pipeline.FrameBody
public import Idealize.ShloMosaic.Lib.Pipeline.FrameValue
public import Idealize.ShloMosaic.Lib.Tactic

@[expose] public section

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer of core `c` held whole at the contents `f`, named by the memref over all of it. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev aM0 : Memref sig .tc .hbm S2 .i32 := Memref.whole main_arg0
abbrev aM1 : Memref sig .tc .hbm S2x512x256 .bf16 := Memref.whole main_arg1
abbrev aM2 : Memref sig .tc .hbm S2x320x256 .i32 := Memref.whole main_arg2
abbrev aM3 : Memref sig .tc .hbm S2x320x256 .i32 := Memref.whole main_arg3
abbrev aM4 : Memref sig .tc .hbm S2x1x1280 .f32 := Memref.whole main_arg4
abbrev aM5 : Memref sig .tc .hbm S2x1x1280 .f32 := Memref.whole main_arg5
abbrev rM0 : Memref sig .tc .hbm S256x1024 .fp8e4m3 := Memref.whole main_v0_0
abbrev rM1 : Memref sig .tc .hbm S2x128 .f32 := Memref.whole main_v0_1
abbrev rM2 : Memref sig .tc .hbm S2x4x128 .f32 := Memref.whole main_v0_2
abbrev sM0 : Memref sig .tc .smem S2 .i32 := Memref.whole cc0_scratch0
abbrev sM1 : Memref sig .tc .vmem S2x1x1280 .f32 := Memref.whole cc0_scratch1
abbrev sM2 : Memref sig .tc .vmem S2x1x1280 .f32 := Memref.whole cc0_scratch2
abbrev sM3 : Memref sig .tc .vmem S2x4x128 .f32 := Memref.whole cc0_scratch3
abbrev sM4 : Memref sig .tc .vmem S256x1024 .fp8e4m3 := Memref.whole cc0_scratch4
abbrev sM5 : Memref sig .tc .vmem S2x128 .f32 := Memref.whole cc0_scratch5
abbrev sM6 : Memref sig .tc .vmem S256x128 .f32 := Memref.whole cc0_scratch6
abbrev sM7 : Memref sig .tc .vmem S2x512x256 .bf16 := Memref.whole cc0_scratch7
abbrev sM8 : Memref sig .tc .vmem S2x320x256 .i32 := Memref.whole cc0_scratch8
abbrev sM9 : Memref sig .tc .vmem S2x320x256 .i32 := Memref.whole cc0_scratch9
abbrev sM10 : Memref sig .tc .vmem S2x8x1280 .f32 := Memref.whole cc0_scratch10
abbrev sM11 : Memref sig .tc .vmem S2x8x1280 .f32 := Memref.whole cc0_scratch11
abbrev sM12 : Memref sig .tc .vmem S2x512x1280 .f32 := Memref.whole cc0_scratch12
abbrev sM13 : Memref sig .tc .vmem S2x512x1280 .bf16 := Memref.whole cc0_scratch13
abbrev sM14 : Memref sig .tc .vmem S2x512x256 .f32 := Memref.whole cc0_scratch14
abbrev sM15 : Memref sig .tc .vmem S2x128x128 .f32 := Memref.whole cc0_scratch15

set_option maxHeartbeats 1000000 in
/-- THE BODY: from the arguments, the result arrays, the scratch buffers at `f0` … `f15` and every semaphore at
    zero, the body returns with the results at the contents `G` the run finds and the rest as it was. -/
noncomputable def run (c : Dev nD) (a0 : Buf (Elt F) ((aM0).view.loc (c : Thread nD τ))) (a1 : Buf (Elt F) ((aM1).view.loc (c : Thread nD τ))) (a2 : Buf (Elt F) ((aM2).view.loc (c : Thread nD τ))) (a3 : Buf (Elt F) ((aM3).view.loc (c : Thread nD τ))) (a4 : Buf (Elt F) ((aM4).view.loc (c : Thread nD τ))) (a5 : Buf (Elt F) ((aM5).view.loc (c : Thread nD τ)))
    (r0 : Buf (Elt F) ((rM0).view.loc (c : Thread nD τ))) (r1 : Buf (Elt F) ((rM1).view.loc (c : Thread nD τ))) (r2 : Buf (Elt F) ((rM2).view.loc (c : Thread nD τ)))
    (f0 : Buf (Elt F) ((sM0).view.loc (c : Thread nD τ))) (f1 : Buf (Elt F) ((sM1).view.loc (c : Thread nD τ))) (f2 : Buf (Elt F) ((sM2).view.loc (c : Thread nD τ))) (f3 : Buf (Elt F) ((sM3).view.loc (c : Thread nD τ))) (f4 : Buf (Elt F) ((sM4).view.loc (c : Thread nD τ))) (f5 : Buf (Elt F) ((sM5).view.loc (c : Thread nD τ))) (f6 : Buf (Elt F) ((sM6).view.loc (c : Thread nD τ))) (f7 : Buf (Elt F) ((sM7).view.loc (c : Thread nD τ))) (f8 : Buf (Elt F) ((sM8).view.loc (c : Thread nD τ))) (f9 : Buf (Elt F) ((sM9).view.loc (c : Thread nD τ))) (f10 : Buf (Elt F) ((sM10).view.loc (c : Thread nD τ))) (f11 : Buf (Elt F) ((sM11).view.loc (c : Thread nD τ))) (f12 : Buf (Elt F) ((sM12).view.loc (c : Thread nD τ))) (f13 : Buf (Elt F) ((sM13).view.loc (c : Thread nD τ))) (f14 : Buf (Elt F) ((sM14).view.loc (c : Thread nD τ))) (f15 : Buf (Elt F) ((sM15).view.loc (c : Thread nD τ))) :
    { G : Buf (Elt F) ((rM0).view.loc (c : Thread nD τ)) × Buf (Elt F) ((rM1).view.loc (c : Thread nD τ)) × Buf (Elt F) ((rM2).view.loc (c : Thread nD τ)) //
      ∀ (W : Waits sig Unit) (K : PUnit → sProp 𝕄),
        iprop(pt c sM1 f1
            ∗ pt c sM2 f2
            ∗ pt c sM3 f3
            ∗ pt c sM4 f4
            ∗ pt c sM5 f5
            ∗ pt c sM6 f6
            ∗ pt c sM7 f7
            ∗ pt c sM8 f8
            ∗ pt c sM9 f9
            ∗ pt c sM10 f10
            ∗ pt c sM11 f11
            ∗ pt c sM12 f12
            ∗ pt c sM13 f13
            ∗ pt c sM14 f14
            ∗ pt c sM15 f15
            ∗ pt c sM0 f0
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ pt c aM0 a0
            ∗ pt c aM1 a1
            ∗ pt c aM2 a2
            ∗ pt c aM3 a3
            ∗ pt c aM4 a4
            ∗ pt c aM5 a5
            ∗ pt c rM0 r0
            ∗ pt c rM1 r1
            ∗ pt c rM2 r2
            ∗ owes (c : Thread nD τ) 0 W
            ∗ (iprop((∃ f, pt c sM1 f)
            ∗ (∃ f, pt c sM2 f)
            ∗ (∃ f, pt c sM3 f)
            ∗ (∃ f, pt c sM4 f)
            ∗ (∃ f, pt c sM5 f)
            ∗ (∃ f, pt c sM6 f)
            ∗ (∃ f, pt c sM7 f)
            ∗ (∃ f, pt c sM8 f)
            ∗ (∃ f, pt c sM9 f)
            ∗ (∃ f, pt c sM10 f)
            ∗ (∃ f, pt c sM11 f)
            ∗ (∃ f, pt c sM12 f)
            ∗ (∃ f, pt c sM13 f)
            ∗ (∃ f, pt c sM14 f)
            ∗ (∃ f, pt c sM15 f)
            ∗ (∃ f, pt c sM0 f)
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ pt c aM0 a0
            ∗ pt c aM1 a1
            ∗ pt c aM2 a2
            ∗ pt c aM3 a3
            ∗ pt c aM4 a4
            ∗ pt c aM5 a5
            ∗ pt c rM0 (G.1)
            ∗ pt c rM1 (G.2.1)
            ∗ pt c rM2 (G.2.2)
            ∗ (∃ W', owes (c : Thread nD τ) 0 W')) -∗ K ⟨⟩))
          ⊢ wp frame (wpE (defs₀ (F := F)) Variants.none c none) Set.univ
              (cc0_swa_attend aM0 (Memref.isWhole_whole _) aM1 (Memref.isWhole_whole _) aM2 (Memref.isWhole_whole _) aM3 (Memref.isWhole_whole _) aM4 (Memref.isWhole_whole _) aM5 (Memref.isWhole_whole _) rM0 (Memref.isWhole_whole _) rM1 (Memref.isWhole_whole _) rM2 (Memref.isWhole_whole _) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) sM11 (Memref.isWhole_whole _) sM12 (Memref.isWhole_whole _) sM13 (Memref.isWhole_whole _) sM14 (Memref.isWhole_whole _) sM15 (Memref.isWhole_whole _) cc0_scratch16 cc0_scratch17) K } := by
  refine ⟨(?_, ?_, ?_), fun W K => ?run⟩
  case run =>
    simp only [cc0_swa_attend_eq_skeleton]; unfold cc0_swa_attend_skel
    iintro ⟨S1, S2, S3, S4, S5, S6, S7, S8, S9, S10, S11, S12, S13, S14, S15, S0, Q0, Q1, Q2, Q3, Q4, Q5, Q6, Q7, Q8, A0, A1, A2, A3, A4, A5, R0, R1, R2, HW, Hk⟩
    sl_exec_parts!
    sl_step
    iapply Hk
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S0]; · iexists _; iexact S0
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [A0]; · iexact A0
    isplitl [A1]; · iexact A1
    isplitl [A2]; · iexact A2
    isplitl [A3]; · iexact A3
    isplitl [A4]; · iexact A4
    isplitl [A5]; · iexact A5
    isplitl [R0]; · iexact R0
    isplitl [R1]; · iexact R1
    isplitl [R2]; · iexact R2
    iexists _; iexact HW

end Cert.AttendIdeal.Hand

end
-- ==== Proof.AFrameV.lean ====
/- The launch of `AttendIdeal`: what each result array holds when it ends, the arguments unchanged and every semaphore at zero. -/
module

public import proofs.«01_k».proof.Proof.ABodyI

@[expose] public section

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The result arrays, which the body's copies write. -/
def R0 : Finset (Ref sig .tc) := {main_v0_0, main_v0_1, main_v0_2}
/-- The arrays the body's copies read. -/
def H0 : Finset (Ref sig .tc) := {main_arg0, main_arg1, main_arg2, main_arg3, main_arg4, main_arg5}

/-- `@main` up to the region, at the algebra of the copies. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

abbrev osem0 : Fin 9 → SemLoc sig := fun j => (![SemLoc.dma 0, SemLoc.dma 1, SemLoc.dma 2, SemLoc.dma 3, SemLoc.dma 4, SemLoc.dma 5, SemLoc.dma 6, SemLoc.dma 7, SemLoc.dma 8] : Fin 9 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3, 4, 5, 6, 7, 8] (by decide) (by decide)]; rfl

theorem H0_sub : H0 ⊆ Pipeline.restRefs sig (cfg0.spec) := by decide
theorem hbmPts0_eq (c : Dev nD) :
    (bigSep H0 (fun b => ((c : Thread nD τ).loc b) ↦{fullShare} V m c b) : sProp 𝕄)
      = iprop(pt c aM0 (V m c main_arg0) ∗ pt c aM1 (V m c main_arg1) ∗ pt c aM2 (V m c main_arg2) ∗ pt c aM3 (V m c main_arg3) ∗ pt c aM4 (V m c main_arg4) ∗ pt c aM5 (V m c main_arg5)) := by
  rw [BI.bigSep_eq_bigSepL_of_eq [main_arg0, main_arg1, main_arg2, main_arg3, main_arg4, main_arg5] (by decide) (by decide)]; rfl

theorem R0_sub : R0 ⊆ Pipeline.restRefs sig (cfg0.spec) \ H0 := by decide

/-- The result arrays, each whole at the given contents. -/
theorem routed0_eq (c : Dev nD) (W : (b : Ref sig .tc) → Buf (Elt F) ((c.tc : Thread nD τ).loc b)) :
    (Pipeline.routed R0 c W : sProp 𝕄)
      = iprop(pt c rM0 (W main_v0_0) ∗ pt c rM1 (W main_v0_1) ∗ pt c rM2 (W main_v0_2)) := by
  unfold Pipeline.routed; rw [BI.bigSep_eq_bigSepL_of_eq [main_v0_0, main_v0_1, main_v0_2] (by decide) (by decide)]; rfl

theorem Phi0_eq (G : (c : Dev nD) → (b : Ref sig .tc) → Buf (Elt F) ((c.tc : Thread nD τ).loc b)) (c : Dev nD) :
    (Pipeline.ΦDRG osem0 (cfg0.spec) H0 R0 (V m) G c : sProp 𝕄)
      = iprop(iprop((∃ f, pt c sM1 f) ∗ (∃ f, pt c sM2 f) ∗ (∃ f, pt c sM3 f) ∗ (∃ f, pt c sM4 f) ∗ (∃ f, pt c sM5 f) ∗ (∃ f, pt c sM6 f) ∗ (∃ f, pt c sM7 f) ∗ (∃ f, pt c sM8 f) ∗ (∃ f, pt c sM9 f) ∗ (∃ f, pt c sM10 f) ∗ (∃ f, pt c sM11 f) ∗ (∃ f, pt c sM12 f) ∗ (∃ f, pt c sM13 f) ∗ (∃ f, pt c sM14 f) ∗ (∃ f, pt c sM15 f) ∗ (∃ f, pt c sM0 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0)
          ∗ iprop(pt c aM0 (V m c main_arg0) ∗ pt c aM1 (V m c main_arg1) ∗ pt c aM2 (V m c main_arg2) ∗ pt c aM3 (V m c main_arg3) ∗ pt c aM4 (V m c main_arg4) ∗ pt c aM5 (V m c main_arg5))
          ∗ iprop(pt c rM0 (G c main_v0_0) ∗ pt c rM1 (G c main_v0_1) ∗ pt c rM2 (G c main_v0_2))) := by
  rw [Pipeline.ΦDRG_eq, scopedRest0_eq, ownSems00_eq, hbmPts0_eq, routed0_eq]

/-- The contents of the result arrays after `t` of the region's one point: as found before it, `G` after it. -/
def Gat (G : (c : Dev nD) → (b : Ref sig .tc) → Buf (Elt F) ((c.tc : Thread nD τ).loc b)) (t : ℕ) :
    (c : Dev nD) → (b : Ref sig .tc) → Buf (Elt F) ((c.tc : Thread nD τ).loc b) := if t = 0 then V m else G

variable (G : (c : Dev nD) → (b : Ref sig .tc) → Buf (Elt F) ((c.tc : Thread nD τ).loc b))

/-- The proof data of the one region: no window; the copies' invariant before and after its one point. -/
def dats (_ : Fin 1) (c : Dev nD) : Dat τ (Elt F) Unit ℕ (Pipeline.UD sig nD τ) ℕ cfg0 c where
  A w := V m c (Pipeline.arrRef (cfg0.spec) w)
  after w _ := (w : Fin 0).elim0
  Φ t := Pipeline.ΦDRG osem0 (cfg0.spec) H0 R0 (V m) (Gat m G t.1) c
  q _ := fullShare
  owed _ := 0

theorem A_eq (c : Dev nD) (w : Fin cfg0.W) : (dats m G 0 c).A w = V m c (Pipeline.arrRef (cfg0.spec) w) := rfl

theorem point_zero (t : Fin cfg0.N) : (t : ℕ) = 0 := by
  have h : (t : ℕ) < cfg0.N := t.2
  have h0 : cfg0.N = 1 := N_0; omega

/-- The body of the region's one point takes the invariant before it to the invariant after it. -/
theorem sound_body
    (hG : ∀ (c : Dev nD) r0 r1 r2 f0 f1 f2 f3 f4 f5 f6 f7 f8 f9 f10 f11 f12 f13 f14 f15,
      (run c (V m c main_arg0) (V m c main_arg1) (V m c main_arg2) (V m c main_arg3) (V m c main_arg4) (V m c main_arg5) r0 r1 r2 f0 f1 f2 f3 f4 f5 f6 f7 f8 f9 f10 f11 f12 f13 f14 f15).1
        = (G c main_v0_0, G c main_v0_1, G c main_v0_2)) (c : Dev nD) (t : Fin cfg0.N) :
    iprop((dats m G 0 c).Φ t.castSucc ∗ (dats m G 0 c).owesAt () t.castSucc ∗ emp)
      ⊢ wp frame (wpE (defs₀ (F := F)) Variants.none c none) Set.univ (bodyAt0 t)
          (fun _ => iprop((dats m G 0 c).Φ t.succ ∗ (dats m G 0 c).owesAt () t.succ ∗ emp)) := by
  unfold bodyAt0
  rw [show (dats m G 0 c).Φ t.castSucc = Pipeline.ΦDRG osem0 (cfg0.spec) H0 R0 (V m) (V m) c from by
        dsimp only [dats, Gat, Fin.val_castSucc]; rw [if_pos (point_zero t)],
      show (dats m G 0 c).Φ t.succ = Pipeline.ΦDRG osem0 (cfg0.spec) H0 R0 (V m) G c from by
        dsimp only [dats, Gat, Fin.val_succ]; rw [if_neg (Nat.succ_ne_zero _)], Phi0_eq, Phi0_eq]
  unfold Dat.owesAt Pipeline.owesWithin
  rw [show (dats m G 0 c).owed t.castSucc = 0 from rfl, show (dats m G 0 c).owed t.succ = 0 from rfl]
  iintro ⟨⟨⟨⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f0, S0⟩⟩, Hg, ⟨Q0, Q1, Q2, Q3, Q4, Q5, Q6, Q7, Q8⟩, ⟨A0, A1, A2, A3, A4, A5⟩, ⟨R0, R1, R2⟩⟩, ⟨%W, -, HW⟩, -⟩
  iapply ((run c (V m c main_arg0) (V m c main_arg1) (V m c main_arg2) (V m c main_arg3) (V m c main_arg4) (V m c main_arg5) (V m c main_v0_0) (V m c main_v0_1) (V m c main_v0_2) f0 f1 f2 f3 f4 f5 f6 f7 f8 f9 f10 f11 f12 f13 f14 f15).2 W _)
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S0]; · iexact S0
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [A0]; · iexact A0
  isplitl [A1]; · iexact A1
  isplitl [A2]; · iexact A2
  isplitl [A3]; · iexact A3
  isplitl [A4]; · iexact A4
  isplitl [A5]; · iexact A5
  isplitl [R0]; · iexact R0
  isplitl [R1]; · iexact R1
  isplitl [R2]; · iexact R2
  isplitl [HW]; · iexact HW
  rw [hG c (V m c main_v0_0) (V m c main_v0_1) (V m c main_v0_2) f0 f1 f2 f3 f4 f5 f6 f7 f8 f9 f10 f11 f12 f13 f14 f15]
  iintro ⟨S1, S2, S3, S4, S5, S6, S7, S8, S9, S10, S11, S12, S13, S14, S15, S0, Q0, Q1, Q2, Q3, Q4, Q5, Q6, Q7, Q8, A0, A1, A2, A3, A4, A5, R0, R1, R2, ⟨%W', HW'⟩⟩
  isplitl [S1 S2 S3 S4 S5 S6 S7 S8 S9 S10 S11 S12 S13 S14 S15 S0 Hg Q0 Q1 Q2 Q3 Q4 Q5 Q6 Q7 Q8 A0 A1 A2 A3 A4 A5 R0 R1 R2]
  · isplitl [S1 S2 S3 S4 S5 S6 S7 S8 S9 S10 S11 S12 S13 S14 S15 S0]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S0
    isplitl [Hg]; · iexact Hg
    isplitl [Q0 Q1 Q2 Q3 Q4 Q5 Q6 Q7 Q8]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      iexact Q8
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [R0]; · iexact R0
    isplitl [R1]; · iexact R1
    iexact R2
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := BI.bigSep_empty

theorem body_obligation
    (hG : ∀ (c : Dev nD) r0 r1 r2 f0 f1 f2 f3 f4 f5 f6 f7 f8 f9 f10 f11 f12 f13 f14 f15,
      (run c (V m c main_arg0) (V m c main_arg1) (V m c main_arg2) (V m c main_arg3) (V m c main_arg4) (V m c main_arg5) r0 r1 r2 f0 f1 f2 f3 f4 f5 f6 f7 f8 f9 f10 f11 f12 f13 f14 f15).1
        = (G c main_v0_0, G c main_v0_1, G c main_v0_2)) (c : Dev nD) : BodyObligation (dats (F := F) m G 0 c) (defs₀ (F := F)) Variants.none () Set.univ := fun t => by
  rw [bigSep_none, bigSep_none, defs₀_row]
  exact triple_restated (sound_body m G hG c t) rfl .rfl fun _ => .rfl

set_option backward.isDefEq.respectTransparency.types false in
/-- The whole program runs and leaves the results at `G`, with every semaphore at zero at the end. -/
theorem run_main
    (hG : ∀ (c : Dev nD) r0 r1 r2 f0 f1 f2 f3 f4 f5 f6 f7 f8 f9 f10 f11 f12 f13 f14 f15,
      (run c (V m c main_arg0) (V m c main_arg1) (V m c main_arg2) (V m c main_arg3) (V m c main_arg4) (V m c main_arg5) r0 r1 r2 f0 f1 f2 f3 f4 f5 f6 f7 f8 f9 f10 f11 f12 f13 f14 f15).1
        = (G c main_v0_0, G c main_v0_1, G c main_v0_2)) : θ_run defs (onTc (τ := τ) (main (F := F))) (s₀ m ρ) (fun r => Pipeline.FramePostRG cfgs (dats m G) 0 R0 (V m) G r ∧ r.2.sem = fun _ => 0) :=
  Pipeline.θ_run_frame_dmaRG (Q' := _) cfgs (dats m G) (0 : Fin 1) launch0 osem0 defs₀ Variants.none ownSemFacts0 H0 R0 H0_sub R0_sub m ρ main
    (hbody := fun c => (body_obligation m G hG c).loose) (hshare := fun c => (dats m G 0 c).share_full fun _ => rfl)
    (howed := fun _ _ => rfl) (V := V m) (G := G) (hmain := hmainD m Variants.none) (hA := A_eq m G)
    (hin := fun _ => .rfl) (hout := fun _ => .rfl)

/-- What the program leaves: each result array at `G`, each argument as launched, every semaphore at zero. -/
theorem value_of
    (hG : ∀ (c : Dev nD) r0 r1 r2 f0 f1 f2 f3 f4 f5 f6 f7 f8 f9 f10 f11 f12 f13 f14 f15,
      (run c (V m c main_arg0) (V m c main_arg1) (V m c main_arg2) (V m c main_arg3) (V m c main_arg4) (V m c main_arg5) r0 r1 r2 f0 f1 f2 f3 f4 f5 f6 f7 f8 f9 f10 f11 f12 f13 f14 f15).1
        = (G c main_v0_0, G c main_v0_1, G c main_v0_2)) : θ_run defs (onTc (τ := τ) (main (F := F))) ⟨m, fun _ => 0, ρ⟩ (fun r => (∀ c : Dev nD,
      (r.2.mem ((c.tc : Thread nD τ).loc main_v0_0) = G c main_v0_0
      ∧ r.2.mem ((c.tc : Thread nD τ).loc main_v0_1) = G c main_v0_1
      ∧ r.2.mem ((c.tc : Thread nD τ).loc main_v0_2) = G c main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨⟨h.1.2 c main_v0_0 (by decide), h.1.2 c main_v0_1 (by decide), h.1.2 c main_v0_2 (by decide)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩, h.2⟩) (run_main m ρ G hG)

end Cert.AttendIdeal.Hand

end
-- ==== Proof.AOps.lean ====
module
public import proofs.«01_k».proof.Proof.Gen.AttendIdeal.Frame

/-! # Groups of operations of the attention kernel, each a function of the values it reads -/

@[expose] public section
set_option maxRecDepth 16384
noncomputable section
open Idealize.ShloMosaic Idealize.ShloMosaic.TcCoe
open Cert.AttendIdeal Cert.AttendIdeal.Gen
namespace Cert.AVal

variable {F : FTy → Type} [FloatOps F]

def op20 (v136 : Vec F S1x1x128 .f32) : FVec F S1x8x128 .f32 :=
  have v137 : FVec F S1x128 .f32 := shapeCast S1x128 v136 shapeCasts_S1x1x128_S1x128
  have cst_91 : F .f32 := Scalar.ofBits .f32 0x3D800000#32
  have v138 : FVec F S1x128 .f32 := broadcast S1x128 cst_91
  have v139 : FVec F S1x128 .f32 := mulf v137 v138
  have v142 : FVec F S1x128 .f32 := shapeCast S1x128 v139 shapeCasts_S1x128_S1x128
  have v143 : FVec F S8x128 .f32 := broadcastTo S8x128 v142 broadcasts_S1x128_S8x128
  have v146 : FVec F S1x8x128 .f32 := shapeCast S1x8x128 v143 shapeCasts_S8x128_S1x8x128
  v146

def op21 (v140 : Vec F S1x1x128 .f32) : FVec F S1x8x128 .f32 :=
  have v141 : FVec F S1x128 .f32 := shapeCast S1x128 v140 shapeCasts_S1x1x128_S1x128
  have v147 : FVec F S1x128 .f32 := shapeCast S1x128 v141 shapeCasts_S1x128_S1x128
  have v148 : FVec F S8x128 .f32 := broadcastTo S8x128 v147 broadcasts_S1x128_S8x128
  have v151 : FVec F S1x8x128 .f32 := shapeCast S1x8x128 v148 shapeCasts_S8x128_S1x8x128
  v151

def op50 : IVec S8x1280 32 :=
  have v344 : IVec S8x1280 32 := iota .tc S8x1280 32 [1] iota_S8x1280_d1_w32
  have v345 : IVec S8x1280 32 := broadcast S8x1280 31#32
  have v346 : IVec S8x1280 32 := andi v344 v345
  have v347 : IVec S8x1280 32 := broadcast S8x1280 1024#32
  have v348 : IVec S8x1280 1 := cmpi .slt v344 v347
  have v349 : IVec S8x1280 32 := broadcast S8x1280 5#32
  have v350 : IVec S8x1280 32 := shrsi v344 v349
  have v351 : IVec S8x1280 32 := broadcast S8x1280 32#32
  have v352 : IVec S8x1280 32 := select v348 v350 v351
  have v353 : IVec S8x1280 32 := broadcast S8x1280 32#32
  have v354 : IVec S8x1280 32 := muli v352 v353
  have v355 : IVec S8x1280 32 := broadcast S8x1280 3#32
  have v356 : IVec S8x1280 32 := shrsi v346 v355
  have v357 : IVec S8x1280 32 := broadcast S8x1280 1#32
  have v358 : IVec S8x1280 32 := andi v356 v357
  have v359 : IVec S8x1280 32 := broadcast S8x1280 16#32
  have v360 : IVec S8x1280 32 := muli v358 v359
  have v361 : IVec S8x1280 32 := addi v354 v360
  have v362 : IVec S8x1280 32 := broadcast S8x1280 4#32
  have v363 : IVec S8x1280 32 := shrsi v346 v362
  have v364 : IVec S8x1280 32 := broadcast S8x1280 3#32
  have v365 : IVec S8x1280 32 := shli v363 v364
  have v366 : IVec S8x1280 32 := addi v361 v365
  have v367 : IVec S8x1280 32 := broadcast S8x1280 7#32
  have v368 : IVec S8x1280 32 := andi v346 v367
  have v369 : IVec S8x1280 32 := addi v366 v368
  v369

def op51 (v344 : IVec S8x1280 32) (v369 : IVec S8x1280 32) (v377 : BitVec 32) : IVec S8x1280 32 :=
  have v378 : IVec S8x1280 32 := broadcast S8x1280 v377
  have v379 : IVec S8x1280 32 := addi v369 v378
  have v380 : IVec S8x1280 32 := broadcast S8x1280 0#32
  have v381 : IVec S8x1280 1 := cmpi .slt v379 v380
  have v382 : IVec S8x1280 32 := broadcast S8x1280 1184#32
  have v383 : IVec S8x1280 1 := cmpi .slt v344 v382
  have v384 : IVec S8x1280 1 := andi v381 v383
  have v385 : IVec S8x1280 32 := broadcast S8x1280 1048576#32
  have v386 : IVec S8x1280 32 := select v384 v379 v385
  have v387 : IVec S8x1280 32 := broadcast S8x1280 1024#32
  have v388 : IVec S8x1280 1 := cmpi .sge v344 v387
  have v389 : IVec S8x1280 32 := broadcast S8x1280 1152#32
  have v390 : IVec S8x1280 1 := cmpi .slt v344 v389
  have v391 : IVec S8x1280 1 := andi v388 v390
  have v392 : IVec S8x1280 32 := broadcast S8x1280 1024#32
  have v393 : IVec S8x1280 32 := subi v344 v392
  have v394 : IVec S8x1280 32 := select v391 v393 v386
  v394

def op52 (v395 : Vec F S1x320x256 .i32) (v398 : Vec F S1x512x256 .bf16) : FVec F S1x512x1280 .f32 :=
  have v396 : FVec F S1280x256 .fp8e4m3 := bitcastToFloat .fp8e4m3 (bitcast S1280x256 8 (shapeCast S320x256 v395 shapeCasts_S1x320x256_S320x256) bitcasts_S320x256_w32_S1280x256_w8)
  have v397 : FVec F S1280x256 .bf16 := extf .bf16 v396 bitsLt_fp8e4m3_bf16
  have v399 : FVec F S512x256 .bf16 := shapeCast S512x256 v398 shapeCasts_S1x512x256_S512x256
  have cst_274 : FVec F S512x1280 .f32 := constant S512x1280 .f32 0x00000000#32
  have v400 : FVec F S512x1280 .f32 := matmul dot_S512x256_S1280x256_S512x1280_1_1_0_0_n_n none v399 v397 cst_274
  have v403 : FVec F S1x512x1280 .f32 := shapeCast S1x512x1280 v400 shapeCasts_S512x1280_S1x512x1280
  v403

def op53 (v404 : Vec F S1x8x1280 .f32) : FVec F S8x1280 .f32 :=
  have v405 : FVec F S8x1280 .f32 := shapeCast S8x1280 v404 shapeCasts_S1x8x1280_S8x1280
  v405

def op54 (v406 : Vec F S1x8x1280 .f32) : FVec F S8x1280 .f32 :=
  have v407 : FVec F S8x1280 .f32 := shapeCast S8x1280 v406 shapeCasts_S1x8x1280_S8x1280
  v407

def op56 : IVec S8x1280 32 :=
  have v412 : IVec S8x1280 32 := broadcast S8x1280 4294966272#32
  v412

def op57 (v411 : IVec S8x1280 32) (v412 : IVec S8x1280 32) : IVec S8x1280 1 :=
  have v413 : IVec S8x1280 32 := andi v411 v412
  have v414 : IVec S8x1280 32 := broadcast S8x1280 0#32
  have v415 : IVec S8x1280 1 := cmpi .eq v413 v414
  v415

def op65 (v405 : FVec F S8x1280 .f32) (v415 : IVec S8x1280 1) (v454 : Vec F S1x8x1280 .f32) : FVec F S8x1280 .f32 :=
  have v455 : FVec F S8x1280 .f32 := shapeCast S8x1280 v454 shapeCasts_S1x8x1280_S8x1280
  have v456 : FVec F S8x1280 .f32 := mulf v455 v405
  have cst_304 : F .f32 := Scalar.ofBits .f32 0xFF800000#32
  have v457 : FVec F S8x1280 .f32 := broadcast S8x1280 cst_304
  have v458 : FVec F S8x1280 .f32 := select v415 v456 v457
  v458

def op66 (v405 : FVec F S8x1280 .f32) (v415 : IVec S8x1280 1) (v454 : Vec F S1x8x1280 .f32) : FVec F S8x1 .f32 :=
  have v459 : FVec F S8 .f32 := multiReduction .maximumf [1] S8 (op65 v405 v415 v454) 0xFF800000#32 reduces_S8x1280_S8 (.inl rfl) rfl
  have v460 : FVec F S8x1 .f32 := shapeCast S8x1 v459 shapeCasts_S8_S8x1
  v460

def op67 (v405 : FVec F S8x1280 .f32) (v415 : IVec S8x1280 1) (v454 : Vec F S1x8x1280 .f32) : FVec F S8x1280 .f32 :=
  have v461 : FVec F S8x1280 .f32 := broadcastTo S8x1280 (op66 v405 v415 v454) broadcasts_S8x1_S8x1280
  have v462 : FVec F S8x1280 .f32 := subf (op65 v405 v415 v454) v461
  have v463 : FVec F S8x1280 .f32 := exp v462
  v463

def op68 (v405 : FVec F S8x1280 .f32) (v415 : IVec S8x1280 1) (v454 : Vec F S1x8x1280 .f32) : FVec F S8x1 .f32 :=
  have v464 : FVec F S8 .f32 := multiReduction .add [1] S8 (op67 v405 v415 v454) 0x00000000#32 reduces_S8x1280_S8 (.inl rfl) rfl
  have v465 : FVec F S8x1 .f32 := shapeCast S8x1 v464 shapeCasts_S8_S8x1
  v465

def op69 (v405 : FVec F S8x1280 .f32) (v407 : FVec F S8x1280 .f32) (v415 : IVec S8x1280 1) (v454 : Vec F S1x8x1280 .f32) : FVec F S1x8x1280 .bf16 :=
  have cst_307 : F .f32 := Scalar.ofBits .f32 0x3F800000#32
  have v466 : FVec F S8x1 .f32 := broadcast S8x1 cst_307
  have v467 : FVec F S8x1 .f32 := divf v466 (op68 v405 v415 v454)
  have v468 : FVec F S8x1280 .f32 := broadcastTo S8x1280 v467 broadcasts_S8x1_S8x1280
  have v469 : FVec F S8x1280 .f32 := mulf (op67 v405 v415 v454) v468
  have v470 : FVec F S8x1280 .f32 := mulf v469 v407
  have v471 : FVec F S8x1280 .bf16 := truncf .bf16 v470 bitsLt_bf16_f32
  have v474 : FVec F S1x8x1280 .bf16 := shapeCast S1x8x1280 v471 shapeCasts_S8x1280_S1x8x1280
  v474

def op509 (v2616 : Vec F S1x320x256 .i32) (v2619 : Vec F S1x512x1280 .bf16) : FVec F S1x512x256 .f32 :=
  have v2617 : FVec F S1280x256 .fp8e4m3 := bitcastToFloat .fp8e4m3 (bitcast S1280x256 8 (shapeCast S320x256 v2616 shapeCasts_S1x320x256_S320x256) bitcasts_S320x256_w32_S1280x256_w8)
  have v2618 : FVec F S1280x256 .bf16 := extf .bf16 v2617 bitsLt_fp8e4m3_bf16
  have v2620 : FVec F S512x1280 .bf16 := shapeCast S512x1280 v2619 shapeCasts_S1x512x1280_S512x1280
  have cst_1080 : FVec F S512x256 .f32 := constant S512x256 .f32 0x00000000#32
  have v2621 : FVec F S512x256 .f32 := matmul dot_S512x1280_S1280x256_S512x256_1_0_0_1_n_n none v2620 v2618 cst_1080
  have v2624 : FVec F S1x512x256 .f32 := shapeCast S1x512x256 v2621 shapeCasts_S512x256_S1x512x256
  v2624

def op513 (v2631 : Vec F S1x32x256 .f32) : FVec F S32x256 .f32 :=
  have v2632 : FVec F S32x256 .f32 := shapeCast S32x256 v2631 shapeCasts_S1x32x256_S32x256
  v2632

def op514 (v2633 : Vec F S1x32x256 .f32) : FVec F S32x256 .f32 :=
  have v2634 : FVec F S32x256 .f32 := shapeCast S32x256 v2633 shapeCasts_S1x32x256_S32x256
  v2634

def op515 (v2628 : FVec F S32x256 .f32) (v2630 : FVec F S32x256 .f32) (v2631 : Vec F S1x32x256 .f32) (v2633 : Vec F S1x32x256 .f32) : FVec F S32x128 .f32 :=
  have v2635 : FVec F S32x128 .f32 := extractStridedSlice S32x128 ![0, 0] v2628 slices_S32x256_o0_0_S32x128
  have v2636 : FVec F S32x128 .f32 := absf v2635
  have v2637 : FVec F S32x128 .f32 := extractStridedSlice S32x128 ![0, 128] v2628 slices_S32x256_o0_128_S32x128
  have v2638 : FVec F S32x128 .f32 := absf v2637
  have v2639 : FVec F S32x128 .f32 := maximumf v2636 v2638
  have v2640 : FVec F S32x128 .f32 := extractStridedSlice S32x128 ![0, 0] v2630 slices_S32x256_o0_0_S32x128
  have v2641 : FVec F S32x128 .f32 := absf v2640
  have v2642 : FVec F S32x128 .f32 := maximumf v2639 v2641
  have v2643 : FVec F S32x128 .f32 := extractStridedSlice S32x128 ![0, 128] v2630 slices_S32x256_o0_128_S32x128
  have v2644 : FVec F S32x128 .f32 := absf v2643
  have v2645 : FVec F S32x128 .f32 := maximumf v2642 v2644
  have v2646 : FVec F S32x128 .f32 := extractStridedSlice S32x128 ![0, 0] (op513 v2631) slices_S32x256_o0_0_S32x128
  have v2647 : FVec F S32x128 .f32 := absf v2646
  have v2648 : FVec F S32x128 .f32 := maximumf v2645 v2647
  have v2649 : FVec F S32x128 .f32 := extractStridedSlice S32x128 ![0, 128] (op513 v2631) slices_S32x256_o0_128_S32x128
  have v2650 : FVec F S32x128 .f32 := absf v2649
  have v2651 : FVec F S32x128 .f32 := maximumf v2648 v2650
  have v2652 : FVec F S32x128 .f32 := extractStridedSlice S32x128 ![0, 0] (op514 v2633) slices_S32x256_o0_0_S32x128
  have v2653 : FVec F S32x128 .f32 := absf v2652
  have v2654 : FVec F S32x128 .f32 := maximumf v2651 v2653
  have v2655 : FVec F S32x128 .f32 := extractStridedSlice S32x128 ![0, 128] (op514 v2633) slices_S32x256_o0_128_S32x128
  have v2656 : FVec F S32x128 .f32 := absf v2655
  have v2657 : FVec F S32x128 .f32 := maximumf v2654 v2656
  have v2658 : FVec F S32 .f32 := multiReduction .maximumf [1] S32 v2657 0xFF800000#32 reduces_S32x128_S32 (.inl rfl) rfl
  have v2659 : FVec F S32x1 .f32 := shapeCast S32x1 v2658 shapeCasts_S32_S32x1
  have v2660 : FVec F S32x1 .f32 := shapeCast S32x1 v2659 shapeCasts_S32x1_S32x1
  have v2661 : FVec F S32x128 .f32 := broadcastTo S32x128 v2660 broadcasts_S32x1_S32x128
  have cst_1100 : F .f32 := Scalar.ofBits .f32 0x3B124925#32
  have v2662 : FVec F S32x128 .f32 := broadcast S32x128 cst_1100
  have v2663 : FVec F S32x128 .f32 := mulf v2661 v2662
  have cst_1101 : F .f32 := Scalar.ofBits .f32 0x00000000#32
  have v2664 : FVec F S32x128 .f32 := broadcast S32x128 cst_1101
  have v2665 : IVec S32x128 1 := cmpf .oeq v2663 v2664
  have cst_1102 : F .f32 := Scalar.ofBits .f32 0x7F800000#32
  have v2666 : FVec F S32x128 .f32 := broadcast S32x128 cst_1102
  have v2667 : IVec S32x128 1 := cmpf .oeq v2663 v2666
  have v2668 : IVec S32x128 1 := ori v2665 v2667
  have v2669 : FVec F S32x128 .f32 := log v2663
  have cst_1103 : F .f32 := Scalar.ofBits .f32 0x40000000#32
  have v2670 : FVec F S32x128 .f32 := broadcast S32x128 cst_1103
  have v2671 : FVec F S32x128 .f32 := log v2670
  have v2672 : FVec F S32x128 .f32 := divf v2669 v2671
  have v2673 : FVec F S32x128 .f32 := floor v2672
  have cst_1104 : F .f32 := Scalar.ofBits .f32 0x3F800000#32
  have v2674 : FVec F S32x128 .f32 := broadcast S32x128 cst_1104
  have v2675 : FVec F S32x128 .f32 := addf v2673 v2674
  have cst_1105 : F .f32 := Scalar.ofBits .f32 0x00000000#32
  have v2676 : FVec F S32x128 .f32 := broadcast S32x128 cst_1105
  have v2677 : FVec F S32x128 .f32 := select v2668 v2676 v2675
  v2677

def op516 (v2677 : FVec F S32x128 .f32) : FVec F S32x128 .f32 :=
  have cst_1106 : F .f32 := Scalar.ofBits .f32 0x00000000#32
  have v2678 : FVec F S32x128 .f32 := broadcast S32x128 cst_1106
  have v2679 : FVec F S32x128 .f32 := subf v2678 v2677
  have v2680 : FVec F S32x128 .f32 := exp2 v2679
  v2680

def op529 (v2626 : FVec F S128x128 .f32) (v2681 : FVec F S32x128 .f32) : FVec F S32x128 .f32 :=
  have v2765 : IVec S32x128 32 := iota .tc S32x128 32 [1] iota_S32x128_d1_w32
  have v2766 : IVec S32x128 32 := broadcast S32x128 4#32
  have v2767 : IVec S32x128 1 := cmpi .eq v2765 v2766
  have v2768 : FVec F S32x128 .f32 := extractStridedSlice S32x128 ![0, 0] v2626 slices_S128x128_o0_0_S32x128
  have v2769 : FVec F S32x128 .f32 := select v2767 v2681 v2768
  v2769

def op549 (v2626 : FVec F S128x128 .f32) (v2824 : FVec F S32x128 .f32) : FVec F S32x128 .f32 :=
  have v2908 : IVec S32x128 32 := iota .tc S32x128 32 [1] iota_S32x128_d1_w32
  have v2909 : IVec S32x128 32 := broadcast S32x128 4#32
  have v2910 : IVec S32x128 1 := cmpi .eq v2908 v2909
  have v2911 : FVec F S32x128 .f32 := extractStridedSlice S32x128 ![32, 0] v2626 slices_S128x128_o32_0_S32x128
  have v2912 : FVec F S32x128 .f32 := select v2910 v2824 v2911
  v2912

def op568 (v2626 : FVec F S128x128 .f32) (v2967 : FVec F S32x128 .f32) : FVec F S32x128 .f32 :=
  have v3051 : IVec S32x128 32 := iota .tc S32x128 32 [1] iota_S32x128_d1_w32
  have v3052 : IVec S32x128 32 := broadcast S32x128 4#32
  have v3053 : IVec S32x128 1 := cmpi .eq v3051 v3052
  have v3054 : FVec F S32x128 .f32 := extractStridedSlice S32x128 ![64, 0] v2626 slices_S128x128_o64_0_S32x128
  have v3055 : FVec F S32x128 .f32 := select v3053 v2967 v3054
  v3055

def op588 (v2626 : FVec F S128x128 .f32) (v2769 : FVec F S32x128 .f32) (v2912 : FVec F S32x128 .f32) (v3055 : FVec F S32x128 .f32) (v3110 : FVec F S32x128 .f32) : FVec F S128x128 .f32 :=
  have v3194 : IVec S32x128 32 := iota .tc S32x128 32 [1] iota_S32x128_d1_w32
  have v3195 : IVec S32x128 32 := broadcast S32x128 4#32
  have v3196 : IVec S32x128 1 := cmpi .eq v3194 v3195
  have v3197 : FVec F S32x128 .f32 := extractStridedSlice S32x128 ![96, 0] v2626 slices_S128x128_o96_0_S32x128
  have v3198 : FVec F S32x128 .f32 := select v3196 v3110 v3197
  have v3199 : FVec F S128x128 .f32 := concatenate S128x128 0 [⟨S32x128, v2769⟩, ⟨S32x128, v2912⟩, ⟨S32x128, v3055⟩, ⟨S32x128, v3198⟩] concatenates_S32x128_S32x128_S32x128_S32x128_S128x128_d0
  have v3200 : FVec F S128x128 .f32 := transpose S128x128 [1, 0] v3199 transposes_S128x128_p1_0_S128x128
  v3200

def op592 (v3234 : Vec F S1x320x256 .i32) (v3237 : Vec F S1x512x256 .bf16) : FVec F S1x512x1280 .f32 :=
  have v3235 : FVec F S1280x256 .fp8e4m3 := bitcastToFloat .fp8e4m3 (bitcast S1280x256 8 (shapeCast S320x256 v3234 shapeCasts_S1x320x256_S320x256) bitcasts_S320x256_w32_S1280x256_w8)
  have v3236 : FVec F S1280x256 .bf16 := extf .bf16 v3235 bitsLt_fp8e4m3_bf16
  have v3238 : FVec F S512x256 .bf16 := shapeCast S512x256 v3237 shapeCasts_S1x512x256_S512x256
  have cst_1331 : FVec F S512x1280 .f32 := constant S512x1280 .f32 0x00000000#32
  have v3239 : FVec F S512x1280 .f32 := matmul dot_S512x256_S1280x256_S512x1280_1_1_0_0_n_n none v3238 v3236 cst_1331
  have v3242 : FVec F S1x512x1280 .f32 := shapeCast S1x512x1280 v3239 shapeCasts_S512x1280_S1x512x1280
  v3242

def op1050 (v5455 : Vec F S1x320x256 .i32) (v5458 : Vec F S1x512x1280 .bf16) : FVec F S1x512x256 .f32 :=
  have v5456 : FVec F S1280x256 .fp8e4m3 := bitcastToFloat .fp8e4m3 (bitcast S1280x256 8 (shapeCast S320x256 v5455 shapeCasts_S1x320x256_S320x256) bitcasts_S320x256_w32_S1280x256_w8)
  have v5457 : FVec F S1280x256 .bf16 := extf .bf16 v5456 bitsLt_fp8e4m3_bf16
  have v5459 : FVec F S512x1280 .bf16 := shapeCast S512x1280 v5458 shapeCasts_S1x512x1280_S512x1280
  have cst_2211 : FVec F S512x256 .f32 := constant S512x256 .f32 0x00000000#32
  have v5460 : FVec F S512x256 .f32 := matmul dot_S512x1280_S1280x256_S512x256_1_0_0_1_n_n none v5459 v5457 cst_2211
  have v5463 : FVec F S1x512x256 .f32 := shapeCast S1x512x256 v5460 shapeCasts_S512x256_S1x512x256
  v5463

end Cert.AVal
-- ==== Proof.ASpec.lean ====
module
public import proofs.«01_k».proof.Proof.Spec

/-! # What the attention computes, row by row

Plain functions of rows of extended reals: which keys a query sees, its scores, their softmax, the
weighted sum of the values, the log-sum-exp, and the quantised row of four heads. -/

@[expose] public section
set_option maxRecDepth 16384
noncomputable section
open Idealize.ShloMosaic Idealize.ShloMosaic.TcCoe
namespace Cert.ASpec
open Cert.Spec (Row)

/-- The rows of words have the bits of four times as many rows of codes. -/
theorem four : (⟨2, ![320, 256]⟩ : Shape).Bitcasts 32 ⟨2, ![1280, 256]⟩ 8 := ⟨rfl, fun _ => Nat.le_refl 2, fun a => match a with
  | 0 => rfl
  | 1 => rfl⟩

/-- The keys of an array of words: a word holds the codes of four keys, one after another. -/
def code (w : Fin 320 → Fin 256 → BitVec 32) : Fin 1280 → Row 256 := fun n d =>
  bitcastToFloat (F := Ideal) .fp8e4m3 (bitcast ⟨2, ![1280, 256]⟩ 8 (fun j : (⟨2, ![320, 256]⟩ : Shape).Idx => w (j 0) (j 1)) four) (ix2 n d)

/-- The scores of one query: the products with the keys, times their scales and the fixed scale, and
    minus infinity at keys it does not see. -/
def score (seen : Fin 1280 → BitVec 1) (q : Row 256) (k : Fin 1280 → Row 256) (ks : Row 1280) : Row 1280 := fun n =>
  Scalar.select (seen n) ((∑ d, q d * k n d) * ks n * Ideal.ofBits FTy.f32 0x3D800000#32) (Ideal.ofBits FTy.f32 0xFF800000#32)

/-- The largest score. -/
def peak (s : Row 1280) : EReal := Finset.fold max (Ideal.ofBits FTy.f32 0xFF800000#32) s Finset.univ

/-- The exponential of a score less the largest. -/
def ex (s : Row 1280) : Row 1280 := fun n => Ideal.exp (s n - peak s)

/-- The sum of the exponentials. -/
def den (s : Row 1280) : EReal := ∑ n, ex s n

/-- The softmax, zero where the exponentials sum to zero. -/
def soft (s : Row 1280) : Row 1280 := fun n => Scalar.select (BitVec.ofBool (decide (0 < den s))) (Ideal.div (ex s n) (den s)) 0

/-- The softmax, times the value scales. -/
def prob (s vs : Row 1280) : Row 1280 := fun n => soft s n * vs n

/-- The weighted sum of the values. -/
def out (s vs : Row 1280) (v : Fin 1280 → Row 256) : Row 256 := fun d => ∑ n, prob s vs n * v n d

/-- The log-sum-exp of the scores less the logarithm of the number of visible keys. -/
def lse (s : Row 1280) (nv : EReal) : EReal := peak s + Ideal.log (den s) - Ideal.log nv

/-- Four heads of 256 lanes side by side. -/
def cat (o : Fin 4 → Row 256) : Row 1024 := fun l => o ⟨l / 256, by omega⟩ ⟨l % 256, by omega⟩

/-- An exponential is not negative. -/
theorem exp_nonneg (x : EReal) : 0 ≤ Ideal.exp x := by
  induction x with
  | bot => exact le_refl _
  | top => exact le_top
  | coe r => exact EReal.coe_nonneg.2 (Real.exp_nonneg r)

/-- Multiplying by the reciprocal of the sum is the softmax: where the sum is zero so is every exponential. -/
theorem mul_recip (s : Row 1280) (n : Fin 1280) : ex s n * Ideal.div 1 (den s) = soft s n := by
  unfold soft
  have h0 : ∀ k ∈ (Finset.univ : Finset (Fin 1280)), 0 ≤ ex s k := fun k _ => exp_nonneg _
  have hd : 0 ≤ den s := Finset.sum_nonneg h0
  by_cases h : den s = 0
  · have e : ex s n = 0 := (Finset.sum_eq_zero_iff_of_nonneg h0).1 h n (Finset.mem_univ n)
    rw [e, zero_mul, h, decide_eq_false (lt_irrefl _)]
    exact (if_neg (by decide)).symm
  · rw [decide_eq_true (lt_of_le_of_ne hd (Ne.symm h))]
    unfold Ideal.div
    rw [if_neg h, if_neg h, one_mul]
    exact (if_pos rfl).symm

/-- The key's low bits are all that is left when a number below 1024 is cut to multiples of 1024. -/
theorem and_high (x : BitVec 32) : x &&& 0xFFFFFC00#32 = 0#32 ↔ x.toNat < 1024 := by
  have hx := x.isLt
  rw [← BitVec.toNat_inj, BitVec.toNat_and]
  constructor
  · intro h
    have h1 := congrArg (· >>> 10) h
    simp only [Nat.shiftRight_and_distrib] at h1
    have e : (0xFFFFFC00#32).toNat >>> 10 = 2 ^ 22 - 1 := by decide
    rw [e, Nat.and_two_pow_sub_one_eq_mod, Nat.shiftRight_eq_div_pow] at h1
    simp at h1
    omega
  · intro h
    exact (by decide +kernel : ∀ a : Fin 1024, a.val &&& (0xFFFFFC00#32).toNat = (0#32).toNat) ⟨x.toNat, h⟩

/-- A key sees a query exactly when their distance, read without sign, is below 1024. -/
theorem window (q x : BitVec 32) (hq : q.toNat < 128) (hx : x.slt 0#32 = true ∨ x.toNat < 128) :
    decide ((q - x) &&& 0xFFFFFC00#32 = 0#32) = (x.sle q && (q - 1024#32).slt x) := by
  have h1 := q.isLt
  have h2 := x.isLt
  rw [Bool.eq_iff_iff, decide_eq_true_eq, and_high]
  simp only [decide_eq_true_eq, Bool.and_eq_true, BitVec.slt, BitVec.sle, BitVec.toInt_eq_toNat_cond, BitVec.toNat_sub, BitVec.toNat_ofNat] at hx ⊢
  split_ifs at hx ⊢ <;> omega

/-- A key out of reach is at distance 2^20. -/
theorem far (q : BitVec 32) (hq : q.toNat < 128) :
    decide ((q - 1048576#32) &&& 0xFFFFFC00#32 = 0#32) = ((128#32).sle q && (q - 1024#32).slt 128#32) := by
  have h1 := q.isLt
  rw [Bool.eq_iff_iff, decide_eq_true_eq, and_high]
  simp only [decide_eq_true_eq, Bool.and_eq_true, BitVec.slt, BitVec.sle, BitVec.toInt_eq_toNat_cond, BitVec.toNat_sub, BitVec.toNat_ofNat]
  split_ifs <;> omega

/-- The bit that says whether the query at position `i` sees a key at relative position `r`: not later
    than the query, and within the last 1024 positions. -/
def seen (i : Nat) (r : BitVec 32) : BitVec 1 :=
  IntOp.andi (IntOp.cmpi CmpIPredicate.sle r (BitVec.ofNat 32 i)) (IntOp.cmpi CmpIPredicate.sgt r (IntOp.subi (BitVec.ofNat 32 i) 1024#32))

section Arrays
variable (rel : Fin 2 → Fin 1280 → BitVec 32) (q : Fin 2 → Fin 512 → Row 256) (k v : Fin 2 → Fin 1280 → Row 256)
  (ks vs : Fin 2 → Row 1280) (nv : Fin 2 → Fin 128 → EReal)

/-- The scores of head `h` of sequence `b` at position `i`. -/
def sc (b : Fin 2) (h : Fin 4) (i : Fin 128) : Row 1280 :=
  score (fun n => seen i (rel b n)) (q b ⟨128 * h + i, by omega⟩) (k b) (ks b)

/-- That head's output. -/
def head (b : Fin 2) (h : Fin 4) (i : Fin 128) : Row 256 := out (sc rel q k ks b h i) (vs b) (v b)

/-- The four heads' outputs side by side. -/
def row (b : Fin 2) (i : Fin 128) : Row 1024 := cat fun h => head rel q k v ks vs b h i

/-- The codes of the outputs. -/
def ac (b : Fin 2) (i : Fin 128) : Row 1024 := Spec.codes (row rel q k v ks vs b i)

/-- Their scales. -/
def asc (b : Fin 2) (i : Fin 128) : EReal := Spec.scale (Spec.top (row rel q k v ks vs b i))

/-- The log-sum-exp of each head. -/
def lses (b : Fin 2) (h : Fin 4) (i : Fin 128) : EReal := lse (sc rel q k ks b h i) (nv b i)
end Arrays

end Cert.ASpec
-- ==== Proof.APieces.lean ====
module
public import proofs.«01_k».proof.Proof.ABodyI
public import proofs.«01_k».proof.Proof.AOps
public import proofs.«01_k».proof.Proof.ASpec
public import Idealize.ShloMosaic.Lib.Pipeline.Value

/-! # The stores of the attention kernel, in order

Each buffer is filled by stores of one form. The lists the run recorded are these forms, over a block's number. -/

@[expose] public section
set_option maxRecDepth 65536
noncomputable section
open Idealize.ShloMosaic Idealize.ShloMosaic.TcCoe Idealize.SL.Sem
open Cert.AttendIdeal Cert.AttendIdeal.Gen Cert.AttendIdeal.Hand
namespace Cert.AVal

/-- Where the window's first page begins, less the start position. -/
def base (st : BitVec 32) : BitVec 32 :=
  Scalar.subi (Scalar.muli (Scalar.minsi 959#32 (Scalar.maxsi 0#32 (Scalar.shrsi (Scalar.maxsi (Scalar.subi st 1023#32) 0#32) 4#32))) 16#32) st

/-- Where each lane's key lies, for eight equal rows. -/
def krel (st : BitVec 32) : IVec S8x1280 32 := op51 (iota .tc S8x1280 32 [1] iota_S8x1280_d1_w32) op50 (base st)

/-- Which keys the eight queries from `r` see. -/
def vis (st r : BitVec 32) : IVec S8x1280 1 :=
  op57 (subi (addi (iota .tc S8x1280 32 [0] iota_S8x1280_d0_w32) (broadcast S8x1280 r)) (krel st)) op56

/-- The softmax block that is stored. -/
def pB (kr vr : Vec Ideal S1x8x1280 .f32) (m : IVec S8x1280 1) (s : Vec Ideal S1x8x1280 .f32) : Vec Ideal S1x8x1280 .bf16 :=
  op69 (op53 kr) (op54 vr) m s

/-- The statistics with head `h`'s column filled in. -/
def statB (h : BitVec 32) (kr : Vec Ideal S1x8x1280 .f32) (m : IVec S8x1280 1) (s : Vec Ideal S1x8x1280 .f32) (prev : FVec Ideal S8x128 .f32) : FVec Ideal S8x128 .f32 :=
  select (cmpi .eq (iota .tc S8x128 32 [1] iota_S8x128_d1_w32) (broadcast S8x128 h))
    (broadcastTo S8x128 (shapeCast S8x1 (addf (op66 (op53 kr) m s) (log (op68 (op53 kr) m s))) shapeCasts_S8x1_S8x1) broadcasts_S8x1_S8x128) prev

/-- The logarithms of the numbers of visible keys. -/
def nvB (st r : BitVec 32) : FVec Ideal S8x128 .f32 :=
  log (sitofp .f32 (minsi (addi (broadcast S8x128 (Scalar.addi (Scalar.addi st 1#32) r)) (iota .tc S8x128 32 [0] iota_S8x128_d0_w32)) (broadcast S8x128 1024#32)))

/-- The block of statistics that is stored. -/
def stB (kr : Vec Ideal S1x8x1280 .f32) (st r : BitVec 32) (s0 s1 s2 s3 : Vec Ideal S1x8x1280 .f32) : Vec Ideal S1x8x128 .f32 :=
  shapeCast S1x8x128 (subf (statB 3#32 kr (vis st r) s3 (statB 2#32 kr (vis st r) s2 (statB 1#32 kr (vis st r) s1 (statB 0#32 kr (vis st r) s0
    (broadcast S8x128 (Scalar.ofBits (F := Ideal) .f32 0x00000000#32)))))) (nvB st r)) shapeCasts_S8x128_S1x8x128

variable (c : Dev nD) (a0 : Vec Ideal S2 .i32) (a1 : Vec Ideal S2x512x256 .bf16) (a2 a3 : Vec Ideal S2x320x256 .i32) (a4 a5 : Vec Ideal S2x1x1280 .f32)
  (f0 : Vec Ideal S2 .i32) (f1 f2 : Vec Ideal S2x1x1280 .f32) (f7 : Vec Ideal S2x512x256 .bf16) (f8 f9 : Vec Ideal S2x320x256 .i32)

theorem inb3 {R : Nat} {o a : Nat} (b : Fin 2) {C : Nat} (q : Nat) {e : Nat} (h : o + a ≤ R) (hq : q + e ≤ C) :
    ∀ d, (![b.val, o, q] : Fin 3 → Nat) d + (⟨3, ![1, a, e]⟩ : Shape).size d ≤ (⟨3, ![2, R, C]⟩ : Shape).size d := fun d =>
  match d with
  | 0 => show b.val + 1 ≤ 2 by omega
  | 1 => h
  | 2 => hq

/-- Eight rows of scores read back, in sequence 0. -/
def sl0 (o : Nat) (h : o + 8 ≤ 512) : Vec Ideal S1x8x1280 .f32 :=
  sM12.view.readCov (run.sl.S12_1 (F := Ideal) c a1 a2 f7 f8) (Rect.unit (s := S2x512x1280) ![0, o, 0] S1x8x1280.size (inb3 0 0 h (Nat.le_refl _))).toLoadRect

/-- Eight rows of scores read back, in sequence 1. -/
def sl1 (o : Nat) (h : o + 8 ≤ 512) : Vec Ideal S1x8x1280 .f32 :=
  sM12.view.readCov (run.sl.S12_2 (F := Ideal) c a1 a2 f7 f8) (Rect.unit (s := S2x512x1280) ![1, o, 0] S1x8x1280.size (inb3 1 0 h (Nat.le_refl _))).toLoadRect

/-- The rows a softmax store fills. -/
def po (k : Fin 64) : Nat := 128 * (k.val % 4) + 8 * (k.val / 4)
theorem po_le (k : Fin 64) : po k + 8 ≤ 512 := by unfold po; omega

/-- The `k`-th softmax store of sequence 0. -/
def p0 (k : Fin 64) : View.Piece (Elt Ideal) S2x512x1280 .bf16 :=
  ⟨Rect.unit ![0, po k, 0] S1x8x1280.size (inb3 0 0 (po_le k) (Nat.le_refl _)),
    pB (run.sl.v405 (F := Ideal) c a4 f1) (run.sl.v407 (F := Ideal) c a5 f2) (vis (run.sl.r_10 (F := Ideal) c a0 f0) (BitVec.ofNat 32 (8 * (k.val / 4)))) (sl0 c a1 a2 f7 f8 (po k) (po_le k))⟩

/-- The `k`-th softmax store of sequence 1. -/
def p1 (k : Fin 64) : View.Piece (Elt Ideal) S2x512x1280 .bf16 :=
  ⟨Rect.unit ![1, po k, 0] S1x8x1280.size (inb3 1 0 (po_le k) (Nat.le_refl _)),
    pB (run.sl.v3246 (F := Ideal) c a4 f1) (run.sl.v3248 (F := Ideal) c a5 f2) (vis (run.sl.r_216 (F := Ideal) c a0 f0) (BitVec.ofNat 32 (8 * (k.val / 4)))) (sl1 c a1 a2 f7 f8 (po k) (po_le k))⟩

set_option maxHeartbeats 4000000 in
theorem S13_0_eq : run.sl.S13_64 (F := Ideal) c a0 a1 a2 a4 a5 f0 f1 f2 f7 f8 = ((List.finRange 64).map (p0 c a0 a1 a2 a4 a5 f0 f1 f2 f7 f8)).reverse := by
  sl_kernel_rfl

/-- The stores of sequence 1 come on top of those of sequence 0. -/
theorem S13_1_eq : run.sl.S13_128 (F := Ideal) c a0 a1 a2 a4 a5 f0 f1 f2 f7 f8
    = ((List.finRange 64).map (p1 c a0 a1 a2 a4 a5 f0 f1 f2 f7 f8)).reverse ++ run.sl.S13_64 (F := Ideal) c a0 a1 a2 a4 a5 f0 f1 f2 f7 f8 := by
  sl_kernel_rfl

theorem so_le (k : Fin 16) : 8 * k.val + 8 ≤ 128 := by omega
theorem sh_le (h : Fin 4) (k : Fin 16) : 128 * h.val + 8 * k.val + 8 ≤ 512 := by omega

/-- The `k`-th store of statistics of sequence 0. -/
def t0 (k : Fin 16) : View.Piece (Elt Ideal) S2x128x128 .f32 :=
  ⟨Rect.unit ![0, 8 * k.val, 0] S1x8x128.size (inb3 0 0 (so_le k) (Nat.le_refl _)),
    stB (run.sl.v405 (F := Ideal) c a4 f1) (run.sl.r_10 (F := Ideal) c a0 f0) (BitVec.ofNat 32 (8 * k.val))
      (sl0 c a1 a2 f7 f8 (128 * (0 : Fin 4).val + 8 * k.val) (sh_le 0 k)) (sl0 c a1 a2 f7 f8 (128 * (1 : Fin 4).val + 8 * k.val) (sh_le 1 k))
      (sl0 c a1 a2 f7 f8 (128 * (2 : Fin 4).val + 8 * k.val) (sh_le 2 k)) (sl0 c a1 a2 f7 f8 (128 * (3 : Fin 4).val + 8 * k.val) (sh_le 3 k))⟩

/-- The `k`-th store of statistics of sequence 1. -/
def t1 (k : Fin 16) : View.Piece (Elt Ideal) S2x128x128 .f32 :=
  ⟨Rect.unit ![1, 8 * k.val, 0] S1x8x128.size (inb3 1 0 (so_le k) (Nat.le_refl _)),
    stB (run.sl.v3246 (F := Ideal) c a4 f1) (run.sl.r_216 (F := Ideal) c a0 f0) (BitVec.ofNat 32 (8 * k.val))
      (sl1 c a1 a2 f7 f8 (128 * (0 : Fin 4).val + 8 * k.val) (sh_le 0 k)) (sl1 c a1 a2 f7 f8 (128 * (1 : Fin 4).val + 8 * k.val) (sh_le 1 k))
      (sl1 c a1 a2 f7 f8 (128 * (2 : Fin 4).val + 8 * k.val) (sh_le 2 k)) (sl1 c a1 a2 f7 f8 (128 * (3 : Fin 4).val + 8 * k.val) (sh_le 3 k))⟩

set_option maxHeartbeats 4000000 in
theorem S15_0_eq : run.sl.S15_16 (F := Ideal) c a0 a1 a2 a4 f0 f1 f7 f8 = ((List.finRange 16).map (t0 c a0 a1 a2 a4 f0 f1 f7 f8)).reverse := by
  sl_kernel_rfl

set_option maxHeartbeats 4000000 in
theorem S15_1_eq : run.sl.S15_32 (F := Ideal) c a0 a1 a2 a4 f0 f1 f7 f8
    = ((List.finRange 16).map (t1 c a0 a1 a2 a4 f0 f1 f7 f8)).reverse ++ run.sl.S15_16 (F := Ideal) c a0 a1 a2 a4 f0 f1 f7 f8 := by
  sl_kernel_rfl

theorem ln_le (k : Fin 20) : 128 * (k.val % 10) + 128 ≤ 1280 := by omega

/-- The sequence a store of scales belongs to. -/
def sq (k : Fin 20) : Fin 2 := ⟨k.val / 10, by omega⟩

/-- The `k`-th store of key scales. -/
def kt (k : Fin 20) : View.Piece (Elt Ideal) S2x8x1280 .f32 :=
  ⟨Rect.unit ![(sq k).val, 0, 128 * (k.val % 10)] S1x8x128.size (inb3 (sq k) _ (Nat.le_refl 8) (ln_le k)),
    op20 (View.readAt (Elt Ideal) sM1.view (Rect.unit (s := S2x1x1280) ![(sq k).val, 0, 128 * (k.val % 10)] S1x1x128.size (inb3 (sq k) _ (Nat.le_refl 1) (ln_le k))).toLoadRect
      (View.write (Elt Ideal) sM1.view f1 (run.sl.dma0_1 (F := Ideal) c a4) Finset.univ))⟩

/-- The `k`-th store of value scales. -/
def vt (k : Fin 20) : View.Piece (Elt Ideal) S2x8x1280 .f32 :=
  ⟨Rect.unit ![(sq k).val, 0, 128 * (k.val % 10)] S1x8x128.size (inb3 (sq k) _ (Nat.le_refl 8) (ln_le k)),
    op21 (View.readAt (Elt Ideal) sM2.view (Rect.unit (s := S2x1x1280) ![(sq k).val, 0, 128 * (k.val % 10)] S1x1x128.size (inb3 (sq k) _ (Nat.le_refl 1) (ln_le k))).toLoadRect
      (View.write (Elt Ideal) sM2.view f2 (run.sl.dma0_2 (F := Ideal) c a5) Finset.univ))⟩

set_option maxHeartbeats 4000000 in
theorem S10_eq : run.sl.S10_20 (F := Ideal) c a4 f1 = ((List.finRange 20).map (kt c a4 f1)).reverse := by
  sl_kernel_rfl

set_option maxHeartbeats 4000000 in
theorem S11_eq : run.sl.S11_20 (F := Ideal) c a5 f2 = ((List.finRange 20).map (vt c a5 f2)).reverse := by
  sl_kernel_rfl

/-- The largest absolute value over four heads' rows, broadcast, as its quantisation exponent. -/
def expB (o0 o1 o2 o3 : Vec Ideal S1x32x256 .f32) : FVec Ideal S32x128 .f32 :=
  op515 (shapeCast S32x256 o0 shapeCasts_S1x32x256_S32x256) (shapeCast S32x256 o1 shapeCasts_S1x32x256_S32x256) o2 o3

/-- The outputs of sequence 0 read back, 32 rows of a head. -/
def ol0 (o : Nat) (h : o + 32 ≤ 512) : Vec Ideal S1x32x256 .f32 :=
  sM14.view.readCov (run.sl.S14_1 (F := Ideal) c a0 a1 a2 a3 a4 a5 f0 f1 f2 f7 f8 f9) (Rect.unit (s := S2x512x256) ![0, o, 0] S1x32x256.size (inb3 0 0 h (Nat.le_refl _))).toLoadRect

/-- The outputs of sequence 1 read back, 32 rows of a head. -/
def ol1 (o : Nat) (h : o + 32 ≤ 512) : Vec Ideal S1x32x256 .f32 :=
  sM14.view.readCov (run.sl.S14_2 (F := Ideal) c a0 a1 a2 a3 a4 a5 f0 f1 f2 f7 f8 f9) (Rect.unit (s := S2x512x256) ![1, o, 0] S1x32x256.size (inb3 1 0 h (Nat.le_refl _))).toLoadRect

theorem oh_le (h : Fin 4) (k : Fin 4) : 128 * h.val + 32 * k.val + 32 ≤ 512 := by omega

/-- The exponents of block `k` of sequence 0. -/
def eB0 (k : Fin 4) : FVec Ideal S32x128 .f32 :=
  expB (ol0 c a0 a1 a2 a3 a4 a5 f0 f1 f2 f7 f8 f9 _ (oh_le 0 k)) (ol0 c a0 a1 a2 a3 a4 a5 f0 f1 f2 f7 f8 f9 _ (oh_le 1 k))
    (ol0 c a0 a1 a2 a3 a4 a5 f0 f1 f2 f7 f8 f9 _ (oh_le 2 k)) (ol0 c a0 a1 a2 a3 a4 a5 f0 f1 f2 f7 f8 f9 _ (oh_le 3 k))

/-- The exponents of block `k` of sequence 1. -/
def eB1 (k : Fin 4) : FVec Ideal S32x128 .f32 :=
  expB (ol1 c a0 a1 a2 a3 a4 a5 f0 f1 f2 f7 f8 f9 _ (oh_le 0 k)) (ol1 c a0 a1 a2 a3 a4 a5 f0 f1 f2 f7 f8 f9 _ (oh_le 1 k))
    (ol1 c a0 a1 a2 a3 a4 a5 f0 f1 f2 f7 f8 f9 _ (oh_le 2 k)) (ol1 c a0 a1 a2 a3 a4 a5 f0 f1 f2 f7 f8 f9 _ (oh_le 3 k))

theorem half_le (k : Fin 32) : 128 * (k.val % 2) + 128 ≤ 256 := by omega
theorem half_in (q : Nat) (h : q + 128 ≤ 256) : S32x256.Slices ![0, q] S32x128 := ⟨rfl, fun d => match d with
  | 0 => Nat.le_refl 32
  | 1 => h⟩

/-- A tile of codes: 128 lanes of a head's rows from lane `q`, scaled down, clipped. -/
def codeB (q : Nat) (h : q + 128 ≤ 256) (o : Vec Ideal S1x32x256 .f32) (e : FVec Ideal S32x128 .f32) : Vec Ideal S32x128 .fp8e4m3 :=
  shapeCast S32x128 (truncf .fp8e4m3 (minimumf (broadcast S32x128 (Scalar.ofBits (F := Ideal) .f32 0x43E00000#32)) (maximumf (broadcast S32x128 (Scalar.ofBits (F := Ideal) .f32 0xC3E00000#32))
    (mulf (extractStridedSlice S32x128 ![0, q] (shapeCast S32x256 o shapeCasts_S1x32x256_S32x256) (half_in q h)) (op516 e)))) bitsLt_fp8e4m3_f32) shapeCasts_S32x128_S32x128

theorem inb2 {R C o a q e : Nat} (h : o + a ≤ R) (hq : q + e ≤ C) :
    ∀ d, (![o, q] : Fin 2 → Nat) d + (⟨2, ![a, e]⟩ : Shape).size d ≤ (⟨2, ![R, C]⟩ : Shape).size d := fun d =>
  match d with
  | 0 => h
  | 1 => hq

/-- The block and the head of a tile. -/
def tb (k : Fin 32) : Fin 4 := ⟨k.val / 8, by omega⟩
def th (k : Fin 32) : Fin 4 := ⟨k.val % 8 / 2, by omega⟩
theorem ac_row (b : Fin 2) (k : Fin 4) : 128 * b.val + 32 * k.val + 32 ≤ 256 := by omega
theorem ac_col (k : Fin 32) : 128 * (k.val % 8) + 128 ≤ 1024 := by omega

/-- The `k`-th tile of codes of sequence 0. -/
def c0 (k : Fin 32) : View.Piece (Elt Ideal) S256x1024 .fp8e4m3 :=
  ⟨Rect.unit ![128 * (0 : Fin 2).val + 32 * (tb k).val, 128 * (k.val % 8)] S32x128.size (inb2 (ac_row 0 (tb k)) (ac_col k)),
    codeB (128 * (k.val % 2)) (half_le k) (ol0 c a0 a1 a2 a3 a4 a5 f0 f1 f2 f7 f8 f9 _ (oh_le (th k) (tb k))) (eB0 c a0 a1 a2 a3 a4 a5 f0 f1 f2 f7 f8 f9 (tb k))⟩

/-- The `k`-th tile of codes of sequence 1. -/
def c1 (k : Fin 32) : View.Piece (Elt Ideal) S256x1024 .fp8e4m3 :=
  ⟨Rect.unit ![128 * (1 : Fin 2).val + 32 * (tb k).val, 128 * (k.val % 8)] S32x128.size (inb2 (ac_row 1 (tb k)) (ac_col k)),
    codeB (128 * (k.val % 2)) (half_le k) (ol1 c a0 a1 a2 a3 a4 a5 f0 f1 f2 f7 f8 f9 _ (oh_le (th k) (tb k))) (eB1 c a0 a1 a2 a3 a4 a5 f0 f1 f2 f7 f8 f9 (tb k))⟩

set_option maxHeartbeats 4000000 in
theorem S4_eq : run.sl.S4_64 (F := Ideal) c a0 a1 a2 a3 a4 a5 f0 f1 f2 f7 f8 f9
    = ((List.finRange 32).map (c1 c a0 a1 a2 a3 a4 a5 f0 f1 f2 f7 f8 f9)).reverse ++ ((List.finRange 32).map (c0 c a0 a1 a2 a3 a4 a5 f0 f1 f2 f7 f8 f9)).reverse := by
  sl_kernel_rfl

/-- The transposed statistics of a sequence: the scale's exponent in lane 4. -/
def stT (st : Vec Ideal S1x128x128 .f32) (e0 e1 e2 e3 : FVec Ideal S32x128 .f32) : FVec Ideal S128x128 .f32 :=
  op588 (shapeCast S128x128 st shapeCasts_S1x128x128_S128x128) (op529 (shapeCast S128x128 st shapeCasts_S1x128x128_S128x128) (exp2 e0))
    (op549 (shapeCast S128x128 st shapeCasts_S1x128x128_S128x128) (exp2 e1)) (op568 (shapeCast S128x128 st shapeCasts_S1x128x128_S128x128) (exp2 e2)) (exp2 e3)

/-- The four rows of log-sum-exps that are stored. -/
def lseB (x : FVec Ideal S128x128 .f32) : Vec Ideal S1x4x128 .f32 :=
  shapeCast S1x4x128 (extractStridedSlice S4x128 ![0, 0] x slices_S128x128_o0_0_S4x128) shapeCasts_S4x128_S1x4x128

/-- The row of scales that is stored. -/
def asB (x : FVec Ideal S128x128 .f32) : Vec Ideal S1x128 .f32 :=
  shapeCast S1x128 (extractStridedSlice S1x128 ![4, 0] x slices_S128x128_o4_0_S1x128) shapeCasts_S1x128_S1x128

/-- The transposed statistics of sequence 0. -/
def sT0 : FVec Ideal S128x128 .f32 :=
  stT (run.sl.v2627 (F := Ideal) c a0 a1 a2 a4 f0 f1 f7 f8) (eB0 c a0 a1 a2 a3 a4 a5 f0 f1 f2 f7 f8 f9 0) (eB0 c a0 a1 a2 a3 a4 a5 f0 f1 f2 f7 f8 f9 1)
    (eB0 c a0 a1 a2 a3 a4 a5 f0 f1 f2 f7 f8 f9 2) (eB0 c a0 a1 a2 a3 a4 a5 f0 f1 f2 f7 f8 f9 3)

/-- The transposed statistics of sequence 1. -/
def sT1 : FVec Ideal S128x128 .f32 :=
  stT (run.sl.v5468 (F := Ideal) c a0 a1 a2 a4 f0 f1 f7 f8) (eB1 c a0 a1 a2 a3 a4 a5 f0 f1 f2 f7 f8 f9 0) (eB1 c a0 a1 a2 a3 a4 a5 f0 f1 f2 f7 f8 f9 1)
    (eB1 c a0 a1 a2 a3 a4 a5 f0 f1 f2 f7 f8 f9 2) (eB1 c a0 a1 a2 a3 a4 a5 f0 f1 f2 f7 f8 f9 3)

theorem S3_eq : run.sl.S3_2 (F := Ideal) c a0 a1 a2 a3 a4 a5 f0 f1 f2 f7 f8 f9
    = [⟨Rect.unit ![1, 0, 0] S1x4x128.size inb_S2x4x128_S1x4x128_1_0_0, lseB (sT1 c a0 a1 a2 a3 a4 a5 f0 f1 f2 f7 f8 f9)⟩,
       ⟨Rect.unit ![0, 0, 0] S1x4x128.size inb_S2x4x128_S1x4x128_0_0_0, lseB (sT0 c a0 a1 a2 a3 a4 a5 f0 f1 f2 f7 f8 f9)⟩] := by
  sl_kernel_rfl

theorem S5_eq : run.sl.S5_2 (F := Ideal) c a0 a1 a2 a3 a4 a5 f0 f1 f2 f7 f8 f9
    = [⟨Rect.unit ![1, 0] S1x128.size inb_S2x128_S1x128_1_0, asB (sT1 c a0 a1 a2 a3 a4 a5 f0 f1 f2 f7 f8 f9)⟩,
       ⟨Rect.unit ![0, 0] S1x128.size inb_S2x128_S1x128_0_0, asB (sT0 c a0 a1 a2 a3 a4 a5 f0 f1 f2 f7 f8 f9)⟩] := by
  sl_kernel_rfl

end Cert.AVal
-- ==== Proof.ARel.lean ====
module
public import proofs.«01_k».proof.Proof.ASpec

/-! # Where each key lies, and how many a query sees -/

@[expose] public section
set_option maxRecDepth 16384
noncomputable section
open Idealize.ShloMosaic Idealize.SL.Sem
namespace Cert.ASpec

/-- The order in which a pair of pages is stored: by halves of a page, the two pages in turn. -/
def ord (n : Nat) : BitVec 32 :=
  IntOp.addi (IntOp.addi (IntOp.addi (IntOp.muli 32#32 (BitVec.ofNat 32 (n / 32))) (IntOp.muli 8#32 (BitVec.ofNat 32 (n / 16 % 2))))
    (IntOp.muli 16#32 (BitVec.ofNat 32 (n / 8 % 2)))) (BitVec.ofNat 32 (n % 8))

/-- The place of lane `n` among the window's pages. -/
def slot (n : Nat) : BitVec 32 :=
  Scalar.select (IntOp.cmpi CmpIPredicate.slt (BitVec.ofNat 32 n) 1024#32) (ord n) (IntOp.subi (ord n) 128#32)

/-- Where the window's first page begins, less the start position. -/
def base (st : BitVec 32) : BitVec 32 :=
  IntOp.subi (IntOp.muli 16#32 (IntOp.minsi 959#32 (IntOp.maxsi 0#32 (IntOp.shrsi ArithUnit.host (IntOp.maxsi (IntOp.subi st 1023#32) 0#32) 4#32)))) st

/-- Where lane `n`'s key lies relative to the start position; 128 where there is none to see. -/
def rel (st : BitVec 32) (n : Nat) : BitVec 32 :=
  Scalar.select (IntOp.andi (IntOp.cmpi CmpIPredicate.sge (BitVec.ofNat 32 n) 1024#32) (IntOp.cmpi CmpIPredicate.slt (BitVec.ofNat 32 n) 1152#32))
    (IntOp.subi (BitVec.ofNat 32 n) 1024#32)
    (Scalar.select (IntOp.andi (IntOp.cmpi CmpIPredicate.slt (IntOp.addi (slot n) (base st)) 0#32) (IntOp.cmpi CmpIPredicate.slt (BitVec.ofNat 32 n) 1184#32))
      (IntOp.addi (slot n) (base st)) 128#32)

/-- How many keys the query at position `i` sees, as a number. -/
def nv (st : BitVec 32) (i : Nat) : EReal :=
  FloatOps.sitofp (F := Ideal) FTy.f32 (IntOp.minsi (IntOp.addi (IntOp.addi st (BitVec.ofNat 32 i)) 1#32) 1024#32)

/-- The place of lane `n` as the kernel computes it, from the bits of `n`. -/
def kslot (n : Nat) : BitVec 32 :=
  IntOp.addi (IntOp.addi (IntOp.addi
    (IntOp.muli (Scalar.select (IntOp.cmpi CmpIPredicate.slt (BitVec.ofNat 32 n) 1024#32) (IntOp.shrsi ArithUnit.vector (BitVec.ofNat 32 n) 5#32) 32#32) 32#32)
    (IntOp.muli (IntOp.andi (IntOp.shrsi ArithUnit.vector (IntOp.andi (BitVec.ofNat 32 n) 31#32) 3#32) 1#32) 16#32))
    (IntOp.shli ArithUnit.vector (IntOp.shrsi ArithUnit.vector (IntOp.andi (BitVec.ofNat 32 n) 31#32) 4#32) 3#32))
    (IntOp.andi (IntOp.andi (BitVec.ofNat 32 n) 31#32) 7#32)

/-- Both are the same place, but for the chunk's own keys and the padding. -/
theorem kslot_eq : ∀ n : Fin 1184, ¬ (1024 ≤ n.val ∧ n.val < 1152) → kslot n = slot n := by decide +kernel

/-- A choice whose condition holds. -/
theorem sel_true {α : Type} (a b : α) : Scalar.select (BitVec.ofBool true) a b = a := if_pos rfl

/-- A choice whose condition fails. -/
theorem sel_false {α : Type} (a b : α) : Scalar.select (BitVec.ofBool false) a b = b := if_neg (by decide)

/-- The conjunction of two bits. -/
theorem and_bits (a b : Bool) : IntOp.andi (BitVec.ofBool a) (BitVec.ofBool b) = BitVec.ofBool (a && b) := by
  revert a b; decide

/-- The lanes of the chunk's own keys. -/
theorem own_lane : ∀ n : Fin 1280, IntOp.andi (IntOp.cmpi CmpIPredicate.sge (BitVec.ofNat 32 n) 1024#32) (IntOp.cmpi CmpIPredicate.slt (BitVec.ofNat 32 n) 1152#32)
    = BitVec.ofBool (decide (1024 ≤ n.val ∧ n.val < 1152)) := by decide +kernel

/-- The lanes before the padding. -/
theorem page_lane : ∀ n : Fin 1280, IntOp.cmpi CmpIPredicate.slt (BitVec.ofNat 32 n) 1184#32 = BitVec.ofBool (decide (n.val < 1184)) := by decide +kernel

/-- The place of the chunk's own keys. -/
theorem own_place : ∀ n : Fin 1280, 1024 ≤ n.val ∧ n.val < 1152 → (IntOp.subi (BitVec.ofNat 32 n) 1024#32).toNat < 128 := by decide +kernel

/-- The kernel's test, for a key before the start position or in the chunk. -/
theorem hit (q x : BitVec 32) (hq : q.toNat < 128) (hx : x.slt 0#32 = true ∨ x.toNat < 128) :
    IntOp.cmpi CmpIPredicate.eq (IntOp.andi (IntOp.subi q x) 4294966272#32) 0#32
      = IntOp.andi (IntOp.cmpi CmpIPredicate.sle x q) (IntOp.cmpi CmpIPredicate.sgt x (IntOp.subi q 1024#32)) :=
  (congrArg BitVec.ofBool (window q x hq hx)).trans (and_bits _ _).symm

/-- The kernel's test, for a key no query sees. -/
theorem miss (q : BitVec 32) (hq : q.toNat < 128) :
    IntOp.cmpi CmpIPredicate.eq (IntOp.andi (IntOp.subi q 1048576#32) 4294966272#32) 0#32
      = IntOp.andi (IntOp.cmpi CmpIPredicate.sle 128#32 q) (IntOp.cmpi CmpIPredicate.sgt 128#32 (IntOp.subi q 1024#32)) :=
  (congrArg BitVec.ofBool (far q hq)).trans (and_bits _ _).symm

/-- The kernel's mask is the reference's. -/
theorem mask (st kb r : BitVec 32) (hb : kb = base st) (i r' : Nat) (hr : r = BitVec.ofNat 32 r') (hi : r' + i < 128) (n : Fin 1280) :
    IntOp.cmpi CmpIPredicate.eq (IntOp.andi (IntOp.subi (IntOp.addi (BitVec.ofNat 32 i) r)
      (Scalar.select (IntOp.andi (IntOp.cmpi CmpIPredicate.sge (BitVec.ofNat 32 n) 1024#32) (IntOp.cmpi CmpIPredicate.slt (BitVec.ofNat 32 n) 1152#32))
        (IntOp.subi (BitVec.ofNat 32 n) 1024#32)
        (Scalar.select (IntOp.andi (IntOp.cmpi CmpIPredicate.slt (IntOp.addi (kslot n) kb) 0#32) (IntOp.cmpi CmpIPredicate.slt (BitVec.ofNat 32 n) 1184#32))
          (IntOp.addi (kslot n) kb) 1048576#32))) 4294966272#32) 0#32
    = seen (r' + i) (rel st n) := by
  subst hb hr
  have eq : IntOp.addi (BitVec.ofNat 32 i) (BitVec.ofNat 32 r') = BitVec.ofNat 32 (r' + i) := by
    rw [Nat.add_comm]; exact (BitVec.ofNat_add ..).symm
  have hq : (BitVec.ofNat 32 (r' + i)).toNat < 128 := by rw [BitVec.toNat_ofNat]; omega
  unfold seen rel
  rw [eq, own_lane n, page_lane n]
  have hn := n.isLt
  by_cases h1 : 1024 ≤ n.val ∧ n.val < 1152
  · rw [decide_eq_true h1, sel_true, sel_true]
    exact hit _ _ hq (Or.inr (own_place n h1))
  · rw [decide_eq_false h1, sel_false, sel_false]
    by_cases h2 : n.val < 1184
    · have hk : kslot n.val = slot n.val := kslot_eq ⟨n.val, h2⟩ h1
      rw [decide_eq_true h2, hk]
      have e : IntOp.cmpi CmpIPredicate.slt (IntOp.addi (slot n) (base st)) 0#32 = BitVec.ofBool ((IntOp.addi (slot n) (base st)).slt 0#32) := rfl
      rw [e, and_bits, Bool.and_true]
      by_cases h3 : (IntOp.addi (slot n) (base st)).slt 0#32 = true
      · rw [h3, sel_true, sel_true]
        exact hit _ _ hq (Or.inl h3)
      · rw [Bool.eq_false_iff.2 h3, sel_false, sel_false]
        exact miss _ hq
    · have e : IntOp.cmpi CmpIPredicate.slt (IntOp.addi (slot n) (base st)) 0#32 = BitVec.ofBool ((IntOp.addi (slot n) (base st)).slt 0#32) := rfl
      have e' : IntOp.cmpi CmpIPredicate.slt (IntOp.addi (kslot n) (base st)) 0#32 = BitVec.ofBool ((IntOp.addi (kslot n) (base st)).slt 0#32) := rfl
      rw [decide_eq_false h2, e, e', and_bits, and_bits, Bool.and_false, Bool.and_false, sel_false, sel_false]
      exact miss _ hq

/-- Where the window begins, as the kernel computes it. -/
theorem base_eq (st : BitVec 32) :
    Scalar.subi (Scalar.muli (Scalar.minsi 959#32 (Scalar.maxsi 0#32 (Scalar.shrsi (Scalar.maxsi (Scalar.subi st 1023#32) 0#32) 4#32))) 16#32) st = base st :=
  congrArg (IntOp.subi · st) (BitVec.mul_comm _ _)

end Cert.ASpec
-- ==== Proof.ABlk.lean ====
module
public import proofs.«01_k».proof.Proof.APieces
public import proofs.«01_k».proof.Proof.ARel

/-! # What one block of the attention kernel computes, value by value -/

@[expose] public section
set_option maxRecDepth 16384
noncomputable section
open Idealize.ShloMosaic Idealize.ShloMosaic.TcCoe Idealize.SL.Sem
open Cert.AttendIdeal Cert.AttendIdeal.Gen Cert.AttendIdeal.Hand
namespace Cert.AVal

/-- The kernel's mask is the plain one. -/
theorem vis_at (st : BitVec 32) (r : Nat) (i : Fin 8) (hr : r + i.val < 128) (n : Fin 1280) :
    vis st (BitVec.ofNat 32 r) (ix2 i n) = ASpec.seen (r + i) (ASpec.rel st n) := by
  refine Eq.trans ?_ (ASpec.mask st _ _ (ASpec.base_eq st) i r rfl hr n)
  pointwise [vis, krel, base, op57, op56, op51, op50]
  rfl

/-- The logarithm of the number of keys a query sees. -/
theorem nvB_at (st : BitVec 32) (r : Nat) (i : Fin 8) (l : Fin 128) :
    nvB st (BitVec.ofNat 32 r) (ix2 i l) = Ideal.log (ASpec.nv st (r + i)) := by
  have e : IntOp.addi (Scalar.addi (Scalar.addi st 1#32) (BitVec.ofNat 32 r)) (BitVec.ofNat 32 i.val)
      = IntOp.addi (IntOp.addi st (BitVec.ofNat 32 (r + i))) 1#32 := by
    rw [BitVec.ofNat_add]
    show st + 1#32 + BitVec.ofNat 32 r + BitVec.ofNat 32 i.val = st + (BitVec.ofNat 32 r + BitVec.ofNat 32 i.val) + 1#32
    rw [BitVec.add_assoc, BitVec.add_assoc, BitVec.add_comm 1#32, ← BitVec.add_assoc]
  unfold ASpec.nv
  rw [← e]
  pointwise [nvB]

/-- A row of scores as the kernel forms it: product times scale where the mask is set. -/
def srow (kr : Vec Ideal S1x8x1280 .f32) (m : IVec S8x1280 1) (s : Vec Ideal S1x8x1280 .f32) (i : Fin 8) : Spec.Row 1280 := fun n =>
  Scalar.select (m (ix2 i n)) (s (ix3 0 i n) * kr (ix3 0 i n)) (Ideal.ofBits FTy.f32 0xFF800000#32)

theorem row_at (kr : Vec Ideal S1x8x1280 .f32) (m : IVec S8x1280 1) (s : Vec Ideal S1x8x1280 .f32) (i : Fin 8) (n : Fin 1280) :
    op65 (op53 kr) m s (ix2 i n) = srow kr m s i n := by
  pointwise [op65, op53, srow]

/-- A softmax block: exponential times the reciprocal of the sum, times the value scale. -/
theorem pB_at (kr vr : Vec Ideal S1x8x1280 .f32) (m : IVec S8x1280 1) (s : Vec Ideal S1x8x1280 .f32) (i : Fin 8) (n : Fin 1280) :
    pB kr vr m s (ix3 0 i n) = ASpec.ex (srow kr m s i) n * Ideal.div 1 (ASpec.den (srow kr m s i)) * vr (ix3 0 i n) := by
  pointwise [pB, op69, op68, op67, op66, op54, row_at]
  rfl

/-- The statistics: maximum plus logarithm of the sum, in head `h`'s lane. -/
theorem statB_at (h : Nat) (kr : Vec Ideal S1x8x1280 .f32) (m : IVec S8x1280 1) (s : Vec Ideal S1x8x1280 .f32) (prev : FVec Ideal S8x128 .f32) (i : Fin 8) (l : Fin 128) :
    statB (BitVec.ofNat 32 h) kr m s prev (ix2 i l) = Scalar.select (IntOp.cmpi CmpIPredicate.eq (BitVec.ofNat 32 l) (BitVec.ofNat 32 h))
      (ASpec.peak (srow kr m s i) + Ideal.log (ASpec.den (srow kr m s i))) (prev (ix2 i l)) := by
  pointwise [statB, op68, op67, op66, row_at]
  rfl

theorem kt_at (x : Vec Ideal S1x1x128 .f32) (i : Fin 8) (n : Fin 128) : op20 x (ix3 0 i n) = x (ix3 0 0 n) * Ideal.ofBits FTy.f32 0x3D800000#32 := by
  pointwise [op20]

theorem vt_at (x : Vec Ideal S1x1x128 .f32) (i : Fin 8) (n : Fin 128) : op21 x (ix3 0 i n) = x (ix3 0 0 n) := by
  pointwise [op21]

/-- The keys of a sequence's words. -/
theorem codes_eq (k : Vec Ideal S1x320x256 .i32) :
    (bitcastToFloat .fp8e4m3 (bitcast S1280x256 8 (shapeCast S320x256 k shapeCasts_S1x320x256_S320x256) bitcasts_S320x256_w32_S1280x256_w8) : FVec Ideal S1280x256 .fp8e4m3)
      = fun y => ASpec.code (fun i d => k (ix3 0 i d)) (y 0) (y 1) := by
  have e : shapeCast S320x256 k shapeCasts_S1x320x256_S320x256 = fun j => k (ix3 0 (j 0) (j 1)) := by
    funext j
    obtain ⟨a, b, rfl⟩ : ∃ (a : Fin 320) (b : Fin 256), j = ix2 a b := ⟨j 0, j 1, eq_ix2 j⟩
    pointwise
  rw [e]
  funext y
  exact congrArg _ (eq_ix2 y)

theorem sdot (k : Vec Ideal S1x320x256 .i32) (q : Vec Ideal S1x512x256 .bf16) (i : Fin 512) (n : Fin 1280) :
    op52 k q (ix3 0 i n) = ∑ x, q (ix3 0 i x) * ASpec.code (fun i d => k (ix3 0 i d)) n x := by
  unfold op52
  simp only [codes_eq]
  pointwise

theorem sdot1 (k : Vec Ideal S1x320x256 .i32) (q : Vec Ideal S1x512x256 .bf16) (i : Fin 512) (n : Fin 1280) :
    op592 k q (ix3 0 i n) = ∑ x, q (ix3 0 i x) * ASpec.code (fun i d => k (ix3 0 i d)) n x := by
  unfold op592
  simp only [codes_eq]
  pointwise

theorem odot (v : Vec Ideal S1x320x256 .i32) (p : Vec Ideal S1x512x1280 .bf16) (i : Fin 512) (n : Fin 256) :
    op509 v p (ix3 0 i n) = ∑ x, p (ix3 0 i x) * ASpec.code (fun i d => v (ix3 0 i d)) x n := by
  unfold op509
  simp only [codes_eq]
  pointwise

theorem odot1 (v : Vec Ideal S1x320x256 .i32) (p : Vec Ideal S1x512x1280 .bf16) (i : Fin 512) (n : Fin 256) :
    op1050 v p (ix3 0 i n) = ∑ x, p (ix3 0 i x) * ASpec.code (fun i d => v (ix3 0 i d)) x n := by
  unfold op1050
  simp only [codes_eq]
  pointwise

/-- The largest absolute value of 1024 lanes, from eight tiles of 128. -/
theorem top_eight (v : Fin 4 → Spec.Row 256) (b : EReal) (f : EReal → EReal) :
    Finset.fold max b (fun k : Fin 128 =>
      max (max (max (max (max (max (max
        (f (v 0 ⟨k, by omega⟩)) (f (v 0 ⟨128 + k, by omega⟩))) (f (v 1 ⟨k, by omega⟩)))
        (f (v 1 ⟨128 + k, by omega⟩))) (f (v 2 ⟨k, by omega⟩))) (f (v 2 ⟨128 + k, by omega⟩)))
        (f (v 3 ⟨k, by omega⟩))) (f (v 3 ⟨128 + k, by omega⟩))) Finset.univ
    = Finset.fold max b (fun k => f (ASpec.cat v k)) Finset.univ := by
  refine eq_of_forall_ge_iff fun c => ?_
  simp only [Finset.fold_max_le, max_le_iff, Finset.mem_univ, true_implies]
  refine and_congr_right fun _ => ⟨fun h k => ?_, fun h k => ?_⟩
  · obtain ⟨⟨⟨⟨⟨⟨⟨h0, h1⟩, h2⟩, h3⟩, h4⟩, h5⟩, h6⟩, h7⟩ := h ⟨k % 128, by omega⟩
    have e : ∀ a : Fin 4, f (v a ⟨k % 128, by omega⟩) ≤ c → f (v a ⟨128 + k % 128, by omega⟩) ≤ c → k.val / 256 = a.val → f (ASpec.cat v k) ≤ c := by
      intro a hl hr ha
      have ea : (⟨k.val / 256, by omega⟩ : Fin 4) = a := Fin.ext ha
      unfold ASpec.cat
      rw [ea]
      by_cases hk : k.val % 256 < 128
      · have : (⟨k.val % 256, by omega⟩ : Fin 256) = ⟨k % 128, by omega⟩ := Fin.ext (by simp only; omega)
        rwa [this]
      · have : (⟨k.val % 256, by omega⟩ : Fin 256) = ⟨128 + k % 128, by omega⟩ := Fin.ext (by simp only; omega)
        rwa [this]
    have hk : k.val / 256 < 4 := by omega
    interval_cases hq : k.val / 256
    · exact e 0 h0 h1 rfl
    · exact e 1 h2 h3 rfl
    · exact e 2 h4 h5 rfl
    · exact e 3 h6 h7 rfl
  · have g : ∀ (a : Fin 4) (l : Fin 256), f (v a l) ≤ c := fun a l => by
      have := h ⟨256 * a + l, by omega⟩
      unfold ASpec.cat at this
      have e1 : (⟨(256 * a.val + l.val) / 256, by omega⟩ : Fin 4) = a := Fin.ext (by simp only; omega)
      have e2 : (⟨(256 * a.val + l.val) % 256, by omega⟩ : Fin 256) = l := Fin.ext (by simp only; omega)
      simp only [e1, e2] at this
      exact this
    exact ⟨⟨⟨⟨⟨⟨⟨g _ _, g _ _⟩, g _ _⟩, g _ _⟩, g _ _⟩, g _ _⟩, g _ _⟩, g _ _⟩

/-- The exponents of a block of four heads' rows. -/
theorem expB_at (o0 o1 o2 o3 : Vec Ideal S1x32x256 .f32) (i : Fin 32) (l : Fin 128) (v : Fin 4 → Spec.Row 256)
    (h0 : ∀ x, o0 (ix3 0 i x) = v 0 x) (h1 : ∀ x, o1 (ix3 0 i x) = v 1 x) (h2 : ∀ x, o2 (ix3 0 i x) = v 2 x) (h3 : ∀ x, o3 (ix3 0 i x) = v 3 x) :
    expB o0 o1 o2 o3 (ix2 i l) = Spec.expo (Spec.top (ASpec.cat v)) := by
  unfold Spec.top
  rw [← top_eight]
  pointwise [expB, op515, op513, op514]
  simp only [h0, h1, h2, h3]
  rfl

/-- A tile of codes. -/
theorem codeB_at (q : Nat) (h : q + 128 ≤ 256) (o : Vec Ideal S1x32x256 .f32) (e : FVec Ideal S32x128 .f32) (i : Fin 32) (l : Fin 128) (a : EReal) (he : e (ix2 i l) = Spec.expo a) :
    codeB q h o e (ix2 i l) = Spec.clip a (o (ix3 0 i ⟨q + l, by omega⟩)) := by
  unfold Spec.clip Spec.unscale
  rw [← he]
  pointwise [codeB, op516]

/-- The statistics of a query by lane: the log-sum-exps of the four heads in the first four lanes. -/
def stat (σ : Fin 4 → Spec.Row 1280) (nv : EReal) (l : Fin 128) : EReal :=
  Scalar.select (IntOp.cmpi CmpIPredicate.eq (BitVec.ofNat 32 l) 3#32) (ASpec.peak (σ 3) + Ideal.log (ASpec.den (σ 3)))
    (Scalar.select (IntOp.cmpi CmpIPredicate.eq (BitVec.ofNat 32 l) 2#32) (ASpec.peak (σ 2) + Ideal.log (ASpec.den (σ 2)))
    (Scalar.select (IntOp.cmpi CmpIPredicate.eq (BitVec.ofNat 32 l) 1#32) (ASpec.peak (σ 1) + Ideal.log (ASpec.den (σ 1)))
    (Scalar.select (IntOp.cmpi CmpIPredicate.eq (BitVec.ofNat 32 l) 0#32) (ASpec.peak (σ 0) + Ideal.log (ASpec.den (σ 0))) 0))) - Ideal.log nv

theorem stat_head (σ : Fin 4 → Spec.Row 1280) (nv : EReal) (h : Fin 4) : stat σ nv ⟨h, by omega⟩ = ASpec.lse (σ h) nv :=
  match h with
  | ⟨0, _⟩ => rfl
  | ⟨1, _⟩ => rfl
  | ⟨2, _⟩ => rfl
  | ⟨3, _⟩ => rfl

/-- A block of statistics. -/
theorem stB_at (kr : Vec Ideal S1x8x1280 .f32) (st : BitVec 32) (r : Nat) (s : Fin 4 → Vec Ideal S1x8x1280 .f32) (i : Fin 8) (l : Fin 128) :
    stB kr st (BitVec.ofNat 32 r) (s 0) (s 1) (s 2) (s 3) (ix3 0 i l)
      = stat (fun h => srow kr (vis st (BitVec.ofNat 32 r)) (s h) i) (ASpec.nv st (r + i)) l := by
  pointwise [stB, statB_at, nvB_at, stat]

/-- The transposed statistics: the scales in row 4. -/
theorem stT_at (st : Vec Ideal S1x128x128 .f32) (e : Fin 4 → FVec Ideal S32x128 .f32) (l p : Fin 128) :
    stT st (e 0) (e 1) (e 2) (e 3) (ix2 l p) = Scalar.select (IntOp.cmpi CmpIPredicate.eq (BitVec.ofNat 32 l) 4#32)
      (FloatOps.exp2 (F := Idealize.ShloMosaic.Ideal) (φ := FTy.f32) (e ⟨p / 32, by omega⟩ (ix2 ⟨p % 32, by omega⟩ l))) (st (ix3 0 p l)) := by
  have g : ∀ (b : Fin 4) (d : Nat) (hd : d < 32) (p' : Fin 128), b.val = p.val / 32 → d = p.val % 32 → p' = p →
      Scalar.select (IntOp.cmpi CmpIPredicate.eq (BitVec.ofNat 32 l) 4#32) (FloatOps.exp2 (F := Idealize.ShloMosaic.Ideal) (φ := FTy.f32) (e b (ix2 ⟨d, hd⟩ l))) (st (ix3 0 p' l))
      = Scalar.select (IntOp.cmpi CmpIPredicate.eq (BitVec.ofNat 32 l) 4#32)
      (FloatOps.exp2 (F := Idealize.ShloMosaic.Ideal) (φ := FTy.f32) (e ⟨p / 32, by omega⟩ (ix2 ⟨p % 32, by omega⟩ l))) (st (ix3 0 p l)) := by
    rintro ⟨b, hb⟩ d hd p' (rfl : b = _) rfl rfl
    rfl
  pointwise [stT, op588, op529, op549, op568]
  split_ifs <;> refine g _ _ _ _ ?_ ?_ ?_ <;> first | omega | rfl | (refine Fin.ext ?_; simp only []; omega)|  (simp; omega)

theorem lseB_at (x : FVec Ideal S128x128 .f32) (h : Fin 4) (p : Fin 128) : lseB x (ix3 0 h p) = x (ix2 ⟨h, by omega⟩ p) := by
  pointwise [lseB]

theorem asB_at (x : FVec Ideal S128x128 .f32) (p : Fin 128) : asB x (ix2 0 p) = x (ix2 4 p) := by
  pointwise [asB]

end Cert.AVal
-- ==== Proof.AArr.lean ====
module
public import proofs.«01_k».proof.Proof.ABlk

/-! # What the attention kernel's buffers hold: scales, scores, softmax

The landed operands; the scale rows; the products of queries and keys; the softmax, in both sequences. -/

@[expose] public section
set_option maxRecDepth 65536
noncomputable section
open Idealize.ShloMosaic Idealize.ShloMosaic.TcCoe Idealize.SL.Sem
open Cert.AttendIdeal Cert.AttendIdeal.Gen Cert.AttendIdeal.Hand
namespace Cert.AVal

/-- A slab of a three-dimensional array of pieces agrees with the array at the slab's place. -/
theorem at_slab {B R C a b : Nat} (n o q : Nat) (h : ∀ d, (![n, o, q] : Fin 3 → Nat) d + (⟨3, ![1, a, b]⟩ : Shape).size d ≤ (⟨3, ![B, R, C]⟩ : Shape).size d)
    (hn : n < B) (ho : o + a ≤ R) (hq : q + b ≤ C) (v : (⟨3, ![1, a, b]⟩ : Shape).Idx → EReal) (G : Fin B → Fin R → Fin C → EReal)
    (hv : ∀ (i : Fin a) (l : Fin b), v (ix3 0 i l) = G ⟨n, hn⟩ ⟨o + i, by omega⟩ ⟨q + l, by omega⟩) (x : (⟨3, ![1, a, b]⟩ : Shape).Idx) :
    v x = (fun y : (⟨3, ![B, R, C]⟩ : Shape).Idx => G (y 0) (y 1) (y 2)) ((Rect.unit (s := ⟨3, ![B, R, C]⟩) ![n, o, q] (⟨3, ![1, a, b]⟩ : Shape).size h).emb x) := by
  obtain ⟨z, i, l, rfl⟩ : ∃ (z : Fin 1) (i : Fin a) (l : Fin b), x = ix3 z i l := ⟨x 0, x 1, x 2, eq_ix3 x⟩
  obtain rfl : z = 0 := Subsingleton.elim _ _
  refine (hv i l).trans ?_
  have e0 : (⟨n, hn⟩ : Fin B) = (Rect.unit (s := ⟨3, ![B, R, C]⟩) ![n, o, q] (⟨3, ![1, a, b]⟩ : Shape).size h).emb (ix3 0 i l) 0 := Fin.ext (show n = n + 1 * 0 by omega)
  have e1 : (⟨o + i, by omega⟩ : Fin R) = (Rect.unit (s := ⟨3, ![B, R, C]⟩) ![n, o, q] (⟨3, ![1, a, b]⟩ : Shape).size h).emb (ix3 0 i l) 1 := Fin.ext (show o + i.val = o + 1 * i.val by omega)
  have e2 : (⟨q + l, by omega⟩ : Fin C) = (Rect.unit (s := ⟨3, ![B, R, C]⟩) ![n, o, q] (⟨3, ![1, a, b]⟩ : Shape).size h).emb (ix3 0 i l) 2 := Fin.ext (show q + l.val = q + 1 * l.val by omega)
  exact e0 ▸ e1 ▸ e2 ▸ rfl

/-- What all the forms satisfy, the list of their stores does. -/
theorem all_map {S : Shape} {e : EltTy} {N : Nat} {P : View.Piece (Elt Ideal) S e → Prop} (f : Fin N → View.Piece (Elt Ideal) S e) (h : ∀ k, P (f k)) :
    ∀ p ∈ ((List.finRange N).map f).reverse, P p := by
  intro p hp
  rw [List.mem_reverse, List.mem_map] at hp
  obtain ⟨k, _, rfl⟩ := hp
  exact h k

/-- Each form's store is in the list. -/
theorem mem_map {S : Shape} {e : EltTy} {N : Nat} (f : Fin N → View.Piece (Elt Ideal) S e) (k : Fin N) : f k ∈ ((List.finRange N).map f).reverse :=
  List.mem_reverse.2 (List.mem_map.2 ⟨k, List.mem_finRange k, rfl⟩)

variable (c : Dev nD) (a0 : Vec Ideal S2 .i32) (a1 : Vec Ideal S2x512x256 .bf16) (a2 a3 : Vec Ideal S2x320x256 .i32) (a4 a5 : Vec Ideal S2x1x1280 .f32)
  (f0 : Vec Ideal S2 .i32) (f1 f2 : Vec Ideal S2x1x1280 .f32) (f7 : Vec Ideal S2x512x256 .bf16) (f8 f9 : Vec Ideal S2x320x256 .i32)

/-- Where the keys lie. -/
abbrev relK : Fin 2 → Fin 1280 → BitVec 32 := fun b n => ASpec.rel (a0 (ix1 b)) n
/-- The rows of queries. -/
abbrev qK : Fin 2 → Fin 512 → Spec.Row 256 := fun b j d => a1 (ix3 b j d)
/-- The rows of keys, or of values. -/
abbrev kK : Fin 2 → Fin 1280 → Spec.Row 256 := fun b => ASpec.code fun i d => a2 (ix3 b i d)
/-- The key scales, or the value scales. -/
abbrev sK : Fin 2 → Spec.Row 1280 := fun b n => a4 (ix3 b 0 n)
/-- The numbers of visible keys. -/
abbrev nK : Fin 2 → Fin 128 → EReal := fun b i => ASpec.nv (a0 (ix1 b)) i
/-- The scores. -/
abbrev scK (b : Fin 2) (h : Fin 4) (i : Fin 128) : Spec.Row 1280 := ASpec.sc (relK a0) (qK a1) (kK a2) (sK a4) b h i

/-- The landed start positions. -/
theorem st_land0 : run.sl.r_10 (F := Ideal) c a0 f0 = a0 (ix1 0) := by
  unfold run.sl.r_10
  rw [View.readAt_apply, View.read_write_univ]
  refine congrArg a0 (funext fun d => Fin.ext ?_)
  match d with
  | 0 => rfl
theorem st_land1 : run.sl.r_216 (F := Ideal) c a0 f0 = a0 (ix1 1) := by
  unfold run.sl.r_216
  rw [View.readAt_apply, View.read_write_univ]
  refine congrArg a0 (funext fun d => Fin.ext ?_)
  match d with
  | 0 => rfl

/-- The landed scales. -/
theorem ks_land (b : Fin 2) (o : Nat) (h : ∀ d, (![b.val, 0, o] : Fin 3 → Nat) d + S1x1x128.size d ≤ S2x1x1280.size d) (ho : o + 128 ≤ 1280) (l : Fin 128) :
    View.readAt (Elt Ideal) sM1.view (Rect.unit (s := S2x1x1280) ![b.val, 0, o] S1x1x128.size h).toLoadRect
      (View.write (Elt Ideal) sM1.view f1 (run.sl.dma0_1 (F := Ideal) c a4) Finset.univ) (ix3 0 0 l) = a4 (ix3 b 0 ⟨o + l, by omega⟩) := by
  rw [View.readAt_apply, View.read_write_univ]
  refine congrArg a4 (funext fun d => Fin.ext ?_)
  match d with
  | 0 => show b.val + 1 * 0 = b.val; omega
  | 1 => rfl
  | 2 => show o + 1 * l.val = o + l.val; omega
theorem vs_land (b : Fin 2) (o : Nat) (h : ∀ d, (![b.val, 0, o] : Fin 3 → Nat) d + S1x1x128.size d ≤ S2x1x1280.size d) (ho : o + 128 ≤ 1280) (l : Fin 128) :
    View.readAt (Elt Ideal) sM2.view (Rect.unit (s := S2x1x1280) ![b.val, 0, o] S1x1x128.size h).toLoadRect
      (View.write (Elt Ideal) sM2.view f2 (run.sl.dma0_2 (F := Ideal) c a5) Finset.univ) (ix3 0 0 l) = a5 (ix3 b 0 ⟨o + l, by omega⟩) := by
  rw [View.readAt_apply, View.read_write_univ]
  refine congrArg a5 (funext fun d => Fin.ext ?_)
  match d with
  | 0 => show b.val + 1 * 0 = b.val; omega
  | 1 => rfl
  | 2 => show o + 1 * l.val = o + l.val; omega

/-- A landed sequence's queries. -/
theorem q_land (b : Nat) (hb : b < 2) (h : ∀ d, (![b, 0, 0] : Fin 3 → Nat) d + S1x512x256.size d ≤ S2x512x256.size d) (j : Fin 512) (d : Fin 256) :
    View.readAt (Elt Ideal) sM7.view (Rect.unit (s := S2x512x256) ![b, 0, 0] S1x512x256.size h).toLoadRect
      (View.write (Elt Ideal) sM7.view f7 (run.sl.dma0_3 (F := Ideal) c a1) Finset.univ) (ix3 0 j d) = a1 (ix3 ⟨b, hb⟩ j d) := by
  rw [View.readAt_apply, View.read_write_univ]
  refine congrArg a1 (funext fun e => Fin.ext ?_)
  match e with
  | 0 => show b + 1 * 0 = b; omega
  | 1 => show 0 + 1 * j.val = j.val; omega
  | 2 => show 0 + 1 * d.val = d.val; omega
/-- A landed sequence's keys. -/
theorem k_land (b : Nat) (hb : b < 2) (h : ∀ d, (![b, 0, 0] : Fin 3 → Nat) d + S1x320x256.size d ≤ S2x320x256.size d) (n : Fin 320) (d : Fin 256) :
    View.readAt (Elt Ideal) sM8.view (Rect.unit (s := S2x320x256) ![b, 0, 0] S1x320x256.size h).toLoadRect
      (View.write (Elt Ideal) sM8.view f8 (run.sl.dma0_4 (F := Ideal) c a2) Finset.univ) (ix3 0 n d) = a2 (ix3 ⟨b, hb⟩ n d) := by
  rw [View.readAt_apply, View.read_write_univ]
  refine congrArg a2 (funext fun e => Fin.ext ?_)
  match e with
  | 0 => show b + 1 * 0 = b; omega
  | 1 => show 0 + 1 * n.val = n.val; omega
  | 2 => show 0 + 1 * d.val = d.val; omega
/-- A landed sequence's values. -/
theorem v_land (b : Nat) (hb : b < 2) (h : ∀ d, (![b, 0, 0] : Fin 3 → Nat) d + S1x320x256.size d ≤ S2x320x256.size d) (n : Fin 320) (d : Fin 256) :
    View.readAt (Elt Ideal) sM9.view (Rect.unit (s := S2x320x256) ![b, 0, 0] S1x320x256.size h).toLoadRect
      (View.write (Elt Ideal) sM9.view f9 (run.sl.dma0_5 (F := Ideal) c a3) Finset.univ) (ix3 0 n d) = a3 (ix3 ⟨b, hb⟩ n d) := by
  rw [View.readAt_apply, View.read_write_univ]
  refine congrArg a3 (funext fun e => Fin.ext ?_)
  match e with
  | 0 => show b + 1 * 0 = b; omega
  | 1 => show 0 + 1 * n.val = n.val; omega
  | 2 => show 0 + 1 * d.val = d.val; omega

/-- The key scales times the fixed scale, for eight equal rows. -/
def krA : Vec Ideal S2x8x1280 .f32 := fun y => a4 (ix3 (y 0) 0 (y 2)) * Ideal.ofBits FTy.f32 0x3D800000#32
/-- The value scales, for eight equal rows. -/
def vrA : Vec Ideal S2x8x1280 .f32 := fun y => a5 (ix3 (y 0) 0 (y 2))

theorem kr_canon : View.canon (run.sl.S10_20 (F := Ideal) c a4 f1) = krA a4 := by
  refine funext fun y => View.canon_apply_of_pieces _ _ ?_ y (View.cover_of_tiledL (s := S2x8x1280) _ S1x8x128.size (by sl_kernel_rfl) y)
  rw [S10_eq]
  exact all_map _ fun k => at_slab (B := 2) (R := 8) (C := 1280) (a := 8) (b := 128) (sq k).val 0 (128 * (k.val % 10)) (inb3 (sq k) _ (Nat.le_refl 8) (ln_le k)) (sq k).isLt (by omega) (ln_le k) _
    (fun b _ n => a4 (ix3 b 0 n) * Ideal.ofBits FTy.f32 0x3D800000#32) fun i l =>
      (kt_at _ i l).trans (congrArg (· * Ideal.ofBits FTy.f32 0x3D800000#32) (ks_land c a4 f1 (sq k) _ _ (ln_le k) l))

theorem vr_canon : View.canon (run.sl.S11_20 (F := Ideal) c a5 f2) = vrA a5 := by
  refine funext fun y => View.canon_apply_of_pieces _ _ ?_ y (View.cover_of_tiledL (s := S2x8x1280) _ S1x8x128.size (by sl_kernel_rfl) y)
  rw [S11_eq]
  exact all_map _ fun k => at_slab (B := 2) (R := 8) (C := 1280) (a := 8) (b := 128) (sq k).val 0 (128 * (k.val % 10)) (inb3 (sq k) _ (Nat.le_refl 8) (ln_le k)) (sq k).isLt (by omega) (ln_le k) _
    (fun b _ n => a5 (ix3 b 0 n)) fun i l =>
      (vt_at _ i l).trans (vs_land c a5 f2 (sq k) _ _ (ln_le k) l)

theorem kr_read0 (i : Fin 8) (n : Fin 1280) : run.sl.v405 (F := Ideal) c a4 f1 (ix3 0 i n) = a4 (ix3 0 0 n) * Ideal.ofBits FTy.f32 0x3D800000#32 := by
  unfold run.sl.v405
  rw [View.readCov_eq_canon', kr_canon]
  exact congrArg (fun n => a4 (ix3 0 0 n) * Ideal.ofBits FTy.f32 0x3D800000#32) (Fin.ext (show 0 + 1 * n.val = n.val by omega))
theorem kr_read1 (i : Fin 8) (n : Fin 1280) : run.sl.v3246 (F := Ideal) c a4 f1 (ix3 0 i n) = a4 (ix3 1 0 n) * Ideal.ofBits FTy.f32 0x3D800000#32 := by
  unfold run.sl.v3246
  rw [View.readCov_eq_canon', kr_canon]
  exact congrArg (fun n => a4 (ix3 1 0 n) * Ideal.ofBits FTy.f32 0x3D800000#32) (Fin.ext (show 0 + 1 * n.val = n.val by omega))
theorem vr_read0 (i : Fin 8) (n : Fin 1280) : run.sl.v407 (F := Ideal) c a5 f2 (ix3 0 i n) = a5 (ix3 0 0 n) := by
  unfold run.sl.v407
  rw [View.readCov_eq_canon', vr_canon]
  exact congrArg (fun n => a5 (ix3 0 0 n)) (Fin.ext (show 0 + 1 * n.val = n.val by omega))
theorem vr_read1 (i : Fin 8) (n : Fin 1280) : run.sl.v3248 (F := Ideal) c a5 f2 (ix3 0 i n) = a5 (ix3 1 0 n) := by
  unfold run.sl.v3248
  rw [View.readCov_eq_canon', vr_canon]
  exact congrArg (fun n => a5 (ix3 1 0 n)) (Fin.ext (show 0 + 1 * n.val = n.val by omega))

/-- The product of a query row and a key row. -/
def dot (b : Fin 2) (j : Fin 512) (n : Fin 1280) : EReal := ∑ x, a1 (ix3 b j x) * kK a2 b n x
def dotA : Vec Ideal S2x512x1280 .f32 := fun y => dot a1 a2 (y 0) (y 1) (y 2)

theorem dot_1 : ∀ p ∈ run.sl.S12_1 (F := Ideal) c a1 a2 f7 f8, ∀ y, p.2 y = dotA a1 a2 (p.1.emb y) :=
  List.forall_mem_cons.2 ⟨at_slab 0 0 0 inb_S2x512x1280_S1x512x1280_0_0_0 (by omega) (by omega) (by omega) _ (dot a1 a2) fun i l =>
    (sdot _ _ i l).trans ((show _ = dot a1 a2 0 i l from Finset.sum_congr rfl fun x _ => congrArg₂ (fun a b : EReal => a * b)
      (q_land c a1 f7 0 (by omega) _ i x) (congrArg (fun w => ASpec.code w l x) (funext fun n => funext fun d => k_land c a2 f8 0 (by omega) _ n d))).trans
      (congrArg₂ (dot a1 a2 0) (Fin.ext (Nat.zero_add _).symm) (Fin.ext (Nat.zero_add _).symm))),
    fun _ h => absurd h List.not_mem_nil⟩

theorem dot_2 : ∀ p ∈ run.sl.S12_2 (F := Ideal) c a1 a2 f7 f8, ∀ y, p.2 y = dotA a1 a2 (p.1.emb y) :=
  List.forall_mem_cons.2 ⟨at_slab 1 0 0 inb_S2x512x1280_S1x512x1280_1_0_0 (by omega) (by omega) (by omega) _ (dot a1 a2) fun i l =>
    (sdot1 _ _ i l).trans ((show _ = dot a1 a2 1 i l from Finset.sum_congr rfl fun x _ => congrArg₂ (fun a b : EReal => a * b)
      (q_land c a1 f7 1 (by omega) _ i x) (congrArg (fun w => ASpec.code w l x) (funext fun n => funext fun d => k_land c a2 f8 1 (by omega) _ n d))).trans
      (congrArg₂ (dot a1 a2 1) (Fin.ext (Nat.zero_add _).symm) (Fin.ext (Nat.zero_add _).symm))),
    dot_1 c a1 a2 f7 f8⟩

theorem sl0_at (o : Nat) (h : o + 8 ≤ 512) (i : Fin 8) (n : Fin 1280) : sl0 c a1 a2 f7 f8 o h (ix3 0 i n) = dot a1 a2 0 ⟨o + i, by omega⟩ n := by
  unfold sl0
  rw [View.readCov_eq_canon']
  refine (View.canon_apply_of_pieces _ _ (dot_1 c a1 a2 f7 f8) _ ⟨_, List.mem_cons_self, ?_⟩).trans ?_
  · refine (Rect.mem_set_unit (inb := inb_S2x512x1280_S1x512x1280_0_0_0)).2 fun a => ?_
    match a with
    | 0 => exact ⟨Nat.zero_le _, show 0 + 1 * 0 < 0 + 1 by omega⟩
    | 1 => exact ⟨Nat.zero_le _, show o + 1 * i.val < 0 + 512 by omega⟩
    | 2 => exact ⟨Nat.zero_le _, show 0 + 1 * n.val < 0 + 1280 by omega⟩
  · exact congrArg₂ (dot a1 a2 0) (Fin.ext (show o + 1 * i.val = o + i.val by omega)) (Fin.ext (show 0 + 1 * n.val = n.val by omega))

theorem sl1_at (o : Nat) (h : o + 8 ≤ 512) (i : Fin 8) (n : Fin 1280) : sl1 c a1 a2 f7 f8 o h (ix3 0 i n) = dot a1 a2 1 ⟨o + i, by omega⟩ n := by
  unfold sl1
  rw [View.readCov_eq_canon']
  refine (View.canon_apply_of_pieces _ _ (dot_2 c a1 a2 f7 f8) _ ⟨_, List.mem_cons_self, ?_⟩).trans ?_
  · refine (Rect.mem_set_unit (inb := inb_S2x512x1280_S1x512x1280_1_0_0)).2 fun a => ?_
    match a with
    | 0 => exact ⟨show 1 ≤ 1 + 1 * 0 by omega, show 1 + 1 * 0 < 1 + 1 by omega⟩
    | 1 => exact ⟨Nat.zero_le _, show o + 1 * i.val < 0 + 512 by omega⟩
    | 2 => exact ⟨Nat.zero_le _, show 0 + 1 * n.val < 0 + 1280 by omega⟩
  · exact congrArg₂ (dot a1 a2 1) (Fin.ext (show o + 1 * i.val = o + i.val by omega)) (Fin.ext (show 0 + 1 * n.val = n.val by omega))

/-- A row of the kernel's scores is a row of the plain ones. -/
theorem srow_eq (b : Fin 2) (h : Fin 4) (r : Nat) (i : Fin 8) (hr : r + i.val < 128) (kr s : Vec Ideal S1x8x1280 .f32)
    (hk : ∀ n, kr (ix3 0 i n) = a4 (ix3 b 0 n) * Ideal.ofBits FTy.f32 0x3D800000#32) (o : Nat) (ho : o + i.val < 512) (e : o = 128 * h.val + r)
    (hs : ∀ n, s (ix3 0 i n) = dot a1 a2 b ⟨o + i, ho⟩ n) :
    srow kr (vis (a0 (ix1 b)) (BitVec.ofNat 32 r)) s i = scK a0 a1 a2 a4 b h ⟨r + i, hr⟩ := by
  funext n
  unfold srow
  rw [vis_at _ _ _ hr, hk, hs, ← mul_assoc]
  subst e
  have e2 : (⟨128 * h.val + r + i.val, ho⟩ : Fin 512) = ⟨128 * h.val + (r + i.val), by omega⟩ := Fin.ext (by simp only; omega)
  rw [e2]
  rfl

/-- The softmax, times the value scales. -/
def prb (b : Fin 2) (j : Fin 512) (n : Fin 1280) : EReal :=
  ASpec.prob (scK a0 a1 a2 a4 b ⟨j / 128, by omega⟩ ⟨j % 128, by omega⟩) (sK a5 b) n
def prbA : Vec Ideal S2x512x1280 .bf16 := fun y => prb a0 a1 a2 a4 a5 (y 0) (y 1) (y 2)

/-- A block of it. -/
theorem prb_of (b : Fin 2) (k : Fin 64) (i : Fin 8) (n : Fin 1280) (kr vr s : Vec Ideal S1x8x1280 .f32)
    (hk : ∀ n, kr (ix3 0 i n) = a4 (ix3 b 0 n) * Ideal.ofBits FTy.f32 0x3D800000#32) (hv : vr (ix3 0 i n) = a5 (ix3 b 0 n))
    (hs : ∀ n, s (ix3 0 i n) = dot a1 a2 b ⟨po k + i, by have := po_le k; omega⟩ n) :
    pB kr vr (vis (a0 (ix1 b)) (BitVec.ofNat 32 (8 * (k.val / 4)))) s (ix3 0 i n) = prb a0 a1 a2 a4 a5 b ⟨po k + i, by have := po_le k; omega⟩ n := by
  rw [pB_at, srow_eq a0 a1 a2 a4 b ⟨k.val % 4, by omega⟩ (8 * (k.val / 4)) i (by omega) kr s hk (po k) (by have := po_le k; omega) rfl hs, ASpec.mul_recip, hv]
  have e1 : (⟨(po k + i.val) / 128, by have := po_le k; omega⟩ : Fin 4) = ⟨k.val % 4, by omega⟩ := Fin.ext (by simp only [po]; omega)
  have e2 : (⟨(po k + i.val) % 128, by omega⟩ : Fin 128) = ⟨8 * (k.val / 4) + i.val, by omega⟩ := Fin.ext (by simp only [po]; omega)
  unfold prb
  simp only [e1, e2]
  rfl

theorem prb_0 : ∀ p ∈ run.sl.S13_64 (F := Ideal) c a0 a1 a2 a4 a5 f0 f1 f2 f7 f8, ∀ y, p.2 y = prbA a0 a1 a2 a4 a5 (p.1.emb y) := by
  rw [S13_0_eq]
  refine all_map _ fun k => at_slab (B := 2) (R := 512) (C := 1280) (a := 8) (b := 1280) 0 (po k) 0 (inb3 0 0 (po_le k) (Nat.le_refl _)) (by omega) (po_le k) (by omega) _ (prb a0 a1 a2 a4 a5) fun i n => ?_
  show pB _ _ _ _ _ = _
  rw [st_land0]
  refine (prb_of a0 a1 a2 a4 a5 0 k i n _ _ _ (kr_read0 c a4 f1 i) (vr_read0 c a5 f2 i n) (sl0_at c a1 a2 f7 f8 (po k) (po_le k) i)).trans ?_
  exact congrArg (prb a0 a1 a2 a4 a5 0 _) (Fin.ext (Nat.zero_add _).symm)

theorem prb_1 : ∀ p ∈ run.sl.S13_128 (F := Ideal) c a0 a1 a2 a4 a5 f0 f1 f2 f7 f8, ∀ y, p.2 y = prbA a0 a1 a2 a4 a5 (p.1.emb y) := by
  rw [S13_1_eq]
  refine List.forall_mem_append.2 ⟨all_map _ fun k => at_slab (B := 2) (R := 512) (C := 1280) (a := 8) (b := 1280) 1 (po k) 0 (inb3 1 0 (po_le k) (Nat.le_refl _)) (by omega) (po_le k) (by omega) _ (prb a0 a1 a2 a4 a5) fun i n => ?_,
    prb_0 c a0 a1 a2 a4 a5 f0 f1 f2 f7 f8⟩
  show pB _ _ _ _ _ = _
  rw [st_land1]
  refine (prb_of a0 a1 a2 a4 a5 1 k i n _ _ _ (kr_read1 c a4 f1 i) (vr_read1 c a5 f2 i n) (sl1_at c a1 a2 f7 f8 (po k) (po_le k) i)).trans ?_
  exact congrArg (prb a0 a1 a2 a4 a5 1 _) (Fin.ext (Nat.zero_add _).symm)

/-- The softmax of sequence 0 read back, and of sequence 1. -/
theorem prb_read0 (j : Fin 512) (n : Fin 1280) : run.sl.v2621 (F := Ideal) c a0 a1 a2 a4 a5 f0 f1 f2 f7 f8 (ix3 0 j n) = prb a0 a1 a2 a4 a5 0 j n := by
  unfold run.sl.v2621
  rw [View.readCov_eq_canon']
  have hk : 4 * (j.val % 128 / 8) + j.val / 128 < 64 := by omega
  have hp : po ⟨4 * (j.val % 128 / 8) + j.val / 128, hk⟩ = 8 * (j.val / 8) := by simp only [po]; omega
  refine (View.canon_apply_of_pieces _ _ (prb_0 c a0 a1 a2 a4 a5 f0 f1 f2 f7 f8) _
    ⟨p0 c a0 a1 a2 a4 a5 f0 f1 f2 f7 f8 ⟨4 * (j.val % 128 / 8) + j.val / 128, hk⟩, by rw [S13_0_eq]; exact mem_map _ _, ?_⟩).trans ?_
  · refine (Rect.mem_set_unit (inb := inb3 0 0 (po_le _) (Nat.le_refl _))).2 fun a => ?_
    match a with
    | 0 => exact ⟨Nat.zero_le _, show 0 + 1 * 0 < 0 + 1 by omega⟩
    | 1 => exact ⟨show po _ ≤ 0 + 1 * j.val by omega, show 0 + 1 * j.val < po _ + 8 by omega⟩
    | 2 => exact ⟨Nat.zero_le _, show 0 + 1 * n.val < 0 + 1280 by omega⟩
  · exact congrArg₂ (prb a0 a1 a2 a4 a5 0) (Fin.ext (show 0 + 1 * j.val = j.val by omega)) (Fin.ext (show 0 + 1 * n.val = n.val by omega))

theorem prb_read1 (j : Fin 512) (n : Fin 1280) : run.sl.v5462 (F := Ideal) c a0 a1 a2 a4 a5 f0 f1 f2 f7 f8 (ix3 0 j n) = prb a0 a1 a2 a4 a5 1 j n := by
  unfold run.sl.v5462
  rw [View.readCov_eq_canon']
  have hk : 4 * (j.val % 128 / 8) + j.val / 128 < 64 := by omega
  have hp : po ⟨4 * (j.val % 128 / 8) + j.val / 128, hk⟩ = 8 * (j.val / 8) := by simp only [po]; omega
  refine (View.canon_apply_of_pieces _ _ (prb_1 c a0 a1 a2 a4 a5 f0 f1 f2 f7 f8) _
    ⟨p1 c a0 a1 a2 a4 a5 f0 f1 f2 f7 f8 ⟨4 * (j.val % 128 / 8) + j.val / 128, hk⟩, by rw [S13_1_eq]; exact List.mem_append_left _ (mem_map _ _), ?_⟩).trans ?_
  · refine (Rect.mem_set_unit (inb := inb3 1 0 (po_le _) (Nat.le_refl _))).2 fun a => ?_
    match a with
    | 0 => exact ⟨show 1 ≤ 1 + 1 * 0 by omega, show 1 + 1 * 0 < 1 + 1 by omega⟩
    | 1 => exact ⟨show po _ ≤ 0 + 1 * j.val by omega, show 0 + 1 * j.val < po _ + 8 by omega⟩
    | 2 => exact ⟨Nat.zero_le _, show 0 + 1 * n.val < 0 + 1280 by omega⟩
  · exact congrArg₂ (prb a0 a1 a2 a4 a5 1) (Fin.ext (show 0 + 1 * j.val = j.val by omega)) (Fin.ext (show 0 + 1 * n.val = n.val by omega))

end Cert.AVal
-- ==== Proof.AOut.lean ====
module
public import proofs.«01_k».proof.Proof.AArr

/-! # What the attention kernel's buffers hold: outputs, statistics, codes -/

@[expose] public section
set_option maxRecDepth 65536
noncomputable section
open Idealize.ShloMosaic Idealize.ShloMosaic.TcCoe Idealize.SL.Sem
open Cert.AttendIdeal Cert.AttendIdeal.Gen Cert.AttendIdeal.Hand
namespace Cert.AVal

/-- A tile of a two-dimensional array of pieces agrees with the array at the tile's place. -/
theorem at_tile {R C a b : Nat} (o q : Nat) (h : ∀ d, (![o, q] : Fin 2 → Nat) d + (⟨2, ![a, b]⟩ : Shape).size d ≤ (⟨2, ![R, C]⟩ : Shape).size d)
    (ho : o + a ≤ R) (hq : q + b ≤ C) (v : (⟨2, ![a, b]⟩ : Shape).Idx → EReal) (G : Fin R → Fin C → EReal)
    (hv : ∀ (i : Fin a) (l : Fin b), v (ix2 i l) = G ⟨o + i, by omega⟩ ⟨q + l, by omega⟩) (x : (⟨2, ![a, b]⟩ : Shape).Idx) :
    v x = (fun y : (⟨2, ![R, C]⟩ : Shape).Idx => G (y 0) (y 1)) ((Rect.unit (s := ⟨2, ![R, C]⟩) ![o, q] (⟨2, ![a, b]⟩ : Shape).size h).emb x) := by
  obtain ⟨i, l, rfl⟩ : ∃ (i : Fin a) (l : Fin b), x = ix2 i l := ⟨x 0, x 1, eq_ix2 x⟩
  refine (hv i l).trans (congrArg₂ G (Fin.ext ?_) (Fin.ext ?_))
  · show o + i.val = o + 1 * i.val
    omega
  · show q + l.val = q + 1 * l.val
    omega

variable (c : Dev nD) (a0 : Vec Ideal S2 .i32) (a1 : Vec Ideal S2x512x256 .bf16) (a2 a3 : Vec Ideal S2x320x256 .i32) (a4 a5 : Vec Ideal S2x1x1280 .f32)
  (f0 : Vec Ideal S2 .i32) (f1 f2 : Vec Ideal S2x1x1280 .f32) (f7 : Vec Ideal S2x512x256 .bf16) (f8 f9 : Vec Ideal S2x320x256 .i32)

/-! The statistics. -/

/-- The statistics of a sequence's query, by lane. -/
def sta (b : Fin 2) (i l : Fin 128) : EReal := stat (fun h => scK a0 a1 a2 a4 b h i) (nK a0 b i) l
def staA : Vec Ideal S2x128x128 .f32 := fun y => sta a0 a1 a2 a4 (y 0) (y 1) (y 2)

theorem sta_of (b : Fin 2) (k : Fin 16) (i : Fin 8) (l : Fin 128) (kr : Vec Ideal S1x8x1280 .f32) (s : Fin 4 → Vec Ideal S1x8x1280 .f32)
    (hk : ∀ n, kr (ix3 0 i n) = a4 (ix3 b 0 n) * Ideal.ofBits FTy.f32 0x3D800000#32)
    (hs : ∀ h : Fin 4, ∀ n, s h (ix3 0 i n) = dot a1 a2 b ⟨128 * h.val + 8 * k.val + i, by omega⟩ n) :
    stB kr (a0 (ix1 b)) (BitVec.ofNat 32 (8 * k.val)) (s 0) (s 1) (s 2) (s 3) (ix3 0 i l) = sta a0 a1 a2 a4 b ⟨8 * k.val + i, by omega⟩ l := by
  rw [stB_at]
  unfold sta
  exact congrArg (fun σ => stat σ (ASpec.nv (a0 (ix1 b)) (8 * k.val + i)) l) (funext fun h =>
    srow_eq a0 a1 a2 a4 b h (8 * k.val) i (by omega) kr (s h) hk (128 * h.val + 8 * k.val) (by omega) rfl (hs h))

theorem sta_0 : ∀ p ∈ run.sl.S15_16 (F := Ideal) c a0 a1 a2 a4 f0 f1 f7 f8, ∀ y, p.2 y = staA a0 a1 a2 a4 (p.1.emb y) := by
  rw [S15_0_eq]
  refine all_map _ fun k => at_slab (B := 2) (R := 128) (C := 128) (a := 8) (b := 128) 0 (8 * k.val) 0 (inb3 0 0 (so_le k) (Nat.le_refl _)) (by omega) (so_le k) (by omega) _ (sta a0 a1 a2 a4) fun i l => ?_
  show stB _ _ _ _ _ _ _ _ = _
  rw [st_land0]
  refine (sta_of a0 a1 a2 a4 0 k i l _ (fun h => sl0 c a1 a2 f7 f8 (128 * h.val + 8 * k.val) (sh_le h k)) (kr_read0 c a4 f1 i) fun h => sl0_at c a1 a2 f7 f8 _ (sh_le h k) i).trans ?_
  exact congrArg (sta a0 a1 a2 a4 0 _) (Fin.ext (Nat.zero_add _).symm)

theorem sta_1 : ∀ p ∈ run.sl.S15_32 (F := Ideal) c a0 a1 a2 a4 f0 f1 f7 f8, ∀ y, p.2 y = staA a0 a1 a2 a4 (p.1.emb y) := by
  rw [S15_1_eq]
  refine List.forall_mem_append.2 ⟨all_map _ fun k => at_slab (B := 2) (R := 128) (C := 128) (a := 8) (b := 128) 1 (8 * k.val) 0 (inb3 1 0 (so_le k) (Nat.le_refl _)) (by omega) (so_le k) (by omega) _ (sta a0 a1 a2 a4) fun i l => ?_,
    sta_0 c a0 a1 a2 a4 f0 f1 f7 f8⟩
  show stB _ _ _ _ _ _ _ _ = _
  rw [st_land1]
  refine (sta_of a0 a1 a2 a4 1 k i l _ (fun h => sl1 c a1 a2 f7 f8 (128 * h.val + 8 * k.val) (sh_le h k)) (kr_read1 c a4 f1 i) fun h => sl1_at c a1 a2 f7 f8 _ (sh_le h k) i).trans ?_
  exact congrArg (sta a0 a1 a2 a4 1 _) (Fin.ext (Nat.zero_add _).symm)

/-- The statistics of sequence 0 read back, and of sequence 1. -/
theorem sta_read0 (p l : Fin 128) : run.sl.v2627 (F := Ideal) c a0 a1 a2 a4 f0 f1 f7 f8 (ix3 0 p l) = sta a0 a1 a2 a4 0 p l := by
  unfold run.sl.v2627
  rw [View.readCov_eq_canon']
  refine (View.canon_apply_of_pieces _ _ (sta_0 c a0 a1 a2 a4 f0 f1 f7 f8) _
    ⟨t0 c a0 a1 a2 a4 f0 f1 f7 f8 ⟨p.val / 8, by omega⟩, by rw [S15_0_eq]; exact mem_map _ _, ?_⟩).trans ?_
  · refine (Rect.mem_set_unit (inb := inb3 0 0 (so_le _) (Nat.le_refl _))).2 fun a => ?_
    match a with
    | 0 => exact ⟨Nat.zero_le _, show 0 + 1 * 0 < 0 + 1 by omega⟩
    | 1 => exact ⟨show 8 * (p.val / 8) ≤ 0 + 1 * p.val by omega, show 0 + 1 * p.val < 8 * (p.val / 8) + 8 by omega⟩
    | 2 => exact ⟨Nat.zero_le _, show 0 + 1 * l.val < 0 + 128 by omega⟩
  · exact congrArg₂ (sta a0 a1 a2 a4 0) (Fin.ext (show 0 + 1 * p.val = p.val by omega)) (Fin.ext (show 0 + 1 * l.val = l.val by omega))

theorem sta_read1 (p l : Fin 128) : run.sl.v5468 (F := Ideal) c a0 a1 a2 a4 f0 f1 f7 f8 (ix3 0 p l) = sta a0 a1 a2 a4 1 p l := by
  unfold run.sl.v5468
  rw [View.readCov_eq_canon']
  refine (View.canon_apply_of_pieces _ _ (sta_1 c a0 a1 a2 a4 f0 f1 f7 f8) _
    ⟨t1 c a0 a1 a2 a4 f0 f1 f7 f8 ⟨p.val / 8, by omega⟩, by rw [S15_1_eq]; exact List.mem_append_left _ (mem_map _ _), ?_⟩).trans ?_
  · refine (Rect.mem_set_unit (inb := inb3 1 0 (so_le _) (Nat.le_refl _))).2 fun a => ?_
    match a with
    | 0 => exact ⟨show 1 ≤ 1 + 1 * 0 by omega, show 1 + 1 * 0 < 1 + 1 by omega⟩
    | 1 => exact ⟨show 8 * (p.val / 8) ≤ 0 + 1 * p.val by omega, show 0 + 1 * p.val < 8 * (p.val / 8) + 8 by omega⟩
    | 2 => exact ⟨Nat.zero_le _, show 0 + 1 * l.val < 0 + 128 by omega⟩
  · exact congrArg₂ (sta a0 a1 a2 a4 1) (Fin.ext (show 0 + 1 * p.val = p.val by omega)) (Fin.ext (show 0 + 1 * l.val = l.val by omega))

/-! The outputs. -/

/-- A head's output. -/
abbrev hdK (b : Fin 2) (h : Fin 4) (i : Fin 128) : Spec.Row 256 := ASpec.head (relK a0) (qK a1) (kK a2) (kK a3) (sK a4) (sK a5) b h i
/-- The four heads' outputs. -/
abbrev rowK (b : Fin 2) (i : Fin 128) : Spec.Row 1024 := ASpec.row (relK a0) (qK a1) (kK a2) (kK a3) (sK a4) (sK a5) b i
/-- The outputs as they are stored, 512 rows per sequence. -/
def ou (b : Fin 2) (j : Fin 512) (d : Fin 256) : EReal := hdK a0 a1 a2 a3 a4 a5 b ⟨j / 128, by omega⟩ ⟨j % 128, by omega⟩ d
def ouA : Vec Ideal S2x512x256 .f32 := fun y => ou a0 a1 a2 a3 a4 a5 (y 0) (y 1) (y 2)

section Outputs

theorem out_1 : ∀ p ∈ run.sl.S14_1 (F := Ideal) c a0 a1 a2 a3 a4 a5 f0 f1 f2 f7 f8 f9, ∀ y, p.2 y = ouA a0 a1 a2 a3 a4 a5 (p.1.emb y) :=
  List.forall_mem_cons.2 ⟨at_slab 0 0 0 inb_S2x512x256_S1x512x256_0_0_0 (by omega) (by omega) (by omega) _ (ou a0 a1 a2 a3 a4 a5) fun i l =>
    (odot _ _ i l).trans ((show _ = ou a0 a1 a2 a3 a4 a5 0 i l from Finset.sum_congr rfl fun x _ => congrArg₂ (fun a b : EReal => a * b)
      (prb_read0 c a0 a1 a2 a4 a5 f0 f1 f2 f7 f8 i x) (congrArg (fun w => ASpec.code w x l) (funext fun i => funext fun d => v_land c a3 f9 0 (by omega) _ i d))).trans
      (congrArg₂ (ou a0 a1 a2 a3 a4 a5 0) (Fin.ext (Nat.zero_add _).symm) (Fin.ext (Nat.zero_add _).symm))),
    fun _ h => absurd h List.not_mem_nil⟩

theorem out_2 : ∀ p ∈ run.sl.S14_2 (F := Ideal) c a0 a1 a2 a3 a4 a5 f0 f1 f2 f7 f8 f9, ∀ y, p.2 y = ouA a0 a1 a2 a3 a4 a5 (p.1.emb y) :=
  List.forall_mem_cons.2 ⟨at_slab 1 0 0 inb_S2x512x256_S1x512x256_1_0_0 (by omega) (by omega) (by omega) _ (ou a0 a1 a2 a3 a4 a5) fun i l =>
    (odot1 _ _ i l).trans ((show _ = ou a0 a1 a2 a3 a4 a5 1 i l from Finset.sum_congr rfl fun x _ => congrArg₂ (fun a b : EReal => a * b)
      (prb_read1 c a0 a1 a2 a4 a5 f0 f1 f2 f7 f8 i x) (congrArg (fun w => ASpec.code w x l) (funext fun i => funext fun d => v_land c a3 f9 1 (by omega) _ i d))).trans
      (congrArg₂ (ou a0 a1 a2 a3 a4 a5 1) (Fin.ext (Nat.zero_add _).symm) (Fin.ext (Nat.zero_add _).symm))),
    out_1 c a0 a1 a2 a3 a4 a5 f0 f1 f2 f7 f8 f9⟩

theorem ol0_at (h k : Fin 4) (i : Fin 32) (d : Fin 256) : ol0 c a0 a1 a2 a3 a4 a5 f0 f1 f2 f7 f8 f9 _ (oh_le h k) (ix3 0 i d) = hdK a0 a1 a2 a3 a4 a5 0 h ⟨32 * k.val + i, by omega⟩ d := by
  unfold ol0
  rw [View.readCov_eq_canon']
  refine (View.canon_apply_of_pieces _ _ (out_1 c a0 a1 a2 a3 a4 a5 f0 f1 f2 f7 f8 f9) _ ⟨_, List.mem_cons_self, ?_⟩).trans ?_
  · refine (Rect.mem_set_unit (inb := inb_S2x512x256_S1x512x256_0_0_0)).2 fun a => ?_
    match a with
    | 0 => exact ⟨Nat.zero_le _, show 0 + 1 * 0 < 0 + 1 by omega⟩
    | 1 => exact ⟨Nat.zero_le _, show 128 * h.val + 32 * k.val + 1 * i.val < 0 + 512 by omega⟩
    | 2 => exact ⟨Nat.zero_le _, show 0 + 1 * d.val < 0 + 256 by omega⟩
  · refine (congrArg₂ (ou a0 a1 a2 a3 a4 a5 0) (Fin.ext (show 128 * h.val + 32 * k.val + 1 * i.val = 128 * h.val + (32 * k.val + i.val) by omega) : _ = (⟨128 * h.val + (32 * k.val + i.val), by omega⟩ : Fin 512)) (Fin.ext (show 0 + 1 * d.val = d.val by omega))).trans ?_
    unfold ou
    exact congrArg₂ (fun h i => hdK a0 a1 a2 a3 a4 a5 0 h i d) (Fin.ext (show (128 * h.val + (32 * k.val + i.val)) / 128 = h.val by omega)) (Fin.ext (show (128 * h.val + (32 * k.val + i.val)) % 128 = 32 * k.val + i.val by omega))

theorem ol1_at (h k : Fin 4) (i : Fin 32) (d : Fin 256) : ol1 c a0 a1 a2 a3 a4 a5 f0 f1 f2 f7 f8 f9 _ (oh_le h k) (ix3 0 i d) = hdK a0 a1 a2 a3 a4 a5 1 h ⟨32 * k.val + i, by omega⟩ d := by
  unfold ol1
  rw [View.readCov_eq_canon']
  refine (View.canon_apply_of_pieces _ _ (out_2 c a0 a1 a2 a3 a4 a5 f0 f1 f2 f7 f8 f9) _ ⟨_, List.mem_cons_self, ?_⟩).trans ?_
  · refine (Rect.mem_set_unit (inb := inb_S2x512x256_S1x512x256_1_0_0)).2 fun a => ?_
    match a with
    | 0 => exact ⟨show 1 ≤ 1 + 1 * 0 by omega, show 1 + 1 * 0 < 1 + 1 by omega⟩
    | 1 => exact ⟨Nat.zero_le _, show 128 * h.val + 32 * k.val + 1 * i.val < 0 + 512 by omega⟩
    | 2 => exact ⟨Nat.zero_le _, show 0 + 1 * d.val < 0 + 256 by omega⟩
  · refine (congrArg₂ (ou a0 a1 a2 a3 a4 a5 1) (Fin.ext (show 128 * h.val + 32 * k.val + 1 * i.val = 128 * h.val + (32 * k.val + i.val) by omega) : _ = (⟨128 * h.val + (32 * k.val + i.val), by omega⟩ : Fin 512)) (Fin.ext (show 0 + 1 * d.val = d.val by omega))).trans ?_
    unfold ou
    exact congrArg₂ (fun h i => hdK a0 a1 a2 a3 a4 a5 1 h i d) (Fin.ext (show (128 * h.val + (32 * k.val + i.val)) / 128 = h.val by omega)) (Fin.ext (show (128 * h.val + (32 * k.val + i.val)) % 128 = 32 * k.val + i.val by omega))

/-- The exponents of a block. -/
theorem eB0_at (k : Fin 4) (i : Fin 32) (l : Fin 128) : eB0 c a0 a1 a2 a3 a4 a5 f0 f1 f2 f7 f8 f9 k (ix2 i l) = Spec.expo (Spec.top (rowK a0 a1 a2 a3 a4 a5 0 ⟨32 * k.val + i, by omega⟩)) :=
  expB_at _ _ _ _ i l (fun h => hdK a0 a1 a2 a3 a4 a5 0 h ⟨32 * k.val + i, by omega⟩) (ol0_at c a0 a1 a2 a3 a4 a5 f0 f1 f2 f7 f8 f9 0 k i) (ol0_at c a0 a1 a2 a3 a4 a5 f0 f1 f2 f7 f8 f9 1 k i)
    (ol0_at c a0 a1 a2 a3 a4 a5 f0 f1 f2 f7 f8 f9 2 k i) (ol0_at c a0 a1 a2 a3 a4 a5 f0 f1 f2 f7 f8 f9 3 k i)
theorem eB1_at (k : Fin 4) (i : Fin 32) (l : Fin 128) : eB1 c a0 a1 a2 a3 a4 a5 f0 f1 f2 f7 f8 f9 k (ix2 i l) = Spec.expo (Spec.top (rowK a0 a1 a2 a3 a4 a5 1 ⟨32 * k.val + i, by omega⟩)) :=
  expB_at _ _ _ _ i l (fun h => hdK a0 a1 a2 a3 a4 a5 1 h ⟨32 * k.val + i, by omega⟩) (ol1_at c a0 a1 a2 a3 a4 a5 f0 f1 f2 f7 f8 f9 0 k i) (ol1_at c a0 a1 a2 a3 a4 a5 f0 f1 f2 f7 f8 f9 1 k i)
    (ol1_at c a0 a1 a2 a3 a4 a5 f0 f1 f2 f7 f8 f9 2 k i) (ol1_at c a0 a1 a2 a3 a4 a5 f0 f1 f2 f7 f8 f9 3 k i)
end Outputs

/-- The codes of the outputs, one row per sequence and position. -/
def aco (p : Fin 256) (l : Fin 1024) : EReal := ASpec.ac (relK a0) (qK a1) (kK a2) (kK a3) (sK a4) (sK a5) ⟨p / 128, by omega⟩ ⟨p % 128, by omega⟩ l
def acoA : Vec Ideal S256x1024 .fp8e4m3 := fun y => aco a0 a1 a2 a3 a4 a5 (y 0) (y 1)

/-- A tile of codes of sequence `b`. -/
theorem aco_of (b : Fin 2) (k : Fin 32) (i : Fin 32) (l : Fin 128) (o : Vec Ideal S1x32x256 .f32) (e : FVec Ideal S32x128 .f32)
    (ho : ∀ d, o (ix3 0 i d) = hdK a0 a1 a2 a3 a4 a5 b (th k) ⟨32 * (tb k).val + i, by omega⟩ d)
    (he : e (ix2 i l) = Spec.expo (Spec.top (rowK a0 a1 a2 a3 a4 a5 b ⟨32 * (tb k).val + i, by omega⟩))) :
    codeB (128 * (k.val % 2)) (half_le k) o e (ix2 i l)
      = aco a0 a1 a2 a3 a4 a5 ⟨128 * b.val + 32 * (tb k).val + i, by omega⟩ ⟨128 * (k.val % 8) + l, by omega⟩ := by
  rw [codeB_at _ _ o e i l _ he, ho]
  unfold aco ASpec.ac Spec.codes
  have e1 : (⟨(128 * b.val + 32 * (tb k).val + i.val) / 128, by omega⟩ : Fin 2) = b := Fin.ext (by simp only; omega)
  have e2 : (⟨(128 * b.val + 32 * (tb k).val + i.val) % 128, by omega⟩ : Fin 128) = ⟨32 * (tb k).val + i, by omega⟩ := Fin.ext (by simp only; omega)
  simp only [e1, e2]
  refine congrArg (Spec.clip _) ?_
  unfold ASpec.row ASpec.cat
  have e3 : (⟨(128 * (k.val % 8) + l.val) / 256, by omega⟩ : Fin 4) = th k := Fin.ext (by simp only [th]; omega)
  have e4 : (⟨(128 * (k.val % 8) + l.val) % 256, by omega⟩ : Fin 256) = ⟨128 * (k.val % 2) + l, by omega⟩ := Fin.ext (by simp only; omega)
  simp only [e3, e4]

section Codes
theorem aco_canon : View.canon (run.sl.S4_64 (F := Ideal) c a0 a1 a2 a3 a4 a5 f0 f1 f2 f7 f8 f9) = acoA a0 a1 a2 a3 a4 a5 := by
  refine funext fun y => View.canon_apply_of_pieces _ _ ?_ y (View.cover_of_tiledL (s := S256x1024) _ S32x128.size (by sl_kernel_rfl) y)
  rw [S4_eq]
  refine List.forall_mem_append.2 ⟨all_map _ fun k => at_tile (R := 256) (C := 1024) (a := 32) (b := 128) (128 * (1 : Fin 2).val + 32 * (tb k).val) (128 * (k.val % 8)) (inb2 (ac_row 1 (tb k)) (ac_col k)) (ac_row 1 (tb k)) (ac_col k) _ (aco a0 a1 a2 a3 a4 a5) fun i l => ?_,
    all_map _ fun k => at_tile (R := 256) (C := 1024) (a := 32) (b := 128) (128 * (0 : Fin 2).val + 32 * (tb k).val) (128 * (k.val % 8)) (inb2 (ac_row 0 (tb k)) (ac_col k)) (ac_row 0 (tb k)) (ac_col k) _ (aco a0 a1 a2 a3 a4 a5) fun i l => ?_⟩
  · exact aco_of a0 a1 a2 a3 a4 a5 1 k i l _ _ (ol1_at c a0 a1 a2 a3 a4 a5 f0 f1 f2 f7 f8 f9 (th k) (tb k) i) (eB1_at c a0 a1 a2 a3 a4 a5 f0 f1 f2 f7 f8 f9 (tb k) i l)
  · exact aco_of a0 a1 a2 a3 a4 a5 0 k i l _ _ (ol0_at c a0 a1 a2 a3 a4 a5 f0 f1 f2 f7 f8 f9 (th k) (tb k) i) (eB0_at c a0 a1 a2 a3 a4 a5 f0 f1 f2 f7 f8 f9 (tb k) i l)
end Codes

/-- The scales of the outputs. -/
def asc (b : Fin 2) (p : Fin 128) : EReal := ASpec.asc (relK a0) (qK a1) (kK a2) (kK a3) (sK a4) (sK a5) b p
def ascA : Vec Ideal S2x128 .f32 := fun y => asc a0 a1 a2 a3 a4 a5 (y 0) (y 1)
/-- The log-sum-exps. -/
def lses (b : Fin 2) (h : Fin 4) (p : Fin 128) : EReal := ASpec.lses (relK a0) (qK a1) (kK a2) (sK a4) (nK a0) b h p
def lsesA : Vec Ideal S2x4x128 .f32 := fun y => lses a0 a1 a2 a4 (y 0) (y 1) (y 2)

/-- A transposed row of log-sum-exps. -/
theorem lse_sT (b : Fin 2) (st : Vec Ideal S1x128x128 .f32) (e : Fin 4 → FVec Ideal S32x128 .f32) (hs : ∀ p l, st (ix3 0 p l) = sta a0 a1 a2 a4 b p l) (h : Fin 4) (p : Fin 128) :
    lseB (stT st (e 0) (e 1) (e 2) (e 3)) (ix3 0 h p) = lses a0 a1 a2 a4 b h p := by
  have hc : IntOp.cmpi CmpIPredicate.eq (BitVec.ofNat 32 h.val) 4#32 = 0#1 := by revert h; decide
  have hz : (0#1 : BitVec 1) ≠ 1 := by decide
  rw [lseB_at, stT_at, hs]
  show Scalar.select (IntOp.cmpi CmpIPredicate.eq (BitVec.ofNat 32 h.val) 4#32) _ _ = _
  rw [hc]
  exact (if_neg hz).trans (stat_head _ _ h)

/-- A transposed row of scales. -/
theorem asc_sT (b : Fin 2) (st : Vec Ideal S1x128x128 .f32) (e : Fin 4 → FVec Ideal S32x128 .f32)
    (he : ∀ (k : Fin 4) (i : Fin 32) (l : Fin 128), e k (ix2 i l) = Spec.expo (Spec.top (rowK a0 a1 a2 a3 a4 a5 b ⟨32 * k.val + i, by omega⟩))) (p : Fin 128) :
    asB (stT st (e 0) (e 1) (e 2) (e 3)) (ix2 0 p) = asc a0 a1 a2 a3 a4 a5 b p := by
  have ep : (⟨32 * (p.val / 32) + p.val % 32, by omega⟩ : Fin 128) = p := Fin.ext (by simp only; omega)
  rw [asB_at, stT_at, he]
  refine (if_pos rfl).trans ?_
  unfold asc ASpec.asc Spec.scale
  exact congrArg (fun p => FloatOps.exp2 (F := Idealize.ShloMosaic.Ideal) (φ := FTy.f32) (Spec.expo (Spec.top (rowK a0 a1 a2 a3 a4 a5 b p)))) ep

theorem lse_canon : View.canon (run.sl.S3_2 (F := Ideal) c a0 a1 a2 a3 a4 a5 f0 f1 f2 f7 f8 f9) = lsesA a0 a1 a2 a4 := by
  refine funext fun y => View.canon_apply_of_pieces _ _ ?_ y (View.cover_of_tiledL (s := S2x4x128) _ S1x4x128.size (by sl_kernel_rfl) y)
  rw [S3_eq]
  refine List.forall_mem_cons.2 ⟨at_slab 1 0 0 inb_S2x4x128_S1x4x128_1_0_0 (by omega) (by omega) (by omega) _ (lses a0 a1 a2 a4) fun h p => ?_,
    List.forall_mem_cons.2 ⟨at_slab 0 0 0 inb_S2x4x128_S1x4x128_0_0_0 (by omega) (by omega) (by omega) _ (lses a0 a1 a2 a4) fun h p => ?_, fun _ h => absurd h List.not_mem_nil⟩⟩
  · refine (lse_sT a0 a1 a2 a4 1 _ (eB1 c a0 a1 a2 a3 a4 a5 f0 f1 f2 f7 f8 f9) (sta_read1 c a0 a1 a2 a4 f0 f1 f7 f8) h p).trans ?_
    exact congrArg₂ (lses a0 a1 a2 a4 1) (Fin.ext (Nat.zero_add _).symm) (Fin.ext (Nat.zero_add _).symm)
  · refine (lse_sT a0 a1 a2 a4 0 _ (eB0 c a0 a1 a2 a3 a4 a5 f0 f1 f2 f7 f8 f9) (sta_read0 c a0 a1 a2 a4 f0 f1 f7 f8) h p).trans ?_
    exact congrArg₂ (lses a0 a1 a2 a4 0) (Fin.ext (Nat.zero_add _).symm) (Fin.ext (Nat.zero_add _).symm)

theorem asc_canon : View.canon (run.sl.S5_2 (F := Ideal) c a0 a1 a2 a3 a4 a5 f0 f1 f2 f7 f8 f9) = ascA a0 a1 a2 a3 a4 a5 := by
  refine funext fun y => View.canon_apply_of_pieces _ _ ?_ y (View.cover_of_tiledL (s := S2x128) _ S1x128.size (by sl_kernel_rfl) y)
  rw [S5_eq]
  refine List.forall_mem_cons.2 ⟨at_tile 1 0 inb_S2x128_S1x128_1_0 (by omega) (by omega) _ (asc a0 a1 a2 a3 a4 a5) fun z p => ?_,
    List.forall_mem_cons.2 ⟨at_tile 0 0 inb_S2x128_S1x128_0_0 (by omega) (by omega) _ (asc a0 a1 a2 a3 a4 a5) fun z p => ?_, fun _ h => absurd h List.not_mem_nil⟩⟩
  · obtain rfl : z = 0 := Subsingleton.elim _ _
    refine (asc_sT a0 a1 a2 a3 a4 a5 1 _ (eB1 c a0 a1 a2 a3 a4 a5 f0 f1 f2 f7 f8 f9) (eB1_at c a0 a1 a2 a3 a4 a5 f0 f1 f2 f7 f8 f9) p).trans ?_
    exact congrArg (asc a0 a1 a2 a3 a4 a5 1) (Fin.ext (Nat.zero_add _).symm)
  · obtain rfl : z = 0 := Subsingleton.elim _ _
    refine (asc_sT a0 a1 a2 a3 a4 a5 0 _ (eB0 c a0 a1 a2 a3 a4 a5 f0 f1 f2 f7 f8 f9) (eB0_at c a0 a1 a2 a3 a4 a5 f0 f1 f2 f7 f8 f9) p).trans ?_
    exact congrArg (asc a0 a1 a2 a3 a4 a5 0) (Fin.ext (Nat.zero_add _).symm)

end Cert.AVal
-- ==== Proof.AKernVal.lean ====
module
public import proofs.«01_k».proof.Proof.AFrameV
public import proofs.«01_k».proof.Proof.AOut

/-! # What the attention kernel leaves in its three result arrays -/

@[expose] public section
set_option maxRecDepth 16384
noncomputable section
open Idealize.ShloMosaic Idealize.ShloMosaic.TcCoe Idealize.SL.Sem
open Cert.AttendIdeal Cert.AttendIdeal.Gen Cert.AttendIdeal.Hand
namespace Cert.AVal

section Run
variable (c : Dev nD) (a0 : Vec Ideal S2 .i32) (a1 : Vec Ideal S2x512x256 .bf16) (a2 a3 : Vec Ideal S2x320x256 .i32) (a4 a5 : Vec Ideal S2x1x1280 .f32)
  (r0 : Vec Ideal S256x1024 .fp8e4m3) (r1 : Vec Ideal S2x128 .f32) (r2 : Vec Ideal S2x4x128 .f32)
  (f0 : Vec Ideal S2 .i32) (f1 f2 : Vec Ideal S2x1x1280 .f32)
  (f3 : Buf (Elt Ideal) ((sM3).view.loc (c : Thread nD τ))) (f4 : Buf (Elt Ideal) ((sM4).view.loc (c : Thread nD τ))) (f5 : Buf (Elt Ideal) ((sM5).view.loc (c : Thread nD τ))) (f6 : Buf (Elt Ideal) ((sM6).view.loc (c : Thread nD τ)))
  (f7 : Vec Ideal S2x512x256 .bf16) (f8 f9 : Vec Ideal S2x320x256 .i32)
  (f10 : Buf (Elt Ideal) ((sM10).view.loc (c : Thread nD τ))) (f11 : Buf (Elt Ideal) ((sM11).view.loc (c : Thread nD τ))) (f12 : Buf (Elt Ideal) ((sM12).view.loc (c : Thread nD τ))) (f13 : Buf (Elt Ideal) ((sM13).view.loc (c : Thread nD τ))) (f14 : Buf (Elt Ideal) ((sM14).view.loc (c : Thread nD τ))) (f15 : Buf (Elt Ideal) ((sM15).view.loc (c : Thread nD τ)))

/-- The codes the run leaves. -/
theorem run_0 : (run (F := Ideal) c a0 a1 a2 a3 a4 a5 r0 r1 r2 f0 f1 f2 f3 f4 f5 f6 f7 f8 f9 f10 f11 f12 f13 f14 f15).1.1 = acoA a0 a1 a2 a3 a4 a5 :=
  (View.write_whole_univ main_v0_0 r0 _).trans ((View.read_writes_eq_canon sM4.view f4 (run.sl.S4_64 (F := Ideal) c a0 a1 a2 a3 a4 a5 f0 f1 f2 f7 f8 f9)
    (View.cover_of_tiledL (s := S256x1024) _ S32x128.size (by sl_kernel_rfl))).trans (aco_canon c a0 a1 a2 a3 a4 a5 f0 f1 f2 f7 f8 f9))

/-- The scales the run leaves. -/
theorem run_1 : (run (F := Ideal) c a0 a1 a2 a3 a4 a5 r0 r1 r2 f0 f1 f2 f3 f4 f5 f6 f7 f8 f9 f10 f11 f12 f13 f14 f15).1.2.1 = ascA a0 a1 a2 a3 a4 a5 :=
  (View.write_whole_univ main_v0_1 r1 _).trans ((View.read_writes_eq_canon sM5.view f5 (run.sl.S5_2 (F := Ideal) c a0 a1 a2 a3 a4 a5 f0 f1 f2 f7 f8 f9)
    (View.cover_of_tiledL (s := S2x128) _ S1x128.size (by sl_kernel_rfl))).trans (asc_canon c a0 a1 a2 a3 a4 a5 f0 f1 f2 f7 f8 f9))

/-- The log-sum-exps the run leaves. -/
theorem run_2 : (run (F := Ideal) c a0 a1 a2 a3 a4 a5 r0 r1 r2 f0 f1 f2 f3 f4 f5 f6 f7 f8 f9 f10 f11 f12 f13 f14 f15).1.2.2 = lsesA a0 a1 a2 a4 :=
  (View.write_whole_univ main_v0_2 r2 _).trans ((View.read_writes_eq_canon sM3.view f3 (run.sl.S3_2 (F := Ideal) c a0 a1 a2 a3 a4 a5 f0 f1 f2 f7 f8 f9)
    (View.cover_of_tiledL (s := S2x4x128) _ S1x4x128.size (by sl_kernel_rfl))).trans (lse_canon c a0 a1 a2 a3 a4 a5 f0 f1 f2 f7 f8 f9))

/-- The body's run leaves the three specified arrays. -/
theorem run_val : (run (F := Ideal) c a0 a1 a2 a3 a4 a5 r0 r1 r2 f0 f1 f2 f3 f4 f5 f6 f7 f8 f9 f10 f11 f12 f13 f14 f15).1
    = (acoA a0 a1 a2 a3 a4 a5, ascA a0 a1 a2 a3 a4 a5, lsesA a0 a1 a2 a4) :=
  Prod.ext (run_0 c a0 a1 a2 a3 a4 a5 r0 r1 r2 f0 f1 f2 f3 f4 f5 f6 f7 f8 f9 f10 f11 f12 f13 f14 f15)
    (Prod.ext (run_1 c a0 a1 a2 a3 a4 a5 r0 r1 r2 f0 f1 f2 f3 f4 f5 f6 f7 f8 f9 f10 f11 f12 f13 f14 f15)
      (run_2 c a0 a1 a2 a3 a4 a5 r0 r1 r2 f0 f1 f2 f3 f4 f5 f6 f7 f8 f9 f10 f11 f12 f13 f14 f15))
end Run

section Launch
variable (m : (ℓ : Loc nD τ sig) → Buf (Elt Ideal) ℓ)

/-- The contents of the result arrays. -/
def Gk (c : Dev nD) : (b : Ref sig .tc) → Buf (Elt Ideal) ((c.tc : Thread nD τ).loc b) :=
  Function.update (Function.update (Function.update (V m c)
    main_v0_0 (acoA (V m c main_arg0) (V m c main_arg1) (V m c main_arg2) (V m c main_arg3) (V m c main_arg4) (V m c main_arg5)))
    main_v0_1 (ascA (V m c main_arg0) (V m c main_arg1) (V m c main_arg2) (V m c main_arg3) (V m c main_arg4) (V m c main_arg5)))
    main_v0_2 (lsesA (V m c main_arg0) (V m c main_arg1) (V m c main_arg2) (V m c main_arg4))

theorem Gk_0 (c : Dev nD) : Gk m c main_v0_0 = acoA (V m c main_arg0) (V m c main_arg1) (V m c main_arg2) (V m c main_arg3) (V m c main_arg4) (V m c main_arg5) :=
  (Function.update_of_ne (by decide) _ _).trans <| (Function.update_of_ne (by decide) _ _).trans <| Function.update_self _ _ _
theorem Gk_1 (c : Dev nD) : Gk m c main_v0_1 = ascA (V m c main_arg0) (V m c main_arg1) (V m c main_arg2) (V m c main_arg3) (V m c main_arg4) (V m c main_arg5) :=
  (Function.update_of_ne (by decide) _ _).trans <| Function.update_self _ _ _
theorem Gk_2 (c : Dev nD) : Gk m c main_v0_2 = lsesA (V m c main_arg0) (V m c main_arg1) (V m c main_arg2) (V m c main_arg4) :=
  Function.update_self _ _ _

/-- The run leaves the contents above. -/
theorem hG (c : Dev nD) r0 r1 r2 f0 f1 f2 f3 f4 f5 f6 f7 f8 f9 f10 f11 f12 f13 f14 f15 :
    (run (F := Ideal) c (V m c main_arg0) (V m c main_arg1) (V m c main_arg2) (V m c main_arg3) (V m c main_arg4) (V m c main_arg5) r0 r1 r2 f0 f1 f2 f3 f4 f5 f6 f7 f8 f9 f10 f11 f12 f13 f14 f15).1
      = (Gk m c main_v0_0, Gk m c main_v0_1, Gk m c main_v0_2) := by
  rw [Gk_0, Gk_1, Gk_2]
  exact run_val c (V m c main_arg0) (V m c main_arg1) (V m c main_arg2) (V m c main_arg3) (V m c main_arg4) (V m c main_arg5) r0 r1 r2 f0 f1 f2 f3 f4 f5 f6 f7 f8 f9 f10 f11 f12 f13 f14 f15
end Launch
end Cert.AVal
-- ==== Proof.ARefOps.lean ====
module
public import proofs.«01_k».proof.Proof.Gen.AttendReferenceIdeal.Frame

/-! # Groups of operations of the reference, each a function of the values it reads -/

@[expose] public section
set_option maxRecDepth 16384
noncomputable section
open Idealize.ShloMosaic Idealize.ShloMosaic.TcCoe
open Cert.AttendReferenceIdeal Cert.AttendReferenceIdeal.Gen
namespace Cert.ARef

variable {F : FTy → Type} [FloatOps F]

def op1 (v441 : FVec F S128x1 .f32) (v443 : IVec S128x1 1) (cst_255 : F .f32) : FVec F S128x1 .f32 :=
  have v444 : FVec F S128x1 .f32 := broadcast S128x1 cst_255
  have v445 : IVec S128x1 1 := cmpf .oeq v441 v444
  have v446 : IVec S128x1 1 := ori v443 v445
  have v447 : FVec F S128x1 .f32 := log v441
  have cst_256 : F .f32 := Scalar.ofBits .f32 0x40000000#32
  have v448 : FVec F S128x1 .f32 := broadcast S128x1 cst_256
  have v449 : FVec F S128x1 .f32 := log v448
  have v450 : FVec F S128x1 .f32 := divf v447 v449
  have v451 : FVec F S128x1 .f32 := floor v450
  have cst_257 : F .f32 := Scalar.ofBits .f32 0x3F800000#32
  have v452 : FVec F S128x1 .f32 := broadcast S128x1 cst_257
  have v453 : FVec F S128x1 .f32 := addf v451 v452
  have cst_258 : F .f32 := Scalar.ofBits .f32 0x00000000#32
  have v454 : FVec F S128x1 .f32 := broadcast S128x1 cst_258
  have v455 : FVec F S128x1 .f32 := select v446 v454 v453
  v455

def op4 (v1 : Vec F S1x1x1280 .i32) (v5 : Vec F S1x1x1280 .i32) : IVec S128x1280 1 :=
  have v0 : IVec S128x1280 32 := iota .tc S128x1280 32 [0] iota_S128x1280_d0_w32
  have v2 : IVec S1x1280 32 := shapeCast S1x1280 v1 shapeCasts_S1x1x1280_S1x1280
  have v3 : IVec S128x1280 32 := broadcastTo S128x1280 v2 broadcasts_S1x1280_S128x1280
  have v4 : IVec S128x1280 1 := cmpi .sle v3 v0
  have v6 : IVec S1x1280 32 := shapeCast S1x1280 v5 shapeCasts_S1x1x1280_S1x1280
  have v7 : IVec S128x1280 32 := broadcast S128x1280 1024#32
  have v8 : IVec S128x1280 32 := subi v0 v7
  have v9 : IVec S128x1280 32 := broadcastTo S128x1280 v6 broadcasts_S1x1280_S128x1280
  have v10 : IVec S128x1280 1 := cmpi .sgt v9 v8
  have v11 : IVec S128x1280 1 := andi v4 v10
  v11

def op28 (v11 : IVec S128x1280 1) (v153 : Vec F S1x128x256 .bf16) (v155 : Vec F S1x320x256 .i32) (v159 : Vec F S1x1x1280 .f32) : FVec F S128x1280 .f32 :=
  have v154 : FVec F S128x256 .bf16 := shapeCast S128x256 v153 shapeCasts_S1x128x256_S128x256
  have v156 : FVec F S1280x256 .fp8e4m3 := bitcastToFloat .fp8e4m3 (bitcast S1280x256 8 (shapeCast S320x256 v155 shapeCasts_S1x320x256_S320x256) bitcasts_S320x256_w32_S1280x256_w8)
  have v157 : FVec F S1280x256 .bf16 := extf .bf16 v156 bitsLt_fp8e4m3_bf16
  have cst_94 : FVec F S128x1280 .f32 := constant S128x1280 .f32 0x00000000#32
  have v158 : FVec F S128x1280 .f32 := matmul dot_S128x256_S1280x256_S128x1280_1_1_0_0_n_n none v154 v157 cst_94
  have v160 : FVec F S1x1280 .f32 := shapeCast S1x1280 v159 shapeCasts_S1x1x1280_S1x1280
  have v161 : FVec F S128x1280 .f32 := broadcastTo S128x1280 v160 broadcasts_S1x1280_S128x1280
  have v162 : FVec F S128x1280 .f32 := mulf v158 v161
  have cst_98 : F .f32 := Scalar.ofBits .f32 0x3D800000#32
  have v163 : FVec F S128x1280 .f32 := broadcast S128x1280 cst_98
  have v164 : FVec F S128x1280 .f32 := mulf v162 v163
  have cst_99 : F .f32 := Scalar.ofBits .f32 0xFF800000#32
  have v165 : FVec F S128x1280 .f32 := broadcast S128x1280 cst_99
  have v166 : FVec F S128x1280 .f32 := select v11 v164 v165
  v166

def op29 (v11 : IVec S128x1280 1) (v153 : Vec F S1x128x256 .bf16) (v155 : Vec F S1x320x256 .i32) (v159 : Vec F S1x1x1280 .f32) : FVec F S128x1 .f32 :=
  have v167 : FVec F S128 .f32 := multiReduction .maximumf [1] S128 (op28 v11 v153 v155 v159) 0xFF800000#32 reduces_S128x1280_S128 (.inl rfl) rfl
  have v168 : FVec F S128x1 .f32 := shapeCast S128x1 v167 shapeCasts_S128_S128x1
  v168

def op30 (v11 : IVec S128x1280 1) (v153 : Vec F S1x128x256 .bf16) (v155 : Vec F S1x320x256 .i32) (v159 : Vec F S1x1x1280 .f32) : FVec F S128x1280 .f32 :=
  have v169 : FVec F S128x1280 .f32 := broadcastTo S128x1280 (op29 v11 v153 v155 v159) broadcasts_S128x1_S128x1280
  have v170 : FVec F S128x1280 .f32 := subf (op28 v11 v153 v155 v159) v169
  have v171 : FVec F S128x1280 .f32 := exp v170
  v171

def op31 (v11 : IVec S128x1280 1) (v153 : Vec F S1x128x256 .bf16) (v155 : Vec F S1x320x256 .i32) (v159 : Vec F S1x1x1280 .f32) : FVec F S128x1 .f32 :=
  have v172 : FVec F S128 .f32 := multiReduction .add [1] S128 (op30 v11 v153 v155 v159) 0x00000000#32 reduces_S128x1280_S128 (.inl rfl) rfl
  have v173 : FVec F S128x1 .f32 := shapeCast S128x1 v172 shapeCasts_S128_S128x1
  v173

def op32 (v11 : IVec S128x1280 1) (v153 : Vec F S1x128x256 .bf16) (v155 : Vec F S1x320x256 .i32) (v159 : Vec F S1x1x1280 .f32) (v176 : Vec F S1x128x1 .f32) : FVec F S1x128x1 .f32 :=
  have v174 : FVec F S128x1 .f32 := log (op31 v11 v153 v155 v159)
  have v175 : FVec F S128x1 .f32 := addf (op29 v11 v153 v155 v159) v174
  have v177 : FVec F S128x1 .f32 := shapeCast S128x1 v176 shapeCasts_S1x128x1_S128x1
  have v178 : FVec F S128x1 .f32 := log v177
  have v179 : FVec F S128x1 .f32 := subf v175 v178
  have v182 : FVec F S1x128x1 .f32 := shapeCast S1x128x1 v179 shapeCasts_S128x1_S1x128x1
  v182

def op36 (v224 : FVec F S128x1024 .f32) : FVec F S1x128x1024 .fp8e4m3 :=
  have cst_125 : F .f32 := Scalar.ofBits .f32 0xC3E00000#32
  have cst_126 : F .f32 := Scalar.ofBits .f32 0x43E00000#32
  have v225 : FVec F S128x1024 .f32 := broadcast S128x1024 cst_125
  have v226 : FVec F S128x1024 .f32 := maximumf v225 v224
  have v227 : FVec F S128x1024 .f32 := broadcast S128x1024 cst_126
  have v228 : FVec F S128x1024 .f32 := minimumf v227 v226
  have v229 : FVec F S128x1024 .fp8e4m3 := truncf .fp8e4m3 v228 bitsLt_fp8e4m3_f32
  have v233 : FVec F S1x128x1024 .fp8e4m3 := shapeCast S1x128x1024 v229 shapeCasts_S128x1024_S1x128x1024
  v233

def op37 (v219 : FVec F S128x1 .f32) : FVec F S1x128x1 .f32 :=
  have v230 : FVec F S128x1 .f32 := exp2 v219
  have v236 : FVec F S1x128x1 .f32 := shapeCast S1x128x1 v230 shapeCasts_S128x1_S1x128x1
  v236

def op59 (v360 : FVec F S128x1280 .f32) (v362 : FVec F S128x1 .f32) (v380 : Vec F S1x1x1280 .f32) (v385 : Vec F S1x320x256 .i32) : FVec F S128x256 .f32 :=
  have cst_215 : F .f32 := Scalar.ofBits .f32 0x00000000#32
  have v372 : FVec F S128x1 .f32 := broadcast S128x1 cst_215
  have v373 : IVec S128x1 1 := cmpf .ogt v362 v372
  have v374 : FVec F S128x1280 .f32 := broadcastTo S128x1280 v362 broadcasts_S128x1_S128x1280
  have v375 : FVec F S128x1280 .f32 := divf v360 v374
  have cst_216 : F .f32 := Scalar.ofBits .f32 0x00000000#32
  have v376 : IVec S128x1 1 := shapeCast S128x1 v373 shapeCasts_S128x1_S128x1
  have v377 : IVec S128x1280 1 := broadcastTo S128x1280 v376 broadcasts_S128x1_S128x1280
  have v378 : FVec F S128x1280 .f32 := broadcast S128x1280 cst_216
  have v379 : FVec F S128x1280 .f32 := select v377 v375 v378
  have v381 : FVec F S1x1280 .f32 := shapeCast S1x1280 v380 shapeCasts_S1x1x1280_S1x1280
  have v382 : FVec F S128x1280 .f32 := broadcastTo S128x1280 v381 broadcasts_S1x1280_S128x1280
  have v383 : FVec F S128x1280 .f32 := mulf v379 v382
  have v384 : FVec F S128x1280 .bf16 := truncf .bf16 v383 bitsLt_bf16_f32
  have v386 : FVec F S1280x256 .fp8e4m3 := bitcastToFloat .fp8e4m3 (bitcast S1280x256 8 (shapeCast S320x256 v385 shapeCasts_S1x320x256_S320x256) bitcasts_S320x256_w32_S1280x256_w8)
  have v387 : FVec F S1280x256 .bf16 := extf .bf16 v386 bitsLt_fp8e4m3_bf16
  have cst_223 : FVec F S128x256 .f32 := constant S128x256 .f32 0x00000000#32
  have v388 : FVec F S128x256 .f32 := matmul dot_S128x1280_S1280x256_S128x256_1_0_0_1_n_n none v384 v387 cst_223
  v388

end Cert.ARef
-- ==== Proof.ARefPay.lean ====
module
public import proofs.«01_k».proof.Proof.ARefOps
public import proofs.«01_k».proof.Proof.ASpec

/-! # The reference's values, row by row -/

@[expose] public section
set_option maxRecDepth 16384
noncomputable section
open Idealize.ShloMosaic Idealize.ShloMosaic.TcCoe Idealize.SL.Sem
open Cert.AttendReferenceIdeal Cert.AttendReferenceIdeal.Gen
namespace Cert.ARef

/-- Which keys a query sees. -/
theorem seen_at (v1 : Vec Ideal S1x1x1280 .i32) (i : Fin 128) (n : Fin 1280) :
    op4 v1 v1 (ix2 i n) = ASpec.seen i (v1 (ix3 0 0 n)) := by
  unfold ASpec.seen
  pointwise [op4]

/-- The keys of a sequence's words. -/
theorem codes_eq (k : Vec Ideal S1x320x256 .i32) :
    (bitcastToFloat .fp8e4m3 (bitcast S1280x256 8 (shapeCast S320x256 k shapeCasts_S1x320x256_S320x256) bitcasts_S320x256_w32_S1280x256_w8) : FVec Ideal S1280x256 .fp8e4m3)
      = fun y => ASpec.code (fun i d => k (ix3 0 i d)) (y 0) (y 1) := by
  have e : shapeCast S320x256 k shapeCasts_S1x320x256_S320x256 = fun j => k (ix3 0 (j 0) (j 1)) := by
    funext j
    obtain ⟨a, b, rfl⟩ : ∃ (a : Fin 320) (b : Fin 256), j = ix2 a b := ⟨j 0, j 1, eq_ix2 j⟩
    pointwise
  rw [e]
  funext y
  exact congrArg _ (eq_ix2 y)

/-- The scores. -/
theorem score_at (vis : IVec S128x1280 1) (q : Vec Ideal S1x128x256 .bf16) (k : Vec Ideal S1x320x256 .i32) (ks : Vec Ideal S1x1x1280 .f32) (i : Fin 128) (n : Fin 1280) :
    op28 vis q k ks (ix2 i n) = ASpec.score (fun n => vis (ix2 i n)) (fun d => q (ix3 0 i d)) (ASpec.code fun i d => k (ix3 0 i d)) (fun n => ks (ix3 0 0 n)) n := by
  unfold ASpec.score op28
  simp only [codes_eq]
  pointwise

/-- The largest score. -/
theorem peak_at (vis : IVec S128x1280 1) (q : Vec Ideal S1x128x256 .bf16) (k : Vec Ideal S1x320x256 .i32) (ks : Vec Ideal S1x1x1280 .f32) (i : Fin 128) (s : Spec.Row 1280)
    (h : ∀ n, op28 vis q k ks (ix2 i n) = s n) :
    op29 vis q k ks (ix2 i 0) = ASpec.peak s := by
  unfold ASpec.peak
  obtain rfl : (fun n => op28 vis q k ks (ix2 i n)) = s := funext h
  pointwise [op29]

/-- The exponentials. -/
theorem ex_at (vis : IVec S128x1280 1) (q : Vec Ideal S1x128x256 .bf16) (k : Vec Ideal S1x320x256 .i32) (ks : Vec Ideal S1x1x1280 .f32) (i : Fin 128) (s : Spec.Row 1280)
    (h : ∀ n, op28 vis q k ks (ix2 i n) = s n) (n : Fin 1280) :
    op30 vis q k ks (ix2 i n) = ASpec.ex s n := by
  unfold ASpec.ex
  rw [← peak_at vis q k ks i s h, ← h n]
  pointwise [op30]

/-- Their sum. -/
theorem den_at (vis : IVec S128x1280 1) (q : Vec Ideal S1x128x256 .bf16) (k : Vec Ideal S1x320x256 .i32) (ks : Vec Ideal S1x1x1280 .f32) (i : Fin 128) (s : Spec.Row 1280)
    (h : ∀ n, op28 vis q k ks (ix2 i n) = s n) :
    op31 vis q k ks (ix2 i 0) = ASpec.den s := by
  unfold ASpec.den
  simp only [← ex_at vis q k ks i s h]
  pointwise [op31]

/-- The log-sum-exp. -/
theorem lse_at (vis : IVec S128x1280 1) (q : Vec Ideal S1x128x256 .bf16) (k : Vec Ideal S1x320x256 .i32) (ks : Vec Ideal S1x1x1280 .f32) (nv : Vec Ideal S1x128x1 .f32) (i : Fin 128) (s : Spec.Row 1280)
    (h : ∀ n, op28 vis q k ks (ix2 i n) = s n) :
    op32 vis q k ks nv (ix3 0 i 0) = ASpec.lse s (nv (ix3 0 i 0)) := by
  unfold ASpec.lse
  rw [← den_at vis q k ks i s h, ← peak_at vis q k ks i s h]
  pointwise [op32]

/-- The weighted sum of the values. -/
theorem out_at (e : FVec Ideal S128x1280 .f32) (l : FVec Ideal S128x1 .f32) (vs : Vec Ideal S1x1x1280 .f32) (v : Vec Ideal S1x320x256 .i32) (i : Fin 128) (s : Spec.Row 1280)
    (h : ∀ n, e (ix2 i n) = ASpec.ex s n) (hl : l (ix2 i 0) = ASpec.den s) (d : Fin 256) :
    op59 e l vs v (ix2 i d) = ASpec.out s (fun n => vs (ix3 0 0 n)) (ASpec.code fun i d => v (ix3 0 i d)) d := by
  unfold ASpec.out ASpec.prob ASpec.soft
  rw [← hl]
  simp only [← h]
  unfold op59
  simp only [codes_eq]
  pointwise

/-- Four heads side by side. -/
def cat4 (a b c d : FVec Ideal S128x256 .f32) : FVec Ideal S128x1024 .f32 :=
  concatenate S128x1024 1 [⟨S128x256, a⟩, ⟨S128x256, b⟩, ⟨S128x256, c⟩, ⟨S128x256, d⟩] concatenates_S128x256_S128x256_S128x256_S128x256_S128x1024_d1

theorem cat4_at (o : Fin 4 → FVec Ideal S128x256 .f32) (i : Fin 128) (l : Fin 1024) :
    cat4 (o 0) (o 1) (o 2) (o 3) (ix2 i l) = ASpec.cat (fun h d => o h (ix2 i d)) l := by
  have e : ∀ (h : Fin 4) (d : Nat) (hd : d < 256), h.val = l.val / 256 → d = l.val % 256 → o h (ix2 i ⟨d, hd⟩) = ASpec.cat (fun h d => o h (ix2 i d)) l := by
    rintro ⟨h, hh⟩ d hd (rfl : h = _) rfl
    rfl
  pointwise [cat4]
  split_ifs <;> refine e _ _ _ ?_ ?_ <;> first | omega | (show _ = _ ; simp; omega)

/-- The largest absolute value of each row. -/
def amax (c : FVec Ideal S128x1024 .f32) : FVec Ideal S128x1 .f32 :=
  shapeCast S128x1 (multiReduction .maximumf [1] S128 (absf c) 0xFF800000#32 reduces_S128x1024_S128 (.inl rfl) rfl) shapeCasts_S128_S128x1

theorem amax_at (c : FVec Ideal S128x1024 .f32) (i : Fin 128) : amax c (ix2 i 0) = Spec.top fun l => c (ix2 i l) := by
  unfold Spec.top
  pointwise [amax]

/-- The exponent of each row's scale. -/
def steps (a : FVec Ideal S128x1 .f32) : FVec Ideal S128x1 .f32 :=
  op1 (mulf a (broadcast S128x1 (Scalar.ofBits .f32 0x3B124925#32)))
    (cmpf .oeq (mulf a (broadcast S128x1 (Scalar.ofBits .f32 0x3B124925#32))) (broadcast S128x1 (Scalar.ofBits .f32 0x00000000#32))) (Scalar.ofBits .f32 0x7F800000#32)

theorem expo_at (a : FVec Ideal S128x1 .f32) (i : Fin 128) : steps a (ix2 i 0) = Spec.expo (a (ix2 i 0)) := by
  unfold Spec.expo
  pointwise [steps, op1]

/-- The scales. -/
theorem scale_at (a : FVec Ideal S128x1 .f32) (i : Fin 128) : op37 (steps a) (ix3 0 i 0) = Spec.scale (a (ix2 i 0)) := by
  unfold Spec.scale
  rw [← expo_at]
  pointwise [op37]

/-- The codes. -/
def coded (c : FVec Ideal S128x1024 .f32) (a : FVec Ideal S128x1 .f32) : FVec Ideal S1x128x1024 .fp8e4m3 :=
  op36 (mulf c (broadcastTo S128x1024 (exp2 (subf (broadcast S128x1 (Scalar.ofBits .f32 0x00000000#32)) (steps a))) broadcasts_S128x1_S128x1024))

theorem codes_at (c : FVec Ideal S128x1024 .f32) (i : Fin 128) (l : Fin 1024) :
    coded c (amax c) (ix3 0 i l) = Spec.codes (fun l => c (ix2 i l)) l := by
  unfold Spec.codes Spec.clip Spec.unscale
  rw [← amax_at, ← expo_at]
  pointwise [coded, op36]

end Cert.ARef
-- ==== Proof.ARefRows.lean ====
module
public import proofs.«01_k».proof.Proof.ARefPay
public import Idealize.ShloMosaic.Lib.Pipeline.ValueKit
public import Idealize.ShloMosaic.Lib.Claim

/-! # The reference's stored values, row by row

The payloads the reference's stores write, from the seven operand blocks, read as the rows of `ASpec`. -/

@[expose] public section
set_option maxRecDepth 16384
noncomputable section
open Idealize.ShloMosaic Idealize.ShloMosaic.TcCoe Idealize.SL.Sem
open Cert.AttendReferenceIdeal Cert.AttendReferenceIdeal.Gen
namespace Cert.ARef
variable (x0 : Vec Ideal S8x128x256 .bf16) (x1 x2 : Vec Ideal S2x320x256 .i32) (x3 x4 : Vec Ideal S2x1x1280 .f32)
  (x5 : Vec Ideal S2x1x1280 .i32) (x6 : Vec Ideal S2x128x1 .f32)

/-- A store of one slab of rows agrees with the array that holds them at that slab. -/
theorem slab_at {A m p : Nat} (n : Nat) (hn : n < A) (h : ∀ d, (![n, 0, 0] : Fin 3 → Nat) d + (⟨3, ![1, m, p]⟩ : Shape).size d ≤ (⟨3, ![A, m, p]⟩ : Shape).size d)
    (v : (⟨3, ![1, m, p]⟩ : Shape).Idx → EReal) (G : Fin A → Fin m → Fin p → EReal)
    (hv : ∀ (r : Fin m) (l : Fin p), v (ix3 0 r l) = G ⟨n, hn⟩ r l) (x : (⟨3, ![1, m, p]⟩ : Shape).Idx) :
    v x = (fun y : (⟨3, ![A, m, p]⟩ : Shape).Idx => G (y 0) (y 1) (y 2)) ((Rect.unit (s := ⟨3, ![A, m, p]⟩) ![n, 0, 0] (⟨3, ![1, m, p]⟩ : Shape).size h).emb x) := by
  obtain ⟨z, r, l, rfl⟩ : ∃ (z : Fin 1) (r : Fin m) (l : Fin p), x = ix3 z r l := ⟨x 0, x 1, x 2, eq_ix3 x⟩
  obtain rfl : z = 0 := Subsingleton.elim _ _
  refine (hv r l).trans ?_
  have e0 : (⟨n, hn⟩ : Fin A) = (Rect.unit (s := ⟨3, ![A, m, p]⟩) ![n, 0, 0] (⟨3, ![1, m, p]⟩ : Shape).size h).emb (ix3 0 r l) 0 := Fin.ext (show n = n + 1 * 0 by omega)
  have e1 : r = (Rect.unit (s := ⟨3, ![A, m, p]⟩) ![n, 0, 0] (⟨3, ![1, m, p]⟩ : Shape).size h).emb (ix3 0 r l) 1 := Fin.ext (show r.val = 0 + 1 * r.val by omega)
  have e2 : l = (Rect.unit (s := ⟨3, ![A, m, p]⟩) ![n, 0, 0] (⟨3, ![1, m, p]⟩ : Shape).size h).emb (ix3 0 r l) 2 := Fin.ext (show l.val = 0 + 1 * l.val by omega)
  exact congr (congr (congrArg G e0) e1) e2

/-- Where the keys lie. -/
abbrev bRel : Fin 2 → Fin 1280 → BitVec 32 := fun b n => x5 (ix3 b 0 n)
/-- The queries, 512 rows per sequence. -/
abbrev bQ : Fin 2 → Fin 512 → Spec.Row 256 := fun b j d => x0 (ix3 ⟨4 * b + j / 128, by omega⟩ ⟨j % 128, by omega⟩ d)
/-- The rows of keys, or of values. -/
abbrev bK : Fin 2 → Fin 1280 → Spec.Row 256 := fun b => ASpec.code fun i d => x1 (ix3 b i d)
/-- The key scales, or the value scales. -/
abbrev bS : Fin 2 → Spec.Row 1280 := fun b n => x3 (ix3 b 0 n)
/-- The numbers of visible keys. -/
abbrev bN : Fin 2 → Fin 128 → EReal := fun b i => x6 (ix3 b i 0)

/-- The scores of a head whose operand blocks are `q`, `k`, `s` and `r`. -/
theorem sc_of (b : Fin 2) (h : Fin 4) (i : Fin 128) (q : Vec Ideal S1x128x256 .bf16) (k : Vec Ideal S1x320x256 .i32) (s : Vec Ideal S1x1x1280 .f32) (r : Vec Ideal S1x1x1280 .i32)
    (hq : ∀ d, q (ix3 0 i d) = x0 (ix3 ⟨4 * b + h, by omega⟩ i d)) (hk : ∀ n d, k (ix3 0 n d) = x1 (ix3 b n d)) (hs : ∀ n, s (ix3 0 0 n) = x3 (ix3 b 0 n))
    (hr : ∀ n, r (ix3 0 0 n) = x5 (ix3 b 0 n)) (n : Fin 1280) :
    op28 (op4 r r) q k s (ix2 i n) = ASpec.sc (bRel x5) (bQ x0) (bK x1) (bS x3) b h i n := by
  rw [score_at]
  simp only [seen_at, hq, hk, hs, hr]
  unfold ASpec.sc bQ
  have e1 : (128 * h.val + i.val) / 128 = h := by omega
  have e2 : (128 * h.val + i.val) % 128 = i := by omega
  simp only [e1, e2]

/-- The output of such a head whose value blocks are `w` and `u`. -/
theorem head_of (b : Fin 2) (h : Fin 4) (i : Fin 128) (q : Vec Ideal S1x128x256 .bf16) (k u : Vec Ideal S1x320x256 .i32) (s w : Vec Ideal S1x1x1280 .f32) (r : Vec Ideal S1x1x1280 .i32)
    (hq : ∀ d, q (ix3 0 i d) = x0 (ix3 ⟨4 * b + h, by omega⟩ i d)) (hk : ∀ n d, k (ix3 0 n d) = x1 (ix3 b n d)) (hu : ∀ n d, u (ix3 0 n d) = x2 (ix3 b n d))
    (hs : ∀ n, s (ix3 0 0 n) = x3 (ix3 b 0 n)) (hw : ∀ n, w (ix3 0 0 n) = x4 (ix3 b 0 n)) (hr : ∀ n, r (ix3 0 0 n) = x5 (ix3 b 0 n)) (d : Fin 256) :
    op59 (op30 (op4 r r) q k s) (op31 (op4 r r) q k s) w u (ix2 i d) = ASpec.head (bRel x5) (bQ x0) (bK x1) (bK x2) (bS x3) (bS x4) b h i d := by
  have e := sc_of x0 x1 x3 x5 b h i q k s r hq hk hs hr
  rw [out_at _ _ w u i _ (ex_at _ q k s i _ e) (den_at _ q k s i _ e)]
  simp only [hu, hw]
  rfl

/-- The log-sum-exp of such a head. -/
theorem lse_of (b : Fin 2) (h : Fin 4) (i : Fin 128) (q : Vec Ideal S1x128x256 .bf16) (k : Vec Ideal S1x320x256 .i32) (s : Vec Ideal S1x1x1280 .f32) (r : Vec Ideal S1x1x1280 .i32) (nv : Vec Ideal S1x128x1 .f32)
    (hq : ∀ d, q (ix3 0 i d) = x0 (ix3 ⟨4 * b + h, by omega⟩ i d)) (hk : ∀ n d, k (ix3 0 n d) = x1 (ix3 b n d)) (hs : ∀ n, s (ix3 0 0 n) = x3 (ix3 b 0 n))
    (hr : ∀ n, r (ix3 0 0 n) = x5 (ix3 b 0 n)) (hn : nv (ix3 0 i 0) = x6 (ix3 b i 0)) :
    op32 (op4 r r) q k s nv (ix3 0 i 0) = ASpec.lses (bRel x5) (bQ x0) (bK x1) (bS x3) (bN x6) b h i := by
  have e := sc_of x0 x1 x3 x5 b h i q k s r hq hk hs hr
  rw [lse_at _ q k s nv i _ e, hn]
  rfl

/-- The four heads of a sequence side by side, from its blocks. -/
def heads (q : Fin 4 → Vec Ideal S1x128x256 .bf16) (k u : Vec Ideal S1x320x256 .i32) (s w : Vec Ideal S1x1x1280 .f32) (r : Vec Ideal S1x1x1280 .i32) : FVec Ideal S128x1024 .f32 :=
  cat4 (op59 (op30 (op4 r r) (q 0) k s) (op31 (op4 r r) (q 0) k s) w u) (op59 (op30 (op4 r r) (q 1) k s) (op31 (op4 r r) (q 1) k s) w u)
    (op59 (op30 (op4 r r) (q 2) k s) (op31 (op4 r r) (q 2) k s) w u) (op59 (op30 (op4 r r) (q 3) k s) (op31 (op4 r r) (q 3) k s) w u)

theorem heads_at (b : Fin 2) (i : Fin 128) (q : Fin 4 → Vec Ideal S1x128x256 .bf16) (k u : Vec Ideal S1x320x256 .i32) (s w : Vec Ideal S1x1x1280 .f32) (r : Vec Ideal S1x1x1280 .i32)
    (hq : ∀ h : Fin 4, ∀ d, q h (ix3 0 i d) = x0 (ix3 ⟨4 * b + h, by omega⟩ i d)) (hk : ∀ n d, k (ix3 0 n d) = x1 (ix3 b n d)) (hu : ∀ n d, u (ix3 0 n d) = x2 (ix3 b n d))
    (hs : ∀ n, s (ix3 0 0 n) = x3 (ix3 b 0 n)) (hw : ∀ n, w (ix3 0 0 n) = x4 (ix3 b 0 n)) (hr : ∀ n, r (ix3 0 0 n) = x5 (ix3 b 0 n)) :
    (fun l => heads q k u s w r (ix2 i l)) = ASpec.row (bRel x5) (bQ x0) (bK x1) (bK x2) (bS x3) (bS x4) b i := by
  funext l
  refine (cat4_at (fun h => op59 (op30 (op4 r r) (q h) k s) (op31 (op4 r r) (q h) k s) w u) i l).trans ?_
  unfold ASpec.row
  exact congrArg (fun o => ASpec.cat o l) (funext fun h => funext fun d => head_of x0 x1 x2 x3 x4 x5 b h i (q h) k u s w r (hq h) hk hu hs hw hr d)

/-- The codes of a sequence's outputs, as one array. -/
def acArr (rel : Fin 2 → Fin 1280 → BitVec 32) (q : Fin 2 → Fin 512 → Spec.Row 256) (k v : Fin 2 → Fin 1280 → Spec.Row 256) (ks vs : Fin 2 → Spec.Row 1280) : Vec Ideal S2x128x1024 .fp8e4m3 :=
  fun j => ASpec.ac rel q k v ks vs (j 0) (j 1) (j 2)
/-- Their scales, as one array. -/
def asArr (rel : Fin 2 → Fin 1280 → BitVec 32) (q : Fin 2 → Fin 512 → Spec.Row 256) (k v : Fin 2 → Fin 1280 → Spec.Row 256) (ks vs : Fin 2 → Spec.Row 1280) : Vec Ideal S2x128x1 .f32 :=
  fun j => ASpec.asc rel q k v ks vs (j 0) (j 1)
/-- The log-sum-exps, as one array. -/
def lseArr (rel : Fin 2 → Fin 1280 → BitVec 32) (q : Fin 2 → Fin 512 → Spec.Row 256) (k : Fin 2 → Fin 1280 → Spec.Row 256) (ks : Fin 2 → Spec.Row 1280) (nv : Fin 2 → Fin 128 → EReal) : Vec Ideal S8x128x1 .f32 :=
  fun j => ASpec.lses rel q k ks nv ⟨(j 0).val / 4, by have : (j 0).val < 8 := (j 0).isLt; omega⟩ ⟨(j 0).val % 4, by omega⟩ (j 1)

/-- The query blocks of sequence 0, and of sequence 1. -/
def q0 : Fin 4 → Vec Ideal S1x128x256 .bf16 := ![View.ld x0 r0_1, View.ld x0 r0_5, View.ld x0 r0_7, View.ld x0 r0_9]
def q1 : Fin 4 → Vec Ideal S1x128x256 .bf16 := ![View.ld x0 r0_13, View.ld x0 r0_17, View.ld x0 r0_19, View.ld x0 r0_21]

theorem q0_at (h : Fin 4) (i : Fin 128) (d : Fin 256) : q0 x0 h (ix3 0 i d) = x0 (ix3 ⟨4 * (0 : Fin 2) + h, by omega⟩ i d) := by
  match h with
  | ⟨0, _⟩ => pointwise [q0]
  | ⟨1, _⟩ => pointwise [q0]
  | ⟨2, _⟩ => pointwise [q0]
  | ⟨3, _⟩ => pointwise [q0]
theorem q1_at (h : Fin 4) (i : Fin 128) (d : Fin 256) : q1 x0 h (ix3 0 i d) = x0 (ix3 ⟨4 * (1 : Fin 2) + h, by omega⟩ i d) := by
  match h with
  | ⟨0, _⟩ => pointwise [q1]
  | ⟨1, _⟩ => pointwise [q1]
  | ⟨2, _⟩ => pointwise [q1]
  | ⟨3, _⟩ => pointwise [q1]
theorem k0_at (n : Fin 320) (d : Fin 256) : View.ld x1 r0_2 (ix3 0 n d) = x1 (ix3 0 n d) := by pointwise
theorem k1_at (n : Fin 320) (d : Fin 256) : View.ld x1 r0_14 (ix3 0 n d) = x1 (ix3 1 n d) := by pointwise
theorem s0_at (n : Fin 1280) : View.ld x3 r0_0 (ix3 0 0 n) = x3 (ix3 0 0 n) := by pointwise
theorem s1_at (n : Fin 1280) : View.ld x3 r0_12 (ix3 0 0 n) = x3 (ix3 1 0 n) := by pointwise
theorem r0_at (n : Fin 1280) : View.ld x5 r0_0 (ix3 0 0 n) = x5 (ix3 0 0 n) := by pointwise
theorem r1_at (n : Fin 1280) : View.ld x5 r0_12 (ix3 0 0 n) = x5 (ix3 1 0 n) := by pointwise
theorem n0_at (i : Fin 128) : View.ld x6 r0_3 (ix3 0 i 0) = x6 (ix3 0 i 0) := by pointwise
theorem n1_at (i : Fin 128) : View.ld x6 r0_15 (ix3 0 i 0) = x6 (ix3 1 i 0) := by pointwise

/-- The heads of sequence 0, and of sequence 1. -/
def heads0 : FVec Ideal S128x1024 .f32 := heads (q0 x0) (View.ld x1 r0_2) (View.ld x2 r0_2) (View.ld x3 r0_0) (View.ld x4 r0_0) (View.ld x5 r0_0)
def heads1 : FVec Ideal S128x1024 .f32 := heads (q1 x0) (View.ld x1 r0_14) (View.ld x2 r0_14) (View.ld x3 r0_12) (View.ld x4 r0_12) (View.ld x5 r0_12)

theorem heads0_at (i : Fin 128) : (fun l => heads0 x0 x1 x2 x3 x4 x5 (ix2 i l)) = ASpec.row (bRel x5) (bQ x0) (bK x1) (bK x2) (bS x3) (bS x4) 0 i :=
  heads_at x0 x1 x2 x3 x4 x5 0 i _ _ _ _ _ _ (fun h d => q0_at x0 h i d) (k0_at x1) (k0_at x2) (s0_at x3) (s0_at x4) (r0_at x5)
theorem heads1_at (i : Fin 128) : (fun l => heads1 x0 x1 x2 x3 x4 x5 (ix2 i l)) = ASpec.row (bRel x5) (bQ x0) (bK x1) (bK x2) (bS x3) (bS x4) 1 i :=
  heads_at x0 x1 x2 x3 x4 x5 1 i _ _ _ _ _ _ (fun h d => q1_at x0 h i d) (k1_at x1) (k1_at x2) (s1_at x3) (s1_at x4) (r1_at x5)

/-- The stored codes. -/
theorem out_ac : out0_7 x0 x1 x2 x3 x4 x5 x6 = acArr (bRel x5) (bQ x0) (bK x1) (bK x2) (bS x3) (bS x4) := by
  have e : out0_7 x0 x1 x2 x3 x4 x5 x6 = View.canon (Val := Elt Ideal) (s := S2x128x1024) (e := .fp8e4m3)
      [⟨r0_23, coded (heads1 x0 x1 x2 x3 x4 x5) (amax (heads1 x0 x1 x2 x3 x4 x5))⟩, ⟨r0_11, coded (heads0 x0 x1 x2 x3 x4 x5) (amax (heads0 x0 x1 x2 x3 x4 x5))⟩] := by sl_kernel_rfl
  rw [e]
  refine funext fun y => View.canon_apply_of_pieces (Val := Elt Ideal) (S := S2x128x1024) (e := .fp8e4m3) _ _ ?_ y (View.cover_of_tiledL (s := S2x128x1024) _ S1x128x1024.size (by sl_kernel_rfl) y)
  refine List.forall_mem_cons.2 ⟨slab_at 1 (by omega) inb_S2x128x1024_S1x128x1024_1_0_0 _ (ASpec.ac (bRel x5) (bQ x0) (bK x1) (bK x2) (bS x3) (bS x4)) fun i l => ?_,
    List.forall_mem_cons.2 ⟨slab_at 0 (by omega) inb_S2x128x1024_S1x128x1024_0_0_0 _ (ASpec.ac (bRel x5) (bQ x0) (bK x1) (bK x2) (bS x3) (bS x4)) fun i l => ?_, fun _ h => absurd h List.not_mem_nil⟩⟩
  · refine (codes_at _ i l).trans ?_
    rw [heads1_at]; rfl
  · refine (codes_at _ i l).trans ?_
    rw [heads0_at]; rfl

/-- The stored scales. -/
theorem out_as : out0_8 x0 x1 x2 x3 x4 x5 x6 = asArr (bRel x5) (bQ x0) (bK x1) (bK x2) (bS x3) (bS x4) := by
  have e : out0_8 x0 x1 x2 x3 x4 x5 x6 = View.canon (Val := Elt Ideal) (s := S2x128x1) (e := .f32)
      [⟨r0_15, op37 (steps (amax (heads1 x0 x1 x2 x3 x4 x5)))⟩, ⟨r0_3, op37 (steps (amax (heads0 x0 x1 x2 x3 x4 x5)))⟩] := by sl_kernel_rfl
  rw [e]
  refine funext fun y => View.canon_apply_of_pieces (Val := Elt Ideal) (S := S2x128x1) (e := .f32) _ _ ?_ y (View.cover_of_tiledL (s := S2x128x1) _ S1x128x1.size (by sl_kernel_rfl) y)
  refine List.forall_mem_cons.2 ⟨slab_at 1 (by omega) inb_S2x128x1_S1x128x1_1_0_0 _ (fun b i _ => ASpec.asc (bRel x5) (bQ x0) (bK x1) (bK x2) (bS x3) (bS x4) b i) fun i l => ?_,
    List.forall_mem_cons.2 ⟨slab_at 0 (by omega) inb_S2x128x1_S1x128x1_0_0_0 _ (fun b i _ => ASpec.asc (bRel x5) (bQ x0) (bK x1) (bK x2) (bS x3) (bS x4) b i) fun i l => ?_, fun _ h => absurd h List.not_mem_nil⟩⟩
  · obtain rfl : l = 0 := Subsingleton.elim _ _
    refine (scale_at _ i).trans ?_
    rw [amax_at, heads1_at]; rfl
  · obtain rfl : l = 0 := Subsingleton.elim _ _
    refine (scale_at _ i).trans ?_
    rw [amax_at, heads0_at]; rfl

/-- A stored log-sum-exp of sequence 0, and of sequence 1. -/
def lse0 (h : Fin 4) : FVec Ideal S1x128x1 .f32 :=
  op32 (op4 (View.ld x5 r0_0) (View.ld x5 r0_0)) (q0 x0 h) (View.ld x1 r0_2) (View.ld x3 r0_0) (View.ld x6 r0_3)
def lse1 (h : Fin 4) : FVec Ideal S1x128x1 .f32 :=
  op32 (op4 (View.ld x5 r0_12) (View.ld x5 r0_12)) (q1 x0 h) (View.ld x1 r0_14) (View.ld x3 r0_12) (View.ld x6 r0_15)

theorem lse0_at (h : Fin 4) (i : Fin 128) : lse0 x0 x1 x3 x5 x6 h (ix3 0 i 0) = ASpec.lses (bRel x5) (bQ x0) (bK x1) (bS x3) (bN x6) 0 h i :=
  lse_of x0 x1 x3 x5 x6 0 h i _ _ _ _ _ (fun d => q0_at x0 h i d) (k0_at x1) (s0_at x3) (r0_at x5) (n0_at x6 i)
theorem lse1_at (h : Fin 4) (i : Fin 128) : lse1 x0 x1 x3 x5 x6 h (ix3 0 i 0) = ASpec.lses (bRel x5) (bQ x0) (bK x1) (bS x3) (bN x6) 1 h i :=
  lse_of x0 x1 x3 x5 x6 1 h i _ _ _ _ _ (fun d => q1_at x0 h i d) (k1_at x1) (s1_at x3) (r1_at x5) (n1_at x6 i)

/-- A store of one head's log-sum-exp agrees with the array of all. -/
theorem lse_piece (p : Nat) (hp : p < 8) (h : ∀ d, (![p, 0, 0] : Fin 3 → Nat) d + S1x128x1.size d ≤ S8x128x1.size d) (v : FVec Ideal S1x128x1 .f32)
    (hv : ∀ i : Fin 128, v (ix3 0 i 0) = ASpec.lses (bRel x5) (bQ x0) (bK x1) (bS x3) (bN x6) ⟨p / 4, by omega⟩ ⟨p % 4, by omega⟩ i) (x : S1x128x1.Idx) :
    v x = lseArr (bRel x5) (bQ x0) (bK x1) (bS x3) (bN x6) ((Rect.unit (s := S8x128x1) ![p, 0, 0] S1x128x1.size h).emb x) :=
  slab_at (A := 8) (m := 128) (p := 1) p hp h v (fun p i _ => ASpec.lses (bRel x5) (bQ x0) (bK x1) (bS x3) (bN x6) ⟨p.val / 4, by omega⟩ ⟨p.val % 4, by omega⟩ i)
    (fun i l => by obtain rfl : l = 0 := Subsingleton.elim _ _; exact hv i) x

/-- The stored log-sum-exps. -/
theorem out_lse : out0_9 x0 x1 x2 x3 x4 x5 x6 = lseArr (bRel x5) (bQ x0) (bK x1) (bS x3) (bN x6) := by
  have e : out0_9 x0 x1 x2 x3 x4 x5 x6 = View.canon (Val := Elt Ideal) (s := S8x128x1) (e := .f32)
      [⟨r0_22, lse1 x0 x1 x3 x5 x6 3⟩, ⟨r0_20, lse1 x0 x1 x3 x5 x6 2⟩, ⟨r0_18, lse1 x0 x1 x3 x5 x6 1⟩, ⟨r0_16, lse1 x0 x1 x3 x5 x6 0⟩,
       ⟨r0_10, lse0 x0 x1 x3 x5 x6 3⟩, ⟨r0_8, lse0 x0 x1 x3 x5 x6 2⟩, ⟨r0_6, lse0 x0 x1 x3 x5 x6 1⟩, ⟨r0_4, lse0 x0 x1 x3 x5 x6 0⟩] := by sl_kernel_rfl
  rw [e]
  refine funext fun y => View.canon_apply_of_pieces (Val := Elt Ideal) (S := S8x128x1) (e := .f32) _ _ ?_ y (View.cover_of_tiledL (s := S8x128x1) _ S1x128x1.size (by sl_kernel_rfl) y)
  exact List.forall_mem_cons.2 ⟨lse_piece x0 x1 x3 x5 x6 7 (by omega) inb_S8x128x1_S1x128x1_7_0_0 _ fun i => lse1_at x0 x1 x3 x5 x6 3 i,
    List.forall_mem_cons.2 ⟨lse_piece x0 x1 x3 x5 x6 6 (by omega) inb_S8x128x1_S1x128x1_6_0_0 _ fun i => lse1_at x0 x1 x3 x5 x6 2 i,
    List.forall_mem_cons.2 ⟨lse_piece x0 x1 x3 x5 x6 5 (by omega) inb_S8x128x1_S1x128x1_5_0_0 _ fun i => lse1_at x0 x1 x3 x5 x6 1 i,
    List.forall_mem_cons.2 ⟨lse_piece x0 x1 x3 x5 x6 4 (by omega) inb_S8x128x1_S1x128x1_4_0_0 _ fun i => lse1_at x0 x1 x3 x5 x6 0 i,
    List.forall_mem_cons.2 ⟨lse_piece x0 x1 x3 x5 x6 3 (by omega) inb_S8x128x1_S1x128x1_3_0_0 _ fun i => lse0_at x0 x1 x3 x5 x6 3 i,
    List.forall_mem_cons.2 ⟨lse_piece x0 x1 x3 x5 x6 2 (by omega) inb_S8x128x1_S1x128x1_2_0_0 _ fun i => lse0_at x0 x1 x3 x5 x6 2 i,
    List.forall_mem_cons.2 ⟨lse_piece x0 x1 x3 x5 x6 1 (by omega) inb_S8x128x1_S1x128x1_1_0_0 _ fun i => lse0_at x0 x1 x3 x5 x6 1 i,
    List.forall_mem_cons.2 ⟨lse_piece x0 x1 x3 x5 x6 0 (by omega) inb_S8x128x1_S1x128x1_0_0_0 _ fun i => lse0_at x0 x1 x3 x5 x6 0 i,
    fun _ h => absurd h List.not_mem_nil⟩⟩⟩⟩⟩⟩⟩⟩

end Cert.ARef
-- ==== Proof.ARefVal.lean ====
module
public import proofs.«01_k».proof.Proof.ARefRows
public import proofs.«01_k».proof.Proof.ARel

/-! # What the reference's arrays hold when its region ends, and its results

The operands the region finds (computed from the arguments), its three result arrays as rows of `ASpec`,
and the results after the last reshapes. -/

@[expose] public section
set_option maxRecDepth 16384
noncomputable section
open Idealize.ShloMosaic Idealize.ShloMosaic.TcCoe Idealize.SL.Sem
open Cert.AttendReferenceIdeal Cert.AttendReferenceIdeal.Gen
namespace Cert.ARef
variable (m : (ℓ : Loc nD τ sig) → Buf (Elt Ideal) ℓ) (c : Dev nD)

/-- The start positions as launched. -/
def aP : Fin 2 → BitVec 32 := fun b => (show Vec Ideal S2 .i32 from m ((c.tc : Thread nD τ).loc main_arg0)) (ix1 b)
/-- The queries as launched. -/
def aQ : Fin 2 → Fin 512 → Spec.Row 256 := fun b j d => (show Vec Ideal S2x512x256 .bf16 from m ((c.tc : Thread nD τ).loc main_arg1)) (ix3 b j d)
/-- The key codes as launched. -/
def aK : Fin 2 → Fin 1280 → Spec.Row 256 := fun b => ASpec.code fun i d => (show Vec Ideal S2x320x256 .i32 from m ((c.tc : Thread nD τ).loc main_arg2)) (ix3 b i d)
/-- The value codes as launched. -/
def aV : Fin 2 → Fin 1280 → Spec.Row 256 := fun b => ASpec.code fun i d => (show Vec Ideal S2x320x256 .i32 from m ((c.tc : Thread nD τ).loc main_arg3)) (ix3 b i d)
/-- The key scales as launched. -/
def aKs : Fin 2 → Spec.Row 1280 := fun b n => (show Vec Ideal S2x1x1280 .f32 from m ((c.tc : Thread nD τ).loc main_arg4)) (ix3 b 0 n)
/-- The value scales as launched. -/
def aVs : Fin 2 → Spec.Row 1280 := fun b n => (show Vec Ideal S2x1x1280 .f32 from m ((c.tc : Thread nD τ).loc main_arg5)) (ix3 b 0 n)

set_option maxHeartbeats 1600000 in
/-- A query tile as the region finds it: 128 rows of a sequence's 512. -/
theorem q_in (p : Fin 8) (i : Fin 128) (d : Fin 256) : (show Vec Ideal S8x128x256 .bf16 from V m c main_v74) (ix3 p i d)
    = aQ m c ⟨p / 4, by omega⟩ ⟨p % 4 * 128 + i, by omega⟩ d := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results
  pointwise
  rfl

set_option maxHeartbeats 1600000 in
/-- The numbers of visible keys as the region finds them. -/
theorem n_in (b : Fin 2) (i : Fin 128) : (show Vec Ideal S2x128x1 .f32 from V m c main_v76) (ix3 b i 0)
    = ASpec.nv (aP m c b) i := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results
  pointwise
  rfl

set_option maxHeartbeats 1600000 in
/-- Where the keys lie, as the region finds it. -/
theorem rel_in (b : Fin 2) (n : Fin 1280) : (show Vec Ideal S2x1x1280 .i32 from V m c main_v75) (ix3 b 0 n)
    = ASpec.rel (aP m c b) n := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  pointwise
  rfl

theorem idx0 : ∀ t : Fin cfg0.N, win0_0.index t = fun _ => 0 := (by decide +kernel : ∀ t : Fin grid0.N, _)
theorem blk0 (p : Fin 8) (i : Fin 128) (d : Fin 256) : (show Vec Ideal S8x128x256 .bf16 from iblk m c 0 t0_0) (ix3 p i d) = (show Vec Ideal S8x128x256 .bf16 from V m c main_v74) (ix3 p i d) := by
  blk_simp [iblk, idx0]
  blk_ext
  all_goals simp [idx0]

theorem idx1 : ∀ t : Fin cfg0.N, win0_1.index t = fun _ => 0 := (by decide +kernel : ∀ t : Fin grid0.N, _)
theorem blk1 (b : Fin 2) (n : Fin 320) (d : Fin 256) : (show Vec Ideal S2x320x256 .i32 from iblk m c 1 t0_0) (ix3 b n d) = (show Vec Ideal S2x320x256 .i32 from V m c main_arg2) (ix3 b n d) := by
  blk_simp [iblk, idx1]
  blk_ext
  all_goals simp [idx1]

theorem idx2 : ∀ t : Fin cfg0.N, win0_2.index t = fun _ => 0 := (by decide +kernel : ∀ t : Fin grid0.N, _)
theorem blk2 (b : Fin 2) (n : Fin 320) (d : Fin 256) : (show Vec Ideal S2x320x256 .i32 from iblk m c 2 t0_0) (ix3 b n d) = (show Vec Ideal S2x320x256 .i32 from V m c main_arg3) (ix3 b n d) := by
  blk_simp [iblk, idx2]
  blk_ext
  all_goals simp [idx2]

theorem idx3 : ∀ t : Fin cfg0.N, win0_3.index t = fun _ => 0 := (by decide +kernel : ∀ t : Fin grid0.N, _)
theorem blk3 (b : Fin 2) (n : Fin 1280) : (show Vec Ideal S2x1x1280 .f32 from iblk m c 3 t0_0) (ix3 b 0 n) = (show Vec Ideal S2x1x1280 .f32 from V m c main_arg4) (ix3 b 0 n) := by
  blk_simp [iblk, idx3]
  blk_ext
  all_goals simp [idx3]

theorem idx4 : ∀ t : Fin cfg0.N, win0_4.index t = fun _ => 0 := (by decide +kernel : ∀ t : Fin grid0.N, _)
theorem blk4 (b : Fin 2) (n : Fin 1280) : (show Vec Ideal S2x1x1280 .f32 from iblk m c 4 t0_0) (ix3 b 0 n) = (show Vec Ideal S2x1x1280 .f32 from V m c main_arg5) (ix3 b 0 n) := by
  blk_simp [iblk, idx4]
  blk_ext
  all_goals simp [idx4]

theorem idx5 : ∀ t : Fin cfg0.N, win0_5.index t = fun _ => 0 := (by decide +kernel : ∀ t : Fin grid0.N, _)
theorem blk5 (b : Fin 2) (n : Fin 1280) : (show Vec Ideal S2x1x1280 .i32 from iblk m c 5 t0_0) (ix3 b 0 n) = (show Vec Ideal S2x1x1280 .i32 from V m c main_v75) (ix3 b 0 n) := by
  blk_simp [iblk, idx5]
  blk_ext
  all_goals simp [idx5]

theorem idx6 : ∀ t : Fin cfg0.N, win0_6.index t = fun _ => 0 := (by decide +kernel : ∀ t : Fin grid0.N, _)
theorem blk6 (b : Fin 2) (i : Fin 128) : (show Vec Ideal S2x128x1 .f32 from iblk m c 6 t0_0) (ix3 b i 0) = (show Vec Ideal S2x128x1 .f32 from V m c main_v76) (ix3 b i 0) := by
  blk_simp [iblk, idx6]
  blk_ext
  all_goals simp [idx6]

theorem bQ_eq : bQ (iblk m c 0 t0_0) = aQ m c := by
  funext b j d
  refine (blk0 m c _ _ _).trans ((q_in m c _ _ _).trans ?_)
  have e1 : (⟨(4 * b.val + j.val / 128) / 4, by omega⟩ : Fin 2) = b := Fin.ext (by simp only; omega)
  have e2 : (⟨(4 * b.val + j.val / 128) % 4 * 128 + j.val % 128, by omega⟩ : Fin 512) = j := Fin.ext (by simp only; omega)
  exact (congrArg (fun b => aQ m c b _ d) e1).trans (congrArg (fun j => aQ m c b j d) e2)
theorem bK_eq : bK (iblk m c 1 t0_0) = aK m c := by
  funext b
  exact congrArg ASpec.code (funext fun i => funext fun d => (blk1 m c b i d).trans (congrFun (V_main_arg2 m c) _))
theorem bV_eq : bK (iblk m c 2 t0_0) = aV m c := by
  funext b
  exact congrArg ASpec.code (funext fun i => funext fun d => (blk2 m c b i d).trans (congrFun (V_main_arg3 m c) _))
theorem bKs_eq : bS (iblk m c 3 t0_0) = aKs m c := by
  funext b n
  exact (blk3 m c _ _).trans (congrFun (V_main_arg4 m c) _)
theorem bVs_eq : bS (iblk m c 4 t0_0) = aVs m c := by
  funext b n
  exact (blk4 m c _ _).trans (congrFun (V_main_arg5 m c) _)
theorem bRel_eq : bRel (iblk m c 5 t0_0) = fun b (n : Fin 1280) => ASpec.rel (aP m c b) n := by
  funext b n
  exact (blk5 m c _ _).trans (rel_in m c b n)
theorem bN_eq : bN (iblk m c 6 t0_0) = fun b (i : Fin 128) => ASpec.nv (aP m c b) i := by
  funext b i
  exact (blk6 m c _ _).trans (n_in m c b i)

/-- The codes of the outputs. -/
def gAc (b : Fin 2) (i : Fin 128) : Spec.Row 1024 := ASpec.ac (fun b (n : Fin 1280) => ASpec.rel (aP m c b) n) (aQ m c) (aK m c) (aV m c) (aKs m c) (aVs m c) b i
/-- Their scales. -/
def gAs (b : Fin 2) (i : Fin 128) : EReal := ASpec.asc (fun b (n : Fin 1280) => ASpec.rel (aP m c b) n) (aQ m c) (aK m c) (aV m c) (aKs m c) (aVs m c) b i
/-- The log-sum-exps. -/
def gLse (b : Fin 2) (h : Fin 4) (i : Fin 128) : EReal := ASpec.lses (fun b (n : Fin 1280) => ASpec.rel (aP m c b) n) (aQ m c) (aK m c) (aKs m c) (fun b (i : Fin 128) => ASpec.nv (aP m c b) i) b h i

theorem final7 (j : S2x128x1024.Idx) : (show Vec Ideal S2x128x1024 .fp8e4m3 from (dats m 0 c).arrAt 7 cfg0.N) j = gAc m c (j 0) (j 1) (j 2) := by
  refine congrFun ((dats m 0 c).arrAt_eq_of_after_last 7 t0_0 (by decide +kernel) (fun j : S2x128x1024.Idx => gAc m c (j 0) (j 1) (j 2)) fun j => ?_) j
  blk_simp
  rw [after0_7]
  idx_vars j
  refine (congrFun (out_ac (iblk m c 0 t0_0) (iblk m c 1 t0_0) (iblk m c 2 t0_0) (iblk m c 3 t0_0) (iblk m c 4 t0_0) (iblk m c 5 t0_0) (iblk m c 6 t0_0)) (ix3 j0 j1 j2)).trans ?_
  unfold acArr gAc
  rw [bQ_eq, bK_eq, bV_eq, bKs_eq, bVs_eq, bRel_eq]
  rfl

theorem final8 (j : S2x128x1.Idx) : (show Vec Ideal S2x128x1 .f32 from (dats m 0 c).arrAt 8 cfg0.N) j = gAs m c (j 0) (j 1) := by
  refine congrFun ((dats m 0 c).arrAt_eq_of_after_last 8 t0_0 (by decide +kernel) (fun j : S2x128x1.Idx => gAs m c (j 0) (j 1)) fun j => ?_) j
  blk_simp
  rw [after0_8]
  idx_vars j
  refine (congrFun (out_as (iblk m c 0 t0_0) (iblk m c 1 t0_0) (iblk m c 2 t0_0) (iblk m c 3 t0_0) (iblk m c 4 t0_0) (iblk m c 5 t0_0) (iblk m c 6 t0_0)) (ix3 j0 j1 j2)).trans ?_
  unfold asArr gAs
  rw [bQ_eq, bK_eq, bV_eq, bKs_eq, bVs_eq, bRel_eq]
  rfl

theorem final9 (j : S8x128x1.Idx) : (show Vec Ideal S8x128x1 .f32 from (dats m 0 c).arrAt 9 cfg0.N) j = gLse m c ⟨(j 0).val / 4, by have : (j 0).val < 8 := (j 0).isLt; omega⟩ ⟨(j 0).val % 4, by omega⟩ (j 1) := by
  refine congrFun ((dats m 0 c).arrAt_eq_of_after_last 9 t0_0 (by decide +kernel) (fun j : S8x128x1.Idx => gLse m c ⟨(j 0).val / 4, by have : (j 0).val < 8 := (j 0).isLt; omega⟩ ⟨(j 0).val % 4, by omega⟩ (j 1)) fun j => ?_) j
  blk_simp
  rw [after0_9]
  idx_vars j
  refine (congrFun (out_lse (iblk m c 0 t0_0) (iblk m c 1 t0_0) (iblk m c 2 t0_0) (iblk m c 3 t0_0) (iblk m c 4 t0_0) (iblk m c 5 t0_0) (iblk m c 6 t0_0)) (ix3 j0 j1 j2)).trans ?_
  unfold lseArr gLse
  rw [bQ_eq, bK_eq, bKs_eq, bRel_eq, bN_eq]
  rfl

/-- What a result window's array holds after the region is what the region's proof data give. -/
theorem arr_after (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 launch0.win.arr_inj c (V0 m c) _ w

/-- The codes of the outputs, as a result. -/
theorem tail78 (p : Fin 256) (l : Fin 1024) : (show Vec Ideal S256x1024 .fp8e4m3 from Pipeline.afterTail₀ cfgs (dats m) 0 (V0 m) [hostOps1] c main_v78) (ix2 p l)
    = gAc m c ⟨p / 128, by omega⟩ ⟨p % 128, by omega⟩ l := by
  unfold Pipeline.afterTail₀
  simp only [hostOps1, List.flatten_cons, List.flatten_nil, List.append_nil]
  after_region_results
  pointwise
  exact (congrFun (arr_after m c 7) _).trans (final7 m c _)

/-- Their scales, as a result. -/
theorem tail79 (b : Fin 2) (i : Fin 128) : (show Vec Ideal S2x128 .f32 from Pipeline.afterTail₀ cfgs (dats m) 0 (V0 m) [hostOps1] c main_v79) (ix2 b i)
    = gAs m c b i := by
  unfold Pipeline.afterTail₀
  simp only [hostOps1, List.flatten_cons, List.flatten_nil, List.append_nil]
  after_region_results
  pointwise
  exact (congrFun (arr_after m c 8) _).trans (final8 m c _)

/-- The log-sum-exps, as a result. -/
theorem tail80 (b : Fin 2) (h : Fin 4) (i : Fin 128) : (show Vec Ideal S2x4x128 .f32 from Pipeline.afterTail₀ cfgs (dats m) 0 (V0 m) [hostOps1] c main_v80) (ix3 b h i)
    = gLse m c b h i := by
  unfold Pipeline.afterTail₀
  simp only [hostOps1, List.flatten_cons, List.flatten_nil, List.append_nil]
  after_region_results
  pointwise
  refine (congrFun (arr_after m c 9) _).trans ((final9 m c _).trans ?_)
  have e1 : (⟨(b.val * 4 + h.val) / 4, by omega⟩ : Fin 2) = b := Fin.ext (by simp only; omega)
  have e2 : (⟨(b.val * 4 + h.val) % 4, by omega⟩ : Fin 4) = h := Fin.ext (by simp only; omega)
  exact (congrArg (fun b => gLse m c b _ i) e1).trans (congrArg (fun h => gLse m c b h i) e2)

end Cert.ARef
-- ==== Proof.AEqn.lean ====
module
public import proofs.«01_k».proof.Defs
public import proofs.«01_k».proof.Proof.AKernVal
public import proofs.«01_k».proof.Proof.ARefVal

/-! # The equation of the attention

From equal arguments the three arrays the attention kernel leaves are the three its reference leaves. -/

@[expose] public section
set_option maxRecDepth 16384
noncomputable section
open Idealize.ShloMosaic Idealize.ShloMosaic.TcCoe Idealize.SL.Sem
namespace Cert.AEqn

section Args
variable (m : (ℓ : Loc Cert.AttendIdeal.nD Cert.AttendIdeal.τ Cert.AttendIdeal.sig) → Buf (Elt Ideal) ℓ) (c : Dev Cert.AttendIdeal.nD)
open Cert.AttendIdeal Cert.AttendIdeal.Gen
variable (m' : (ℓ : Loc Cert.AttendReferenceIdeal.nD Cert.AttendReferenceIdeal.τ Cert.AttendReferenceIdeal.sig) → Buf (Elt Ideal) ℓ)

theorem row_p (h : m' ((c.tc : Thread Cert.AttendReferenceIdeal.nD Cert.AttendReferenceIdeal.τ).loc Cert.AttendReferenceIdeal.main_arg0) = m ((c.tc : Thread nD τ).loc main_arg0)) :
    (fun (b : Fin 2) (n : Fin 1280) => ASpec.rel (Cert.ARef.aP m' c b) n) = Cert.AVal.relK (V m c main_arg0) := by
  unfold Cert.ARef.aP; rw [h, V_main_arg0]
theorem row_n (h : m' ((c.tc : Thread Cert.AttendReferenceIdeal.nD Cert.AttendReferenceIdeal.τ).loc Cert.AttendReferenceIdeal.main_arg0) = m ((c.tc : Thread nD τ).loc main_arg0)) :
    (fun (b : Fin 2) (i : Fin 128) => ASpec.nv (Cert.ARef.aP m' c b) i) = Cert.AVal.nK (V m c main_arg0) := by
  unfold Cert.ARef.aP; rw [h, V_main_arg0]
theorem rows_q (h : m' ((c.tc : Thread Cert.AttendReferenceIdeal.nD Cert.AttendReferenceIdeal.τ).loc Cert.AttendReferenceIdeal.main_arg1) = m ((c.tc : Thread nD τ).loc main_arg1)) :
    Cert.ARef.aQ m' c = Cert.AVal.qK (V m c main_arg1) := by
  unfold Cert.ARef.aQ; rw [h, V_main_arg1]
theorem rows_k (h : m' ((c.tc : Thread Cert.AttendReferenceIdeal.nD Cert.AttendReferenceIdeal.τ).loc Cert.AttendReferenceIdeal.main_arg2) = m ((c.tc : Thread nD τ).loc main_arg2)) :
    Cert.ARef.aK m' c = Cert.AVal.kK (V m c main_arg2) := by
  unfold Cert.ARef.aK; rw [h, V_main_arg2]
theorem rows_v (h : m' ((c.tc : Thread Cert.AttendReferenceIdeal.nD Cert.AttendReferenceIdeal.τ).loc Cert.AttendReferenceIdeal.main_arg3) = m ((c.tc : Thread nD τ).loc main_arg3)) :
    Cert.ARef.aV m' c = Cert.AVal.kK (V m c main_arg3) := by
  unfold Cert.ARef.aV; rw [h, V_main_arg3]
theorem row_ks (h : m' ((c.tc : Thread Cert.AttendReferenceIdeal.nD Cert.AttendReferenceIdeal.τ).loc Cert.AttendReferenceIdeal.main_arg4) = m ((c.tc : Thread nD τ).loc main_arg4)) :
    Cert.ARef.aKs m' c = Cert.AVal.sK (V m c main_arg4) := by
  unfold Cert.ARef.aKs; rw [h, V_main_arg4]
theorem row_vs (h : m' ((c.tc : Thread Cert.AttendReferenceIdeal.nD Cert.AttendReferenceIdeal.τ).loc Cert.AttendReferenceIdeal.main_arg5) = m ((c.tc : Thread nD τ).loc main_arg5)) :
    Cert.ARef.aVs m' c = Cert.AVal.sK (V m c main_arg5) := by
  unfold Cert.ARef.aVs; rw [h, V_main_arg5]

section Equal
variable (ep : (fun (b : Fin 2) (n : Fin 1280) => ASpec.rel (Cert.ARef.aP m' c b) n) = Cert.AVal.relK (V m c main_arg0))
  (eq : Cert.ARef.aQ m' c = Cert.AVal.qK (V m c main_arg1)) (ek : Cert.ARef.aK m' c = Cert.AVal.kK (V m c main_arg2))
  (es : Cert.ARef.aKs m' c = Cert.AVal.sK (V m c main_arg4))
include ep eq ek es

/-- The log-sum-exps agree. -/
theorem eq_2 (en : (fun (b : Fin 2) (i : Fin 128) => ASpec.nv (Cert.ARef.aP m' c b) i) = Cert.AVal.nK (V m c main_arg0)) :
    (show Vec Ideal S2x4x128 .f32 from Pipeline.afterTail₀ Cert.AttendReferenceIdeal.cfgs (Cert.AttendReferenceIdeal.Gen.dats m') 0 (Cert.AttendReferenceIdeal.Gen.V0 m') [Cert.AttendReferenceIdeal.Gen.hostOps1] c Cert.AttendReferenceIdeal.main_v80) = Cert.AVal.Gk m c main_v0_2 := by
  rw [Cert.AVal.Gk_2]
  unfold Cert.AVal.lsesA Cert.AVal.lses
  rw [← ep, ← eq, ← ek, ← es, ← en]
  funext j
  idx_vars j
  exact Cert.ARef.tail80 m' c j0 j1 j2

variable (ev : Cert.ARef.aV m' c = Cert.AVal.kK (V m c main_arg3)) (ew : Cert.ARef.aVs m' c = Cert.AVal.sK (V m c main_arg5))
include ev ew

/-- The codes agree. -/
theorem eq_0 : (show Vec Ideal S256x1024 .fp8e4m3 from Pipeline.afterTail₀ Cert.AttendReferenceIdeal.cfgs (Cert.AttendReferenceIdeal.Gen.dats m') 0 (Cert.AttendReferenceIdeal.Gen.V0 m') [Cert.AttendReferenceIdeal.Gen.hostOps1] c Cert.AttendReferenceIdeal.main_v78) = Cert.AVal.Gk m c main_v0_0 := by
  rw [Cert.AVal.Gk_0]
  unfold Cert.AVal.acoA Cert.AVal.aco
  rw [← ep, ← eq, ← ek, ← es, ← ev, ← ew]
  funext j
  idx_vars j
  exact Cert.ARef.tail78 m' c j0 j1

/-- The scales agree. -/
theorem eq_1 : (show Vec Ideal S2x128 .f32 from Pipeline.afterTail₀ Cert.AttendReferenceIdeal.cfgs (Cert.AttendReferenceIdeal.Gen.dats m') 0 (Cert.AttendReferenceIdeal.Gen.V0 m') [Cert.AttendReferenceIdeal.Gen.hostOps1] c Cert.AttendReferenceIdeal.main_v79) = Cert.AVal.Gk m c main_v0_1 := by
  rw [Cert.AVal.Gk_1]
  unfold Cert.AVal.ascA Cert.AVal.asc
  rw [← ep, ← eq, ← ek, ← es, ← ev, ← ew]
  funext j
  idx_vars j
  exact Cert.ARef.tail79 m' c j0 j1
end Equal
end Args

set_option maxHeartbeats 3200000 in
/-- The attention kernel and its reference, over the extended reals and from equal arguments, leave equal results and their
    arguments as they were. -/
theorem algebraic : Cert.algebraic_AttendIdeal_AttendReferenceIdeal (hAttendIdeal := Cert.AttendIdeal.Gen.facts) (hAttendReferenceIdeal := Cert.AttendReferenceIdeal.Gen.facts) := by
  pair_intro
  · run_from (Cert.AttendIdeal.Hand.value_of m g (Cert.AVal.Gk m) (Cert.AVal.hG m))
  · run_from Cert.AttendReferenceIdeal.Gen.run_main m' g' & Cert.AttendReferenceIdeal.Gen.unchanged m' g'
    · exact eq_0 m c m' (row_p m c m' (hagree c).1) (rows_q m c m' (hagree c).2.1) (rows_k m c m' (hagree c).2.2.1) (row_ks m c m' (hagree c).2.2.2.2.1) (rows_v m c m' (hagree c).2.2.2.1) (row_vs m c m' (hagree c).2.2.2.2.2)
    · exact eq_1 m c m' (row_p m c m' (hagree c).1) (rows_q m c m' (hagree c).2.1) (rows_k m c m' (hagree c).2.2.1) (row_ks m c m' (hagree c).2.2.2.2.1) (rows_v m c m' (hagree c).2.2.2.1) (row_vs m c m' (hagree c).2.2.2.2.2)
    · exact eq_2 m c m' (row_p m c m' (hagree c).1) (rows_q m c m' (hagree c).2.1) (rows_k m c m' (hagree c).2.2.1) (row_ks m c m' (hagree c).2.2.2.2.1) (row_n m c m' (hagree c).1)

end Cert.AEqn
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Attend
public import proofs.«01_k».proof.Proof.Gen.AttendIdeal
public import proofs.«01_k».proof.Proof.Gen.AttendReferenceIdeal
public import proofs.«01_k».proof.Proof.Gen.AttendReferenceIdeal.Frame
public import proofs.«01_k».proof.Proof.Gen.Attend.Launch
public import proofs.«01_k».proof.Proof.Gen.Attend.Skeleton
public import proofs.«01_k».proof.Proof.Gen.Attend.Points
public import proofs.«01_k».proof.Proof.Gen.Attend.Frame
public import proofs.«01_k».proof.Proof.Gen.AttendIdeal.Launch
public import proofs.«01_k».proof.Proof.Gen.AttendIdeal.Skeleton
public import proofs.«01_k».proof.Proof.Gen.AttendIdeal.Points
public import proofs.«01_k».proof.Proof.Gen.AttendIdeal.Frame
public import proofs.«01_k».proof.Proof.FrameK
public import proofs.«01_k».proof.Proof.Eqn
public import proofs.«01_k».proof.Proof.AFrameK
public import proofs.«01_k».proof.Proof.AEqn
public import Idealize.ShloMosaic.Adequacy
public import Idealize.ShloMosaic.Init

@[expose] public section

noncomputable section

namespace Cert.Proof

open Idealize.ShloMosaic Idealize.SL.Sem Cert.Kernel

/-- The certificate: the six frames, the two idealizations' preservation, and the two equations. -/
theorem claim : Cert.Claim := ⟨Cert.Kernel.Gen.facts, Cert.KernelIdeal.Gen.facts, Cert.ReferenceIdeal.Gen.facts,
  Cert.Attend.Gen.facts, Cert.AttendIdeal.Gen.facts, Cert.AttendReferenceIdeal.Gen.facts,
  fun m ρ _ => Cert.Kernel.Hand.frame m ρ, fun m ρ _ => (θ_run Cert.KernelIdeal.defs _ _).mono (fun _ h => ⟨fun c => (h.1 c).2, h.2⟩)
    (Cert.KernelIdeal.Hand.value_of m ρ (Cert.Val.Gk m) (Cert.Val.hG m)), fun m ρ _ => Cert.ReferenceIdeal.Gen.frame m ρ,
  fun m ρ _ => Cert.Attend.Hand.frame m ρ, fun m ρ _ => (θ_run Cert.AttendIdeal.defs _ _).mono (fun _ h => ⟨fun c => (h.1 c).2, h.2⟩)
    (Cert.AttendIdeal.Hand.value_of m ρ (Cert.AVal.Gk m) (Cert.AVal.hG m)), fun m ρ _ => Cert.AttendReferenceIdeal.Gen.frame m ρ,
  trivial, Cert.Eqn.algebraic, trivial, Cert.AEqn.algebraic⟩

end Cert.Proof

end
